-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)) (v3 : (c : Dev Cert.KernelIdeal.nD) → Buf (Elt Ideal) ((c.tc : Thread Cert.KernelIdeal.nD Cert.KernelIdeal.τ).loc Cert.KernelIdeal.main_v70_3)) (v4 : (c : Dev Cert.KernelIdeal.nD) → Buf (Elt Ideal) ((c.tc : Thread Cert.KernelIdeal.nD Cert.KernelIdeal.τ).loc Cert.KernelIdeal.main_v70_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_v70_3) = v3 c
          ∧ r.2.mem ((c.tc : Thread Cert.KernelIdeal.nD Cert.KernelIdeal.τ).loc Cert.KernelIdeal.main_v70_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v82) = v0 c
          ∧ r.2.mem ((c.tc : Thread Cert.Reference6Ideal.nD Cert.Reference6Ideal.τ).loc Cert.Reference6Ideal.main_v83) = v1 c
          ∧ r.2.mem ((c.tc : Thread Cert.Reference6Ideal.nD Cert.Reference6Ideal.τ).loc Cert.Reference6Ideal.main_v84) = v2 c
          ∧ r.2.mem ((c.tc : Thread Cert.Reference6Ideal.nD Cert.Reference6Ideal.τ).loc Cert.Reference6Ideal.main_v85) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_v12) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_v5_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v44) = v0 c
          ∧ r.2.mem ((c.tc : Thread Cert.Reference11Ideal.nD Cert.Reference11Ideal.τ).loc Cert.Reference11Ideal.main_v45) = v1 c
          ∧ r.2.mem ((c.tc : Thread Cert.Reference11Ideal.nD Cert.Reference11Ideal.τ).loc Cert.Reference11Ideal.main_v49) = v2 c
          ∧ r.2.mem ((c.tc : Thread Cert.Reference11Ideal.nD Cert.Reference11Ideal.τ).loc Cert.Reference11Ideal.main_v20) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v9)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x16x128 : Shape := ⟨3, ![4096, 16, 128]⟩
abbrev S4096x16x64 : Shape := ⟨3, ![4096, 16, 64]⟩
abbrev S4096x64 : Shape := ⟨2, ![4096, 64]⟩
abbrev S4096x32 : Shape := ⟨2, ![4096, 32]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x16x64 : S_.BroadcastsInDim S4096x16x64 (![] : Fin 0 → Fin S4096x16x64.rank)
  reducesTo_S4096x16x64_S_d0_1_2 : S4096x16x64.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part3 {F : FTy → Type} [FloatOps F] (main_arg7 : FVec F S4096x16x128 .f32) (main_v47 : IVec S_ 1) (main_v49 : IVec S4096x16x128 1) : IVec S_ 1 :=
  let main_cst_20 : FVec F S_ .f32 := constant S_ .f32 0x7F800000#32
  let main_v50 : FVec F S4096x16x128 .f32 := broadcastInDim S4096x16x128 ![] bcast_S_S4096x16x128 main_cst_20
  let main_v51 : IVec S4096x16x128 1 := cmpf .olt main_arg7 main_v50
  let main_v52 : IVec S4096x16x128 1 := andi main_v49 main_v51
  let main_c_21 : IVec S_ 1 := constantI S_ 1 1#1
  let main_v53 : IVec S_ 1 := (fun x v => Host.reduce IntOp.andi x v reducesTo_S4096x16x128_S_d0_1_2 h_S_) main_v52 main_c_21
  let main_v54 : IVec S_ 1 := andi main_v47 main_v53
  main_v54

def fn_part2 {F : FTy → Type} [FloatOps F] (main_arg5 : FVec F S4096x32 .f32) (main_arg6 : FVec F S4096x32 .f32) (main_arg7 : FVec F S4096x16x128 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S4096x32 .f32 := broadcastInDim S4096x32 ![] bcast_S_S4096x32 main_cst_13
  let main_v35 : IVec S4096x32 1 := cmpf .ogt main_arg5 main_v34
  let main_cst_14 : FVec F S_ .f32 := constant S_ .f32 0x7F800000#32
  let main_v36 : FVec F S4096x32 .f32 := broadcastInDim S4096x32 ![] bcast_S_S4096x32 main_cst_14
  let main_v37 : IVec S4096x32 1 := cmpf .olt main_arg5 main_v36
  let main_v38 : IVec S4096x32 1 := andi main_v35 main_v37
  let main_c_15 : IVec S_ 1 := constantI S_ 1 1#1
  let main_v39 : IVec S_ 1 := (fun x v => Host.reduce IntOp.andi x v reducesTo_S4096x32_S_d0_1 h_S_) main_v38 main_c_15
  let main_v40 : IVec S_ 1 := andi main_v33 main_v39
  let main_cst_16 : FVec F S_ .f32 := constant S_ .f32 0xFF800000#32
  let main_v41 : FVec F S4096x32 .f32 := broadcastInDim S4096x32 ![] bcast_S_S4096x32 main_cst_16
  let main_v42 : IVec S4096x32 1 := cmpf .ogt main_arg6 main_v41
  let main_cst_17 : FVec F S_ .f32 := constant S_ .f32 0x7F800000#32
  let main_v43 : FVec F S4096x32 .f32 := broadcastInDim S4096x32 ![] bcast_S_S4096x32 main_cst_17
  let main_v44 : IVec S4096x32 1 := cmpf .olt main_arg6 main_v43
  let main_v45 : IVec S4096x32 1 := andi main_v42 main_v44
  let main_c_18 : IVec S_ 1 := constantI S_ 1 1#1
  let main_v46 : IVec S_ 1 := (fun x v => Host.reduce IntOp.andi x v reducesTo_S4096x32_S_d0_1 h_S_) main_v45 main_c_18
  let main_v47 : IVec S_ 1 := andi main_v40 main_v46
  let main_cst_19 : FVec F S_ .f32 := constant S_ .f32 0xFF800000#32
  let main_v48 : FVec F S4096x16x128 .f32 := broadcastInDim S4096x16x128 ![] bcast_S_S4096x16x128 main_cst_19
  let main_v49 : IVec S4096x16x128 1 := cmpf .ogt main_arg7 main_v48
  fn_part3 (F := F) main_arg7 main_v47 main_v49

def fn_part1 {F : FTy → Type} [FloatOps F] (main_arg2 : FVec F S4096x16x128 .f32) (main_arg3 : FVec F S4096x64 .f32) (main_arg4 : FVec F S4096x16x128 .f32) (main_arg5 : FVec F S4096x32 .f32) (main_arg6 : FVec F S4096x32 .f32) (main_arg7 : FVec F S4096x16x128 .f32) (main_v12 : IVec S_ 1) (main_v14 : IVec S4096x16x128 1) (main_v15 : FVec F S4096x16x128 .f32) : IVec S_ 1 :=
  let main_v16 : IVec S4096x16x128 1 := cmpf .olt main_arg2 main_v15
  let main_v17 : IVec S4096x16x128 1 := andi main_v14 main_v16
  let main_c_6 : IVec S_ 1 := constantI S_ 1 1#1
  let main_v18 : IVec S_ 1 := (fun x v => Host.reduce IntOp.andi x v reducesTo_S4096x16x128_S_d0_1_2 h_S_) main_v17 main_c_6
  let main_v19 : IVec S_ 1 := andi main_v12 main_v18
  let main_cst_7 : FVec F S_ .f32 := constant S_ .f32 0xFF800000#32
  let main_v20 : FVec F S4096x64 .f32 := broadcastInDim S4096x64 ![] bcast_S_S4096x64 main_cst_7
  let main_v21 : IVec S4096x64 1 := cmpf .ogt main_arg3 main_v20
  let main_cst_8 : FVec F S_ .f32 := constant S_ .f32 0x7F800000#32
  let main_v22 : FVec F S4096x64 .f32 := broadcastInDim S4096x64 ![] bcast_S_S4096x64 main_cst_8
  let main_v23 : IVec S4096x64 1 := cmpf .olt main_arg3 main_v22
  let main_v24 : IVec S4096x64 1 := andi main_v21 main_v23
  let main_c_9 : IVec S_ 1 := constantI S_ 1 1#1
  let main_v25 : IVec S_ 1 := (fun x v => Host.reduce IntOp.andi x v reducesTo_S4096x64_S_d0_1 h_S_) main_v24 main_c_9
  let main_v26 : IVec S_ 1 := andi main_v19 main_v25
  let main_cst_10 : FVec F S_ .f32 := constant S_ .f32 0xFF800000#32
  let main_v27 : FVec F S4096x16x128 .f32 := broadcastInDim S4096x16x128 ![] bcast_S_S4096x16x128 main_cst_10
  let main_v28 : IVec S4096x16x128 1 := cmpf .ogt main_arg4 main_v27
  let main_cst_11 : FVec F S_ .f32 := constant S_ .f32 0x7F800000#32
  let main_v29 : FVec F S4096x16x128 .f32 := broadcastInDim S4096x16x128 ![] bcast_S_S4096x16x128 main_cst_11
  let main_v30 : IVec S4096x16x128 1 := cmpf .olt main_arg4 main_v29
  let main_v31 : IVec S4096x16x128 1 := andi main_v28 main_v30
  let main_c_12 : IVec S_ 1 := constantI S_ 1 1#1
  let main_v32 : IVec S_ 1 := (fun x v => Host.reduce IntOp.andi x v reducesTo_S4096x16x128_S_d0_1_2 h_S_) main_v31 main_c_12
  fn_part2 (F := F) main_arg5 main_arg6 main_arg7 main_v26 main_v32

def fn {F : FTy → Type} [FloatOps F] (main_arg0 : FVec F S4096x16x128 .f32) (main_arg1 : FVec F S4096x16x64 .f32) (main_arg2 : FVec F S4096x16x128 .f32) (main_arg3 : FVec F S4096x64 .f32) (main_arg4 : FVec F S4096x16x128 .f32) (main_arg5 : FVec F S4096x32 .f32) (main_arg6 : FVec F S4096x32 .f32) (main_arg7 : FVec F S4096x16x128 .f32) : IVec S_ 1 :=
  let main_cst : FVec F S_ .f32 := constant S_ .f32 0xFF800000#32
  let main_v0 : FVec F S4096x16x128 .f32 := broadcastInDim S4096x16x128 ![] bcast_S_S4096x16x128 main_cst
  let main_v1 : IVec S4096x16x128 1 := cmpf .ogt main_arg0 main_v0
  let main_cst_0 : FVec F S_ .f32 := constant S_ .f32 0x7F800000#32
  let main_v2 : FVec F S4096x16x128 .f32 := broadcastInDim S4096x16x128 ![] bcast_S_S4096x16x128 main_cst_0
  let main_v3 : IVec S4096x16x128 1 := cmpf .olt main_arg0 main_v2
  let main_v4 : IVec S4096x16x128 1 := andi main_v1 main_v3
  let main_c : IVec S_ 1 := constantI S_ 1 1#1
  let main_v5 : IVec S_ 1 := (fun x v => Host.reduce IntOp.andi x v reducesTo_S4096x16x128_S_d0_1_2 h_S_) main_v4 main_c
  let main_cst_1 : FVec F S_ .f32 := constant S_ .f32 0xFF800000#32
  let main_v6 : FVec F S4096x16x64 .f32 := broadcastInDim S4096x16x64 ![] bcast_S_S4096x16x64 main_cst_1
  let main_v7 : IVec S4096x16x64 1 := cmpf .ogt main_arg1 main_v6
  let main_cst_2 : FVec F S_ .f32 := constant S_ .f32 0x7F800000#32
  let main_v8 : FVec F S4096x16x64 .f32 := broadcastInDim S4096x16x64 ![] bcast_S_S4096x16x64 main_cst_2
  let main_v9 : IVec S4096x16x64 1 := cmpf .olt main_arg1 main_v8
  let main_v10 : IVec S4096x16x64 1 := andi main_v7 main_v9
  let main_c_3 : IVec S_ 1 := constantI S_ 1 1#1
  let main_v11 : IVec S_ 1 := (fun x v => Host.reduce IntOp.andi x v reducesTo_S4096x16x64_S_d0_1_2 h_S_) main_v10 main_c_3
  let main_v12 : IVec S_ 1 := andi main_v5 main_v11
  let main_cst_4 : FVec F S_ .f32 := constant S_ .f32 0xFF800000#32
  let main_v13 : FVec F S4096x16x128 .f32 := broadcastInDim S4096x16x128 ![] bcast_S_S4096x16x128 main_cst_4
  let main_v14 : IVec S4096x16x128 1 := cmpf .ogt main_arg2 main_v13
  let main_cst_5 : FVec F S_ .f32 := constant S_ .f32 0x7F800000#32
  let main_v15 : FVec F S4096x16x128 .f32 := broadcastInDim S4096x16x128 ![] bcast_S_S4096x16x128 main_cst_5
  fn_part1 (F := F) main_arg2 main_arg3 main_arg4 main_arg5 main_arg6 main_arg7 main_v12 main_v14 main_v15
-- ==== Pre_finite2.lean ====
abbrev S4096x2048 : Shape := ⟨2, ![4096, 2048]⟩
abbrev S2048x1024 : Shape := ⟨2, ![2048, 1024]⟩
abbrev S4096x1024 : Shape := ⟨2, ![4096, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg2 : FVec F S2048x1024 .f32) (main_arg3 : FVec F S4096x1024 .f32) (main_v12 : IVec S_ 1) (main_v14 : IVec S2048x1024 1) (main_v15 : FVec F S2048x1024 .f32) : IVec S_ 1 :=
  let main_v16 : IVec S2048x1024 1 := cmpf .olt main_arg2 main_v15
  let main_v17 : IVec S2048x1024 1 := andi main_v14 main_v16
  let main_c_6 : IVec S_ 1 := constantI S_ 1 1#1
  let main_v18 : IVec S_ 1 := (fun x v => Host.reduce IntOp.andi x v reducesTo_S2048x1024_S_d0_1 h_S_) main_v17 main_c_6
  let main_v19 : IVec S_ 1 := andi main_v12 main_v18
  let main_cst_7 : FVec F S_ .f32 := constant S_ .f32 0xFF800000#32
  let main_v20 : FVec F S4096x1024 .f32 := broadcastInDim S4096x1024 ![] bcast_S_S4096x1024 main_cst_7
  let main_v21 : IVec S4096x1024 1 := cmpf .ogt main_arg3 main_v20
  let main_cst_8 : FVec F S_ .f32 := constant S_ .f32 0x7F800000#32
  let main_v22 : FVec F S4096x1024 .f32 := broadcastInDim S4096x1024 ![] bcast_S_S4096x1024 main_cst_8
  let main_v23 : IVec S4096x1024 1 := cmpf .olt main_arg3 main_v22
  let main_v24 : IVec S4096x1024 1 := andi main_v21 main_v23
  let main_c_9 : IVec S_ 1 := constantI S_ 1 1#1
  let main_v25 : IVec S_ 1 := (fun x v => Host.reduce IntOp.andi x v reducesTo_S4096x1024_S_d0_1 h_S_) main_v24 main_c_9
  let main_v26 : IVec S_ 1 := andi main_v19 main_v25
  main_v26

def fn {F : FTy → Type} [FloatOps F] (main_arg0 : FVec F S4096x2048 .f32) (main_arg1 : FVec F S4096x2048 .f32) (main_arg2 : FVec F S2048x1024 .f32) (main_arg3 : FVec F S4096x1024 .f32) : IVec S_ 1 :=
  let main_cst : FVec F S_ .f32 := constant S_ .f32 0xFF800000#32
  let main_v0 : FVec F S4096x2048 .f32 := broadcastInDim S4096x2048 ![] bcast_S_S4096x2048 main_cst
  let main_v1 : IVec S4096x2048 1 := cmpf .ogt main_arg0 main_v0
  let main_cst_0 : FVec F S_ .f32 := constant S_ .f32 0x7F800000#32
  let main_v2 : FVec F S4096x2048 .f32 := broadcastInDim S4096x2048 ![] bcast_S_S4096x2048 main_cst_0
  let main_v3 : IVec S4096x2048 1 := cmpf .olt main_arg0 main_v2
  let main_v4 : IVec S4096x2048 1 := andi main_v1 main_v3
  let main_c : IVec S_ 1 := constantI S_ 1 1#1
  let main_v5 : IVec S_ 1 := (fun x v => Host.reduce IntOp.andi x v reducesTo_S4096x2048_S_d0_1 h_S_) main_v4 main_c
  let main_cst_1 : FVec F S_ .f32 := constant S_ .f32 0xFF800000#32
  let main_v6 : FVec F S4096x2048 .f32 := broadcastInDim S4096x2048 ![] bcast_S_S4096x2048 main_cst_1
  let main_v7 : IVec S4096x2048 1 := cmpf .ogt main_arg1 main_v6
  let main_cst_2 : FVec F S_ .f32 := constant S_ .f32 0x7F800000#32
  let main_v8 : FVec F S4096x2048 .f32 := broadcastInDim S4096x2048 ![] bcast_S_S4096x2048 main_cst_2
  let main_v9 : IVec S4096x2048 1 := cmpf .olt main_arg1 main_v8
  let main_v10 : IVec S4096x2048 1 := andi main_v7 main_v9
  let main_c_3 : IVec S_ 1 := constantI S_ 1 1#1
  let main_v11 : IVec S_ 1 := (fun x v => Host.reduce IntOp.andi x v reducesTo_S4096x2048_S_d0_1 h_S_) main_v10 main_c_3
  let main_v12 : IVec S_ 1 := andi main_v5 main_v11
  let main_cst_4 : FVec F S_ .f32 := constant S_ .f32 0xFF800000#32
  let main_v13 : FVec F S2048x1024 .f32 := broadcastInDim S2048x1024 ![] bcast_S_S2048x1024 main_cst_4
  let main_v14 : IVec S2048x1024 1 := cmpf .ogt main_arg2 main_v13
  let main_cst_5 : FVec F S_ .f32 := constant S_ .f32 0x7F800000#32
  let main_v15 : FVec F S2048x1024 .f32 := broadcastInDim S2048x1024 ![] bcast_S_S2048x1024 main_cst_5
  fn_part1 (F := F) main_arg2 main_arg3 main_v12 main_v14 main_v15
-- ==== Pre_finite6.lean ====
abbrev S4096x2048 : Shape := ⟨2, ![4096, 2048]⟩
abbrev S4096x6144 : Shape := ⟨2, ![4096, 6144]⟩
abbrev S2048 : Shape := ⟨1, ![2048]⟩
abbrev S2048x1024 : Shape := ⟨2, ![2048, 1024]⟩
abbrev S1024 : Shape := ⟨1, ![1024]⟩
abbrev S4096x1024 : Shape := ⟨2, ![4096, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x6144 : S_.BroadcastsInDim S4096x6144 (![] : Fin 0 → Fin S4096x6144.rank)
  reducesTo_S4096x6144_S_d0_1 : S4096x6144.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg5 : FVec F S1024 .f32) (main_arg6 : FVec F S4096x1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S1024 .f32 := broadcastInDim S1024 ![] bcast_S_S1024 main_cst_13
  let main_v35 : IVec S1024 1 := cmpf .ogt main_arg5 main_v34
  let main_cst_14 : FVec F S_ .f32 := constant S_ .f32 0x7F800000#32
  let main_v36 : FVec F S1024 .f32 := broadcastInDim S1024 ![] bcast_S_S1024 main_cst_14
  let main_v37 : IVec S1024 1 := cmpf .olt main_arg5 main_v36
  let main_v38 : IVec S1024 1 := andi main_v35 main_v37
  let main_c_15 : IVec S_ 1 := constantI S_ 1 1#1
  let main_v39 : IVec S_ 1 := (fun x v => Host.reduce IntOp.andi x v reducesTo_S1024_S_d0 h_S_) main_v38 main_c_15
  let main_v40 : IVec S_ 1 := andi main_v33 main_v39
  let main_cst_16 : FVec F S_ .f32 := constant S_ .f32 0xFF800000#32
  let main_v41 : FVec F S4096x1024 .f32 := broadcastInDim S4096x1024 ![] bcast_S_S4096x1024 main_cst_16
  let main_v42 : IVec S4096x1024 1 := cmpf .ogt main_arg6 main_v41
  let main_cst_17 : FVec F S_ .f32 := constant S_ .f32 0x7F800000#32
  let main_v43 : FVec F S4096x1024 .f32 := broadcastInDim S4096x1024 ![] bcast_S_S4096x1024 main_cst_17
  let main_v44 : IVec S4096x1024 1 := cmpf .olt main_arg6 main_v43
  let main_v45 : IVec S4096x1024 1 := andi main_v42 main_v44
  let main_c_18 : IVec S_ 1 := constantI S_ 1 1#1
  let main_v46 : IVec S_ 1 := (fun x v => Host.reduce IntOp.andi x v reducesTo_S4096x1024_S_d0_1 h_S_) main_v45 main_c_18
  let main_v47 : IVec S_ 1 := andi main_v40 main_v46
  main_v47

def fn_part1 {F : FTy → Type} [FloatOps F] (main_arg2 : FVec F S2048 .f32) (main_arg3 : FVec F S2048 .f32) (main_arg4 : FVec F S2048x1024 .f32) (main_arg5 : FVec F S1024 .f32) (main_arg6 : FVec F S4096x1024 .f32) (main_v12 : IVec S_ 1) (main_v14 : IVec S2048 1) (main_v15 : FVec F S2048 .f32) : IVec S_ 1 :=
  let main_v16 : IVec S2048 1 := cmpf .olt main_arg2 main_v15
  let main_v17 : IVec S2048 1 := andi main_v14 main_v16
  let main_c_6 : IVec S_ 1 := constantI S_ 1 1#1
  let main_v18 : IVec S_ 1 := (fun x v => Host.reduce IntOp.andi x v reducesTo_S2048_S_d0 h_S_) main_v17 main_c_6
  let main_v19 : IVec S_ 1 := andi main_v12 main_v18
  let main_cst_7 : FVec F S_ .f32 := constant S_ .f32 0xFF800000#32
  let main_v20 : FVec F S2048 .f32 := broadcastInDim S2048 ![] bcast_S_S2048 main_cst_7
  let main_v21 : IVec S2048 1 := cmpf .ogt main_arg3 main_v20
  let main_cst_8 : FVec F S_ .f32 := constant S_ .f32 0x7F800000#32
  let main_v22 : FVec F S2048 .f32 := broadcastInDim S2048 ![] bcast_S_S2048 main_cst_8
  let main_v23 : IVec S2048 1 := cmpf .olt main_arg3 main_v22
  let main_v24 : IVec S2048 1 := andi main_v21 main_v23
  let main_c_9 : IVec S_ 1 := constantI S_ 1 1#1
  let main_v25 : IVec S_ 1 := (fun x v => Host.reduce IntOp.andi x v reducesTo_S2048_S_d0 h_S_) main_v24 main_c_9
  let main_v26 : IVec S_ 1 := andi main_v19 main_v25
  let main_cst_10 : FVec F S_ .f32 := constant S_ .f32 0xFF800000#32
  let main_v27 : FVec F S2048x1024 .f32 := broadcastInDim S2048x1024 ![] bcast_S_S2048x1024 main_cst_10
  let main_v28 : IVec S2048x1024 1 := cmpf .ogt main_arg4 main_v27
  let main_cst_11 : FVec F S_ .f32 := constant S_ .f32 0x7F800000#32
  let main_v29 : FVec F S2048x1024 .f32 := broadcastInDim S2048x1024 ![] bcast_S_S2048x1024 main_cst_11
  let main_v30 : IVec S2048x1024 1 := cmpf .olt main_arg4 main_v29
  let main_v31 : IVec S2048x1024 1 := andi main_v28 main_v30
  let main_c_12 : IVec S_ 1 := constantI S_ 1 1#1
  let main_v32 : IVec S_ 1 := (fun x v => Host.reduce IntOp.andi x v reducesTo_S2048x1024_S_d0_1 h_S_) main_v31 main_c_12
  fn_part2 (F := F) main_arg5 main_arg6 main_v26 main_v32

def fn {F : FTy → Type} [FloatOps F] (main_arg0 : FVec F S4096x2048 .f32) (main_arg1 : FVec F S4096x6144 .f32) (main_arg2 : FVec F S2048 .f32) (main_arg3 : FVec F S2048 .f32) (main_arg4 : FVec F S2048x1024 .f32) (main_arg5 : FVec F S1024 .f32) (main_arg6 : FVec F S4096x1024 .f32) : IVec S_ 1 :=
  let main_cst : FVec F S_ .f32 := constant S_ .f32 0xFF800000#32
  let main_v0 : FVec F S4096x2048 .f32 := broadcastInDim S4096x2048 ![] bcast_S_S4096x2048 main_cst
  let main_v1 : IVec S4096x2048 1 := cmpf .ogt main_arg0 main_v0
  let main_cst_0 : FVec F S_ .f32 := constant S_ .f32 0x7F800000#32
  let main_v2 : FVec F S4096x2048 .f32 := broadcastInDim S4096x2048 ![] bcast_S_S4096x2048 main_cst_0
  let main_v3 : IVec S4096x2048 1 := cmpf .olt main_arg0 main_v2
  let main_v4 : IVec S4096x2048 1 := andi main_v1 main_v3
  let main_c : IVec S_ 1 := constantI S_ 1 1#1
  let main_v5 : IVec S_ 1 := (fun x v => Host.reduce IntOp.andi x v reducesTo_S4096x2048_S_d0_1 h_S_) main_v4 main_c
  let main_cst_1 : FVec F S_ .f32 := constant S_ .f32 0xFF800000#32
  let main_v6 : FVec F S4096x6144 .f32 := broadcastInDim S4096x6144 ![] bcast_S_S4096x6144 main_cst_1
  let main_v7 : IVec S4096x6144 1 := cmpf .ogt main_arg1 main_v6
  let main_cst_2 : FVec F S_ .f32 := constant S_ .f32 0x7F800000#32
  let main_v8 : FVec F S4096x6144 .f32 := broadcastInDim S4096x6144 ![] bcast_S_S4096x6144 main_cst_2
  let main_v9 : IVec S4096x6144 1 := cmpf .olt main_arg1 main_v8
  let main_v10 : IVec S4096x6144 1 := andi main_v7 main_v9
  let main_c_3 : IVec S_ 1 := constantI S_ 1 1#1
  let main_v11 : IVec S_ 1 := (fun x v => Host.reduce IntOp.andi x v reducesTo_S4096x6144_S_d0_1 h_S_) main_v10 main_c_3
  let main_v12 : IVec S_ 1 := andi main_v5 main_v11
  let main_cst_4 : FVec F S_ .f32 := constant S_ .f32 0xFF800000#32
  let main_v13 : FVec F S2048 .f32 := broadcastInDim S2048 ![] bcast_S_S2048 main_cst_4
  let main_v14 : IVec S2048 1 := cmpf .ogt main_arg2 main_v13
  let main_cst_5 : FVec F S_ .f32 := constant S_ .f32 0x7F800000#32
  let main_v15 : FVec F S2048 .f32 := broadcastInDim S2048 ![] bcast_S_S2048 main_cst_5
  fn_part1 (F := F) main_arg2 main_arg3 main_arg4 main_arg5 main_arg6 main_v12 main_v14 main_v15
-- ==== Kernel.lean ====
abbrev S4096x16x128 : Shape := ⟨3, ![4096, 16, 128]⟩
abbrev S4096x16x64 : Shape := ⟨3, ![4096, 16, 64]⟩
abbrev S4096x64 : Shape := ⟨2, ![4096, 64]⟩
abbrev S4096x32 : Shape := ⟨2, ![4096, 32]⟩
abbrev S4096x1x32 : Shape := ⟨3, ![4096, 1, 32]⟩
abbrev S4096x16x32 : Shape := ⟨3, ![4096, 16, 32]⟩
abbrev S4096x1x64 : Shape := ⟨3, ![4096, 1, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S4096x2048 : Shape := ⟨2, ![4096, 2048]⟩
abbrev S4096x128 : Shape := ⟨2, ![4096, 128]⟩
abbrev S1024x128 : Shape := ⟨2, ![1024, 128]⟩
abbrev S1x4096x1 : Shape := ⟨3, ![1, 4096, 1]⟩
abbrev S4096x256 : Shape := ⟨2, ![4096, 256]⟩
abbrev S1024x256 : Shape := ⟨2, ![1024, 256]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S512x512 : Shape := ⟨2, ![512, 512]⟩

abbrev nBuf : Space → Nat
  | .hbm => 94
  | .vmem => 31
  | .smem => 0
  | _ => 0

abbrev bufTy : (tb : Table) → Fin (tcTables nBuf tb) → BufTy
  | .hbm, ⟨0, _⟩ => ⟨S4096x16x128, .f32⟩
  | .hbm, ⟨1, _⟩ => ⟨S4096x16x64, .f32⟩
  | .hbm, ⟨2, _⟩ => ⟨S4096x16x128, .f32⟩
  | .hbm, ⟨3, _⟩ => ⟨S4096x64, .f32⟩
  | .hbm, ⟨4, _⟩ => ⟨S4096x16x128, .f32⟩
  | .hbm, ⟨5, _⟩ => ⟨S4096x32, .f32⟩
  | .hbm, ⟨6, _⟩ => ⟨S4096x32, .f32⟩
  | .hbm, ⟨7, _⟩ => ⟨S4096x16x128, .f32⟩
  | .hbm, ⟨8, _⟩ => ⟨S4096x1x32, .f32⟩
  | .hbm, ⟨9, _⟩ => ⟨S4096x1x32, .f32⟩
  | .hbm, ⟨10, _⟩ => ⟨S4096x16x32, .f32⟩
  | .hbm, ⟨11, _⟩ => ⟨S4096x16x32, .f32⟩
  | .hbm, ⟨12, _⟩ => ⟨S4096x16x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x64, .f32⟩
  | .hbm, ⟨23, _⟩ => ⟨S4096x1x64, .f32⟩
  | .hbm, ⟨24, _⟩ => ⟨S4096x16x64, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S_, .f32⟩
  | .hbm, ⟨29, _⟩ => ⟨S16x4096x4096, .f32⟩
  | .hbm, ⟨30, _⟩ => ⟨S16x4096x4096, .f32⟩
  | .hbm, ⟨31, _⟩ => ⟨S4096, .i32⟩
  | .hbm, ⟨32, _⟩ => ⟨S1x4096, .i32⟩
  | .hbm, ⟨33, _⟩ => ⟨S4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S1x4096x4096, .i1⟩
  | .hbm, ⟨39, _⟩ => ⟨S_, .f32⟩
  | .hbm, ⟨40, _⟩ => ⟨S_, .f32⟩
  | .hbm, ⟨41, _⟩ => ⟨S16x4096x4096, .i1⟩
  | .hbm, ⟨42, _⟩ => ⟨S16x4096x4096, .f32⟩
  | .hbm, ⟨43, _⟩ => ⟨S16x4096x4096, .f32⟩
  | .hbm, ⟨44, _⟩ => ⟨S_, .f32⟩
  | .hbm, ⟨45, _⟩ => ⟨S16x4096, .f32⟩
  | .hbm, ⟨46, _⟩ => ⟨S16x4096x1, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S_, .f32⟩
  | .hbm, ⟨51, _⟩ => ⟨S16x4096, .f32⟩
  | .hbm, ⟨52, _⟩ => ⟨S16x4096x1, .f32⟩
  | .hbm, ⟨53, _⟩ => ⟨S16x4096x4096, .f32⟩
  | .hbm, ⟨54, _⟩ => ⟨S16x4096x4096, .f32⟩
  | .hbm, ⟨55, _⟩ => ⟨S16x128x4096, .f32⟩
  | .hbm, ⟨56, _⟩ => ⟨S4096x16x128, .f32⟩
  | .hbm, ⟨57, _⟩ => ⟨S16x4096x1, .f32⟩
  | .hbm, ⟨58, _⟩ => ⟨S16x4096x1, .f32⟩
  | .hbm, ⟨59, _⟩ => ⟨S4096x2048, .f32⟩
  | .hbm, ⟨60, _⟩ => ⟨S_, .f32⟩
  | .hbm, ⟨61, _⟩ => ⟨S4096x16x32, .f32⟩
  | .hbm, ⟨62, _⟩ => ⟨S4096x16x32, .f32⟩
  | .hbm, ⟨63, _⟩ => ⟨S4096x16x32, .f32⟩
  | .hbm, ⟨64, _⟩ => ⟨S4096x16x128, .f32⟩
  | .hbm, ⟨65, _⟩ => ⟨S4096x2048, .f32⟩
  | .hbm, ⟨66, _⟩ => ⟨S4096x4096, .f32⟩
  | .hbm, ⟨67, _⟩ => ⟨S4096x4096, .bf16⟩
  | .hbm, ⟨68, _⟩ => ⟨S4096x2048, .f32⟩
  | .hbm, ⟨69, _⟩ => ⟨S4096x2048, .f32⟩
  | .hbm, ⟨70, _⟩ => ⟨S4096x4096, .f32⟩
  | .hbm, ⟨71, _⟩ => ⟨S4096x4096, .bf16⟩
  | .hbm, ⟨72, _⟩ => ⟨S_, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S4096x128, .f32⟩
  | .hbm, ⟨77, _⟩ => ⟨S4096x128, .bf16⟩
  | .hbm, ⟨78, _⟩ => ⟨S_, .f32⟩
  | .hbm, ⟨79, _⟩ => ⟨S4096x32, .f32⟩
  | .hbm, ⟨80, _⟩ => ⟨S_, .f32⟩
  | .hbm, ⟨81, _⟩ => ⟨S4096x32, .f32⟩
  | .hbm, ⟨82, _⟩ => ⟨S4096x128, .f32⟩
  | .hbm, ⟨83, _⟩ => ⟨S4096x32, .f32⟩
  | .hbm, ⟨84, _⟩ => ⟨S4096x128, .f32⟩
  | .hbm, ⟨85, _⟩ => ⟨S4096x2048, .f32⟩
  | .hbm, ⟨86, _⟩ => ⟨S4096x2048, .bf16⟩
  | .hbm, ⟨87, _⟩ => ⟨S4096x2048, .f32⟩
  | .hbm, ⟨88, _⟩ => ⟨S4096x2048, .bf16⟩
  | .hbm, ⟨89, _⟩ => ⟨S4096x2048, .bf16⟩
  | .hbm, ⟨90, _⟩ => ⟨S4096x2048, .bf16⟩
  | .hbm, ⟨91, _⟩ => ⟨S4096x2048, .bf16⟩
  | .hbm, ⟨92, _⟩ => ⟨S4096x2048, .bf16⟩
  | .hbm, ⟨93, _⟩ => ⟨S4096x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S1x4096x1, .f32⟩
  | .local _ .vmem, ⟨15, _⟩ => ⟨S1x4096x1, .f32⟩
  | .local _ .vmem, ⟨16, _⟩ => ⟨S4096x128, .f32⟩
  | .local _ .vmem, ⟨17, _⟩ => ⟨S4096x128, .f32⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S1024x128, .bf16⟩
  | .local _ .vmem, ⟨23, _⟩ => ⟨S1024x128, .bf16⟩
  | .local _ .vmem, ⟨24, _⟩ => ⟨S1024x128, .bf16⟩
  | .local _ .vmem, ⟨25, _⟩ => ⟨S1024x128, .bf16⟩
  | .local _ .vmem, ⟨26, _⟩ => ⟨S1024x128, .bf16⟩
  | .local _ .vmem, ⟨27, _⟩ => ⟨S1024x128, .bf16⟩
  | .local _ .vmem, ⟨28, _⟩ => ⟨S4096x256, .f32⟩
  | .local _ .vmem, ⟨29, _⟩ => ⟨S1024x256, .f32⟩
  | .local _ .vmem, ⟨30, _⟩ => ⟨S1024x128, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_4 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_5 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70_0 : Ref sig .tc := ⟨.hbm, 89, rfl⟩
abbrev main_v70_1 : Ref sig .tc := ⟨.hbm, 90, rfl⟩
abbrev main_v70_2 : Ref sig .tc := ⟨.hbm, 91, rfl⟩
abbrev main_v70_3 : Ref sig .tc := ⟨.hbm, 92, rfl⟩
abbrev main_v70_4 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c2_i32 : BitVec 32 := 2#32
  let arg1 : BitVec 32 := BitVec.ofNat 32 (i 1).val
  let v3 : BitVec 32 := Scalar.muli c2_i32 arg1
  let c512_i32 : BitVec 32 := 512#32
  let v4 : BitVec 32 := Scalar.muli v3 c512_i32
  v4
def k0_off1 (i : grid0.Coords) : Fin 2 → Nat :=
  let c2_i32 : BitVec 32 := 2#32
  let arg1 : BitVec 32 := BitVec.ofNat 32 (i 1).val
  let v3 : BitVec 32 := Scalar.muli c2_i32 arg1
  let c512_i32 : BitVec 32 := 512#32
  let v4 : BitVec 32 := Scalar.muli v3 c512_i32
  let v5 : BitVec 32 := v4
  let v6 : Index := Scalar.indexCast v5
  let c0 : Index := 0#32
  ![v6.toNat, 0]
def k0_off2 (i : grid0.Coords) : Fin 3 → Nat :=
  let c0_4 : Index := 0#32
  let c2_i32 : BitVec 32 := 2#32
  let arg1 : BitVec 32 := BitVec.ofNat 32 (i 1).val
  let v3 : BitVec 32 := Scalar.muli c2_i32 arg1
  let c512_i32 : BitVec 32 := 512#32
  let v4 : BitVec 32 := Scalar.muli v3 c512_i32
  let v5 : BitVec 32 := v4
  let v24 : Index := Scalar.indexCast v5
  let c0_5 : Index := 0#32
  ![0, v24.toNat, 0]
def k0_mult2 (i : grid0.Coords) : BitVec 32 :=
  let c2_i32_20 : BitVec 32 := 2#32
  let arg1 : BitVec 32 := BitVec.ofNat 32 (i 1).val
  let v56 : BitVec 32 := Scalar.muli c2_i32_20 arg1
  let c1_i32 : BitVec 32 := 1#32
  let v57 : BitVec 32 := Scalar.addi v56 c1_i32
  let c512_i32_21 : BitVec 32 := 512#32
  let v58 : BitVec 32 := Scalar.muli v57 c512_i32_21
  v58
def k0_off3 (i : grid0.Coords) : Fin 2 → Nat :=
  let c2_i32_20 : BitVec 32 := 2#32
  let arg1 : BitVec 32 := BitVec.ofNat 32 (i 1).val
  let v56 : BitVec 32 := Scalar.muli c2_i32_20 arg1
  let c1_i32 : BitVec 32 := 1#32
  let v57 : BitVec 32 := Scalar.addi v56 c1_i32
  let c512_i32_21 : BitVec 32 := 512#32
  let v58 : BitVec 32 := Scalar.muli v57 c512_i32_21
  let v59 : BitVec 32 := v58
  let v60 : Index := Scalar.indexCast v59
  let c0_22 : Index := 0#32
  ![v60.toNat, 0]
def k0_off4 (i : grid0.Coords) : Fin 3 → Nat :=
  let c0_27 : Index := 0#32
  let c2_i32_20 : BitVec 32 := 2#32
  let arg1 : BitVec 32 := BitVec.ofNat 32 (i 1).val
  let v56 : BitVec 32 := Scalar.muli c2_i32_20 arg1
  let c1_i32 : BitVec 32 := 1#32
  let v57 : BitVec 32 := Scalar.addi v56 c1_i32
  let c512_i32_21 : BitVec 32 := 512#32
  let v58 : BitVec 32 := Scalar.muli v57 c512_i32_21
  let v59 : BitVec 32 := v58
  let v78 : Index := Scalar.indexCast v59
  let c0_28 : Index := 0#32
  ![0, v78.toNat, 0]
def k0_off5 (i : grid0.Coords) : Fin 2 → Nat :=
  let c2_i32 : BitVec 32 := 2#32
  let arg1 : BitVec 32 := BitVec.ofNat 32 (i 1).val
  let v3 : BitVec 32 := Scalar.muli c2_i32 arg1
  let c512_i32 : BitVec 32 := 512#32
  let v4 : BitVec 32 := Scalar.muli v3 c512_i32
  let v5 : BitVec 32 := v4
  let v149 : Index := Scalar.indexCast v5
  let c0_63 : Index := 0#32
  ![v149.toNat, 0]
def k0_off6 (i : grid0.Coords) : Fin 2 → Nat :=
  let c2_i32_20 : BitVec 32 := 2#32
  let arg1 : BitVec 32 := BitVec.ofNat 32 (i 1).val
  let v56 : BitVec 32 := Scalar.muli c2_i32_20 arg1
  let c1_i32 : BitVec 32 := 1#32
  let v57 : BitVec 32 := Scalar.addi v56 c1_i32
  let c512_i32_21 : BitVec 32 := 512#32
  let v58 : BitVec 32 := Scalar.muli v57 c512_i32_21
  let v59 : BitVec 32 := v58
  let v156 : Index := Scalar.indexCast v59
  let c0_65 : Index := 0#32
  ![v156.toNat, 0]
@[reducible] def k0_t1_loop (i : grid0.Coords) : Scf.Loop 32 :=
  let c0_i32_77 : BitVec 32 := 0#32
  let c8_i32 : BitVec 32 := 8#32
  let c2_i32_67 : BitVec 32 := 2#32
  let arg1 : BitVec 32 := BitVec.ofNat 32 (i 1).val
  let v163 : BitVec 32 := Scalar.muli c2_i32_67 arg1
  let v164 : BitVec 32 := Scalar.subi c8_i32 v163
  let c2_i32_68 : BitVec 32 := 2#32
  let v165 : BitVec 32 := Scalar.subi v164 c2_i32_68
  let c0_i32_70 : BitVec 32 := 0#32
  let v167 : BitVec 1 := Scalar.cmpi .sgt v165 c0_i32_70
  let v168 : BitVec 32 := Scalar.extui v167
  let c0_i32_71 : BitVec 32 := 0#32
  let v169 : BitVec 1 := Scalar.cmpi .slt v165 c0_i32_71
  let v170 : BitVec 32 := Scalar.extui v169
  let v171 : BitVec 32 := Scalar.subi v168 v170
  let c2_i32_69 : BitVec 32 := 2#32
  let c0_i32_72 : BitVec 32 := 0#32
  let v172 : BitVec 1 := Scalar.cmpi .sgt c2_i32_69 c0_i32_72
  let v173 : BitVec 32 := Scalar.extui v172
  let c0_i32_73 : BitVec 32 := 0#32
  let v174 : BitVec 1 := Scalar.cmpi .slt c2_i32_69 c0_i32_73
  let v175 : BitVec 32 := Scalar.extui v174
  let v176 : BitVec 32 := Scalar.subi v173 v175
  let v177 : BitVec 1 := Scalar.cmpi .ne v171 v176
  let v178 : BitVec 32 := Scalar.remsi v165 c2_i32_69
  let c0_i32_74 : BitVec 32 := 0#32
  let v179 : BitVec 1 := Scalar.cmpi .ne v178 c0_i32_74
  let v180 : BitVec 1 := Scalar.andi v177 v179
  let v166 : BitVec 32 := Scalar.divsi v165 c2_i32_69
  let c1_i32_75 : BitVec 32 := 1#32
  let v181 : BitVec 32 := Scalar.subi v166 c1_i32_75
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_79 : BitVec 32 := 1#32
  ⟨c0_i32_77, v187, c1_i32_79⟩
def k0_mult3 (i : grid0.Coords) (k0_t1 : Fin (k0_t1_loop i).trips) : BitVec 32 :=
  let c2_i32_93 : BitVec 32 := 2#32
  let arg1 : BitVec 32 := BitVec.ofNat 32 (i 1).val
  let v200 : BitVec 32 := Scalar.muli c2_i32_93 arg1
  let c2_i32_94 : BitVec 32 := 2#32
  let v201 : BitVec 32 := Scalar.addi v200 c2_i32_94
  let c2_i32_95 : BitVec 32 := 2#32
  let c0_i32_77 : BitVec 32 := 0#32
  let c1_i32_79 : BitVec 32 := 1#32
  let arg20 : BitVec 32 := Scf.iv c0_i32_77 c1_i32_79 k0_t1
  let v202 : BitVec 32 := Scalar.muli c2_i32_95 arg20
  let v203 : BitVec 32 := Scalar.addi v201 v202
  let c512_i32_100 : BitVec 32 := 512#32
  let v209 : BitVec 32 := Scalar.muli v203 c512_i32_100
  v209
def k0_off7 (i : grid0.Coords) (k0_t1 : Fin (k0_t1_loop i).trips) : Fin 2 → Nat :=
  let c2_i32_93 : BitVec 32 := 2#32
  let arg1 : BitVec 32 := BitVec.ofNat 32 (i 1).val
  let v200 : BitVec 32 := Scalar.muli c2_i32_93 arg1
  let c2_i32_94 : BitVec 32 := 2#32
  let v201 : BitVec 32 := Scalar.addi v200 c2_i32_94
  let c2_i32_95 : BitVec 32 := 2#32
  let c0_i32_77 : BitVec 32 := 0#32
  let c1_i32_79 : BitVec 32 := 1#32
  let arg20 : BitVec 32 := Scf.iv c0_i32_77 c1_i32_79 k0_t1
  let v202 : BitVec 32 := Scalar.muli c2_i32_95 arg20
  let v203 : BitVec 32 := Scalar.addi v201 v202
  let c512_i32_100 : BitVec 32 := 512#32
  let v209 : BitVec 32 := Scalar.muli v203 c512_i32_100
  let v210 : BitVec 32 := v209
  let v211 : Index := Scalar.indexCast v210
  let c0_101 : Index := 0#32
  ![v211.toNat, 0]
def k0_off8 (i : grid0.Coords) (k0_t1 : Fin (k0_t1_loop i).trips) : Fin 3 → Nat :=
  let c0_106 : Index := 0#32
  let c2_i32_93 : BitVec 32 := 2#32
  let arg1 : BitVec 32 := BitVec.ofNat 32 (i 1).val
  let v200 : BitVec 32 := Scalar.muli c2_i32_93 arg1
  let c2_i32_94 : BitVec 32 := 2#32
  let v201 : BitVec 32 := Scalar.addi v200 c2_i32_94
  let c2_i32_95 : BitVec 32 := 2#32
  let c0_i32_77 : BitVec 32 := 0#32
  let c1_i32_79 : BitVec 32 := 1#32
  let arg20 : BitVec 32 := Scf.iv c0_i32_77 c1_i32_79 k0_t1
  let v202 : BitVec 32 := Scalar.muli c2_i32_95 arg20
  let v203 : BitVec 32 := Scalar.addi v201 v202
  let c512_i32_100 : BitVec 32 := 512#32
  let v209 : BitVec 32 := Scalar.muli v203 c512_i32_100
  let v210 : BitVec 32 := v209
  let v229 : Index := Scalar.indexCast v210
  let c0_107 : Index := 0#32
  ![0, v229.toNat, 0]
def k0_off9 (i : grid0.Coords) (k0_t1 : Fin (k0_t1_loop i).trips) : Fin 2 → Nat :=
  let c2_i32_93 : BitVec 32 := 2#32
  let arg1 : BitVec 32 := BitVec.ofNat 32 (i 1).val
  let v200 : BitVec 32 := Scalar.muli c2_i32_93 arg1
  let c2_i32_94 : BitVec 32 := 2#32
  let v201 : BitVec 32 := Scalar.addi v200 c2_i32_94
  let c2_i32_95 : BitVec 32 := 2#32
  let c0_i32_77 : BitVec 32 := 0#32
  let c1_i32_79 : BitVec 32 := 1#32
  let arg20 : BitVec 32 := Scf.iv c0_i32_77 c1_i32_79 k0_t1
  let v202 : BitVec 32 := Scalar.muli c2_i32_95 arg20
  let v203 : BitVec 32 := Scalar.addi v201 v202
  let c512_i32_100 : BitVec 32 := 512#32
  let v209 : BitVec 32 := Scalar.muli v203 c512_i32_100
  let v210 : BitVec 32 := v209
  let v301 : Index := Scalar.indexCast v210
  let c0_150 : Index := 0#32
  ![v301.toNat, 0]
def k0_mult4 (i : grid0.Coords) (k0_t1 : Fin (k0_t1_loop i).trips) : BitVec 32 :=
  let c2_i32_96 : BitVec 32 := 2#32
  let arg1 : BitVec 32 := BitVec.ofNat 32 (i 1).val
  let v204 : BitVec 32 := Scalar.muli c2_i32_96 arg1
  let c2_i32_97 : BitVec 32 := 2#32
  let v205 : BitVec 32 := Scalar.addi v204 c2_i32_97
  let c2_i32_98 : BitVec 32 := 2#32
  let c0_i32_77 : BitVec 32 := 0#32
  let c1_i32_79 : BitVec 32 := 1#32
  let arg20 : BitVec 32 := Scf.iv c0_i32_77 c1_i32_79 k0_t1
  let v206 : BitVec 32 := Scalar.muli c2_i32_98 arg20
  let v207 : BitVec 32 := Scalar.addi v205 v206
  let c1_i32_99 : BitVec 32 := 1#32
  let v208 : BitVec 32 := Scalar.addi v207 c1_i32_99
  let c512_i32_152 : BitVec 32 := 512#32
  let v308 : BitVec 32 := Scalar.muli v208 c512_i32_152
  v308
def k0_off10 (i : grid0.Coords) (k0_t1 : Fin (k0_t1_loop i).trips) : Fin 2 → Nat :=
  let c2_i32_96 : BitVec 32 := 2#32
  let arg1 : BitVec 32 := BitVec.ofNat 32 (i 1).val
  let v204 : BitVec 32 := Scalar.muli c2_i32_96 arg1
  let c2_i32_97 : BitVec 32 := 2#32
  let v205 : BitVec 32 := Scalar.addi v204 c2_i32_97
  let c2_i32_98 : BitVec 32 := 2#32
  let c0_i32_77 : BitVec 32 := 0#32
  let c1_i32_79 : BitVec 32 := 1#32
  let arg20 : BitVec 32 := Scf.iv c0_i32_77 c1_i32_79 k0_t1
  let v206 : BitVec 32 := Scalar.muli c2_i32_98 arg20
  let v207 : BitVec 32 := Scalar.addi v205 v206
  let c1_i32_99 : BitVec 32 := 1#32
  let v208 : BitVec 32 := Scalar.addi v207 c1_i32_99
  let c512_i32_152 : BitVec 32 := 512#32
  let v308 : BitVec 32 := Scalar.muli v208 c512_i32_152
  let v309 : BitVec 32 := v308
  let v310 : Index := Scalar.indexCast v309
  let c0_153 : Index := 0#32
  ![v310.toNat, 0]
def k0_off11 (i : grid0.Coords) (k0_t1 : Fin (k0_t1_loop i).trips) : Fin 3 → Nat :=
  let c0_158 : Index := 0#32
  let c2_i32_96 : BitVec 32 := 2#32
  let arg1 : BitVec 32 := BitVec.ofNat 32 (i 1).val
  let v204 : BitVec 32 := Scalar.muli c2_i32_96 arg1
  let c2_i32_97 : BitVec 32 := 2#32
  let v205 : BitVec 32 := Scalar.addi v204 c2_i32_97
  let c2_i32_98 : BitVec 32 := 2#32
  let c0_i32_77 : BitVec 32 := 0#32
  let c1_i32_79 : BitVec 32 := 1#32
  let arg20 : BitVec 32 := Scf.iv c0_i32_77 c1_i32_79 k0_t1
  let v206 : BitVec 32 := Scalar.muli c2_i32_98 arg20
  let v207 : BitVec 32 := Scalar.addi v205 v206
  let c1_i32_99 : BitVec 32 := 1#32
  let v208 : BitVec 32 := Scalar.addi v207 c1_i32_99
  let c512_i32_152 : BitVec 32 := 512#32
  let v308 : BitVec 32 := Scalar.muli v208 c512_i32_152
  let v309 : BitVec 32 := v308
  let v328 : Index := Scalar.indexCast v309
  let c0_159 : Index := 0#32
  ![0, v328.toNat, 0]
def k0_off12 (i : grid0.Coords) (k0_t1 : Fin (k0_t1_loop i).trips) : Fin 2 → Nat :=
  let c2_i32_96 : BitVec 32 := 2#32
  let arg1 : BitVec 32 := BitVec.ofNat 32 (i 1).val
  let v204 : BitVec 32 := Scalar.muli c2_i32_96 arg1
  let c2_i32_97 : BitVec 32 := 2#32
  let v205 : BitVec 32 := Scalar.addi v204 c2_i32_97
  let c2_i32_98 : BitVec 32 := 2#32
  let c0_i32_77 : BitVec 32 := 0#32
  let c1_i32_79 : BitVec 32 := 1#32
  let arg20 : BitVec 32 := Scf.iv c0_i32_77 c1_i32_79 k0_t1
  let v206 : BitVec 32 := Scalar.muli c2_i32_98 arg20
  let v207 : BitVec 32 := Scalar.addi v205 v206
  let c1_i32_99 : BitVec 32 := 1#32
  let v208 : BitVec 32 := Scalar.addi v207 c1_i32_99
  let c512_i32_152 : BitVec 32 := 512#32
  let v308 : BitVec 32 := Scalar.muli v208 c512_i32_152
  let v309 : BitVec 32 := v308
  let v400 : Index := Scalar.indexCast v309
  let c0_202 : Index := 0#32
  ![v400.toNat, 0]
@[reducible] def k0_t2_loop (i : grid0.Coords) : Scf.Loop 32 :=
  let c0_i32_77 : BitVec 32 := 0#32
  let c8_i32 : BitVec 32 := 8#32
  let c2_i32_67 : BitVec 32 := 2#32
  let arg1 : BitVec 32 := BitVec.ofNat 32 (i 1).val
  let v163 : BitVec 32 := Scalar.muli c2_i32_67 arg1
  let v164 : BitVec 32 := Scalar.subi c8_i32 v163
  let c2_i32_68 : BitVec 32 := 2#32
  let v165 : BitVec 32 := Scalar.subi v164 c2_i32_68
  let c0_i32_70 : BitVec 32 := 0#32
  let v167 : BitVec 1 := Scalar.cmpi .sgt v165 c0_i32_70
  let v168 : BitVec 32 := Scalar.extui v167
  let c0_i32_71 : BitVec 32 := 0#32
  let v169 : BitVec 1 := Scalar.cmpi .slt v165 c0_i32_71
  let v170 : BitVec 32 := Scalar.extui v169
  let v171 : BitVec 32 := Scalar.subi v168 v170
  let c2_i32_69 : BitVec 32 := 2#32
  let c0_i32_72 : BitVec 32 := 0#32
  let v172 : BitVec 1 := Scalar.cmpi .sgt c2_i32_69 c0_i32_72
  let v173 : BitVec 32 := Scalar.extui v172
  let c0_i32_73 : BitVec 32 := 0#32
  let v174 : BitVec 1 := Scalar.cmpi .slt c2_i32_69 c0_i32_73
  let v175 : BitVec 32 := Scalar.extui v174
  let v176 : BitVec 32 := Scalar.subi v173 v175
  let v177 : BitVec 1 := Scalar.cmpi .ne v171 v176
  let v178 : BitVec 32 := Scalar.remsi v165 c2_i32_69
  let c0_i32_74 : BitVec 32 := 0#32
  let v179 : BitVec 1 := Scalar.cmpi .ne v178 c0_i32_74
  let v180 : BitVec 1 := Scalar.andi v177 v179
  let v166 : BitVec 32 := Scalar.divsi v165 c2_i32_69
  let c1_i32_75 : BitVec 32 := 1#32
  let v181 : BitVec 32 := Scalar.subi v166 c1_i32_75
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let v184 : BitVec 32 := Scalar.addi c0_i32_77 v183
  let c1_i32_80 : BitVec 32 := 1#32
  ⟨v187, v184, c1_i32_80⟩
def k0_mult5 (i : grid0.Coords) (k0_t2 : Fin (k0_t2_loop i).trips) : BitVec 32 :=
  let c2_i32_93 : BitVec 32 := 2#32
  let arg1 : BitVec 32 := BitVec.ofNat 32 (i 1).val
  let v200 : BitVec 32 := Scalar.muli c2_i32_93 arg1
  let c2_i32_94 : BitVec 32 := 2#32
  let v201 : BitVec 32 := Scalar.addi v200 c2_i32_94
  let c2_i32_95 : BitVec 32 := 2#32
  let c0_i32_77 : BitVec 32 := 0#32
  let c8_i32 : BitVec 32 := 8#32
  let c2_i32_67 : BitVec 32 := 2#32
  let v163 : BitVec 32 := Scalar.muli c2_i32_67 arg1
  let v164 : BitVec 32 := Scalar.subi c8_i32 v163
  let c2_i32_68 : BitVec 32 := 2#32
  let v165 : BitVec 32 := Scalar.subi v164 c2_i32_68
  let c0_i32_70 : BitVec 32 := 0#32
  let v167 : BitVec 1 := Scalar.cmpi .sgt v165 c0_i32_70
  let v168 : BitVec 32 := Scalar.extui v167
  let c0_i32_71 : BitVec 32 := 0#32
  let v169 : BitVec 1 := Scalar.cmpi .slt v165 c0_i32_71
  let v170 : BitVec 32 := Scalar.extui v169
  let v171 : BitVec 32 := Scalar.subi v168 v170
  let c2_i32_69 : BitVec 32 := 2#32
  let c0_i32_72 : BitVec 32 := 0#32
  let v172 : BitVec 1 := Scalar.cmpi .sgt c2_i32_69 c0_i32_72
  let v173 : BitVec 32 := Scalar.extui v172
  let c0_i32_73 : BitVec 32 := 0#32
  let v174 : BitVec 1 := Scalar.cmpi .slt c2_i32_69 c0_i32_73
  let v175 : BitVec 32 := Scalar.extui v174
  let v176 : BitVec 32 := Scalar.subi v173 v175
  let v177 : BitVec 1 := Scalar.cmpi .ne v171 v176
  let v178 : BitVec 32 := Scalar.remsi v165 c2_i32_69
  let c0_i32_74 : BitVec 32 := 0#32
  let v179 : BitVec 1 := Scalar.cmpi .ne v178 c0_i32_74
  let v180 : BitVec 1 := Scalar.andi v177 v179
  let v166 : BitVec 32 := Scalar.divsi v165 c2_i32_69
  let c1_i32_75 : BitVec 32 := 1#32
  let v181 : BitVec 32 := Scalar.subi v166 c1_i32_75
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg20 : BitVec 32 := Scf.iv v187 c1_i32_80 k0_t2
  let v202 : BitVec 32 := Scalar.muli c2_i32_95 arg20
  let v203 : BitVec 32 := Scalar.addi v201 v202
  let c512_i32_100 : BitVec 32 := 512#32
  let v209 : BitVec 32 := Scalar.muli v203 c512_i32_100
  v209
def k0_off13 (i : grid0.Coords) (k0_t2 : Fin (k0_t2_loop i).trips) : Fin 2 → Nat :=
  let c2_i32_93 : BitVec 32 := 2#32
  let arg1 : BitVec 32 := BitVec.ofNat 32 (i 1).val
  let v200 : BitVec 32 := Scalar.muli c2_i32_93 arg1
  let c2_i32_94 : BitVec 32 := 2#32
  let v201 : BitVec 32 := Scalar.addi v200 c2_i32_94
  let c2_i32_95 : BitVec 32 := 2#32
  let c0_i32_77 : BitVec 32 := 0#32
  let c8_i32 : BitVec 32 := 8#32
  let c2_i32_67 : BitVec 32 := 2#32
  let v163 : BitVec 32 := Scalar.muli c2_i32_67 arg1
  let v164 : BitVec 32 := Scalar.subi c8_i32 v163
  let c2_i32_68 : BitVec 32 := 2#32
  let v165 : BitVec 32 := Scalar.subi v164 c2_i32_68
  let c0_i32_70 : BitVec 32 := 0#32
  let v167 : BitVec 1 := Scalar.cmpi .sgt v165 c0_i32_70
  let v168 : BitVec 32 := Scalar.extui v167
  let c0_i32_71 : BitVec 32 := 0#32
  let v169 : BitVec 1 := Scalar.cmpi .slt v165 c0_i32_71
  let v170 : BitVec 32 := Scalar.extui v169
  let v171 : BitVec 32 := Scalar.subi v168 v170
  let c2_i32_69 : BitVec 32 := 2#32
  let c0_i32_72 : BitVec 32 := 0#32
  let v172 : BitVec 1 := Scalar.cmpi .sgt c2_i32_69 c0_i32_72
  let v173 : BitVec 32 := Scalar.extui v172
  let c0_i32_73 : BitVec 32 := 0#32
  let v174 : BitVec 1 := Scalar.cmpi .slt c2_i32_69 c0_i32_73
  let v175 : BitVec 32 := Scalar.extui v174
  let v176 : BitVec 32 := Scalar.subi v173 v175
  let v177 : BitVec 1 := Scalar.cmpi .ne v171 v176
  let v178 : BitVec 32 := Scalar.remsi v165 c2_i32_69
  let c0_i32_74 : BitVec 32 := 0#32
  let v179 : BitVec 1 := Scalar.cmpi .ne v178 c0_i32_74
  let v180 : BitVec 1 := Scalar.andi v177 v179
  let v166 : BitVec 32 := Scalar.divsi v165 c2_i32_69
  let c1_i32_75 : BitVec 32 := 1#32
  let v181 : BitVec 32 := Scalar.subi v166 c1_i32_75
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg20 : BitVec 32 := Scf.iv v187 c1_i32_80 k0_t2
  let v202 : BitVec 32 := Scalar.muli c2_i32_95 arg20
  let v203 : BitVec 32 := Scalar.addi v201 v202
  let c512_i32_100 : BitVec 32 := 512#32
  let v209 : BitVec 32 := Scalar.muli v203 c512_i32_100
  let v210 : BitVec 32 := v209
  let v211 : Index := Scalar.indexCast v210
  let c0_101 : Index := 0#32
  ![v211.toNat, 0]
def k0_off14 (i : grid0.Coords) (k0_t2 : Fin (k0_t2_loop i).trips) : Fin 3 → Nat :=
  let c0_106 : Index := 0#32
  let c2_i32_93 : BitVec 32 := 2#32
  let arg1 : BitVec 32 := BitVec.ofNat 32 (i 1).val
  let v200 : BitVec 32 := Scalar.muli c2_i32_93 arg1
  let c2_i32_94 : BitVec 32 := 2#32
  let v201 : BitVec 32 := Scalar.addi v200 c2_i32_94
  let c2_i32_95 : BitVec 32 := 2#32
  let c0_i32_77 : BitVec 32 := 0#32
  let c8_i32 : BitVec 32 := 8#32
  let c2_i32_67 : BitVec 32 := 2#32
  let v163 : BitVec 32 := Scalar.muli c2_i32_67 arg1
  let v164 : BitVec 32 := Scalar.subi c8_i32 v163
  let c2_i32_68 : BitVec 32 := 2#32
  let v165 : BitVec 32 := Scalar.subi v164 c2_i32_68
  let c0_i32_70 : BitVec 32 := 0#32
  let v167 : BitVec 1 := Scalar.cmpi .sgt v165 c0_i32_70
  let v168 : BitVec 32 := Scalar.extui v167
  let c0_i32_71 : BitVec 32 := 0#32
  let v169 : BitVec 1 := Scalar.cmpi .slt v165 c0_i32_71
  let v170 : BitVec 32 := Scalar.extui v169
  let v171 : BitVec 32 := Scalar.subi v168 v170
  let c2_i32_69 : BitVec 32 := 2#32
  let c0_i32_72 : BitVec 32 := 0#32
  let v172 : BitVec 1 := Scalar.cmpi .sgt c2_i32_69 c0_i32_72
  let v173 : BitVec 32 := Scalar.extui v172
  let c0_i32_73 : BitVec 32 := 0#32
  let v174 : BitVec 1 := Scalar.cmpi .slt c2_i32_69 c0_i32_73
  let v175 : BitVec 32 := Scalar.extui v174
  let v176 : BitVec 32 := Scalar.subi v173 v175
  let v177 : BitVec 1 := Scalar.cmpi .ne v171 v176
  let v178 : BitVec 32 := Scalar.remsi v165 c2_i32_69
  let c0_i32_74 : BitVec 32 := 0#32
  let v179 : BitVec 1 := Scalar.cmpi .ne v178 c0_i32_74
  let v180 : BitVec 1 := Scalar.andi v177 v179
  let v166 : BitVec 32 := Scalar.divsi v165 c2_i32_69
  let c1_i32_75 : BitVec 32 := 1#32
  let v181 : BitVec 32 := Scalar.subi v166 c1_i32_75
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg20 : BitVec 32 := Scf.iv v187 c1_i32_80 k0_t2
  let v202 : BitVec 32 := Scalar.muli c2_i32_95 arg20
  let v203 : BitVec 32 := Scalar.addi v201 v202
  let c512_i32_100 : BitVec 32 := 512#32
  let v209 : BitVec 32 := Scalar.muli v203 c512_i32_100
  let v210 : BitVec 32 := v209
  let v229 : Index := Scalar.indexCast v210
  let c0_107 : Index := 0#32
  ![0, v229.toNat, 0]
def k0_off15 (i : grid0.Coords) (k0_t2 : Fin (k0_t2_loop i).trips) : Fin 2 → Nat :=
  let c2_i32_93 : BitVec 32 := 2#32
  let arg1 : BitVec 32 := BitVec.ofNat 32 (i 1).val
  let v200 : BitVec 32 := Scalar.muli c2_i32_93 arg1
  let c2_i32_94 : BitVec 32 := 2#32
  let v201 : BitVec 32 := Scalar.addi v200 c2_i32_94
  let c2_i32_95 : BitVec 32 := 2#32
  let c0_i32_77 : BitVec 32 := 0#32
  let c8_i32 : BitVec 32 := 8#32
  let c2_i32_67 : BitVec 32 := 2#32
  let v163 : BitVec 32 := Scalar.muli c2_i32_67 arg1
  let v164 : BitVec 32 := Scalar.subi c8_i32 v163
  let c2_i32_68 : BitVec 32 := 2#32
  let v165 : BitVec 32 := Scalar.subi v164 c2_i32_68
  let c0_i32_70 : BitVec 32 := 0#32
  let v167 : BitVec 1 := Scalar.cmpi .sgt v165 c0_i32_70
  let v168 : BitVec 32 := Scalar.extui v167
  let c0_i32_71 : BitVec 32 := 0#32
  let v169 : BitVec 1 := Scalar.cmpi .slt v165 c0_i32_71
  let v170 : BitVec 32 := Scalar.extui v169
  let v171 : BitVec 32 := Scalar.subi v168 v170
  let c2_i32_69 : BitVec 32 := 2#32
  let c0_i32_72 : BitVec 32 := 0#32
  let v172 : BitVec 1 := Scalar.cmpi .sgt c2_i32_69 c0_i32_72
  let v173 : BitVec 32 := Scalar.extui v172
  let c0_i32_73 : BitVec 32 := 0#32
  let v174 : BitVec 1 := Scalar.cmpi .slt c2_i32_69 c0_i32_73
  let v175 : BitVec 32 := Scalar.extui v174
  let v176 : BitVec 32 := Scalar.subi v173 v175
  let v177 : BitVec 1 := Scalar.cmpi .ne v171 v176
  let v178 : BitVec 32 := Scalar.remsi v165 c2_i32_69
  let c0_i32_74 : BitVec 32 := 0#32
  let v179 : BitVec 1 := Scalar.cmpi .ne v178 c0_i32_74
  let v180 : BitVec 1 := Scalar.andi v177 v179
  let v166 : BitVec 32 := Scalar.divsi v165 c2_i32_69
  let c1_i32_75 : BitVec 32 := 1#32
  let v181 : BitVec 32 := Scalar.subi v166 c1_i32_75
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg20 : BitVec 32 := Scf.iv v187 c1_i32_80 k0_t2
  let v202 : BitVec 32 := Scalar.muli c2_i32_95 arg20
  let v203 : BitVec 32 := Scalar.addi v201 v202
  let c512_i32_100 : BitVec 32 := 512#32
  let v209 : BitVec 32 := Scalar.muli v203 c512_i32_100
  let v210 : BitVec 32 := v209
  let v301 : Index := Scalar.indexCast v210
  let c0_150 : Index := 0#32
  ![v301.toNat, 0]
def k0_mult6 (i : grid0.Coords) (k0_t2 : Fin (k0_t2_loop i).trips) : BitVec 32 :=
  let c2_i32_96 : BitVec 32 := 2#32
  let arg1 : BitVec 32 := BitVec.ofNat 32 (i 1).val
  let v204 : BitVec 32 := Scalar.muli c2_i32_96 arg1
  let c2_i32_97 : BitVec 32 := 2#32
  let v205 : BitVec 32 := Scalar.addi v204 c2_i32_97
  let c2_i32_98 : BitVec 32 := 2#32
  let c0_i32_77 : BitVec 32 := 0#32
  let c8_i32 : BitVec 32 := 8#32
  let c2_i32_67 : BitVec 32 := 2#32
  let v163 : BitVec 32 := Scalar.muli c2_i32_67 arg1
  let v164 : BitVec 32 := Scalar.subi c8_i32 v163
  let c2_i32_68 : BitVec 32 := 2#32
  let v165 : BitVec 32 := Scalar.subi v164 c2_i32_68
  let c0_i32_70 : BitVec 32 := 0#32
  let v167 : BitVec 1 := Scalar.cmpi .sgt v165 c0_i32_70
  let v168 : BitVec 32 := Scalar.extui v167
  let c0_i32_71 : BitVec 32 := 0#32
  let v169 : BitVec 1 := Scalar.cmpi .slt v165 c0_i32_71
  let v170 : BitVec 32 := Scalar.extui v169
  let v171 : BitVec 32 := Scalar.subi v168 v170
  let c2_i32_69 : BitVec 32 := 2#32
  let c0_i32_72 : BitVec 32 := 0#32
  let v172 : BitVec 1 := Scalar.cmpi .sgt c2_i32_69 c0_i32_72
  let v173 : BitVec 32 := Scalar.extui v172
  let c0_i32_73 : BitVec 32 := 0#32
  let v174 : BitVec 1 := Scalar.cmpi .slt c2_i32_69 c0_i32_73
  let v175 : BitVec 32 := Scalar.extui v174
  let v176 : BitVec 32 := Scalar.subi v173 v175
  let v177 : BitVec 1 := Scalar.cmpi .ne v171 v176
  let v178 : BitVec 32 := Scalar.remsi v165 c2_i32_69
  let c0_i32_74 : BitVec 32 := 0#32
  let v179 : BitVec 1 := Scalar.cmpi .ne v178 c0_i32_74
  let v180 : BitVec 1 := Scalar.andi v177 v179
  let v166 : BitVec 32 := Scalar.divsi v165 c2_i32_69
  let c1_i32_75 : BitVec 32 := 1#32
  let v181 : BitVec 32 := Scalar.subi v166 c1_i32_75
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg20 : BitVec 32 := Scf.iv v187 c1_i32_80 k0_t2
  let v206 : BitVec 32 := Scalar.muli c2_i32_98 arg20
  let v207 : BitVec 32 := Scalar.addi v205 v206
  let c1_i32_99 : BitVec 32 := 1#32
  let v208 : BitVec 32 := Scalar.addi v207 c1_i32_99
  let c512_i32_152 : BitVec 32 := 512#32
  let v308 : BitVec 32 := Scalar.muli v208 c512_i32_152
  v308
def k0_off16 (i : grid0.Coords) (k0_t2 : Fin (k0_t2_loop i).trips) : Fin 2 → Nat :=
  let c2_i32_96 : BitVec 32 := 2#32
  let arg1 : BitVec 32 := BitVec.ofNat 32 (i 1).val
  let v204 : BitVec 32 := Scalar.muli c2_i32_96 arg1
  let c2_i32_97 : BitVec 32 := 2#32
  let v205 : BitVec 32 := Scalar.addi v204 c2_i32_97
  let c2_i32_98 : BitVec 32 := 2#32
  let c0_i32_77 : BitVec 32 := 0#32
  let c8_i32 : BitVec 32 := 8#32
  let c2_i32_67 : BitVec 32 := 2#32
  let v163 : BitVec 32 := Scalar.muli c2_i32_67 arg1
  let v164 : BitVec 32 := Scalar.subi c8_i32 v163
  let c2_i32_68 : BitVec 32 := 2#32
  let v165 : BitVec 32 := Scalar.subi v164 c2_i32_68
  let c0_i32_70 : BitVec 32 := 0#32
  let v167 : BitVec 1 := Scalar.cmpi .sgt v165 c0_i32_70
  let v168 : BitVec 32 := Scalar.extui v167
  let c0_i32_71 : BitVec 32 := 0#32
  let v169 : BitVec 1 := Scalar.cmpi .slt v165 c0_i32_71
  let v170 : BitVec 32 := Scalar.extui v169
  let v171 : BitVec 32 := Scalar.subi v168 v170
  let c2_i32_69 : BitVec 32 := 2#32
  let c0_i32_72 : BitVec 32 := 0#32
  let v172 : BitVec 1 := Scalar.cmpi .sgt c2_i32_69 c0_i32_72
  let v173 : BitVec 32 := Scalar.extui v172
  let c0_i32_73 : BitVec 32 := 0#32
  let v174 : BitVec 1 := Scalar.cmpi .slt c2_i32_69 c0_i32_73
  let v175 : BitVec 32 := Scalar.extui v174
  let v176 : BitVec 32 := Scalar.subi v173 v175
  let v177 : BitVec 1 := Scalar.cmpi .ne v171 v176
  let v178 : BitVec 32 := Scalar.remsi v165 c2_i32_69
  let c0_i32_74 : BitVec 32 := 0#32
  let v179 : BitVec 1 := Scalar.cmpi .ne v178 c0_i32_74
  let v180 : BitVec 1 := Scalar.andi v177 v179
  let v166 : BitVec 32 := Scalar.divsi v165 c2_i32_69
  let c1_i32_75 : BitVec 32 := 1#32
  let v181 : BitVec 32 := Scalar.subi v166 c1_i32_75
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg20 : BitVec 32 := Scf.iv v187 c1_i32_80 k0_t2
  let v206 : BitVec 32 := Scalar.muli c2_i32_98 arg20
  let v207 : BitVec 32 := Scalar.addi v205 v206
  let c1_i32_99 : BitVec 32 := 1#32
  let v208 : BitVec 32 := Scalar.addi v207 c1_i32_99
  let c512_i32_152 : BitVec 32 := 512#32
  let v308 : BitVec 32 := Scalar.muli v208 c512_i32_152
  let v309 : BitVec 32 := v308
  let v310 : Index := Scalar.indexCast v309
  let c0_153 : Index := 0#32
  ![v310.toNat, 0]
def k0_off17 (i : grid0.Coords) (k0_t2 : Fin (k0_t2_loop i).trips) : Fin 3 → Nat :=
  let c0_158 : Index := 0#32
  let c2_i32_96 : BitVec 32 := 2#32
  let arg1 : BitVec 32 := BitVec.ofNat 32 (i 1).val
  let v204 : BitVec 32 := Scalar.muli c2_i32_96 arg1
  let c2_i32_97 : BitVec 32 := 2#32
  let v205 : BitVec 32 := Scalar.addi v204 c2_i32_97
  let c2_i32_98 : BitVec 32 := 2#32
  let c0_i32_77 : BitVec 32 := 0#32
  let c8_i32 : BitVec 32 := 8#32
  let c2_i32_67 : BitVec 32 := 2#32
  let v163 : BitVec 32 := Scalar.muli c2_i32_67 arg1
  let v164 : BitVec 32 := Scalar.subi c8_i32 v163
  let c2_i32_68 : BitVec 32 := 2#32
  let v165 : BitVec 32 := Scalar.subi v164 c2_i32_68
  let c0_i32_70 : BitVec 32 := 0#32
  let v167 : BitVec 1 := Scalar.cmpi .sgt v165 c0_i32_70
  let v168 : BitVec 32 := Scalar.extui v167
  let c0_i32_71 : BitVec 32 := 0#32
  let v169 : BitVec 1 := Scalar.cmpi .slt v165 c0_i32_71
  let v170 : BitVec 32 := Scalar.extui v169
  let v171 : BitVec 32 := Scalar.subi v168 v170
  let c2_i32_69 : BitVec 32 := 2#32
  let c0_i32_72 : BitVec 32 := 0#32
  let v172 : BitVec 1 := Scalar.cmpi .sgt c2_i32_69 c0_i32_72
  let v173 : BitVec 32 := Scalar.extui v172
  let c0_i32_73 : BitVec 32 := 0#32
  let v174 : BitVec 1 := Scalar.cmpi .slt c2_i32_69 c0_i32_73
  let v175 : BitVec 32 := Scalar.extui v174
  let v176 : BitVec 32 := Scalar.subi v173 v175
  let v177 : BitVec 1 := Scalar.cmpi .ne v171 v176
  let v178 : BitVec 32 := Scalar.remsi v165 c2_i32_69
  let c0_i32_74 : BitVec 32 := 0#32
  let v179 : BitVec 1 := Scalar.cmpi .ne v178 c0_i32_74
  let v180 : BitVec 1 := Scalar.andi v177 v179
  let v166 : BitVec 32 := Scalar.divsi v165 c2_i32_69
  let c1_i32_75 : BitVec 32 := 1#32
  let v181 : BitVec 32 := Scalar.subi v166 c1_i32_75
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg20 : BitVec 32 := Scf.iv v187 c1_i32_80 k0_t2
  let v206 : BitVec 32 := Scalar.muli c2_i32_98 arg20
  let v207 : BitVec 32 := Scalar.addi v205 v206
  let c1_i32_99 : BitVec 32 := 1#32
  let v208 : BitVec 32 := Scalar.addi v207 c1_i32_99
  let c512_i32_152 : BitVec 32 := 512#32
  let v308 : BitVec 32 := Scalar.muli v208 c512_i32_152
  let v309 : BitVec 32 := v308
  let v328 : Index := Scalar.indexCast v309
  let c0_159 : Index := 0#32
  ![0, v328.toNat, 0]
def k0_off18 (i : grid0.Coords) (k0_t2 : Fin (k0_t2_loop i).trips) : Fin 2 → Nat :=
  let c2_i32_96 : BitVec 32 := 2#32
  let arg1 : BitVec 32 := BitVec.ofNat 32 (i 1).val
  let v204 : BitVec 32 := Scalar.muli c2_i32_96 arg1
  let c2_i32_97 : BitVec 32 := 2#32
  let v205 : BitVec 32 := Scalar.addi v204 c2_i32_97
  let c2_i32_98 : BitVec 32 := 2#32
  let c0_i32_77 : BitVec 32 := 0#32
  let c8_i32 : BitVec 32 := 8#32
  let c2_i32_67 : BitVec 32 := 2#32
  let v163 : BitVec 32 := Scalar.muli c2_i32_67 arg1
  let v164 : BitVec 32 := Scalar.subi c8_i32 v163
  let c2_i32_68 : BitVec 32 := 2#32
  let v165 : BitVec 32 := Scalar.subi v164 c2_i32_68
  let c0_i32_70 : BitVec 32 := 0#32
  let v167 : BitVec 1 := Scalar.cmpi .sgt v165 c0_i32_70
  let v168 : BitVec 32 := Scalar.extui v167
  let c0_i32_71 : BitVec 32 := 0#32
  let v169 : BitVec 1 := Scalar.cmpi .slt v165 c0_i32_71
  let v170 : BitVec 32 := Scalar.extui v169
  let v171 : BitVec 32 := Scalar.subi v168 v170
  let c2_i32_69 : BitVec 32 := 2#32
  let c0_i32_72 : BitVec 32 := 0#32
  let v172 : BitVec 1 := Scalar.cmpi .sgt c2_i32_69 c0_i32_72
  let v173 : BitVec 32 := Scalar.extui v172
  let c0_i32_73 : BitVec 32 := 0#32
  let v174 : BitVec 1 := Scalar.cmpi .slt c2_i32_69 c0_i32_73
  let v175 : BitVec 32 := Scalar.extui v174
  let v176 : BitVec 32 := Scalar.subi v173 v175
  let v177 : BitVec 1 := Scalar.cmpi .ne v171 v176
  let v178 : BitVec 32 := Scalar.remsi v165 c2_i32_69
  let c0_i32_74 : BitVec 32 := 0#32
  let v179 : BitVec 1 := Scalar.cmpi .ne v178 c0_i32_74
  let v180 : BitVec 1 := Scalar.andi v177 v179
  let v166 : BitVec 32 := Scalar.divsi v165 c2_i32_69
  let c1_i32_75 : BitVec 32 := 1#32
  let v181 : BitVec 32 := Scalar.subi v166 c1_i32_75
  let v182 : BitVec 32 := Scalar.select v180 v181 v166
  let v183 : BitVec 32 := Scalar.subi v182 c0_i32_77
  let c1_i32_78 : BitVec 32 := 1#32
  let v185 : BitVec 32 := Scalar.divsi v183 c1_i32_78
  let v186 : BitVec 32 := Scalar.muli v185 c1_i32_78
  let v187 : BitVec 32 := Scalar.addi c0_i32_77 v186
  let c1_i32_80 : BitVec 32 := 1#32
  let arg20 : BitVec 32 := Scf.iv v187 c1_i32_80 k0_t2
  let v206 : BitVec 32 := Scalar.muli c2_i32_98 arg20
  let v207 : BitVec 32 := Scalar.addi v205 v206
  let c1_i32_99 : BitVec 32 := 1#32
  let v208 : BitVec 32 := Scalar.addi v207 c1_i32_99
  let c512_i32_152 : BitVec 32 := 512#32
  let v308 : BitVec 32 := Scalar.muli v208 c512_i32_152
  let v309 : BitVec 32 := v308
  let v400 : Index := Scalar.indexCast v309
  let c0_202 : Index := 0#32
  ![v400.toNat, 0]
def k0_cond2 (i : grid0.Coords) : BitVec 1 :=
  let arg1 : BitVec 32 := BitVec.ofNat 32 (i 1).val
  let c3_i32 : BitVec 32 := 3#32
  let v197 : BitVec 1 := Scalar.cmpi .eq arg1 c3_i32
  let v198 : BitVec 32 := Scalar.extui v197
  let c0_i32_92 : BitVec 32 := 0#32
  let v199 : BitVec 1 := Scalar.cmpi .ne v198 c0_i32_92
  v199

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x16x128 : Shape := ⟨3, ![4096, 16, 128]⟩
abbrev S4096x16x64 : Shape := ⟨3, ![4096, 16, 64]⟩
abbrev S4096x64 : Shape := ⟨2, ![4096, 64]⟩
abbrev S4096x32 : Shape := ⟨2, ![4096, 32]⟩
abbrev S4096x1x64 : Shape := ⟨3, ![4096, 1, 64]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x64 : Shape := ⟨3, ![16, 4096, 64]⟩
abbrev S16x4096x128 : Shape := ⟨3, ![16, 4096, 128]⟩
abbrev S4096x2048 : Shape := ⟨2, ![4096, 2048]⟩
abbrev S4096x16x2x32 : Shape := ⟨4, ![4096, 16, 2, 32]⟩
abbrev S4096x16x2x64 : Shape := ⟨4, ![4096, 16, 2, 64]⟩

abbrev nBuf : Space → Nat
  | .hbm => 150
  | .vmem => 0
  | .smem => 0
  | _ => 0

abbrev hbmTy0_0 (i : Nat) : BufTy := match i % 128 with
  | 0 => ⟨S4096x16x128, .f32⟩
  | 1 => ⟨S4096x16x64, .f32⟩
  | 2 => ⟨S4096x16x128, .f32⟩
  | 3 => ⟨S4096x64, .f32⟩
  | 4 => ⟨S4096x16x128, .f32⟩
  | 5 => ⟨S4096x32, .f32⟩
  | 6 => ⟨S4096x32, .f32⟩
  | 7 => ⟨S4096x16x128, .f32⟩
  | 8 => ⟨S4096x1x64, .f32⟩
  | 9 => ⟨S4096x16x64, .f32⟩
  | 10 => ⟨S4096x1x32, .f32⟩
  | 11 => ⟨S4096x1x32, .f32⟩
  | 12 => ⟨S4096x16x32, .f32⟩
  | 13 => ⟨S4096x16x32, .f32⟩
  | 14 => ⟨S4096x16x32, .f32⟩
  | 15 => ⟨S4096x16x32, .f32⟩
  | 16 => ⟨S4096x16x32, .f32⟩
  | 17 => ⟨S4096x16x32, .f32⟩
  | 18 => ⟨S4096x16x32, .f32⟩
  | 19 => ⟨S4096x16x32, .f32⟩
  | 20 => ⟨S4096x16x32, .f32⟩
  | 21 => ⟨S4096x16x32, .f32⟩
  | 22 => ⟨S4096x16x32, .f32⟩
  | 23 => ⟨S4096x16x32, .f32⟩
  | 24 => ⟨S4096x16x64, .f32⟩
  | 25 => ⟨S16x4096x4096, .f32⟩
  | 26 => ⟨S16x4096x4096, .f32⟩
  | 27 => ⟨S16x4096x4096, .f32⟩
  | 28 => ⟨S_, .f32⟩
  | 29 => ⟨S16x4096x4096, .f32⟩
  | 30 => ⟨S16x4096x4096, .f32⟩
  | 31 => ⟨S4096, .i32⟩
  | 32 => ⟨S1x4096, .i32⟩
  | 33 => ⟨S4096, .i32⟩
  | 34 => ⟨S4096x1, .i32⟩
  | 35 => ⟨S4096x4096, .i32⟩
  | 36 => ⟨S4096x4096, .i32⟩
  | 37 => ⟨S4096x4096, .i1⟩
  | 38 => ⟨S1x4096x4096, .i1⟩
  | 39 => ⟨S_, .f32⟩
  | 40 => ⟨S_, .f32⟩
  | 41 => ⟨S16x4096x4096, .i1⟩
  | 42 => ⟨S16x4096x4096, .f32⟩
  | 43 => ⟨S16x4096x4096, .f32⟩
  | 44 => ⟨S_, .f32⟩
  | 45 => ⟨S16x4096x4096, .f32⟩
  | 46 => ⟨S_, .f32⟩
  | 47 => ⟨S16x4096, .f32⟩
  | 48 => ⟨S16x4096x1, .f32⟩
  | 49 => ⟨S16x4096x4096, .f32⟩
  | 50 => ⟨S16x4096x4096, .i1⟩
  | 51 => ⟨S16x4096x4096, .f32⟩
  | 52 => ⟨S_, .f32⟩
  | 53 => ⟨S16x4096, .f32⟩
  | 54 => ⟨S_, .f32⟩
  | 55 => ⟨S16x4096, .f32⟩
  | 56 => ⟨S16x4096, .f32⟩
  | 57 => ⟨S_, .f32⟩
  | 58 => ⟨S16x4096, .f32⟩
  | 59 => ⟨S16x4096, .i1⟩
  | 60 => ⟨S_, .f32⟩
  | 61 => ⟨S16x4096, .f32⟩
  | 62 => ⟨S16x4096, .i1⟩
  | 63 => ⟨S_, .f32⟩
  | 64 => ⟨S16x4096, .f32⟩
  | 65 => ⟨S_, .f32⟩
  | 66 => ⟨S16x4096, .f32⟩
  | 67 => ⟨S_, .f32⟩
  | 68 => ⟨S16x4096, .f32⟩
  | 69 => ⟨S16x4096, .f32⟩
  | 70 => ⟨S16x4096, .f32⟩
  | 71 => ⟨S16x4096x1, .f32⟩
  | 72 => ⟨S16x4096x4096, .f32⟩
  | 73 => ⟨S16x4096x4096, .f32⟩
  | 74 => ⟨S16x4096x4096, .f32⟩
  | 75 => ⟨S_, .f32⟩
  | 76 => ⟨S16x4096, .f32⟩
  | 77 => ⟨S16x4096x1, .f32⟩
  | 78 => ⟨S16x4096x4096, .f32⟩
  | 79 => ⟨S16x4096x4096, .f32⟩
  | 80 => ⟨S16x4096x1, .f32⟩
  | 81 => ⟨S_, .f32⟩
  | 82 => ⟨S16x4096x1, .f32⟩
  | 83 => ⟨S16x4096x1, .f32⟩
  | 84 => ⟨S16x128x4096, .f32⟩
  | 85 => ⟨S4096x16x128, .f32⟩
  | 86 => ⟨S16x128x4096, .f32⟩
  | 87 => ⟨S16x4096x4096, .f32⟩
  | 88 => ⟨S16x128x4096, .f32⟩
  | 89 => ⟨S4096x16x128, .f32⟩
  | 90 => ⟨S16x4096x4096, .f32⟩
  | 91 => ⟨S16x4096x4096, .f32⟩
  | 92 => ⟨S16x4096x4096, .f32⟩
  | 93 => ⟨S_, .f32⟩
  | 94 => ⟨S16x4096, .f32⟩
  | 95 => ⟨S16x4096x1, .f32⟩
  | 96 => ⟨S16x4096x1, .f32⟩
  | 97 => ⟨S16x4096x4096, .f32⟩
  | 98 => ⟨S16x4096x4096, .f32⟩
  | 99 => ⟨S_, .f32⟩
  | 100 => ⟨S16x4096, .f32⟩
  | 101 => ⟨S16x4096x4096, .f32⟩
  | 102 => ⟨S16x4096x4096, .f32⟩
  | 103 => ⟨S16x4096x4096, .f32⟩
  | 104 => ⟨S_, .f32⟩
  | 105 => ⟨S16x4096x4096, .f32⟩
  | 106 => ⟨S16x4096x4096, .f32⟩
  | 107 => ⟨S_, .f32⟩
  | 108 => ⟨S16x4096x4096, .f32⟩
  | 109 => ⟨S16x4096x4096, .f32⟩
  | 110 => ⟨S16x4096x64, .f32⟩
  | 111 => ⟨S4096x16x64, .f32⟩
  | 112 => ⟨S16x4096x64, .f32⟩
  | 113 => ⟨S4096x16x64, .f32⟩
  | 114 => ⟨S16x4096x128, .f32⟩
  | 115 => ⟨S4096x16x128, .f32⟩
  | 116 => ⟨S16x4096x128, .f32⟩
  | 117 => ⟨S4096x16x128, .f32⟩
  | 118 => ⟨S4096x16x32, .f32⟩
  | 119 => ⟨S4096x16x32, .f32⟩
  | 120 => ⟨S4096x16x32, .f32⟩
  | 121 => ⟨S4096x16x32, .f32⟩
  | 122 => ⟨S4096x16x32, .f32⟩
  | 123 => ⟨S4096x16x32, .f32⟩
  | 124 => ⟨S4096x16x32, .f32⟩
  | 125 => ⟨S4096x16x32, .f32⟩
  | 126 => ⟨S4096x16x32, .f32⟩
  | 127 => ⟨S4096x16x32, .f32⟩
  | _ => ⟨S4096x16x128, .f32⟩

abbrev hbmTy0_1 (i : Nat) : BufTy := match i % 128 with
  | 0 => ⟨S4096x16x32, .f32⟩
  | 1 => ⟨S4096x16x32, .f32⟩
  | 2 => ⟨S4096x16x32, .f32⟩
  | 3 => ⟨S4096x16x64, .f32⟩
  | 4 => ⟨S4096x2048, .f32⟩
  | 5 => ⟨S4096x16x2x32, .f32⟩
  | 6 => ⟨S_, .i32⟩
  | 7 => ⟨S_, .f32⟩
  | 8 => ⟨S4096x16x2x64, .f32⟩
  | 9 => ⟨S4096x2048, .f32⟩
  | 10 => ⟨S4096x2048, .f32⟩
  | 11 => ⟨S4096x16x2x32, .f32⟩
  | 12 => ⟨S_, .i32⟩
  | 13 => ⟨S_, .f32⟩
  | 14 => ⟨S4096x16x2x64, .f32⟩
  | 15 => ⟨S4096x2048, .f32⟩
  | 16 => ⟨S4096x2048, .f32⟩
  | 17 => ⟨S4096x2048, .bf16⟩
  | 18 => ⟨S4096x2048, .bf16⟩
  | 19 => ⟨S4096x2048, .bf16⟩
  | 20 => ⟨S4096x2048, .bf16⟩
  | 21 => ⟨S4096x2048, .bf16⟩
  | _ => ⟨S4096x16x128, .f32⟩

abbrev hbmTy (i : Nat) : BufTy := match i / 128 with
  | 0 => hbmTy0_0 i
  | 1 => hbmTy0_1 i
  | _ => ⟨S4096x16x128, .f32⟩

abbrev bufTy : (tb : Table) → Fin (tcTables nBuf tb) → BufTy
  | .hbm, ⟨i, _⟩ => hbmTy i
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_call0_v0 : Ref sig .tc := ⟨.hbm, 40, rfl⟩
abbrev main_v30_1 : Ref sig .tc := ⟨.hbm, 41, rfl⟩
abbrev main_call0_v2 : Ref sig .tc := ⟨.hbm, 42, rfl⟩
abbrev main_v30_0 : Ref sig .tc := ⟨.hbm, 43, rfl⟩
abbrev main_call0_cst : Ref sig .tc := ⟨.hbm, 44, rfl⟩
abbrev main_v30_2 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call1_cst : Ref sig .tc := ⟨.hbm, 104, rfl⟩
abbrev main_call1_v0 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c : Ref sig .tc := ⟨.hbm, 134, rfl⟩
abbrev main_call2_v0 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_c_14 : Ref sig .tc := ⟨.hbm, 140, rfl⟩
abbrev main_call3_v0 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩

abbrev nD : Nat := 1
abbrev τ : Topo := Topo.v7x

variable {F : FTy → Type} [FloatOps F]
-- ==== Kernel2.lean ====
abbrev S4096x2048 : Shape := ⟨2, ![4096, 2048]⟩
abbrev S2048x1024 : Shape := ⟨2, ![2048, 1024]⟩
abbrev S4096x1024 : Shape := ⟨2, ![4096, 1024]⟩
abbrev S512x1024 : Shape := ⟨2, ![512, 1024]⟩
abbrev S512x2048 : Shape := ⟨2, ![512, 2048]⟩

abbrev nBuf : Space → Nat
  | .hbm => 9
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x1024, .f32⟩
  | .hbm, ⟨3, _⟩ => ⟨S4096x1024, .f32⟩
  | .hbm, ⟨4, _⟩ => ⟨S4096x2048, .bf16⟩
  | .hbm, ⟨5, _⟩ => ⟨S4096x2048, .bf16⟩
  | .hbm, ⟨6, _⟩ => ⟨S2048x1024, .bf16⟩
  | .hbm, ⟨7, _⟩ => ⟨S4096x2048, .bf16⟩
  | .hbm, ⟨8, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4096x2048 : Shape := ⟨2, ![4096, 2048]⟩
abbrev S2048x1024 : Shape := ⟨2, ![2048, 1024]⟩
abbrev S4096x1024 : Shape := ⟨2, ![4096, 1024]⟩
abbrev S_ : Shape := ⟨0, ![]⟩
abbrev S1024x2048 : Shape := ⟨2, ![1024, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x1024, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x1024, .f32⟩
  | .hbm, ⟨19, _⟩ => ⟨S1024x2048, .f32⟩
  | .hbm, ⟨20, _⟩ => ⟨S2048x1024, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | .hbm, ⟨29, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x1024, .f32⟩
  | .hbm, ⟨3, _⟩ => ⟨S4096x1024, .f32⟩
  | .hbm, ⟨4, _⟩ => ⟨S4096x2048, .bf16⟩
  | .hbm, ⟨5, _⟩ => ⟨S4096x2048, .bf16⟩
  | .hbm, ⟨6, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference3Ideal.lean ====
abbrev S4096x2048 : Shape := ⟨2, ![4096, 2048]⟩
abbrev S2048x1024 : Shape := ⟨2, ![2048, 1024]⟩
abbrev S4096x1024 : Shape := ⟨2, ![4096, 1024]⟩
abbrev S_ : Shape := ⟨0, ![]⟩
abbrev S1024x2048 : Shape := ⟨2, ![1024, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x1024, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x1024, .f32⟩
  | .hbm, ⟨19, _⟩ => ⟨S1024x2048, .f32⟩
  | .hbm, ⟨20, _⟩ => ⟨S2048x1024, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel4.lean ====
abbrev S4096x1024 : Shape := ⟨2, ![4096, 1024]⟩
abbrev S1024x6144 : Shape := ⟨2, ![1024, 6144]⟩
abbrev S6144 : Shape := ⟨1, ![6144]⟩
abbrev S4096x2048 : Shape := ⟨2, ![4096, 2048]⟩
abbrev S1x6144 : Shape := ⟨2, ![1, 6144]⟩
abbrev S1024x1024 : Shape := ⟨2, ![1024, 1024]⟩
abbrev S1024x2048 : Shape := ⟨2, ![1024, 2048]⟩
abbrev S1x2048 : Shape := ⟨2, ![1, 2048]⟩
abbrev S2048 : Shape := ⟨1, ![2048]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S6144, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S1024x6144, .bf16⟩
  | .hbm, ⟨11, _⟩ => ⟨S1x6144, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 4], ![false, false]⟩

def k0_cond5 (i : grid0.Coords) : BitVec 1 :=
  let arg1 : BitVec 32 := BitVec.ofNat 32 (i 1).val
  let c3_i32_7 : BitVec 32 := 3#32
  let v18 : BitVec 1 := Scalar.cmpi .eq arg1 c3_i32_7
  let v19 : BitVec 32 := Scalar.extui v18
  let c0_i32_8 : BitVec 32 := 0#32
  let v20 : BitVec 1 := Scalar.cmpi .ne v19 c0_i32_8
  v20

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c1_i32 : BitVec 32 := 1#32
  let v4 : BitVec 1 := Scalar.cmpi .slt arg0 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c1_i32_3 : BitVec 32 := 1#32
  let v8 : BitVec 1 := Scalar.cmpi .sge arg0 c1_i32_3
  let c2_i32 : BitVec 32 := 2#32
  let v9 : BitVec 1 := Scalar.cmpi .slt arg0 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c2_i32_5 : BitVec 32 := 2#32
  let v13 : BitVec 1 := Scalar.cmpi .sge arg0 c2_i32_5
  let c3_i32 : BitVec 32 := 3#32
  let v14 : BitVec 1 := Scalar.cmpi .slt arg0 c3_i32
  let v15 : BitVec 1 := Scalar.andi v13 v14
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S4096x1024 : Shape := ⟨2, ![4096, 1024]⟩
abbrev S1024x6144 : Shape := ⟨2, ![1024, 6144]⟩
abbrev S6144 : Shape := ⟨1, ![6144]⟩
abbrev S4096x2048 : Shape := ⟨2, ![4096, 2048]⟩
abbrev S4096x6144 : Shape := ⟨2, ![4096, 6144]⟩
abbrev S1x6144 : Shape := ⟨2, ![1, 6144]⟩
abbrev S_ : Shape := ⟨0, ![]⟩
abbrev S6144x1024 : Shape := ⟨2, ![6144, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S6144, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x6144, .f32⟩
  | .hbm, ⟨8, _⟩ => ⟨S1x6144, .f32⟩
  | .hbm, ⟨9, _⟩ => ⟨S4096x6144, .f32⟩
  | .hbm, ⟨10, _⟩ => ⟨S4096x6144, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x6144, .f32⟩
  | .hbm, ⟨21, _⟩ => ⟨S_, .f32⟩
  | .hbm, ⟨22, _⟩ => ⟨S6144, .f32⟩
  | .hbm, ⟨23, _⟩ => ⟨S1x6144, .f32⟩
  | .hbm, ⟨24, _⟩ => ⟨S_, .f32⟩
  | .hbm, ⟨25, _⟩ => ⟨S6144, .f32⟩
  | .hbm, ⟨26, _⟩ => ⟨S6144x1024, .f32⟩
  | .hbm, ⟨27, _⟩ => ⟨S1024x6144, .f32⟩
  | .hbm, ⟨28, _⟩ => ⟨S4096x1024, .f32⟩
  | .hbm, ⟨29, _⟩ => ⟨S4096x1024, .f32⟩
  | .hbm, ⟨30, _⟩ => ⟨S1024x6144, .bf16⟩
  | .hbm, ⟨31, _⟩ => ⟨S1x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel5.lean ====
abbrev S4096x1024 : Shape := ⟨2, ![4096, 1024]⟩
abbrev S1024x6144 : Shape := ⟨2, ![1024, 6144]⟩
abbrev S6144 : Shape := ⟨1, ![6144]⟩
abbrev S4096x2048 : Shape := ⟨2, ![4096, 2048]⟩
abbrev S1024x4x1536 : Shape := ⟨3, ![1024, 4, 1536]⟩
abbrev S4x1024x1536 : Shape := ⟨3, ![4, 1024, 1536]⟩
abbrev S_ : Shape := ⟨0, ![]⟩
abbrev S1x1024 : Shape := ⟨2, ![1, 1024]⟩
abbrev S512x2048 : Shape := ⟨2, ![512, 2048]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512x512 : Shape := ⟨2, ![512, 512]⟩
abbrev S1x1024x512 : Shape := ⟨3, ![1, 1024, 512]⟩
abbrev S1024x512 : Shape := ⟨2, ![1024, 512]⟩
abbrev S1x1024x1024 : Shape := ⟨3, ![1, 1024, 1024]⟩
abbrev S1024x1024 : Shape := ⟨2, ![1024, 1024]⟩

abbrev nBuf : Space → Nat
  | .hbm => 16
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S6144, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S1024x4x1536, .f32⟩
  | .hbm, ⟨11, _⟩ => ⟨S4x1024x1536, .f32⟩
  | .hbm, ⟨12, _⟩ => ⟨S4x1024x1536, .bf16⟩
  | .hbm, ⟨13, _⟩ => ⟨S_, .f32⟩
  | .hbm, ⟨14, _⟩ => ⟨S1x1024, .f32⟩
  | .hbm, ⟨15, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S4x1024x1536, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 3], ![false, false, false]⟩

def k0_cond5 (i : grid0.Coords) : BitVec 1 :=
  let arg2 : BitVec 32 := BitVec.ofNat 32 (i 2).val
  let c2_i32_7 : BitVec 32 := 2#32
  let v18 : BitVec 1 := Scalar.cmpi .eq arg2 c2_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S4x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference5Ideal.lean ====
abbrev S4096x1024 : Shape := ⟨2, ![4096, 1024]⟩
abbrev S1024x6144 : Shape := ⟨2, ![1024, 6144]⟩
abbrev S6144 : Shape := ⟨1, ![6144]⟩
abbrev S4096x2048 : Shape := ⟨2, ![4096, 2048]⟩
abbrev S4096x6144 : Shape := ⟨2, ![4096, 6144]⟩
abbrev S1x6144 : Shape := ⟨2, ![1, 6144]⟩
abbrev S_ : Shape := ⟨0, ![]⟩
abbrev S6144x1024 : Shape := ⟨2, ![6144, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S6144, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x6144, .f32⟩
  | .hbm, ⟨8, _⟩ => ⟨S1x6144, .f32⟩
  | .hbm, ⟨9, _⟩ => ⟨S4096x6144, .f32⟩
  | .hbm, ⟨10, _⟩ => ⟨S4096x6144, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x6144, .f32⟩
  | .hbm, ⟨21, _⟩ => ⟨S_, .f32⟩
  | .hbm, ⟨22, _⟩ => ⟨S6144, .f32⟩
  | .hbm, ⟨23, _⟩ => ⟨S1x6144, .f32⟩
  | .hbm, ⟨24, _⟩ => ⟨S_, .f32⟩
  | .hbm, ⟨25, _⟩ => ⟨S6144, .f32⟩
  | .hbm, ⟨26, _⟩ => ⟨S6144x1024, .f32⟩
  | .hbm, ⟨27, _⟩ => ⟨S1024x6144, .f32⟩
  | .hbm, ⟨28, _⟩ => ⟨S4096x1024, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel6.lean ====
abbrev S4096x2048 : Shape := ⟨2, ![4096, 2048]⟩
abbrev S4096x6144 : Shape := ⟨2, ![4096, 6144]⟩
abbrev S2048 : Shape := ⟨1, ![2048]⟩
abbrev S2048x1024 : Shape := ⟨2, ![2048, 1024]⟩
abbrev S1024 : Shape := ⟨1, ![1024]⟩
abbrev S4096x1024 : Shape := ⟨2, ![4096, 1024]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S4096x1024, .f32⟩
  | .hbm, ⟨7, _⟩ => ⟨S1x2048, .f32⟩
  | .hbm, ⟨8, _⟩ => ⟨S1x2048, .f32⟩
  | .hbm, ⟨9, _⟩ => ⟨S2048x1024, .bf16⟩
  | .hbm, ⟨10, _⟩ => ⟨S4096x2048, .f32⟩
  | .hbm, ⟨11, _⟩ => ⟨S4096x2048, .bf16⟩
  | .hbm, ⟨12, _⟩ => ⟨S1x2048, .f32⟩
  | .hbm, ⟨13, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v89 : BitVec 1 := Scalar.cmpi .eq arg0 c0_i32
  let v90 : BitVec 32 := Scalar.extui v89
  let c0_i32_36 : BitVec 32 := 0#32
  let v91 : BitVec 1 := Scalar.cmpi .ne v90 c0_i32_36
  v91

def k0_cond2 (i : grid0.Coords) : BitVec 1 :=
  let arg0 : BitVec 32 := BitVec.ofNat 32 (i 0).val
  let c0_i32_37 : BitVec 32 := 0#32
  let v92 : BitVec 1 := Scalar.cmpi .sgt arg0 c0_i32_37
  let v93 : BitVec 32 := Scalar.extui v92
  let c0_i32_38 : BitVec 32 := 0#32
  let v94 : BitVec 1 := Scalar.cmpi .ne v93 c0_i32_38
  v94

def k0_cond3 (i : grid0.Coords) : BitVec 1 :=
  let arg0 : BitVec 32 := BitVec.ofNat 32 (i 0).val
  let c0_i32_39 : BitVec 32 := 0#32
  let v95 : BitVec 1 := Scalar.cmpi .eq arg0 c0_i32_39
  let v96 : BitVec 32 := Scalar.extui v95
  let c0_i32_40 : BitVec 32 := 0#32
  let v97 : BitVec 1 := Scalar.cmpi .ne v96 c0_i32_40
  v97

def k0_cond4 (i : grid0.Coords) : BitVec 1 :=
  let arg0 : BitVec 32 := BitVec.ofNat 32 (i 0).val
  let c0_i32_41 : BitVec 32 := 0#32
  let v98 : BitVec 1 := Scalar.cmpi .sgt arg0 c0_i32_41
  let v99 : BitVec 32 := Scalar.extui v98
  let c0_i32_42 : BitVec 32 := 0#32
  let v100 : BitVec 1 := Scalar.cmpi .ne v99 c0_i32_42
  v100

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== Reference6Ideal.lean ====
abbrev S4096x2048 : Shape := ⟨2, ![4096, 2048]⟩
abbrev S4096x6144 : Shape := ⟨2, ![4096, 6144]⟩
abbrev S2048 : Shape := ⟨1, ![2048]⟩
abbrev S2048x1024 : Shape := ⟨2, ![2048, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1024 : Shape := ⟨2, ![1, 1024]⟩
abbrev S1024x2048 : Shape := ⟨2, ![1024, 2048]⟩

abbrev nBuf : Space → Nat
  | .hbm => 143
  | .vmem => 0
  | .smem => 0
  | _ => 0

abbrev hbmTy0_0 (i : Nat) : BufTy := match i % 128 with
  | 0 => ⟨S4096x2048, .f32⟩
  | 1 => ⟨S4096x6144, .f32⟩
  | 2 => ⟨S2048, .f32⟩
  | 3 => ⟨S2048, .f32⟩
  | 4 => ⟨S2048x1024, .f32⟩
  | 5 => ⟨S1024, .f32⟩
  | 6 => ⟨S4096x1024, .f32⟩
  | 7 => ⟨S4096x2048, .f32⟩
  | 8 => ⟨S4096x2048, .f32⟩
  | 9 => ⟨S4096x2048, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S4096x2048, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x2048, .f32⟩
  | 29 => ⟨S4096x2048, .f32⟩
  | 30 => ⟨S_, .f32⟩
  | 31 => ⟨S4096x1, .f32⟩
  | 32 => ⟨S4096x1, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x2048, .f32⟩
  | 39 => ⟨S4096x2048, .f32⟩
  | 40 => ⟨S1x2048, .f32⟩
  | 41 => ⟨S4096x2048, .f32⟩
  | 42 => ⟨S4096x2048, .f32⟩
  | 43 => ⟨S1x2048, .f32⟩
  | 44 => ⟨S4096x2048, .f32⟩
  | 45 => ⟨S4096x2048, .f32⟩
  | 46 => ⟨S4096x2048, .f32⟩
  | 47 => ⟨S4096x2048, .f32⟩
  | 48 => ⟨S_, .f32⟩
  | 49 => ⟨S4096x2048, .f32⟩
  | 50 => ⟨S4096x2048, .f32⟩
  | 51 => ⟨S_, .f32⟩
  | 52 => ⟨S4096x2048, .f32⟩
  | 53 => ⟨S4096x2048, .f32⟩
  | 54 => ⟨S_, .f32⟩
  | 55 => ⟨S4096x2048, .f32⟩
  | 56 => ⟨S4096x2048, .f32⟩
  | 57 => ⟨S4096x2048, .f32⟩
  | 58 => ⟨S4096x2048, .f32⟩
  | 59 => ⟨S4096x2048, .f32⟩
  | 60 => ⟨S4096x2048, .f32⟩
  | 61 => ⟨S_, .f32⟩
  | 62 => ⟨S4096x2048, .f32⟩
  | 63 => ⟨S4096x2048, .f32⟩
  | 64 => ⟨S_, .f32⟩
  | 65 => ⟨S4096x2048, .f32⟩
  | 66 => ⟨S4096x2048, .f32⟩
  | 67 => ⟨S_, .f32⟩
  | 68 => ⟨S4096x2048, .f32⟩
  | 69 => ⟨S4096x2048, .f32⟩
  | 70 => ⟨S4096x2048, .f32⟩
  | 71 => ⟨S4096x2048, .f32⟩
  | 72 => ⟨S4096x2048, .f32⟩
  | 73 => ⟨S4096x1024, .f32⟩
  | 74 => ⟨S1x1024, .f32⟩
  | 75 => ⟨S4096x1024, .f32⟩
  | 76 => ⟨S4096x1024, .f32⟩
  | 77 => ⟨S4096x1024, .f32⟩
  | 78 => ⟨S_, .f32⟩
  | 79 => ⟨S1024, .f32⟩
  | 80 => ⟨S1x1024, .f32⟩
  | 81 => ⟨S_, .f32⟩
  | 82 => ⟨S1024, .f32⟩
  | 83 => ⟨S1024x2048, .f32⟩
  | 84 => ⟨S2048x1024, .f32⟩
  | 85 => ⟨S4096x2048, .f32⟩
  | 86 => ⟨S4096x2048, .f32⟩
  | 87 => ⟨S4096x2048, .f32⟩
  | 88 => ⟨S4096x2048, .f32⟩
  | 89 => ⟨S4096x2048, .f32⟩
  | 90 => ⟨S4096x2048, .f32⟩
  | 91 => ⟨S4096x2048, .f32⟩
  | 92 => ⟨S4096x2048, .f32⟩
  | 93 => ⟨S4096x2048, .f32⟩
  | 94 => ⟨S4096x2048, .f32⟩
  | 95 => ⟨S4096x2048, .f32⟩
  | 96 => ⟨S_, .f32⟩
  | 97 => ⟨S2048, .f32⟩
  | 98 => ⟨S1x2048, .f32⟩
  | 99 => ⟨S_, .f32⟩
  | 100 => ⟨S2048, .f32⟩
  | 101 => ⟨S4096x2048, .f32⟩
  | 102 => ⟨S_, .f32⟩
  | 103 => ⟨S2048, .f32⟩
  | 104 => ⟨S1x2048, .f32⟩
  | 105 => ⟨S4096x2048, .f32⟩
  | 106 => ⟨S4096x2048, .f32⟩
  | 107 => ⟨S_, .f32⟩
  | 108 => ⟨S2048, .f32⟩
  | 109 => ⟨S4096x2048, .f32⟩
  | 110 => ⟨S_, .f32⟩
  | 111 => ⟨S4096, .f32⟩
  | 112 => ⟨S4096x1, .f32⟩
  | 113 => ⟨S4096x2048, .f32⟩
  | 114 => ⟨S4096x2048, .f32⟩
  | 115 => ⟨S4096x1, .f32⟩
  | 116 => ⟨S4096x2048, .f32⟩
  | 117 => ⟨S_, .f32⟩
  | 118 => ⟨S4096, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096, .f32⟩
  | 125 => ⟨S4096x2048, .f32⟩
  | 126 => ⟨S4096x2048, .f32⟩
  | 127 => ⟨S4096x2048, .f32⟩
  | _ => ⟨S4096x2048, .f32⟩

abbrev hbmTy0_1 (i : Nat) : BufTy := match i % 128 with
  | 0 => ⟨S_, .f32⟩
  | 1 => ⟨S4096, .f32⟩
  | 2 => ⟨S4096x1, .f32⟩
  | 3 => ⟨S4096x2048, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096, .f32⟩
  | 10 => ⟨S4096x2048, .f32⟩
  | 11 => ⟨S4096x2048, .f32⟩
  | 12 => ⟨S4096x2048, .bf16⟩
  | 13 => ⟨S1x2048, .f32⟩
  | 14 => ⟨S1x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v32_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v32_1 : Ref sig .tc := ⟨.hbm, 57, rfl⟩
abbrev main_v32_0 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_v33_2 : Ref sig .tc := ⟨.hbm, 66, rfl⟩
abbrev main_call1_cst_1 : Ref sig .tc := ⟨.hbm, 67, rfl⟩
abbrev main_call1_v6 : Ref sig .tc := ⟨.hbm, 68, rfl⟩
abbrev main_call1_v7 : Ref sig .tc := ⟨.hbm, 69, rfl⟩
abbrev main_v33_1 : Ref sig .tc := ⟨.hbm, 70, rfl⟩
abbrev main_v33_0 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_6 : Ref sig .tc := ⟨.hbm, 78, rfl⟩
abbrev main_v40 : Ref sig .tc := ⟨.hbm, 79, rfl⟩
abbrev main_v41 : Ref sig .tc := ⟨.hbm, 80, rfl⟩
abbrev main_cst_7 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v48 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v49 : Ref sig .tc := ⟨.hbm, 95, rfl⟩
abbrev main_cst_8 : Ref sig .tc := ⟨.hbm, 96, rfl⟩
abbrev main_v50 : Ref sig .tc := ⟨.hbm, 97, rfl⟩
abbrev main_v51 : Ref sig .tc := ⟨.hbm, 98, rfl⟩
abbrev main_cst_9 : Ref sig .tc := ⟨.hbm, 99, rfl⟩
abbrev main_v52 : Ref sig .tc := ⟨.hbm, 100, rfl⟩
abbrev main_v53 : Ref sig .tc := ⟨.hbm, 101, rfl⟩
abbrev main_cst_10 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_11 : Ref sig .tc := ⟨.hbm, 107, rfl⟩
abbrev main_v58 : Ref sig .tc := ⟨.hbm, 108, rfl⟩
abbrev main_v59 : Ref sig .tc := ⟨.hbm, 109, rfl⟩
abbrev main_cst_12 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_13 : Ref sig .tc := ⟨.hbm, 117, rfl⟩
abbrev main_v66 : Ref sig .tc := ⟨.hbm, 118, rfl⟩
abbrev main_v67 : Ref sig .tc := ⟨.hbm, 119, rfl⟩
abbrev main_cst_14 : Ref sig .tc := ⟨.hbm, 120, rfl⟩
abbrev main_v68 : Ref sig .tc := ⟨.hbm, 121, rfl⟩
abbrev main_v69 : Ref sig .tc := ⟨.hbm, 122, rfl⟩
abbrev main_cst_15 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_16 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_17 : Ref sig .tc := ⟨.hbm, 133, rfl⟩
abbrev main_v78 : Ref sig .tc := ⟨.hbm, 134, rfl⟩
abbrev main_v79 : Ref sig .tc := ⟨.hbm, 135, rfl⟩
abbrev main_cst_18 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩

abbrev nD : Nat := 1
abbrev τ : Topo := Topo.v7x

variable {F : FTy → Type} [FloatOps F]
-- ==== Kernel7.lean ====
abbrev S4096x1024 : Shape := ⟨2, ![4096, 1024]⟩
abbrev S1024x6144 : Shape := ⟨2, ![1024, 6144]⟩
abbrev S6144 : Shape := ⟨1, ![6144]⟩
abbrev S1x6144 : Shape := ⟨2, ![1, 6144]⟩
abbrev S1024x4x1536 : Shape := ⟨3, ![1024, 4, 1536]⟩
abbrev S4x1024x1536 : Shape := ⟨3, ![4, 1024, 1536]⟩
abbrev S4096x6144 : Shape := ⟨2, ![4096, 6144]⟩
abbrev S1024x1024 : Shape := ⟨2, ![1024, 1024]⟩
abbrev S1x1024x1536 : Shape := ⟨3, ![1, 1024, 1536]⟩
abbrev S1x1536 : Shape := ⟨2, ![1, 1536]⟩
abbrev S1024x1536 : Shape := ⟨2, ![1024, 1536]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S1024x4x1536, .f32⟩
  | .hbm, ⟨5, _⟩ => ⟨S4x1024x1536, .f32⟩
  | .hbm, ⟨6, _⟩ => ⟨S4x1024x1536, .bf16⟩
  | .hbm, ⟨7, _⟩ => ⟨S4096x6144, .f32⟩
  | .local _ .vmem, ⟨0, _⟩ => ⟨S1024x1024, .f32⟩
  | .local _ .vmem, ⟨1, _⟩ => ⟨S1024x1024, .f32⟩
  | .local _ .vmem, ⟨2, _⟩ => ⟨S1x1024x1536, .bf16⟩
  | .local _ .vmem, ⟨3, _⟩ => ⟨S1x1024x1536, .bf16⟩
  | .local _ .vmem, ⟨4, _⟩ => ⟨S1x1536, .f32⟩
  | .local _ .vmem, ⟨5, _⟩ => ⟨S1x1536, .f32⟩
  | .local _ .vmem, ⟨6, _⟩ => ⟨S1024x1536, .f32⟩
  | .local _ .vmem, ⟨7, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x1024 : Shape := ⟨2, ![4096, 1024]⟩
abbrev S1024x6144 : Shape := ⟨2, ![1024, 6144]⟩
abbrev S6144 : Shape := ⟨1, ![6144]⟩
abbrev S4096x6144 : Shape := ⟨2, ![4096, 6144]⟩
abbrev S1x6144 : Shape := ⟨2, ![1, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S6144, .f32⟩
  | .hbm, ⟨3, _⟩ => ⟨S4096x6144, .f32⟩
  | .hbm, ⟨4, _⟩ => ⟨S1x6144, .f32⟩
  | .hbm, ⟨5, _⟩ => ⟨S4096x6144, .f32⟩
  | .hbm, ⟨6, _⟩ => ⟨S4096x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S1x1024 : Shape := ⟨2, ![1, 1024]⟩
abbrev S1024x2048 : Shape := ⟨2, ![1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S1024, .f32⟩
  | .hbm, ⟨3, _⟩ => ⟨S4096x1024, .f32⟩
  | .hbm, ⟨4, _⟩ => ⟨S4096x2048, .bf16⟩
  | .hbm, ⟨5, _⟩ => ⟨S2048x1024, .bf16⟩
  | .hbm, ⟨6, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S1x1024, .f32⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference8Ideal.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S1x1024 : Shape := ⟨2, ![1, 1024]⟩
abbrev S_ : Shape := ⟨0, ![]⟩
abbrev S1024x2048 : Shape := ⟨2, ![1024, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1024, .f32⟩
  | .hbm, ⟨14, _⟩ => ⟨S1024x2048, .f32⟩
  | .hbm, ⟨15, _⟩ => ⟨S2048x1024, .f32⟩
  | .hbm, ⟨16, _⟩ => ⟨S4096x2048, .f32⟩
  | .hbm, ⟨17, _⟩ => ⟨S2048x1024, .bf16⟩
  | .hbm, ⟨18, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel9.lean ====
abbrev S4096x1024 : Shape := ⟨2, ![4096, 1024]⟩
abbrev S1024x2560 : Shape := ⟨2, ![1024, 2560]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x1024, .bf16⟩
  | .hbm, ⟨3, _⟩ => ⟨S1024x2560, .bf16⟩
  | .hbm, ⟨4, _⟩ => ⟨S1024x2048, .bf16⟩
  | .hbm, ⟨5, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x2560 : Shape := ⟨2, ![1024, 2560]⟩
abbrev S4096x2560 : Shape := ⟨2, ![4096, 2560]⟩
abbrev S4096x512 : Shape := ⟨2, ![4096, 512]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x2560, .f32⟩
  | .hbm, ⟨3, _⟩ => ⟨S4096x512, .f32⟩
  | .hbm, ⟨4, _⟩ => ⟨S4096x2048, .f32⟩
  | .hbm, ⟨5, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S1024x2560 : Shape := ⟨2, ![1024, 2560]⟩
abbrev S4096x512 : Shape := ⟨2, ![4096, 512]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x512, .f32⟩
  | .hbm, ⟨3, _⟩ => ⟨S4096x2048, .f32⟩
  | .hbm, ⟨4, _⟩ => ⟨S4096x1024, .bf16⟩
  | .hbm, ⟨5, _⟩ => ⟨S4096x2048, .bf16⟩
  | .hbm, ⟨6, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference10Ideal.lean ====
abbrev S4096x1024 : Shape := ⟨2, ![4096, 1024]⟩
abbrev S1024x2560 : Shape := ⟨2, ![1024, 2560]⟩
abbrev S4096x512 : Shape := ⟨2, ![4096, 512]⟩
abbrev S4096x2048 : Shape := ⟨2, ![4096, 2048]⟩
abbrev S4096x2560 : Shape := ⟨2, ![4096, 2560]⟩
abbrev S2560x1024 : Shape := ⟨2, ![2560, 1024]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x512, .f32⟩
  | .hbm, ⟨3, _⟩ => ⟨S4096x2048, .f32⟩
  | .hbm, ⟨4, _⟩ => ⟨S4096x2560, .f32⟩
  | .hbm, ⟨5, _⟩ => ⟨S4096x512, .f32⟩
  | .hbm, ⟨6, _⟩ => ⟨S4096x2048, .f32⟩
  | .hbm, ⟨7, _⟩ => ⟨S4096x2560, .f32⟩
  | .hbm, ⟨8, _⟩ => ⟨S2560x1024, .f32⟩
  | .hbm, ⟨9, _⟩ => ⟨S1024x2560, .f32⟩
  | .hbm, ⟨10, _⟩ => ⟨S4096x1024, .f32⟩
  | .hbm, ⟨11, _⟩ => ⟨S1024x2048, .f32⟩
  | .hbm, ⟨12, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel11.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S1x1024 : Shape := ⟨2, ![1, 1024]⟩
abbrev S4096x1 : Shape := ⟨2, ![4096, 1]⟩
abbrev S512x2048 : Shape := ⟨2, ![512, 2048]⟩
abbrev S512x1024 : Shape := ⟨2, ![512, 1024]⟩
abbrev S512x1 : Shape := ⟨2, ![512, 1]⟩
abbrev S512 : Shape := ⟨1, ![512]⟩

abbrev nBuf : Space → Nat
  | .hbm => 15
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x2048, .bf16⟩
  | .hbm, ⟨7, _⟩ => ⟨S2048x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== Reference11Ideal.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S_ : Shape := ⟨0, ![]⟩
abbrev S1x1024 : Shape := ⟨2, ![1, 1024]⟩
abbrev S4096 : Shape := ⟨1, ![4096]⟩
abbrev S4096x1 : Shape := ⟨2, ![4096, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel12.lean ====
abbrev S4096x256 : Shape := ⟨2, ![4096, 256]⟩
abbrev S256x16x128 : Shape := ⟨3, ![256, 16, 128]⟩
abbrev S256x2048 : Shape := ⟨2, ![256, 2048]⟩
abbrev S256x4096 : Shape := ⟨2, ![256, 4096]⟩
abbrev S4096x4096 : Shape := ⟨2, ![4096, 4096]⟩
abbrev S1024x256 : Shape := ⟨2, ![1024, 256]⟩
abbrev S1024x2048 : Shape := ⟨2, ![1024, 2048]⟩

abbrev nBuf : Space → Nat
  | .hbm => 10
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x16x128, .f32⟩
  | .hbm, ⟨2, _⟩ => ⟨S256x16x128, .f32⟩
  | .hbm, ⟨3, _⟩ => ⟨S4096x256, .bf16⟩
  | .hbm, ⟨4, _⟩ => ⟨S256x16x128, .bf16⟩
  | .hbm, ⟨5, _⟩ => ⟨S256x16x128, .bf16⟩
  | .hbm, ⟨6, _⟩ => ⟨S256x2048, .bf16⟩
  | .hbm, ⟨7, _⟩ => ⟨S256x2048, .bf16⟩
  | .hbm, ⟨8, _⟩ => ⟨S256x4096, .bf16⟩
  | .hbm, ⟨9, _⟩ => ⟨S4096x4096, .bf16⟩
  | .local _ .vmem, ⟨0, _⟩ => ⟨S1024x256, .bf16⟩
  | .local _ .vmem, ⟨1, _⟩ => ⟨S1024x256, .bf16⟩
  | .local _ .vmem, ⟨2, _⟩ => ⟨S256x2048, .bf16⟩
  | .local _ .vmem, ⟨3, _⟩ => ⟨S256x2048, .bf16⟩
  | .local _ .vmem, ⟨4, _⟩ => ⟨S1024x2048, .bf16⟩
  | .local _ .vmem, ⟨5, _⟩ => ⟨S1024x2048, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x256 : Shape := ⟨2, ![4096, 256]⟩
abbrev S256x16x128 : Shape := ⟨3, ![256, 16, 128]⟩
abbrev S4096x16x128 : Shape := ⟨3, ![4096, 16, 128]⟩
abbrev S4096x2048 : Shape := ⟨2, ![4096, 2048]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16x128, .f32⟩
  | .hbm, ⟨2, _⟩ => ⟨S256x16x128, .f32⟩
  | .hbm, ⟨3, _⟩ => ⟨S4096x16x128, .f32⟩
  | .hbm, ⟨4, _⟩ => ⟨S4096x16x128, .f32⟩
  | .hbm, ⟨5, _⟩ => ⟨S4096x2048, .f32⟩
  | .hbm, ⟨6, _⟩ => ⟨S4096x2048, .f32⟩
  | .hbm, ⟨7, _⟩ => ⟨S4096x4096, .f32⟩
  | .hbm, ⟨8, _⟩ => ⟨S4096x4096, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x256 : Shape := ⟨2, ![4096, 256]⟩
abbrev S256x16x128 : Shape := ⟨3, ![256, 16, 128]⟩
abbrev S4096x16x128 : Shape := ⟨3, ![4096, 16, 128]⟩
abbrev S4096x2048 : Shape := ⟨2, ![4096, 2048]⟩
abbrev S256x4096 : Shape := ⟨2, ![256, 4096]⟩
abbrev S1024x256 : Shape := ⟨2, ![1024, 256]⟩
abbrev S1024x2048 : Shape := ⟨2, ![1024, 2048]⟩
abbrev S256x2048 : Shape := ⟨2, ![256, 2048]⟩

abbrev nBuf : Space → Nat
  | .hbm => 11
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S256x16x128, .f32⟩
  | .hbm, ⟨2, _⟩ => ⟨S256x16x128, .f32⟩
  | .hbm, ⟨3, _⟩ => ⟨S4096x16x128, .f32⟩
  | .hbm, ⟨4, _⟩ => ⟨S4096x16x128, .f32⟩
  | .hbm, ⟨5, _⟩ => ⟨S4096x256, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .bf16⟩
  | .hbm, ⟨10, _⟩ => ⟨S256x4096, .bf16⟩
  | .local _ .vmem, ⟨0, _⟩ => ⟨S1024x256, .bf16⟩
  | .local _ .vmem, ⟨1, _⟩ => ⟨S1024x256, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference13Ideal.lean ====
abbrev S4096x256 : Shape := ⟨2, ![4096, 256]⟩
abbrev S256x16x128 : Shape := ⟨3, ![256, 16, 128]⟩
abbrev S4096x16x128 : Shape := ⟨3, ![4096, 16, 128]⟩
abbrev S16x128x256 : Shape := ⟨3, ![16, 128, 256]⟩
abbrev S256x2048 : Shape := ⟨2, ![256, 2048]⟩
abbrev S256x4096 : Shape := ⟨2, ![256, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16x128, .f32⟩
  | .hbm, ⟨2, _⟩ => ⟨S256x16x128, .f32⟩
  | .hbm, ⟨3, _⟩ => ⟨S4096x16x128, .f32⟩
  | .hbm, ⟨4, _⟩ => ⟨S4096x16x128, .f32⟩
  | .hbm, ⟨5, _⟩ => ⟨S4096x16x128, .f32⟩
  | .hbm, ⟨6, _⟩ => ⟨S4096x16x128, .f32⟩
  | .hbm, ⟨7, _⟩ => ⟨S16x128x256, .f32⟩
  | .hbm, ⟨8, _⟩ => ⟨S256x16x128, .f32⟩
  | .hbm, ⟨9, _⟩ => ⟨S4096x256, .f32⟩
  | .hbm, ⟨10, _⟩ => ⟨S16x128x256, .f32⟩
  | .hbm, ⟨11, _⟩ => ⟨S256x16x128, .f32⟩
  | .hbm, ⟨12, _⟩ => ⟨S4096x256, .f32⟩
  | .hbm, ⟨13, _⟩ => ⟨S4096x256, .f32⟩
  | .hbm, ⟨14, _⟩ => ⟨S256x2048, .f32⟩
  | .hbm, ⟨15, _⟩ => ⟨S256x2048, .f32⟩
  | .hbm, ⟨16, _⟩ => ⟨S256x4096, .f32⟩
  | .hbm, ⟨17, _⟩ => ⟨S256x4096, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel14.lean ====
abbrev S4096x512 : Shape := ⟨2, ![4096, 512]⟩
abbrev S512x16x192 : Shape := ⟨3, ![512, 16, 192]⟩
abbrev S4096x16x128 : Shape := ⟨3, ![4096, 16, 128]⟩
abbrev S4096x16x64 : Shape := ⟨3, ![4096, 16, 64]⟩
abbrev S_ : Shape := ⟨0, ![]⟩
abbrev S4096x16x32 : Shape := ⟨3, ![4096, 16, 32]⟩
abbrev S4096x2048 : Shape := ⟨2, ![4096, 2048]⟩
abbrev S512x4096 : Shape := ⟨2, ![512, 4096]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 15
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S512x16x192, .f32⟩
  | .hbm, ⟨2, _⟩ => ⟨S4096x16x128, .f32⟩
  | .hbm, ⟨3, _⟩ => ⟨S4096x16x64, .f32⟩
  | .hbm, ⟨4, _⟩ => ⟨S_, .f32⟩
  | .hbm, ⟨5, _⟩ => ⟨S4096x16x32, .f32⟩
  | .hbm, ⟨6, _⟩ => ⟨S4096x16x32, .f32⟩
  | .hbm, ⟨7, _⟩ => ⟨S4096x16x32, .f32⟩
  | .hbm, ⟨8, _⟩ => ⟨S4096x16x128, .f32⟩
  | .hbm, ⟨9, _⟩ => ⟨S4096x512, .bf16⟩
  | .hbm, ⟨10, _⟩ => ⟨S4096x2048, .f32⟩
  | .hbm, ⟨11, _⟩ => ⟨S4096x2048, .bf16⟩
  | .hbm, ⟨12, _⟩ => ⟨S4096x2048, .f32⟩
  | .hbm, ⟨13, _⟩ => ⟨S4096x2048, .bf16⟩
  | .hbm, ⟨14, _⟩ => ⟨S512x4096, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference14Ideal.lean ====
abbrev S4096x512 : Shape := ⟨2, ![4096, 512]⟩
abbrev S512x16x192 : Shape := ⟨3, ![512, 16, 192]⟩
abbrev S4096x16x128 : Shape := ⟨3, ![4096, 16, 128]⟩
abbrev S4096x16x64 : Shape := ⟨3, ![4096, 16, 64]⟩
abbrev S4096x16x192 : Shape := ⟨3, ![4096, 16, 192]⟩
abbrev S16x192x512 : Shape := ⟨3, ![16, 192, 512]⟩
abbrev S512x16x128 : Shape := ⟨3, ![512, 16, 128]⟩
abbrev S512x16x64 : Shape := ⟨3, ![512, 16, 64]⟩
abbrev S512x16x2x32 : Shape := ⟨4, ![512, 16, 2, 32]⟩
abbrev S_ : Shape := ⟨0, ![]⟩
abbrev S512x16x2x64 : Shape := ⟨4, ![512, 16, 2, 64]⟩
abbrev S512x2048 : Shape := ⟨2, ![512, 2048]⟩
abbrev S512x4096 : Shape := ⟨2, ![512, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x16x192, .f32⟩
  | .hbm, ⟨2, _⟩ => ⟨S4096x16x128, .f32⟩
  | .hbm, ⟨3, _⟩ => ⟨S4096x16x64, .f32⟩
  | .hbm, ⟨4, _⟩ => ⟨S4096x16x192, .f32⟩
  | .hbm, ⟨5, _⟩ => ⟨S4096x16x128, .f32⟩
  | .hbm, ⟨6, _⟩ => ⟨S4096x16x64, .f32⟩
  | .hbm, ⟨7, _⟩ => ⟨S4096x16x192, .f32⟩
  | .hbm, ⟨8, _⟩ => ⟨S16x192x512, .f32⟩
  | .hbm, ⟨9, _⟩ => ⟨S512x16x192, .f32⟩
  | .hbm, ⟨10, _⟩ => ⟨S4096x512, .f32⟩
  | .hbm, ⟨11, _⟩ => ⟨S512x16x128, .f32⟩
  | .hbm, ⟨12, _⟩ => ⟨S512x16x64, .f32⟩
  | .hbm, ⟨13, _⟩ => ⟨S512x16x2x32, .f32⟩
  | .hbm, ⟨14, _⟩ => ⟨S_, .i32⟩
  | .hbm, ⟨15, _⟩ => ⟨S_, .f32⟩
  | .hbm, ⟨16, _⟩ => ⟨S512x16x2x64, .f32⟩
  | .hbm, ⟨17, _⟩ => ⟨S512x2048, .f32⟩
  | .hbm, ⟨18, _⟩ => ⟨S512x2048, .f32⟩
  | .hbm, ⟨19, _⟩ => ⟨S512x4096, .f32⟩
  | .hbm, ⟨20, _⟩ => ⟨S512x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.KernelIdealRun.lean ====
/-
  The run of the printed kernel for any element values. Each grid point's body runs from staging buffers and scratch buffers at
  ANY contents and hands them back at some contents: what it computes is not named here, so the run says which arrays are left
  as they were (the arguments) and that every semaphore counter ends at zero.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Claim

@[expose] public section

set_option maxRecDepth 8192

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body, from any contents to some contents -/

/-- The memref's elements are owned in full, at contents nobody names. -/
abbrev some_at (c : Dev nD) {sp : Space} {sh : Shape} {e : EltTy} (M : Memref sig .tc sp sh e) : sProp 𝕄 :=
  iprop(∃ X, owns (c : Thread nD τ) M fullShare X)

/-- A memref owned at some contents of its buffer is owned. -/
theorem some_at_of (c : Dev nD) {sp : Space} {sh : Shape} {e : EltTy} (M : Memref sig .tc sp sh e)
    (f : M.view.ty.Contents (Elt F)) :
    ((M.view.loc (c : Thread nD τ) ↦[M.view.set]{fullShare} f : sProp 𝕄)) ⊢ some_at c M := by
  iintro H
  iexists _
  iapply (owns_intro (c : Thread nD τ) M fullShare f) $$ H

set_option maxHeartbeats 2000000 in
/-- The kernel's body at any point: whatever the staging and scratch buffers hold, it runs to its end and hands them back. -/
theorem body_any (c : Dev nD) (E : Set ℕ) (i : grid0.Coords)
    (arg2 : Memref sig .tc .vmem S4096x128 .bf16) (harg2 : arg2.IsWhole)
    (arg3 : Memref sig .tc .vmem S4096x128 .bf16) (harg3 : arg3.IsWhole)
    (arg4 : Memref sig .tc .vmem S1024x128 .bf16) (harg4 : arg4.IsWhole)
    (arg5 : Memref sig .tc .vmem S1024x128 .bf16) (harg5 : arg5.IsWhole)
    (arg6 : Memref sig .tc .vmem S1024x128 .bf16) (harg6 : arg6.IsWhole)
    (arg7 : Memref sig .tc .vmem S4096x128 .bf16) (harg7 : arg7.IsWhole)
    (arg8 : Memref sig .tc .vmem S4096x128 .bf16) (harg8 : arg8.IsWhole)
    (arg9 : Memref sig .tc .vmem S1x4096x1 .f32) (harg9 : arg9.IsWhole)
    (arg10 : Memref sig .tc .vmem S4096x128 .f32) (harg10 : arg10.IsWhole)
    (arg11 : Memref sig .tc .vmem S4096x128 .f32) (harg11 : arg11.IsWhole)
    (arg12 : Memref sig .tc .vmem S4096x128 .bf16) (harg12 : arg12.IsWhole)
    (arg13 : Memref sig .tc .vmem S4096x128 .bf16) (harg13 : arg13.IsWhole)
    (arg14 : Memref sig .tc .vmem S1024x128 .bf16) (harg14 : arg14.IsWhole)
    (arg15 : Memref sig .tc .vmem S1024x128 .bf16) (harg15 : arg15.IsWhole)
    (arg16 : Memref sig .tc .vmem S1024x128 .bf16) (harg16 : arg16.IsWhole)
    (arg17 : Memref sig .tc .vmem S4096x256 .f32) (harg17 : arg17.IsWhole)
    (arg18 : Memref sig .tc .vmem S1024x256 .f32) (harg18 : arg18.IsWhole)
    (arg19 : Memref sig .tc .vmem S1024x128 .f32) (harg19 : arg19.IsWhole) :
    iprop(some_at c arg2 ∗ some_at c arg3 ∗ some_at c arg4 ∗ some_at c arg5 ∗ some_at c arg6 ∗ some_at c arg7 ∗ some_at c arg8 ∗ some_at c arg9 ∗ some_at c arg10 ∗ some_at c arg11 ∗ some_at c arg12 ∗ some_at c arg13 ∗ some_at c arg14 ∗ some_at c arg15 ∗ some_at c arg16 ∗ some_at c arg17 ∗ some_at c arg18 ∗ some_at c arg19)
      ⊢ wp frame (wpE (defs₀ (F := F)) Variants.none c none) E
        (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop(some_at c arg2 ∗ some_at c arg3 ∗ some_at c arg4 ∗ some_at c arg5 ∗ some_at c arg6 ∗ some_at c arg7 ∗ some_at c arg8 ∗ some_at c arg9 ∗ some_at c arg10 ∗ some_at c arg11 ∗ some_at c arg12 ∗ some_at c arg13 ∗ some_at c arg14 ∗ some_at c arg15 ∗ some_at c arg16 ∗ some_at c arg17 ∗ some_at c arg18 ∗ some_at c arg19)) := by
  simp only [cc0_attn_bwd_eq_skeleton]; unfold cc0_attn_bwd_skel
  simp only [k0_part15_eq_skeleton]; unfold k0_part15_skel
  simp only [bind_assoc, pure_bind]
  unfold some_at owns
  iintro ⟨⟨%X2, %f2, -, H2⟩, ⟨%X3, %f3, -, H3⟩, ⟨%X4, %f4, -, H4⟩, ⟨%X5, %f5, -, H5⟩, ⟨%X6, %f6, -, H6⟩, ⟨%X7, %f7, -, H7⟩, ⟨%X8, %f8, -, H8⟩, ⟨%X9, %f9, -, H9⟩, ⟨%X10, %f10, -, H10⟩, ⟨%X11, %f11, -, H11⟩, ⟨%X12, %f12, -, H12⟩, ⟨%X13, %f13, -, H13⟩, ⟨%X14, %f14, -, H14⟩, ⟨%X15, %f15, -, H15⟩, ⟨%X16, %f16, -, H16⟩, ⟨%X17, %f17, -, H17⟩, ⟨%X18, %f18, -, H18⟩, ⟨%X19, %f19, -, H19⟩⟩
  sl_exec
  sl_step
  isplitl [H2]
  · iapply (some_at_of c arg2 _) $$ H2
  isplitl [H3]
  · iapply (some_at_of c arg3 _) $$ H3
  isplitl [H4]
  · iapply (some_at_of c arg4 _) $$ H4
  isplitl [H5]
  · iapply (some_at_of c arg5 _) $$ H5
  isplitl [H6]
  · iapply (some_at_of c arg6 _) $$ H6
  isplitl [H7]
  · iapply (some_at_of c arg7 _) $$ H7
  isplitl [H8]
  · iapply (some_at_of c arg8 _) $$ H8
  isplitl [H9]
  · iapply (some_at_of c arg9 _) $$ H9
  isplitl [H10]
  · iapply (some_at_of c arg10 _) $$ H10
  isplitl [H11]
  · iapply (some_at_of c arg11 _) $$ H11
  isplitl [H12]
  · iapply (some_at_of c arg12 _) $$ H12
  isplitl [H13]
  · iapply (some_at_of c arg13 _) $$ H13
  isplitl [H14]
  · iapply (some_at_of c arg14 _) $$ H14
  isplitl [H15]
  · iapply (some_at_of c arg15 _) $$ H15
  isplitl [H16]
  · iapply (some_at_of c arg16 _) $$ H16
  isplitl [H17]
  · iapply (some_at_of c arg17 _) $$ H17
  isplitl [H18]
  · iapply (some_at_of c arg18 _) $$ H18
  iapply (some_at_of c arg19 _) $$ H19

/-! ## The pipeline's proof data: every window forgotten -/

/-- The proof data: the arrays as the region finds them, what the body leaves unnamed, the scratch buffers and the generator
    register held between the points, nothing owed, each input array's share as its windows deal it. -/
def dats (_ : Fin 1) (c : Dev nD) : Dat τ (Elt F) Unit ℕ (UR sig nD τ) ℕ cfg0 c where
  A w := V m c (Pipeline.arrRef spec0 w)
  after := Pipeline.Dat.unnamed
  Φ _ := Pipeline.ΦA spec0 c
  q w := Pipeline.shareOf spec0 w
  owed _ := 0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body is handed at point `t`, and hands back: the scratch buffers, the register, the tallies, every staging buffer. -/
def held (c : Dev nD) (t : Fin cfg0.N) : sProp 𝕄 :=
  iprop(Pipeline.ΦA spec0 c ∗ (dats m 0 c).owesAt () t.castSucc
    ∗ some_at c (st0_0 t) ∗ some_at c (st0_1 t) ∗ some_at c (st0_2 t) ∗ some_at c (st0_3 t) ∗ some_at c (st0_4 t) ∗ some_at c (st0_5 t) ∗ some_at c (st0_6 t) ∗ some_at c (st0_7 t) ∗ some_at c (st0_8 t) ∗ some_at c (st0_9 t) ∗ some_at c (st0_10 t) ∗ some_at c (st0_11 t) ∗ some_at c (st0_12 t) ∗ some_at c (st0_13 t) ∗ some_at c (st0_14 t))

/-- The body at any point. -/
theorem sound_body (c : Dev nD) (t : Fin cfg0.N) :
    held m c t ⊢ wp frame (wpE (defs₀ (F := F)) Variants.none c none) Set.univ (bodyAt0 t) (fun _ => held m c t) := by
  have hrest : (Pipeline.scopedRest (Ix := Unit) (Name := ℕ) (U := UR sig nD τ) (Lvl := ℕ) (Val := Elt F) spec0 c : sProp 𝕄)
      = iprop(some_at c (Memref.whole cc0_scratch0) ∗ some_at c (Memref.whole cc0_scratch1) ∗ some_at c (Memref.whole cc0_scratch2)) := by
    rw [scopedRest0_eq]; simp only [some_at, owns_whole]
  unfold held bodyAt0 Pipeline.ΦA
  rw [hrest]
  iintro ⟨⟨⟨S0, S1, S2⟩, Hp⟩, Ho, H0, H1, H2, H3, H4, H5, H6, H7, H8, H9, H10, H11, H12, H13, H14⟩
  iapply (wp_wand_r Idealize.ShloMosaic.frame (wpE (defs₀ (F := F)) Variants.none (c : Thread nD τ) none) Set.univ)
  isplitl [H0 H1 H2 H3 H4 H5 H6 H7 H8 H9 H10 H11 H12 H13 H14 S0 S1 S2]
  · iapply (body_any c Set.univ (grid0.coords t) _ _ _ _ _ _ _ _ _ _ _ _ _ _ _ _ _ _ _ _ _ _ _ _ _ _ _ _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    iexact S2
  iintro %_
  iintro ⟨H0, H1, H2, H3, H4, H5, H6, H7, H8, H9, H10, H11, H12, H13, H14, S0, S1, S2⟩
  isplitl [S0 S1 S2 Hp]
  · isplitl [S0 S1 S2]
    · isplitl [S0]; · iexact S0
      isplitl [S1]; · iexact S1
      iexact S2
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation with every window forgotten. -/
theorem body_obligation (c : Dev nD) :
    BodyObligation (dats (F := F) m 0 c) (defs₀ (F := F)) Variants.none () Set.univ (fun _ => true) := fun t => by
  rw [bigSep_W0, defs₀_row]
  refine triple_restated (sound_body m c t) rfl ?_ fun _ => ?_
  · show held m c t ⊢ held m c t
    exact .rfl
  · show held m c t ⊢ held m c t
    exact .rfl

/-! ## The run -/

set_option backward.isDefEq.respectTransparency.types false in
/-- THE FRAME, for any element values: every execution ends, the arguments are unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_frame_forget_shared (Q' := _) cfgs (dats m) (0 : Fin 1) launch₀0 defs₀ Variants.none (fun _ => true) m ρ main
    (hbody := fun c => (body_obligation m c).loose) (hq := fun _ _ _ => rfl)
    (howed := fun _ _ => rfl) (V := V m) (hmain := hmain m Variants.none)
    (hA := fun _ _ => by dsimp only [dats]) (hΦ := fun _ _ => rfl)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)

end Cert.KernelIdeal.Run

end
-- ==== Proof.Table.lean ====
/-
  The mathematics of one head's causal attention, on tables indexed by natural numbers: the queries, keys, values, the
  incoming gradient, the saved output and the saved log-sum of each row. Rows and columns are absolute positions.
-/
module

public import Mathlib.Data.EReal.Operations
public import Idealize.ShloMosaic.PureOps.Ideal
public import Mathlib.Algebra.BigOperators.Intervals

@[expose] public section

noncomputable section

namespace Cert.Attn

open Idealize.ShloMosaic
open Finset

/-- One head's operands: row `i`, column `d`. -/
structure Tab where
  /-- The scale of the scores. -/
  scale : EReal
  /-- The queries: columns 0–127 without position, 128–255 rotated. -/
  q : ℕ → ℕ → EReal
  /-- The keys, in the same columns. -/
  k : ℕ → ℕ → EReal
  /-- The values. -/
  v : ℕ → ℕ → EReal
  /-- The gradient that comes in. -/
  dO : ℕ → ℕ → EReal
  /-- The attention's output. -/
  o : ℕ → ℕ → EReal
  /-- The logarithm of each row's sum of exponentials. -/
  lse : ℕ → EReal

namespace Tab

variable (T : Tab)

/-- The scaled score of query `i` and key `j`. -/
def s (i j : ℕ) : EReal := (∑ d : Fin 256, T.q i d * T.k j d) * T.scale

/-- The attention's weight: zero where the key is later than the query. -/
def P (i j : ℕ) : EReal := if j ≤ i then Ideal.exp (T.s i j - T.lse i) else 0

/-- The row sum of gradient times output. -/
def delta (i : ℕ) : EReal := ∑ d : Fin 128, T.dO i d * T.o i d

/-- The gradient of the weight. -/
def DP (i j : ℕ) : EReal := ∑ d : Fin 128, T.dO i d * T.v j d

/-- The gradient of the unscaled score. -/
def DS (i j : ℕ) : EReal := T.P i j * (T.DP i j - T.delta i) * T.scale

theorem P_later {i j : ℕ} (h : i < j) : T.P i j = 0 := if_neg (by omega)

theorem DS_later {i j : ℕ} (h : i < j) : T.DS i j = 0 := by
  unfold DS; rw [T.P_later h, zero_mul, zero_mul]

/-- What the rows `S` add to the values' gradient at key `j`. -/
def dv (S : Finset ℕ) (j d : ℕ) : EReal := ∑ i ∈ S, T.P i j * T.dO i d

/-- What the rows `S` add to the keys' gradient at key `j`. -/
def dk (S : Finset ℕ) (j d : ℕ) : EReal := ∑ i ∈ S, T.DS i j * T.q i d

/-- What the keys `S` add to the queries' gradient at row `i`. -/
def dq (S : Finset ℕ) (i d : ℕ) : EReal := ∑ j ∈ S, T.DS i j * T.k j d

theorem dv_add {x y z : ℕ} (h1 : x ≤ y) (h2 : y ≤ z) (j d : ℕ) : T.dv (Ico x y) j d + T.dv (Ico y z) j d = T.dv (Ico x z) j d :=
  Finset.sum_Ico_consecutive _ h1 h2

theorem dk_add {x y z : ℕ} (h1 : x ≤ y) (h2 : y ≤ z) (j d : ℕ) : T.dk (Ico x y) j d + T.dk (Ico y z) j d = T.dk (Ico x z) j d :=
  Finset.sum_Ico_consecutive _ h1 h2

theorem dq_add {x y z : ℕ} (h1 : x ≤ y) (h2 : y ≤ z) (i d : ℕ) : T.dq (Ico x y) i d + T.dq (Ico y z) i d = T.dq (Ico x z) i d :=
  Finset.sum_Ico_consecutive _ h1 h2

/-- Rows that all come before a key add nothing to its gradients. -/
theorem dv_later {S : Finset ℕ} {j : ℕ} (h : ∀ i ∈ S, i < j) (d : ℕ) : T.dv S j d = 0 :=
  Finset.sum_eq_zero fun i hi => by rw [T.P_later (h i hi), zero_mul]

theorem dk_later {S : Finset ℕ} {j : ℕ} (h : ∀ i ∈ S, i < j) (d : ℕ) : T.dk S j d = 0 :=
  Finset.sum_eq_zero fun i hi => by rw [T.DS_later (h i hi), zero_mul]

/-- Keys that all come after a row add nothing to its gradient. -/
theorem dq_later {S : Finset ℕ} {i : ℕ} (h : ∀ j ∈ S, i < j) (d : ℕ) : T.dq S i d = 0 :=
  Finset.sum_eq_zero fun j hj => by rw [T.DS_later (h j hj), zero_mul]

/-- Of the rows from the key's block on, or of all rows: the same. -/
theorem dk_all {a j n : ℕ} (ha : a ≤ n) (h : a ≤ j) (d : ℕ) : T.dk (Ico a n) j d = T.dk (Ico 0 n) j d := by
  rw [← T.dk_add (Nat.zero_le a) ha, T.dk_later (S := Ico 0 a) (fun i hi => by rw [Finset.mem_Ico] at hi; omega), zero_add]

theorem dv_all {a j n : ℕ} (ha : a ≤ n) (h : a ≤ j) (d : ℕ) : T.dv (Ico a n) j d = T.dv (Ico 0 n) j d := by
  rw [← T.dv_add (Nat.zero_le a) ha, T.dv_later (S := Ico 0 a) (fun i hi => by rw [Finset.mem_Ico] at hi; omega), zero_add]

end Tab

/-- A sum over a block of `n` rows from `a`. -/
theorem sum_block (n a : ℕ) (f : ℕ → EReal) : ∑ r : Fin n, f (a + r) = ∑ i ∈ Ico a (a + n), f i := by
  rw [Finset.sum_Ico_eq_sum_range, Nat.add_sub_cancel_left, Finset.sum_range]

end Cert.Attn

end
-- ==== Proof.Block.lean ====
/-
  What one block of 512 queries and 512 keys computes, at the extended reals: the weights, the scores' gradient, and its three
  products, of arrays that hold a part of the head's tables.
-/
module

public import proofs.«01_k».proof.Proof.Table
public import proofs.«01_k».proof.Proof.Gen.KernelIdeal.Skeleton
public import Idealize.ShloMosaic.Lib.Pointwise
public import Idealize.ShloMosaic.Lib.WordCmp

@[expose] public section

noncomputable section

namespace Cert.Attn

open Cert.KernelIdeal Cert.KernelIdeal.Gen
open Idealize.ShloMosaic

/-- The scaled scores of a block. -/
def scoreA (q k : FVec Ideal S512x256 .bf16) : FVec Ideal S512x512 .f32 :=
  mulf (matmul dot_S512x256_S512x256_S512x512_1_1_0_0_n_n none q k (constant S512x512 .f32 0x00000000#32))
    (broadcast S512x512 (Scalar.ofBits .f32 0x3D93CD3A#32))

/-- The weights of a block whose keys all come before its queries. -/
def probA (q k : FVec Ideal S512x256 .bf16) (l : FVec Ideal S512x1 .f32) : FVec Ideal S512x512 .f32 :=
  exp (subf (scoreA q k) (broadcastTo S512x512 l broadcasts_S512x1_S512x512))

/-- The weights of a block on the diagonal. -/
def probM (q k : FVec Ideal S512x256 .bf16) (l : FVec Ideal S512x1 .f32) : FVec Ideal S512x512 .f32 :=
  exp (subf (select (cmpi .sle (iota .tc S512x512 32 [1] iota_S512x512_d1_w32) (iota .tc S512x512 32 [0] iota_S512x512_d0_w32))
    (scoreA q k) (broadcast S512x512 (Named.named κ "mask" 0xF149F2CA#32))) (broadcastTo S512x512 l broadcasts_S512x1_S512x512))

/-- The scores' gradient of a block with weights `p`. -/
def dsA (p : FVec Ideal S512x512 .f32) (dO v : FVec Ideal S512x128 .bf16) (del : FVec Ideal S512x1 .f32) : FVec Ideal S512x512 .bf16 :=
  truncf .bf16 (mulf (mulf p (subf (matmul dot_S512x128_S512x128_S512x512_1_1_0_0_n_n none dO v (constant S512x512 .f32 0x00000000#32))
    (broadcastTo S512x512 del broadcasts_S512x1_S512x512))) (broadcast S512x512 (Scalar.ofBits .f32 0x3D93CD3A#32))) bitsLt_bf16_f32

/-- The transposed product with the gradient. -/
def dvA (p : FVec Ideal S512x512 .f32) (dO : FVec Ideal S512x128 .bf16) : FVec Ideal S512x128 .f32 :=
  matmul dot_S512x512_S512x128_S512x128_0_0_1_1_n_n none (truncf .bf16 p bitsLt_bf16_f32) dO (constant S512x128 .f32 0x00000000#32)

/-- The transposed product with the queries. -/
def dkA (ds : FVec Ideal S512x512 .bf16) (q : FVec Ideal S512x256 .bf16) : FVec Ideal S512x256 .f32 :=
  matmul dot_S512x512_S512x256_S512x256_0_0_1_1_n_n none ds q (constant S512x256 .f32 0x00000000#32)

/-- The product with the keys. -/
def dqA (ds : FVec Ideal S512x512 .bf16) (k : FVec Ideal S512x256 .bf16) : FVec Ideal S512x256 .f32 :=
  matmul dot_S512x512_S512x256_S512x256_1_0_0_1_n_n none ds k (constant S512x256 .f32 0x00000000#32)

/-- The row sums of gradient times output. -/
def delA (a b : FVec Ideal S512x128 .bf16) : FVec Ideal S512x1 .f32 :=
  shapeCast S512x1 (multiReduction .add [1] S512 (mulf (extf .f32 a bitsLt_bf16_f32) (extf .f32 b bitsLt_bf16_f32)) 0x00000000#32
    reduces_S512x128_S512 (.inl rfl) rfl) shapeCasts_S512_S512x1

/-- Two arrays of 128 columns side by side. -/
def catA (x y : FVec Ideal S512x128 .bf16) : FVec Ideal S512x256 .bf16 :=
  concatenate S512x256 1 [⟨S512x128, shapeCast S512x128 x shapeCasts_S512x128_S512x128⟩,
    ⟨S512x128, shapeCast S512x128 y shapeCasts_S512x128_S512x128⟩] concatenates_S512x128_S512x128_S512x256_d1

/-- An array in its own shape. -/
def idA (x : FVec Ideal S512x128 .bf16) : FVec Ideal S512x128 .bf16 := shapeCast S512x128 x shapeCasts_S512x128_S512x128

/-- A column of row values, without its leading axis. -/
def colA (x : FVec Ideal S1x512x1 .f32) : FVec Ideal S512x1 .f32 := shapeCast S512x1 x shapeCasts_S1x512x1_S512x1

/-- The literal of the scores' scale. -/
def scaleLit : EReal := Scalar.ofBits (F := Ideal) .f32 0x3D93CD3A#32

variable (T : Tab) (a b : ℕ)

/-- Arrays that hold the queries' side of rows `a … a + 511`. -/
structure RowsAt (q : FVec Ideal S512x256 .bf16) (dO : FVec Ideal S512x128 .bf16) (del l : FVec Ideal S512x1 .f32) : Prop where
  q : ∀ (r : Fin 512) (c : Fin 256), q (ix2 r c) = T.q (a + r) c
  dO : ∀ (r : Fin 512) (c : Fin 128), dO (ix2 r c) = T.dO (a + r) c
  del : ∀ r : Fin 512, del (ix2 r 0) = T.delta (a + r)
  l : ∀ r : Fin 512, l (ix2 r 0) = T.lse (a + r)

/-- Arrays that hold the keys and values of `b … b + 511`. -/
structure KeysAt (k : FVec Ideal S512x256 .bf16) (v : FVec Ideal S512x128 .bf16) : Prop where
  k : ∀ (r : Fin 512) (c : Fin 256), k (ix2 r c) = T.k (b + r) c
  v : ∀ (r : Fin 512) (c : Fin 128), v (ix2 r c) = T.v (b + r) c

variable {T a b} {q k : FVec Ideal S512x256 .bf16} {dO v : FVec Ideal S512x128 .bf16} {del l : FVec Ideal S512x1 .f32}

theorem scoreA_at (hs : T.scale = scaleLit) (hr : RowsAt T a q dO del l) (hk : KeysAt T b k v) (r j : Fin 512) :
    scoreA q k (ix2 r j) = T.s (a + r) (b + j) := by
  unfold Tab.s
  rw [hs]
  simp only [← hr.q, ← hk.k]
  pointwise [scoreA, scaleLit]

theorem probA_at (hs : T.scale = scaleLit) (hr : RowsAt T a q dO del l) (hk : KeysAt T b k v) (hab : b + 511 ≤ a) (r j : Fin 512) :
    probA q k l (ix2 r j) = T.P (a + r) (b + j) := by
  unfold Tab.P
  rw [if_pos (by omega), ← scoreA_at hs hr hk, ← hr.l]
  pointwise [probA]

theorem probM_at (hs : T.scale = scaleLit) (hr : RowsAt T a q dO del l) (hk : KeysAt T a k v) (r j : Fin 512) :
    probM q k l (ix2 r j) = T.P (a + r) (a + j) := by
  unfold Tab.P
  rw [← scoreA_at hs hr hk, ← hr.l]
  pointwise [probM]
  rw [IdealRules.named_const.ideal_named_scalar κ "mask" (φ := .f32) 0xF149F2CA#32 ⊥ rfl,
    WordCmp.cmpi_sle_ofNat (w := 32) (by omega) (by omega)]
  by_cases h : (j : ℕ) ≤ r
  · rw [if_pos (by omega), decide_eq_true h]; rfl
  · rw [if_neg (by omega), decide_eq_false h]
    show Ideal.exp (⊥ - _) = 0
    rw [sub_eq_add_neg, EReal.bot_add]; rfl

theorem dsA_at (hs : T.scale = scaleLit) (hr : RowsAt T a q dO del l) (hk : KeysAt T b k v) (p : FVec Ideal S512x512 .f32)
    (hp : ∀ r j : Fin 512, p (ix2 r j) = T.P (a + r) (b + j)) (r j : Fin 512) :
    dsA p dO v del (ix2 r j) = T.DS (a + r) (b + j) := by
  unfold Tab.DS Tab.DP
  rw [← hp, ← hr.del, hs]
  simp only [← hr.dO, ← hk.v]
  pointwise [dsA, scaleLit]

theorem dvA_at (hr : RowsAt T a q dO del l) (p : FVec Ideal S512x512 .f32)
    (hp : ∀ r j : Fin 512, p (ix2 r j) = T.P (a + r) (b + j)) (j : Fin 512) (d : Fin 128) :
    dvA p dO (ix2 j d) = T.dv (Finset.Ico a (a + 512)) (b + j) d := by
  unfold Tab.dv
  rw [← sum_block 512 a fun i => T.P i (b + j) * T.dO i d]
  simp only [← hr.dO, ← hp]
  pointwise [dvA]

theorem dkA_at (hr : RowsAt T a q dO del l) (ds : FVec Ideal S512x512 .bf16)
    (hp : ∀ r j : Fin 512, ds (ix2 r j) = T.DS (a + r) (b + j)) (j : Fin 512) (d : Fin 256) :
    dkA ds q (ix2 j d) = T.dk (Finset.Ico a (a + 512)) (b + j) d := by
  unfold Tab.dk
  rw [← sum_block 512 a fun i => T.DS i (b + j) * T.q i d]
  simp only [← hr.q, ← hp]
  pointwise [dkA]

theorem dqA_at (hk : KeysAt T b k v) (ds : FVec Ideal S512x512 .bf16)
    (hp : ∀ r j : Fin 512, ds (ix2 r j) = T.DS (a + r) (b + j)) (r : Fin 512) (d : Fin 256) :
    dqA ds k (ix2 r d) = T.dq (Finset.Ico b (b + 512)) (a + r) d := by
  unfold Tab.dq
  rw [← sum_block 512 b fun j => T.DS (a + r) j * T.k j d]
  simp only [← hk.k, ← hp]
  pointwise [dqA]

theorem delA_at {x y : FVec Ideal S512x128 .bf16} (hx : ∀ (r : Fin 512) (c : Fin 128), x (ix2 r c) = T.dO (a + r) c)
    (hy : ∀ (r : Fin 512) (c : Fin 128), y (ix2 r c) = T.o (a + r) c) (r : Fin 512) : delA x y (ix2 r 0) = T.delta (a + r) := by
  unfold Tab.delta
  simp only [← hx, ← hy]
  pointwise [delA]

theorem catA_at {x y : FVec Ideal S512x128 .bf16} {f : ℕ → ℕ → EReal} (hx : ∀ (r : Fin 512) (c : Fin 128), x (ix2 r c) = f (a + r) c)
    (hy : ∀ (r : Fin 512) (c : Fin 128), y (ix2 r c) = f (a + r) (128 + c)) (r : Fin 512) (c : Fin 256) :
    catA x y (ix2 r c) = f (a + r) c := by
  by_cases h : (c : ℕ) < 128
  · rw [show f (a + r) c = x (ix2 r ⟨c, h⟩) from (hx r ⟨c, h⟩).symm]
    pointwise [catA]
    rw [dif_pos h]
  · rw [show f (a + r) c = y (ix2 r ⟨c - 128, by omega⟩) from
      (congrArg (f (a + r)) (show (c : ℕ) = 128 + (c - 128) by omega)).trans (hy r ⟨c - 128, by omega⟩).symm]
    pointwise [catA]
    rw [dif_neg h]

/-- The queries' side of a block, from what it loads. -/
theorem rows_of_loads {x2 x3 x7 x8 : FVec Ideal S512x128 .bf16} {x9 : FVec Ideal S1x512x1 .f32}
    (h2 : ∀ (r : Fin 512) (c : Fin 128), x2 (ix2 r c) = T.q (a + r) c)
    (h3 : ∀ (r : Fin 512) (c : Fin 128), x3 (ix2 r c) = T.q (a + r) (128 + c))
    (h7 : ∀ (r : Fin 512) (c : Fin 128), x7 (ix2 r c) = T.dO (a + r) c)
    (h8 : ∀ (r : Fin 512) (c : Fin 128), x8 (ix2 r c) = T.o (a + r) c)
    (h9 : ∀ r : Fin 512, x9 (ix3 0 r 0) = T.lse (a + r)) :
    RowsAt T a (catA x2 x3) (idA x7) (delA (idA x7) (idA x8)) (colA x9) where
  q := catA_at h2 h3
  dO r c := (congrFun (shapeCast_id x7 _) _).trans (h7 r c)
  del := delA_at (fun r c => (congrFun (shapeCast_id x7 _) _).trans (h7 r c)) fun r c => (congrFun (shapeCast_id x8 _) _).trans (h8 r c)
  l r := by rw [← h9]; pointwise [colA]

/-- The keys' side of a block, from what it loads. -/
theorem keys_of_loads {x4 x5 x6 : FVec Ideal S512x128 .bf16}
    (h4 : ∀ (r : Fin 512) (c : Fin 128), x4 (ix2 r c) = T.k (b + r) c)
    (h5 : ∀ (r : Fin 512) (c : Fin 128), x5 (ix2 r c) = T.k (b + r) (128 + c))
    (h6 : ∀ (r : Fin 512) (c : Fin 128), x6 (ix2 r c) = T.v (b + r) c) :
    KeysAt T b (catA x4 x5) (idA x6) where
  k := catA_at h4 h5
  v r c := (congrFun (shapeCast_id x6 _) _).trans (h6 r c)

/-- The three products of a block with weights `p`. -/
theorem block_at (hs : T.scale = scaleLit) (hr : RowsAt T a q dO del l) (hk : KeysAt T b k v) {p : FVec Ideal S512x512 .f32}
    (hp : ∀ r j : Fin 512, p (ix2 r j) = T.P (a + r) (b + j)) :
    (∀ (j : Fin 512) (d : Fin 128), dvA p dO (ix2 j d) = T.dv (Finset.Ico a (a + 512)) (b + j) d)
    ∧ (∀ (j : Fin 512) (d : Fin 256), dkA (dsA p dO v del) q (ix2 j d) = T.dk (Finset.Ico a (a + 512)) (b + j) d)
    ∧ (∀ (r : Fin 512) (d : Fin 256), dqA (dsA p dO v del) k (ix2 r d) = T.dq (Finset.Ico b (b + 512)) (a + r) d) :=
  ⟨dvA_at hr p hp, dkA_at hr _ (dsA_at hs hr hk p hp), dqA_at hk _ (dsA_at hs hr hk p hp)⟩

/-- A stored sum of two arrays. -/
theorem sum_at {s : Shape} (x y : FVec Ideal s .f32) (h : s.ShapeCasts s) (i : s.Idx) : shapeCast s (addf x y) h i = x i + y i :=
  congrFun (shapeCast_id (addf x y) h) i

/-- An array in its own shape, at a place. -/
theorem cast_at {s : Shape} (x : FVec Ideal s .f32) (h : s.ShapeCasts s) (i : s.Idx) : shapeCast s x h i = x i :=
  congrFun (shapeCast_id x h) i

/-- A narrowed array, at a place. -/
theorem narrow_at {s : Shape} (x : FVec Ideal s .f32) (i : s.Idx) : truncf .bf16 x bitsLt_bf16_f32 i = x i := rfl

/-- A stored sum of three arrays. -/
theorem sum3_at {s : Shape} (x y z : FVec Ideal s .f32) (h : s.ShapeCasts s) (i : s.Idx) :
    shapeCast s (addf x (addf y z)) h i = x i + (y i + z i) :=
  congrFun (shapeCast_id (addf x (addf y z)) h) i

end Cert.Attn

end
-- ==== Proof.Store.lean ====
/-
  Reading a buffer of rows: what a load of a block of rows reads, and what the buffer holds after the kernel's stores of blocks
  of 512 rows, of which some read back what they replace.
-/
module

public import Idealize.ShloMosaic.Lib.WritesUnit
public import Idealize.ShloMosaic.Lib.Pointwise
public import Idealize.ShloMosaic.Lib.Exec
public import Idealize.ShloMosaic.PureOps.Ideal

@[expose] public section

noncomputable section

namespace Cert.Attn

open Idealize.ShloMosaic

variable {sig : RefSig} {κ : Kind} {sp : Space} {m n W : ℕ} {e : EltTy} {Val : EltTy → Type}

/-- A load of `W` whole rows from row `o`. -/
theorem readAt_rows (v : View sig κ sp ⟨2, ![m, n]⟩ e) (f : v.ty.Contents Val) {off : Fin 2 → ℕ} {o : ℕ}
    (inb : ∀ a, off a + (![W, n] : Fin 2 → ℕ) a ≤ (⟨2, ![m, n]⟩ : Shape).size a) (hoff : off = ![o, 0]) (r : Fin W) (c : Fin n) (h : o + r < m) :
    v.readAt Val (Rect.unit (s := ⟨2, ![m, n]⟩) off ![W, n] inb).toLoadRect f (ix2 r c) = v.read Val f (ix2 ⟨o + r, h⟩ c) := by
  subst hoff
  show v.read Val f _ = v.read Val f _
  congr 1
  funext a
  refine Fin.ext ?_
  match a with
  | ⟨0, _⟩ => show o + 1 * r.val = o + r.val; omega
  | ⟨1, _⟩ => show 0 + 1 * c.val = c.val; omega

/-- A load of `W` values of a column from row `o`. -/
theorem readAt_col (v : View sig κ sp ⟨3, ![1, m, 1]⟩ e) (f : v.ty.Contents Val) {off : Fin 3 → ℕ} {o : ℕ}
    (inb : ∀ a, off a + (![1, W, 1] : Fin 3 → ℕ) a ≤ (⟨3, ![1, m, 1]⟩ : Shape).size a) (hoff : off = ![0, o, 0]) (r : Fin W) (h : o + r < m) :
    v.readAt Val (Rect.unit (s := ⟨3, ![1, m, 1]⟩) off ![1, W, 1] inb).toLoadRect f (ix3 0 r 0) = v.read Val f (ix3 0 ⟨o + r, h⟩ 0) := by
  subst hoff
  show v.read Val f _ = v.read Val f _
  congr 1
  funext a
  refine Fin.ext ?_
  match a with
  | ⟨0, _⟩ => rfl
  | ⟨1, _⟩ => show o + 1 * r.val = o + r.val; omega
  | ⟨2, _⟩ => rfl

/-- A load of `w` columns from column `o`. -/
theorem readAt_cols (v : View sig κ sp ⟨2, ![m, n]⟩ e) (f : v.ty.Contents Val) {w o : ℕ}
    (inb : ∀ a, (![0, o] : Fin 2 → ℕ) a + (![m, w] : Fin 2 → ℕ) a ≤ (⟨2, ![m, n]⟩ : Shape).size a) (r : Fin m) (c : Fin w) (h : o + c < n) :
    v.readAt Val (Rect.unit (s := ⟨2, ![m, n]⟩) ![0, o] ![m, w] inb).toLoadRect f (ix2 r c) = v.read Val f (ix2 r ⟨o + c, h⟩) := by
  show v.read Val f _ = v.read Val f _
  congr 1
  funext a
  refine Fin.ext ?_
  match a with
  | ⟨0, _⟩ => show 0 + 1 * r.val = r.val; omega
  | ⟨1, _⟩ => show o + 1 * c.val = o + c.val; omega

/-- The rows that a block of `W` rows from `o` was just stored into. -/
theorem read_mem (v : View sig κ sp ⟨2, ![m, n]⟩ e) (f : v.ty.Contents Val) {off : Fin 2 → ℕ} {o : ℕ}
    (inb : ∀ a, off a + (![W, n] : Fin 2 → ℕ) a ≤ (⟨2, ![m, n]⟩ : Shape).size a) (w : (⟨2, ![W, n]⟩ : Shape).Idx → Val e)
    (L : List (View.Piece Val ⟨2, ![m, n]⟩ e)) (hoff : off = ![o, 0]) (r : Fin W) (c : Fin n) (i : Fin m) (hi : i.val = o + r.val) :
    v.read Val (v.writes Val f ((⟨Rect.unit (s := ⟨2, ![m, n]⟩) off ![W, n] inb, w⟩ : View.Piece Val ⟨2, ![m, n]⟩ e) :: L)) (ix2 i c) = w (ix2 r c) :=
  View.read_writes_cons_rows_of_mem (d := ![m, n]) v f inb w L (ix2 i c) (ix2 r c) hoff hi rfl

/-- The rows that a block of `W` rows from `o` was not stored into. -/
theorem read_not_mem (v : View sig κ sp ⟨2, ![m, n]⟩ e) (f : v.ty.Contents Val) {off : Fin 2 → ℕ} {o : ℕ}
    (inb : ∀ a, off a + (![W, n] : Fin 2 → ℕ) a ≤ (⟨2, ![m, n]⟩ : Shape).size a) (w : (⟨2, ![W, n]⟩ : Shape).Idx → Val e)
    (L : List (View.Piece Val ⟨2, ![m, n]⟩ e)) (hoff : off = ![o, 0]) (c : Fin n) (i : Fin m) (hi : i.val < o ∨ o + W ≤ i.val) :
    v.read Val (v.writes Val f ((⟨Rect.unit (s := ⟨2, ![m, n]⟩) off ![W, n] inb, w⟩ : View.Piece Val ⟨2, ![m, n]⟩ e) :: L)) (ix2 i c)
      = v.read Val (v.writes Val f L) (ix2 i c) :=
  View.read_writes_cons_rows_of_not_mem (d := ![m, n]) v f inb w L (ix2 i c) hoff rfl hi

/-- A buffer of 1024 rows in two halves, to each of which two blocks are added in turn. -/
theorem read_acc (v : View sig κ sp ⟨2, ![1024, n]⟩ .f32) (f : v.ty.Contents (Elt Ideal))
    (inb0 : ∀ a, (![0, 0] : Fin 2 → ℕ) a + (![512, n] : Fin 2 → ℕ) a ≤ (⟨2, ![1024, n]⟩ : Shape).size a)
    (inb5 : ∀ a, (![512, 0] : Fin 2 → ℕ) a + (![512, n] : Fin 2 → ℕ) a ≤ (⟨2, ![1024, n]⟩ : Shape).size a)
    (w1 w2 w3 w4 A1 A2 B1 B2 : (⟨2, ![512, n]⟩ : Shape).Idx → EReal)
    (h1 : ∀ x, w1 x = v.readAt (Elt Ideal) (Rect.unit (s := ⟨2, ![1024, n]⟩) ![0, 0] ![512, n] inb0).toLoadRect f x + A1 x)
    (h2 : ∀ x, w2 x = v.readAt (Elt Ideal) (Rect.unit (s := ⟨2, ![1024, n]⟩) ![512, 0] ![512, n] inb5).toLoadRect f x + A2 x)
    (h3 : ∀ x, w3 x = v.readCov (Val := Elt Ideal) [⟨Rect.unit (s := ⟨2, ![1024, n]⟩) ![512, 0] ![512, n] inb5, w2⟩,
      ⟨Rect.unit (s := ⟨2, ![1024, n]⟩) ![0, 0] ![512, n] inb0, w1⟩] (Rect.unit (s := ⟨2, ![1024, n]⟩) ![0, 0] ![512, n] inb0).toLoadRect x + B1 x)
    (h4 : ∀ x, w4 x = v.readCov (Val := Elt Ideal) [⟨Rect.unit (s := ⟨2, ![1024, n]⟩) ![0, 0] ![512, n] inb0, w3⟩,
      ⟨Rect.unit (s := ⟨2, ![1024, n]⟩) ![512, 0] ![512, n] inb5, w2⟩,
      ⟨Rect.unit (s := ⟨2, ![1024, n]⟩) ![0, 0] ![512, n] inb0, w1⟩] (Rect.unit (s := ⟨2, ![1024, n]⟩) ![512, 0] ![512, n] inb5).toLoadRect x + B2 x)
    (r : Fin 512) (c : Fin n) :
    v.read (Elt Ideal) (v.writes (Elt Ideal) f [⟨Rect.unit (s := ⟨2, ![1024, n]⟩) ![512, 0] ![512, n] inb5, w4⟩,
      ⟨Rect.unit (s := ⟨2, ![1024, n]⟩) ![0, 0] ![512, n] inb0, w3⟩, ⟨Rect.unit (s := ⟨2, ![1024, n]⟩) ![512, 0] ![512, n] inb5, w2⟩,
      ⟨Rect.unit (s := ⟨2, ![1024, n]⟩) ![0, 0] ![512, n] inb0, w1⟩]) (ix2 ⟨r, by omega⟩ c)
        = v.read (Elt Ideal) f (ix2 ⟨r, by omega⟩ c) + A1 (ix2 r c) + B1 (ix2 r c)
    ∧ v.read (Elt Ideal) (v.writes (Elt Ideal) f [⟨Rect.unit (s := ⟨2, ![1024, n]⟩) ![512, 0] ![512, n] inb5, w4⟩,
      ⟨Rect.unit (s := ⟨2, ![1024, n]⟩) ![0, 0] ![512, n] inb0, w3⟩, ⟨Rect.unit (s := ⟨2, ![1024, n]⟩) ![512, 0] ![512, n] inb5, w2⟩,
      ⟨Rect.unit (s := ⟨2, ![1024, n]⟩) ![0, 0] ![512, n] inb0, w1⟩]) (ix2 ⟨512 + r, by omega⟩ c)
        = v.read (Elt Ideal) f (ix2 ⟨512 + r, by omega⟩ c) + A2 (ix2 r c) + B2 (ix2 r c) := by
  have e0 : (⟨r, by omega⟩ : Fin 1024) = ⟨0 + r, by omega⟩ := Fin.ext (by simp)
  constructor
  · rw [read_not_mem (Val := Elt Ideal) v f inb5 w4 _ rfl c ⟨r, by omega⟩ (.inl (by show r.val < 512; omega)),
      read_mem (Val := Elt Ideal) v f inb0 w3 _ rfl r c ⟨r, by omega⟩ (by simp), h3]
    congr 1
    unfold View.readCov
    rw [readAt_rows v _ inb0 rfl r c (by omega), read_not_mem (Val := Elt Ideal) v _ inb5 w2 _ rfl c _ (.inl (by show 0 + r.val < 512; omega)),
      read_mem (Val := Elt Ideal) v _ inb0 w1 _ rfl r c _ rfl, h1, readAt_rows v _ inb0 rfl r c (by omega), e0]
  · rw [read_mem (Val := Elt Ideal) v f inb5 w4 _ rfl r c ⟨512 + r, by omega⟩ rfl, h4]
    congr 1
    unfold View.readCov
    rw [readAt_rows v _ inb5 rfl r c (by omega), read_not_mem (Val := Elt Ideal) v _ inb0 w3 _ rfl c _ (.inr (by show 0 + 512 ≤ 512 + r.val; omega)),
      read_mem (Val := Elt Ideal) v _ inb5 w2 _ rfl r c _ rfl, h2, readAt_rows v _ inb5 rfl r c (by omega)]

/-- A buffer of 1024 rows just stored in two halves. -/
theorem read_two (v : View sig κ sp ⟨2, ![1024, n]⟩ e) (f : v.ty.Contents Val)
    (inb0 : ∀ a, (![0, 0] : Fin 2 → ℕ) a + (![512, n] : Fin 2 → ℕ) a ≤ (⟨2, ![1024, n]⟩ : Shape).size a)
    (inb5 : ∀ a, (![512, 0] : Fin 2 → ℕ) a + (![512, n] : Fin 2 → ℕ) a ≤ (⟨2, ![1024, n]⟩ : Shape).size a)
    (w1 w2 : (⟨2, ![512, n]⟩ : Shape).Idx → Val e) (r : Fin 512) (c : Fin n) :
    v.read Val (v.writes Val f [⟨Rect.unit (s := ⟨2, ![1024, n]⟩) ![512, 0] ![512, n] inb5, w2⟩,
      ⟨Rect.unit (s := ⟨2, ![1024, n]⟩) ![0, 0] ![512, n] inb0, w1⟩]) (ix2 ⟨r, by omega⟩ c) = w1 (ix2 r c)
    ∧ v.read Val (v.writes Val f [⟨Rect.unit (s := ⟨2, ![1024, n]⟩) ![512, 0] ![512, n] inb5, w2⟩,
      ⟨Rect.unit (s := ⟨2, ![1024, n]⟩) ![0, 0] ![512, n] inb0, w1⟩]) (ix2 ⟨512 + r, by omega⟩ c) = w2 (ix2 r c) := by
  constructor
  · rw [read_not_mem (Val := Val) v f inb5 w2 _ rfl c ⟨r, by omega⟩ (.inl (by show r.val < 512; omega)),
      read_mem (Val := Val) v f inb0 w1 _ rfl r c ⟨r, by omega⟩ (by simp)]
  · rw [read_mem (Val := Val) v f inb5 w2 _ rfl r c ⟨512 + r, by omega⟩ rfl]

end Cert.Attn

end
-- ==== Proof.Point.lean ====
/-
  What the kernel's buffers hold at a grid point: its inputs are one head's tables, and its scratch buffers are partial sums of
  the three gradients, which one trip of its loop carries over the next 1024 rows.
-/
module

public import proofs.«01_k».proof.Proof.Block
public import proofs.«01_k».proof.Proof.Store

@[expose] public section

noncomputable section

namespace Cert.Attn

open Cert.KernelIdeal Cert.KernelIdeal.Gen
open Idealize.ShloMosaic
open Finset

variable (T : Tab) (g n : ℕ)

/-- The inputs at key block `g` (keys `1024 g … 1024 g + 1023`) of the head with tables `T`. -/
structure Ins (X2 X3 : FVec Ideal S4096x128 .bf16) (X4 X5 X6 : FVec Ideal S1024x128 .bf16) (X7 X8 : FVec Ideal S4096x128 .bf16)
    (X9 : FVec Ideal S1x4096x1 .f32) : Prop where
  qn : ∀ (i : Fin 4096) (c : Fin 128), X2 (ix2 i c) = T.q i c
  qr : ∀ (i : Fin 4096) (c : Fin 128), X3 (ix2 i c) = T.q i (128 + c)
  kn : ∀ (j : Fin 1024) (c : Fin 128), X4 (ix2 j c) = T.k (1024 * g + j) c
  kr : ∀ (j : Fin 1024) (c : Fin 128), X5 (ix2 j c) = T.k (1024 * g + j) (128 + c)
  v : ∀ (j : Fin 1024) (c : Fin 128), X6 (ix2 j c) = T.v (1024 * g + j) c
  dO : ∀ (i : Fin 4096) (c : Fin 128), X7 (ix2 i c) = T.dO i c
  o : ∀ (i : Fin 4096) (c : Fin 128), X8 (ix2 i c) = T.o i c
  lse : ∀ i : Fin 4096, X9 (ix3 0 i 0) = T.lse i

/-- The keys that the queries' sums run over at row `i` when `n` trips of key block `g` are done. -/
def upto (i : ℕ) : ℕ := if i < 1024 * (g + 1 + n) then 1024 * (g + 1) else 1024 * g

/-- The scratch buffers after `n` trips of key block `g`. -/
structure Sums (X17 : FVec Ideal S4096x256 .f32) (X18 : FVec Ideal S1024x256 .f32) (X19 : FVec Ideal S1024x128 .f32) : Prop where
  dq : ∀ (i : Fin 4096) (d : Fin 256), X17 (ix2 i d) = T.dq (Ico 0 (upto g n i)) i d
  dk : ∀ (j : Fin 1024) (d : Fin 256), X18 (ix2 j d) = T.dk (Ico (1024 * g) (1024 * (g + 1 + n))) (1024 * g + j) d
  dv : ∀ (j : Fin 1024) (d : Fin 128), X19 (ix2 j d) = T.dv (Ico (1024 * g) (1024 * (g + 1 + n))) (1024 * g + j) d

/-- A property of 1024 rows and of their numbers from `b`, of its two halves. -/
theorem by_halves {P : ℕ → Fin 1024 → Prop} (b : ℕ) (h0 : ∀ r : Fin 512, P (b + 0 + r) ⟨r, by omega⟩)
    (h1 : ∀ r : Fin 512, P (b + 512 + r) ⟨512 + r, by omega⟩) (j : Fin 1024) : P (b + j) j := by
  by_cases h : (j : ℕ) < 512
  · exact h0 ⟨j, h⟩
  · have := h1 ⟨j - 512, by omega⟩
    rwa [show (⟨512 + (j - 512), by omega⟩ : Fin 1024) = j from Fin.ext (by simp; omega),
      show b + 512 + (⟨j - 512, by omega⟩ : Fin 512).val = b + j by simp; omega] at this

/-- A sum that two blocks of 512 terms carry on. -/
theorem carry_on (f : ℕ → EReal) {lo m a a' hi : ℕ} {x y z : EReal} (hx : x = ∑ i ∈ Ico lo m, f i) (hy : y = ∑ i ∈ Ico a (a + 512), f i)
    (hz : z = ∑ i ∈ Ico a' (a' + 512), f i) (hm : m = a) (ha : a' = a + 512) (hhi : hi = a + 1024) (hlo : lo ≤ a) :
    x + y + z = ∑ i ∈ Ico lo hi, f i := by
  subst hm ha hhi hx hy hz
  rw [Finset.sum_Ico_consecutive _ hlo (by omega), Finset.sum_Ico_consecutive _ (by omega) (by omega)]

variable {T g n}
variable {κ : Kind} {sp : Space}

/-- A load of a half of a block of 1024 rows reads the half. -/
theorem readAt_half (v : View sig κ sp S1024x128 .bf16) (f : v.ty.Contents (Elt Ideal)) {off : Fin 2 → ℕ} {o : ℕ}
    (inb : ∀ a, off a + (![512, 128] : Fin 2 → ℕ) a ≤ S1024x128.size a) (hoff : off = ![o, 0]) (ho : o ≤ 512) {F : ℕ → ℕ → EReal} {b : ℕ}
    (hF : ∀ (j : Fin 1024) (c : Fin 128), v.read (Elt Ideal) f (ix2 j c) = F (b + j) c) (r : Fin 512) (c : Fin 128) :
    v.readAt (Elt Ideal) (Rect.unit (s := S1024x128) off ![512, 128] inb).toLoadRect f (ix2 r c) = F (b + o + r) c := by
  rw [Nat.add_assoc]
  exact (readAt_rows v f inb hoff r c (by omega)).trans (hF ⟨o + r, by omega⟩ c)

section Loads
variable {v2 v3 v7 v8 : View sig κ sp S4096x128 .bf16} {v4 v5 v6 : View sig κ sp S1024x128 .bf16} {v9 : View sig κ sp S1x4096x1 .f32}
variable {f2 : v2.ty.Contents (Elt Ideal)} {f3 : v3.ty.Contents (Elt Ideal)} {f4 : v4.ty.Contents (Elt Ideal)} {f5 : v5.ty.Contents (Elt Ideal)}
  {f6 : v6.ty.Contents (Elt Ideal)} {f7 : v7.ty.Contents (Elt Ideal)} {f8 : v8.ty.Contents (Elt Ideal)} {f9 : v9.ty.Contents (Elt Ideal)}

/-- The queries' side of a block of rows, as loaded from row `o`. -/
theorem Ins.rows (h : Ins T g (v2.read (Elt Ideal) f2) (v3.read (Elt Ideal) f3) (v4.read (Elt Ideal) f4) (v5.read (Elt Ideal) f5)
      (v6.read (Elt Ideal) f6) (v7.read (Elt Ideal) f7) (v8.read (Elt Ideal) f8) (v9.read (Elt Ideal) f9))
    {off : Fin 2 → ℕ} (inb : ∀ a, off a + S512x128.size a ≤ S4096x128.size a) {off' : Fin 3 → ℕ}
    (inb' : ∀ a, off' a + S1x512x1.size a ≤ S1x4096x1.size a) {o : ℕ} (e : off = ![o, 0]) (e' : off' = ![0, o, 0]) (ho : o + 512 ≤ 4096) :
    RowsAt T o (catA (v2.readAt (Elt Ideal) (Rect.unit (s := S4096x128) off S512x128.size inb).toLoadRect f2)
        (v3.readAt (Elt Ideal) (Rect.unit (s := S4096x128) off S512x128.size inb).toLoadRect f3))
      (idA (v7.readAt (Elt Ideal) (Rect.unit (s := S4096x128) off S512x128.size inb).toLoadRect f7))
      (delA (idA (v7.readAt (Elt Ideal) (Rect.unit (s := S4096x128) off S512x128.size inb).toLoadRect f7))
        (idA (v8.readAt (Elt Ideal) (Rect.unit (s := S4096x128) off S512x128.size inb).toLoadRect f8)))
      (colA (v9.readAt (Elt Ideal) (Rect.unit (s := S1x4096x1) off' S1x512x1.size inb').toLoadRect f9)) :=
  rows_of_loads (fun r d => (readAt_rows v2 f2 inb e r d (by omega)).trans (h.qn _ d))
    (fun r d => (readAt_rows v3 f3 inb e r d (by omega)).trans (h.qr _ d))
    (fun r d => (readAt_rows v7 f7 inb e r d (by omega)).trans (h.dO _ d))
    (fun r d => (readAt_rows v8 f8 inb e r d (by omega)).trans (h.o _ d))
    (fun r => (readAt_col v9 f9 inb' e' r (by omega)).trans (h.lse _))

/-- The keys' side of a half of the point's keys, as loaded from row `o` of the block. -/
theorem Ins.keys (h : Ins T g (v2.read (Elt Ideal) f2) (v3.read (Elt Ideal) f3) (v4.read (Elt Ideal) f4) (v5.read (Elt Ideal) f5)
      (v6.read (Elt Ideal) f6) (v7.read (Elt Ideal) f7) (v8.read (Elt Ideal) f8) (v9.read (Elt Ideal) f9))
    {off : Fin 2 → ℕ} (inb : ∀ a, off a + S512x128.size a ≤ S1024x128.size a) {o : ℕ} (e : off = ![o, 0]) (ho : o ≤ 512) :
    KeysAt T (1024 * g + o) (catA (v4.readAt (Elt Ideal) (Rect.unit (s := S1024x128) off S512x128.size inb).toLoadRect f4)
        (v5.readAt (Elt Ideal) (Rect.unit (s := S1024x128) off S512x128.size inb).toLoadRect f5))
      (idA (v6.readAt (Elt Ideal) (Rect.unit (s := S1024x128) off S512x128.size inb).toLoadRect f6)) :=
  keys_of_loads (fun r d => readAt_half v4 f4 inb e ho h.kn r d)
    (fun r d => readAt_half v5 f5 inb e ho (F := fun j c => T.k j (128 + c)) h.kr r d)
    (fun r d => readAt_half v6 f6 inb e ho h.v r d)

end Loads

variable {X17 : FVec Ideal S4096x256 .f32} {X18 : FVec Ideal S1024x256 .f32} {X19 : FVec Ideal S1024x128 .f32}

theorem Sums.dk_at (h : Sums T g n X17 X18 X19) (o : ℕ) (r : Fin 512) (ho : o ≤ 512) (j : Fin 1024) (hj : j.val = o + r) (d : Fin 256) :
    X18 (ix2 j d) = ∑ i ∈ Ico (1024 * g) (1024 * (g + 1 + n)), T.DS i (1024 * g + o + r) * T.q i d := by
  rw [h.dk, hj, ← Nat.add_assoc]
  rfl

theorem Sums.dv_at (h : Sums T g n X17 X18 X19) (o : ℕ) (r : Fin 512) (ho : o ≤ 512) (j : Fin 1024) (hj : j.val = o + r) (d : Fin 128) :
    X19 (ix2 j d) = ∑ i ∈ Ico (1024 * g) (1024 * (g + 1 + n)), T.P i (1024 * g + o + r) * T.dO i d := by
  rw [h.dv, hj, ← Nat.add_assoc]
  rfl

/-- A row of the queries' sums that the two halves of the keys are added to. -/
theorem Sums.dq_add (h : Sums T g n X17 X18 X19) {r : Fin 4096} {d : Fin 256} {a : ℕ} {x : ℕ} {w y z : EReal} (hx : r.val = a + x)
    (ha : 1024 * (g + 1 + n) ≤ a) (hn : r.val < 1024 * (g + 1 + (n + 1))) (hw : w = X17 (ix2 r d))
    (hy : y = T.dq (Ico (1024 * g + 0) (1024 * g + 0 + 512)) (a + x) d)
    (hz : z = T.dq (Ico (1024 * g + 512) (1024 * g + 512 + 512)) (a + x) d) :
    w + (y + z) = T.dq (Ico 0 (upto g (n + 1) r)) r d := by
  rw [hw, hy, hz, h.dq, ← hx, T.dq_add (by omega) (by omega), upto, upto, if_neg (by omega), if_pos hn]
  exact T.dq_add (by omega) (by omega) _ _

/-- The queries' sums as the point finds them: those over all earlier keys (at the first point, anything). -/
def Before (T : Tab) (g : ℕ) (X17 : FVec Ideal S4096x256 .f32) : Prop :=
  ∀ (i : Fin 4096) (d : Fin 256), X17 (ix2 i d) = T.dq (Ico 0 (1024 * g)) i d

/-- A row before the point's keys, whose sums its keys add nothing to. -/
theorem Before.early (h : Before T g X17) {r : Fin 4096} (d : Fin 256) (hr : r.val < 1024 * g) : X17 (ix2 r d) = T.dq (Ico 0 (upto g 0 r)) r d := by
  rw [h, upto, if_pos (by omega), ← T.dq_add (x := 0) (y := 1024 * g) (z := 1024 * (g + 1)) (by omega) (by omega),
    T.dq_later (S := Ico (1024 * g) _) (fun x hx => by rw [Finset.mem_Ico] at hx; omega), add_zero]

/-- A row after the point's keys, which a trip is still to add to. -/
theorem Before.late (h : Before T g X17) {r : Fin 4096} (d : Fin 256) (hr : 1024 * g + 1024 ≤ r.val) : X17 (ix2 r d) = T.dq (Ico 0 (upto g 0 r)) r d := by
  rw [h, upto, if_neg (by omega)]

/-- A row beside the first half of the point's keys. -/
theorem Before.first (h : Before T g X17) {r : Fin 4096} {d : Fin 256} {x : Fin 512} {w y : EReal} (hx : r.val = 1024 * g + x)
    (hw : w = X17 (ix2 r d)) (hy : y = T.dq (Ico (1024 * g + 0) (1024 * g + 0 + 512)) (1024 * g + x) d) :
    w + y = T.dq (Ico 0 (upto g 0 r)) r d := by
  rw [hw, hy, h, upto, if_pos (by omega), ← T.dq_add (x := 0) (y := 1024 * g + 512) (z := 1024 * (g + 1)) (by omega) (by omega),
    T.dq_later (S := Ico (1024 * g + 512) _) (fun x hx => by rw [Finset.mem_Ico] at hx; omega), ← hx]
  simp only [add_zero]
  exact T.dq_add (x := 0) (y := 1024 * g) (z := 1024 * g + 512) (by omega) (by omega) _ _

/-- A row beside the second half of the point's keys. -/
theorem Before.second (h : Before T g X17) {r : Fin 4096} {d : Fin 256} {x : Fin 512} {w y z : EReal} (hx : r.val = 1024 * g + 512 + x)
    (hw : w = X17 (ix2 r d)) (hy : y = T.dq (Ico (1024 * g + 0) (1024 * g + 0 + 512)) (1024 * g + 512 + x) d)
    (hz : z = T.dq (Ico (1024 * g + 512) (1024 * g + 512 + 512)) (1024 * g + 512 + x) d) :
    w + (y + z) = T.dq (Ico 0 (upto g 0 r)) r d := by
  rw [hw, hy, hz, h, upto, if_pos (by omega), ← hx, T.dq_add (by omega) (by omega)]
  exact T.dq_add (x := 0) (y := 1024 * g) (z := 1024 * g + 1024) (by omega) (by omega) _ _

/-- What the point leaves in the outputs of its keys: the sums over its own and all later rows. -/
structure Outs (T : Tab) (g : ℕ) (X14 X15 X16 : FVec Ideal S1024x128 .bf16) : Prop where
  kn : ∀ (j : Fin 1024) (c : Fin 128), X14 (ix2 j c) = T.dk (Ico (1024 * g) 4096) (1024 * g + j) c
  kr : ∀ (j : Fin 1024) (c : Fin 128), X15 (ix2 j c) = T.dk (Ico (1024 * g) 4096) (1024 * g + j) (128 + c)
  v : ∀ (j : Fin 1024) (c : Fin 128), X16 (ix2 j c) = T.dv (Ico (1024 * g) 4096) (1024 * g + j) c

/-- A column of the other half of 128. -/
abbrev other (c : Fin 128) : Fin 128 := ⟨(c + 64) % 128, Nat.mod_lt _ (by decide)⟩

/-- The rotated half of the queries' gradient, rotated back: `C` and `S` are the cosines and signed sines. -/
def unrot (x : Fin 4096 → ℕ → EReal) (C S : FVec Ideal S4096x128 .f32) (i : Fin 4096) (c : Fin 128) : EReal :=
  x i (128 + c) * C (ix2 i c) + x i (128 + other c) * S (ix2 i (other c))

/-- What the point leaves in the outputs of the queries, after the last keys. -/
structure OutsQ (T : Tab) (C S : FVec Ideal S4096x128 .f32) (X12 X13 : FVec Ideal S4096x128 .bf16) : Prop where
  qn : ∀ (i : Fin 4096) (c : Fin 128), X12 (ix2 i c) = T.dq (Ico 0 4096) i c
  qr : ∀ (i : Fin 4096) (c : Fin 128), X13 (ix2 i c) = unrot (fun i => T.dq (Ico 0 4096) i) C S i c

/-- After the last trip the queries' sums run over the point's keys too. -/
theorem Sums.before (h : Sums T g (3 - g) X17 X18 X19) (hg : g < 4) : Before T (g + 1) X17 := fun i d => by
  rw [h.dq, upto, if_pos (by omega)]

/-- The kernel's rotation back, at a place. -/
theorem unrot_at (x C S : FVec Ideal S4096x128 .f32) (i : Fin 4096) (c : Fin 128) :
    k0_pay3 (F := Ideal) x C S (ix2 i c) = (x (ix2 i c) * C (ix2 i c) + x (ix2 i (other c)) * S (ix2 i (other c)) : EReal) := by
  have h : (c.val + 128 - 64) % 128 = (c.val + 64) % 128 := congrArg (· % 128) (by omega)
  pointwise [k0_pay3, other]
  simp only [h]

end Cert.Attn

end
-- ==== Proof.Trip.lean ====
/-
  One trip of the kernel's loop, at the extended reals: two blocks of 512 rows, each against the two halves of the point's keys.
-/
module

public import proofs.«01_k».proof.Proof.Point
public import proofs.«01_k».proof.Proof.Gen.KernelIdeal.Frame
public import Idealize.ShloMosaic.Lib.Claim
public import Idealize.ShloMosaic.Lib.LoopRemainder

@[expose] public section

set_option maxRecDepth 8192

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attn
open Finset (Ico)

local notation "𝕄" => MT nD τ sig Unit (Elt Ideal) ℕ (UR sig nD τ) ℕ

/-- The loop of key block `g` makes `3 - g` trips. -/
theorem trips_eq : ∀ i : grid0.Coords, (k0_t1_loop i).trips = 3 - (i 1).val := by decide +kernel

set_option maxHeartbeats 2000000 in
/-- One trip takes the sums over `k` trips to those over `k + 1`. -/
theorem trip (c : Dev nD) (E : Set ℕ) (i : grid0.Coords)
    (arg2 : Memref sig .tc .vmem S4096x128 .bf16) (harg2 : arg2.IsWhole)
    (arg3 : Memref sig .tc .vmem S4096x128 .bf16) (harg3 : arg3.IsWhole)
    (arg4 : Memref sig .tc .vmem S1024x128 .bf16) (harg4 : arg4.IsWhole)
    (arg5 : Memref sig .tc .vmem S1024x128 .bf16) (harg5 : arg5.IsWhole)
    (arg6 : Memref sig .tc .vmem S1024x128 .bf16) (harg6 : arg6.IsWhole)
    (arg7 : Memref sig .tc .vmem S4096x128 .bf16) (harg7 : arg7.IsWhole)
    (arg8 : Memref sig .tc .vmem S4096x128 .bf16) (harg8 : arg8.IsWhole)
    (arg9 : Memref sig .tc .vmem S1x4096x1 .f32) (harg9 : arg9.IsWhole)
    (arg10 : Memref sig .tc .vmem S4096x128 .f32) (harg10 : arg10.IsWhole)
    (arg11 : Memref sig .tc .vmem S4096x128 .f32) (harg11 : arg11.IsWhole)
    (arg12 : Memref sig .tc .vmem S4096x128 .bf16) (harg12 : arg12.IsWhole)
    (arg13 : Memref sig .tc .vmem S4096x128 .bf16) (harg13 : arg13.IsWhole)
    (arg14 : Memref sig .tc .vmem S1024x128 .bf16) (harg14 : arg14.IsWhole)
    (arg15 : Memref sig .tc .vmem S1024x128 .bf16) (harg15 : arg15.IsWhole)
    (arg16 : Memref sig .tc .vmem S1024x128 .bf16) (harg16 : arg16.IsWhole)
    (arg17 : Memref sig .tc .vmem S4096x256 .f32) (harg17 : arg17.IsWhole)
    (arg18 : Memref sig .tc .vmem S1024x256 .f32) (harg18 : arg18.IsWhole)
    (arg19 : Memref sig .tc .vmem S1024x128 .f32) (harg19 : arg19.IsWhole)
    (T : Tab) (hs : T.scale = scaleLit) (f2 f3 f4 f5 f6 f7 f8 f9 f17 f18 f19) (w1 : BitVec 32) (v59 : BitVec 32) (v158 : FVec Ideal S512x256 .f32) (k : Fin (k0_t1_loop i).trips)
    (hin : Ins T (i 1) (arg2.view.read (Elt Ideal) f2) (arg3.view.read (Elt Ideal) f3) (arg4.view.read (Elt Ideal) f4)
      (arg5.view.read (Elt Ideal) f5) (arg6.view.read (Elt Ideal) f6) (arg7.view.read (Elt Ideal) f7) (arg8.view.read (Elt Ideal) f8)
      (arg9.view.read (Elt Ideal) f9))
    (hsum : Sums T (i 1) k (arg17.view.read (Elt Ideal) f17) (arg18.view.read (Elt Ideal) f18) (arg19.view.read (Elt Ideal) f19)) :
    iprop((arg2.view.loc (c : Thread nD τ) ↦[arg2.view.set]{fullShare} f2 : sProp 𝕄) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9)
      ∗ (arg17.view.loc (c : Thread nD τ) ↦[arg17.view.set]{fullShare} f17) ∗ (arg18.view.loc (c : Thread nD τ) ↦[arg18.view.set]{fullShare} f18)
      ∗ (arg19.view.loc (c : Thread nD τ) ↦[arg19.view.set]{fullShare} f19))
      ⊢ wp frame (wpE (defs₀ (F := Ideal)) Variants.none c none) E
        (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 w1 v59 v158 k PUnit.unit)
        (fun _ => iprop((arg2.view.loc (c : Thread nD τ) ↦[arg2.view.set]{fullShare} f2) ∗ (arg3.view.loc (c : Thread nD τ) ↦[arg3.view.set]{fullShare} f3)
          ∗ (arg4.view.loc (c : Thread nD τ) ↦[arg4.view.set]{fullShare} f4) ∗ (arg5.view.loc (c : Thread nD τ) ↦[arg5.view.set]{fullShare} f5)
          ∗ (arg6.view.loc (c : Thread nD τ) ↦[arg6.view.set]{fullShare} f6) ∗ (arg7.view.loc (c : Thread nD τ) ↦[arg7.view.set]{fullShare} f7)
          ∗ (arg8.view.loc (c : Thread nD τ) ↦[arg8.view.set]{fullShare} f8) ∗ (arg9.view.loc (c : Thread nD τ) ↦[arg9.view.set]{fullShare} f9)
          ∗ (∃ g17 g18 g19, (arg17.view.loc (c : Thread nD τ) ↦[arg17.view.set]{fullShare} g17)
            ∗ (arg18.view.loc (c : Thread nD τ) ↦[arg18.view.set]{fullShare} g18) ∗ (arg19.view.loc (c : Thread nD τ) ↦[arg19.view.set]{fullShare} g19)
            ∗ ⌜Sums T (i 1) (k + 1) (arg17.view.read (Elt Ideal) g17) (arg18.view.read (Elt Ideal) g18) (arg19.view.read (Elt Ideal) g19)⌝))) := by
  unfold k0_t1_body
  iintro ⟨H2, H3, H4, H5, H6, H7, H8, H9, H17, H18, H19⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _, _, _
  isplitl [H17]; · iexact H17
  isplitl [H18]; · iexact H18
  isplitl [H19]; · iexact H19
  ipureintro
  have hk : k.val < 3 - (i 1).val := k.isLt.trans_eq (trips_eq i)
  have hg : (i 1).val < 4 := (i 1).isLt
  -- the two blocks' queries and the two halves of the keys
  have rows0 := hin.rows (k0_off7_inb i k) (k0_off8_inb i k) (k0_off7_eq i k) (k0_off8_eq i k) (by omega)
  have rows1 := hin.rows (k0_off10_inb i k) (k0_off11_inb i k) (k0_off10_eq i k) (k0_off11_eq i k) (by omega)
  have keys0 := hin.keys inb_S1024x128_S512x128_0_0 rfl (by omega)
  have keys1 := hin.keys inb_S1024x128_S512x128_512_0 rfl (by omega)
  have b00 := block_at hs rows0 keys0 (probA_at hs rows0 keys0 (by omega))
  have b01 := block_at hs rows0 keys1 (probA_at hs rows0 keys1 (by omega))
  have b10 := block_at hs rows1 keys0 (probA_at hs rows1 keys0 (by omega))
  have b11 := block_at hs rows1 keys1 (probA_at hs rows1 keys1 (by omega))
  constructor
  · intro r d
    by_cases h1 : r.val < 1024 * (i 1).val + 1024 * k.val + 1024
    · rw [read_not_mem (Val := Elt Ideal) arg17.view f17 _ _ _ (k0_off12_eq i k) d r (.inl (by omega)),
        read_not_mem (Val := Elt Ideal) arg17.view f17 _ _ _ (k0_off9_eq i k) d r (.inl h1)]
      refine (hsum.dq r d).trans ?_
      unfold upto
      rw [if_pos (by omega), if_pos (by omega)]
    by_cases h2 : r.val < 1024 * (i 1).val + 1024 * k.val + 1536
    · obtain ⟨x, hx⟩ : ∃ x : Fin 512, r.val = 1024 * (i 1).val + 1024 * k.val + 1024 + x := ⟨⟨r - (1024 * (i 1).val + 1024 * k.val + 1024), by omega⟩, by simp; omega⟩
      rw [read_not_mem (Val := Elt Ideal) arg17.view f17 _ _ _ (k0_off12_eq i k) d r (.inl h2),
        read_mem (Val := Elt Ideal) arg17.view f17 _ _ _ (k0_off9_eq i k) x d r hx]
      exact (sum3_at _ _ _ _ (ix2 x d)).trans (hsum.dq_add hx (by omega) (by omega)
        ((readAt_rows arg17.view f17 _ (k0_off9_eq i k) x d (by omega)).trans (congrArg (fun y => arg17.view.read (Elt Ideal) f17 (ix2 y d)) (Fin.ext hx.symm))) (b00.2.2 x d) (b01.2.2 x d))
    by_cases h3 : r.val < 1024 * (i 1).val + 1024 * k.val + 2048
    · obtain ⟨x, hx⟩ : ∃ x : Fin 512, r.val = 1024 * (i 1).val + 1024 * k.val + 1536 + x := ⟨⟨r - (1024 * (i 1).val + 1024 * k.val + 1536), by omega⟩, by simp; omega⟩
      rw [read_mem (Val := Elt Ideal) arg17.view f17 _ _ _ (k0_off12_eq i k) x d r hx]
      exact (sum3_at _ _ _ _ (ix2 x d)).trans (hsum.dq_add hx (by omega) (by omega)
        ((readAt_rows arg17.view f17 _ (k0_off12_eq i k) x d (by omega)).trans (congrArg (fun y => arg17.view.read (Elt Ideal) f17 (ix2 y d)) (Fin.ext hx.symm))) (b10.2.2 x d) (b11.2.2 x d))
    · rw [read_not_mem (Val := Elt Ideal) arg17.view f17 _ _ _ (k0_off12_eq i k) d r (.inr (by omega)),
        read_not_mem (Val := Elt Ideal) arg17.view f17 _ _ _ (k0_off9_eq i k) d r (.inr (by omega))]
      refine (hsum.dq r d).trans ?_
      unfold upto
      rw [if_neg (by omega), if_neg (by omega)]
  · intro j d
    refine by_halves (P := fun x j => View.read (Elt Ideal) arg18.view _ (ix2 j d) = T.dk _ x d) _ (fun r => ?_) (fun r => ?_) j
    · refine Eq.trans (And.left (read_acc arg18.view f18 _ _ _ _ _ _ _ _ _ _ (fun x => sum_at _ _ _ x) (fun x => sum_at _ _ _ x)
        (fun x => sum_at _ _ _ x) (fun x => sum_at _ _ _ x) r d)) ?_
      exact carry_on (fun n => T.DS n (1024 * (i 1).val + 0 + r) * T.q n d) (hsum.dk_at 0 r (by omega) _ (by simp) d)
        (b00.2.1 r d) (b10.2.1 r d) (by omega) (by omega) (by omega) (by omega)
    · refine Eq.trans (And.right (read_acc arg18.view f18 _ _ _ _ _ _ _ _ _ _ (fun x => sum_at _ _ _ x) (fun x => sum_at _ _ _ x)
        (fun x => sum_at _ _ _ x) (fun x => sum_at _ _ _ x) r d)) ?_
      exact carry_on (fun n => T.DS n (1024 * (i 1).val + 512 + r) * T.q n d) (hsum.dk_at 512 r (by omega) _ (by simp) d)
        (b01.2.1 r d) (b11.2.1 r d) (by omega) (by omega) (by omega) (by omega)
  · intro j d
    refine by_halves (P := fun x j => View.read (Elt Ideal) arg19.view _ (ix2 j d) = T.dv _ x d) _ (fun r => ?_) (fun r => ?_) j
    · refine Eq.trans (And.left (read_acc arg19.view f19 _ _ _ _ _ _ _ _ _ _ (fun x => sum_at _ _ _ x) (fun x => sum_at _ _ _ x)
        (fun x => sum_at _ _ _ x) (fun x => sum_at _ _ _ x) r d)) ?_
      exact carry_on (fun n => T.P n (1024 * (i 1).val + 0 + r) * T.dO n d) (hsum.dv_at 0 r (by omega) _ (by simp) d)
        (b00.1 r d) (b10.1 r d) (by omega) (by omega) (by omega) (by omega)
    · refine Eq.trans (And.right (read_acc arg19.view f19 _ _ _ _ _ _ _ _ _ _ (fun x => sum_at _ _ _ x) (fun x => sum_at _ _ _ x)
        (fun x => sum_at _ _ _ x) (fun x => sum_at _ _ _ x) r d)) ?_
      exact carry_on (fun n => T.P n (1024 * (i 1).val + 512 + r) * T.dO n d) (hsum.dv_at 512 r (by omega) _ (by simp) d)
        (b01.1 r d) (b11.1 r d) (by omega) (by omega) (by omega) (by omega)

end Cert.KernelIdeal.Val

end
-- ==== Proof.BodyVal.lean ====
/-
  The kernel's body at a grid point, at the extended reals: from one head's tables and the queries' sums over the earlier keys to
  the gradients of the point's keys and the queries' sums over its keys too.
-/
module

public import proofs.«01_k».proof.Proof.Trip
public import proofs.«01_k».proof.Proof.Gen.KernelIdeal.Frame
public import Idealize.ShloMosaic.Lib.Claim
public import Idealize.ShloMosaic.Lib.LoopRemainder

@[expose] public section

set_option maxRecDepth 8192

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attn
open Finset (Ico)

local notation "𝕄" => MT nD τ sig Unit (Elt Ideal) ℕ (UR sig nD τ) ℕ

/-- The queries' outputs are written at the last keys. -/
theorem cond2_iff (i : grid0.Coords) : Iff (k0_cond2 i = 1#1) ((i 1).val = 3) := by
  revert i; decide +kernel

/-- What the loop of key block `g` holds after `k` trips. -/
def inv (c : Dev nD) (T : Tab) (g : ℕ)
    (arg2 : Memref sig .tc .vmem S4096x128 .bf16)
    (arg3 : Memref sig .tc .vmem S4096x128 .bf16)
    (arg4 : Memref sig .tc .vmem S1024x128 .bf16)
    (arg5 : Memref sig .tc .vmem S1024x128 .bf16)
    (arg6 : Memref sig .tc .vmem S1024x128 .bf16)
    (arg7 : Memref sig .tc .vmem S4096x128 .bf16)
    (arg8 : Memref sig .tc .vmem S4096x128 .bf16)
    (arg9 : Memref sig .tc .vmem S1x4096x1 .f32)
    (arg17 : Memref sig .tc .vmem S4096x256 .f32)
    (arg18 : Memref sig .tc .vmem S1024x256 .f32)
    (arg19 : Memref sig .tc .vmem S1024x128 .f32)
    (f2 : arg2.view.ty.Contents (Elt Ideal)) (f3 : arg3.view.ty.Contents (Elt Ideal)) (f4 : arg4.view.ty.Contents (Elt Ideal))
    (f5 : arg5.view.ty.Contents (Elt Ideal)) (f6 : arg6.view.ty.Contents (Elt Ideal)) (f7 : arg7.view.ty.Contents (Elt Ideal))
    (f8 : arg8.view.ty.Contents (Elt Ideal)) (f9 : arg9.view.ty.Contents (Elt Ideal)) (k : ℕ) (_ : Unit) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
    ∗ (∃ g17 g18 g19, (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19)
      ∗ ⌜Sums T g k (arg17.view.read (Elt Ideal) g17) (arg18.view.read (Elt Ideal) g18) (arg19.view.read (Elt Ideal) g19)⌝))

set_option maxHeartbeats 2000000 in
/-- The body at a grid point. -/
theorem body (c : Dev nD) (E : Set ℕ) (i : grid0.Coords)
    (arg2 : Memref sig .tc .vmem S4096x128 .bf16) (harg2 : arg2.IsWhole)
    (arg3 : Memref sig .tc .vmem S4096x128 .bf16) (harg3 : arg3.IsWhole)
    (arg4 : Memref sig .tc .vmem S1024x128 .bf16) (harg4 : arg4.IsWhole)
    (arg5 : Memref sig .tc .vmem S1024x128 .bf16) (harg5 : arg5.IsWhole)
    (arg6 : Memref sig .tc .vmem S1024x128 .bf16) (harg6 : arg6.IsWhole)
    (arg7 : Memref sig .tc .vmem S4096x128 .bf16) (harg7 : arg7.IsWhole)
    (arg8 : Memref sig .tc .vmem S4096x128 .bf16) (harg8 : arg8.IsWhole)
    (arg9 : Memref sig .tc .vmem S1x4096x1 .f32) (harg9 : arg9.IsWhole)
    (arg10 : Memref sig .tc .vmem S4096x128 .f32) (harg10 : arg10.IsWhole)
    (arg11 : Memref sig .tc .vmem S4096x128 .f32) (harg11 : arg11.IsWhole)
    (arg12 : Memref sig .tc .vmem S4096x128 .bf16) (harg12 : arg12.IsWhole)
    (arg13 : Memref sig .tc .vmem S4096x128 .bf16) (harg13 : arg13.IsWhole)
    (arg14 : Memref sig .tc .vmem S1024x128 .bf16) (harg14 : arg14.IsWhole)
    (arg15 : Memref sig .tc .vmem S1024x128 .bf16) (harg15 : arg15.IsWhole)
    (arg16 : Memref sig .tc .vmem S1024x128 .bf16) (harg16 : arg16.IsWhole)
    (arg17 : Memref sig .tc .vmem S4096x256 .f32) (harg17 : arg17.IsWhole)
    (arg18 : Memref sig .tc .vmem S1024x256 .f32) (harg18 : arg18.IsWhole)
    (arg19 : Memref sig .tc .vmem S1024x128 .f32) (harg19 : arg19.IsWhole)
    (T : Tab) (hs : T.scale = scaleLit) (f2 f3 f4 f5 f6 f7 f8 f9 f10 f11 f12 f13 f14 f15 f16 f17 f18 f19)
    (hin : Ins T (i 1) (arg2.view.read (Elt Ideal) f2) (arg3.view.read (Elt Ideal) f3) (arg4.view.read (Elt Ideal) f4)
      (arg5.view.read (Elt Ideal) f5) (arg6.view.read (Elt Ideal) f6) (arg7.view.read (Elt Ideal) f7) (arg8.view.read (Elt Ideal) f8)
      (arg9.view.read (Elt Ideal) f9))
    (hbef : (i 1).val ≠ 0 → Before T (i 1) (arg17.view.read (Elt Ideal) f17)) :
    iprop((arg2.view.loc (c : Thread nD τ) ↦[arg2.view.set]{fullShare} f2 : sProp 𝕄) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))
      ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
          ∗ (∃ g12 g13 g14 g15 g16 g17 g18 g19, (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19)
            ∗ ⌜Outs T (i 1) (arg14.view.read (Elt Ideal) g14) (arg15.view.read (Elt Ideal) g15) (arg16.view.read (Elt Ideal) g16)
              ∧ Before T ((i 1) + 1) (arg17.view.read (Elt Ideal) g17)
              ∧ ((i 1).val = 3 → OutsQ T (arg10.view.read (Elt Ideal) f10) (arg11.view.read (Elt Ideal) f11)
                  (arg12.view.read (Elt Ideal) g12) (arg13.view.read (Elt Ideal) g13))
              ∧ ((i 1).val ≠ 3 → g12 = f12 ∧ g13 = f13)⌝))) := by
  simp only [cc0_attn_bwd_eq_skeleton]; unfold cc0_attn_bwd_skel
  simp only [k0_part15_eq_skeleton]; unfold k0_part15_skel
  simp only [bind_assoc, pure_bind]
  iintro ⟨H2, H3, H4, H5, H6, H7, H8, H9, H10, H11, H12, H13, H14, H15, H16, H17, H18, H19⟩
  sl_exec
  sl_for (inv c T (i 1) arg2 arg3 arg4 arg5 arg6 arg7 arg8 arg9 arg17 arg18 arg19 f2 f3 f4 f5 f6 f7 f8 f9) $$ [H2 H3 H4 H5 H6 H7 H8 H9 H17 H18 H19]
  case region =>
    intro k _
    unfold inv
    iintro ⟨H2, H3, H4, H5, H6, H7, H8, H9, %f17', %f18', %f19', H17, H18, H19, %hsum⟩
    iapply (trip c E i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 T hs f2 f3 f4 f5 f6 f7 f8 f9
      f17' f18' f19' _ _ _ k hin hsum)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H17]; · iexact H17
    isplitl [H18]; · iexact H18
    iexact H19
  · unfold inv
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _, _, _
    isplitl [H17]; · iexact H17
    isplitl [H18]; · iexact H18
    isplitl [H19]; · iexact H19
    ipureintro
    have first_iff : ∀ i : grid0.Coords, Iff (body.sl.v2 i = 1#1) ((i 1).val = 0) := by decide +kernel
    have hg : (i 1).val < 4 := (i 1).isLt
    have rows0 := hin.rows (k0_off1_inb i) (k0_off2_inb i) (k0_off1_eq i) (k0_off2_eq i) (by omega)
    have rows1 := hin.rows (k0_off3_inb i) (k0_off4_inb i) (k0_off3_eq i) (k0_off4_eq i) (by omega)
    have keys0 := hin.keys inb_S1024x128_S512x128_0_0 rfl (by omega)
    have keys1 := hin.keys inb_S1024x128_S512x128_512_0 rfl (by omega)
    have b00 := block_at hs rows0 keys0 (probM_at hs rows0 keys0)
    have b10 := block_at hs rows1 keys0 (probA_at hs rows1 keys0 (by omega))
    have b11 := block_at hs rows1 keys1 (probM_at hs rows1 keys1)
    have e : 1024 * ((i 1).val + 1 + 0) = 1024 * (i 1).val + 512 + 512 := by omega
    constructor
    · intro r d
      have hB : Before T (i 1) (arg17.view.read (Elt Ideal) (if hc : body.sl.v2 i = 1#1 then
          arg17.view.writes (Elt Ideal) f17 [⟨Rect.unit ![0, 0] S4096x256.size inb_S4096x256_S4096x256_0_0, k0_pay82 (F := Ideal)⟩] else f17)) := by
        intro r d
        by_cases h0 : (i 1).val = 0
        · rw [dif_pos ((first_iff i).2 h0), h0]
          refine (read_mem (Val := Elt Ideal) arg17.view f17 _ _ [] rfl r d r (by simp)).trans ?_
          pointwise [k0_pay82]
          simp [Tab.dq]
        · rw [dif_neg fun h => h0 ((first_iff i).1 h)]
          exact hbef h0 r d
      by_cases h1 : r.val < 1024 * (i 1).val
      · rw [read_not_mem (Val := Elt Ideal) arg17.view _ _ _ _ (k0_off6_eq i) d r (.inl (by omega)),
          read_not_mem (Val := Elt Ideal) arg17.view _ _ _ _ (k0_off5_eq i) d r (.inl h1)]
        exact hB.early d h1
      by_cases h2 : r.val < 1024 * (i 1).val + 512
      · obtain ⟨x, hx⟩ : ∃ x : Fin 512, r.val = 1024 * (i 1).val + x := ⟨⟨r - 1024 * (i 1).val, by omega⟩, by simp; omega⟩
        rw [read_not_mem (Val := Elt Ideal) arg17.view _ _ _ _ (k0_off6_eq i) d r (.inl h2),
          read_mem (Val := Elt Ideal) arg17.view _ _ _ _ (k0_off5_eq i) x d r hx]
        exact (sum_at _ _ _ (ix2 x d)).trans (hB.first hx
          ((readAt_rows arg17.view _ _ (k0_off5_eq i) x d (by omega)).trans (congrArg (fun y => arg17.view.read (Elt Ideal) _ (ix2 y d)) (Fin.ext hx.symm))) (b00.2.2 x d))
      by_cases h3 : r.val < 1024 * (i 1).val + 1024
      · obtain ⟨x, hx⟩ : ∃ x : Fin 512, r.val = 1024 * (i 1).val + 512 + x := ⟨⟨r - (1024 * (i 1).val + 512), by omega⟩, by simp; omega⟩
        rw [read_mem (Val := Elt Ideal) arg17.view _ _ _ _ (k0_off6_eq i) x d r hx]
        exact (sum3_at _ _ _ _ (ix2 x d)).trans (hB.second hx
          ((readAt_rows arg17.view _ _ (k0_off6_eq i) x d (by omega)).trans (congrArg (fun y => arg17.view.read (Elt Ideal) _ (ix2 y d)) (Fin.ext hx.symm))) (b10.2.2 x d) (b11.2.2 x d))
      · rw [read_not_mem (Val := Elt Ideal) arg17.view _ _ _ _ (k0_off6_eq i) d r (.inr (by omega)),
          read_not_mem (Val := Elt Ideal) arg17.view _ _ _ _ (k0_off5_eq i) d r (.inr (by omega))]
        exact hB.late d (by omega)
    · rw [e]
      intro j d
      refine by_halves (P := fun x j => View.read (Elt Ideal) arg18.view _ (ix2 j d) = T.dk _ x d) _ (fun r => ?_) (fun r => ?_) j
      · refine Eq.trans (And.left (read_two arg18.view _ _ _ _ _ r d)) ((sum_at _ _ _ _).trans ?_)
        exact (congrArg₂ (· + ·) (b00.2.1 r d) (b10.2.1 r d)).trans (T.dk_add (by omega) (by omega) _ _)
      · refine Eq.trans (And.right (read_two arg18.view _ _ _ _ _ r d)) ((cast_at _ _ _).trans ?_)
        rw [← T.dk_add (y := 1024 * (i 1).val + 512) (by omega) (by omega), T.dk_later (fun x hx => by rw [Finset.mem_Ico] at hx; omega), zero_add]
        exact b11.2.1 r d
    · rw [e]
      intro j d
      refine by_halves (P := fun x j => View.read (Elt Ideal) arg19.view _ (ix2 j d) = T.dv _ x d) _ (fun r => ?_) (fun r => ?_) j
      · refine Eq.trans (And.left (read_two arg19.view _ _ _ _ _ r d)) ((sum_at _ _ _ _).trans ?_)
        exact (congrArg₂ (· + ·) (b00.1 r d) (b10.1 r d)).trans (T.dv_add (by omega) (by omega) _ _)
      · refine Eq.trans (And.right (read_two arg19.view _ _ _ _ _ r d)) ((cast_at _ _ _).trans ?_)
        rw [← T.dv_add (y := 1024 * (i 1).val + 512) (by omega) (by omega), T.dv_later (fun x hx => by rw [Finset.mem_Ico] at hx; omega), zero_add]
        exact b11.1 r d
  unfold inv
  iintro %_ ⟨H2, H3, H4, H5, H6, H7, H8, H9, %f17', %f18', %f19', H17, H18, H19, %hsum⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _, _, _, _, _, _, _, _
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  ipureintro
  have hg : (i 1).val < 4 := (i 1).isLt
  rw [show Scf.trips _ _ _ = 3 - (i 1).val from trips_eq i] at hsum
  have e : 1024 * ((i 1).val + 1 + (3 - (i 1).val)) = 4096 := by omega
  have hb := hsum.before hg
  refine ⟨⟨fun j d => ?_, fun j d => ?_, fun j d => ?_⟩, hb, fun h3 => ?_, fun h3 => ?_⟩
  · refine (read_mem (Val := Elt Ideal) arg14.view f14 _ _ [] rfl j d j (by simp)).trans ?_
    exact (readAt_cols arg18.view f18' _ j d (by omega)).trans ((hsum.dk j _).trans (by rw [e]; simp only [Nat.zero_add]))
  · refine (read_mem (Val := Elt Ideal) arg15.view f15 _ _ [] rfl j d j (by simp)).trans ?_
    exact (readAt_cols arg18.view f18' _ j d (by omega)).trans ((hsum.dk j _).trans (by rw [e]))
  · refine (read_mem (Val := Elt Ideal) arg16.view f16 _ _ [] rfl j d j (by simp)).trans ?_
    exact (readAt_rows arg19.view f19' _ rfl j d (by omega)).trans ((hsum.dv _ _).trans (by rw [e]; simp only [Nat.zero_add]))
  · rw [dif_pos ((cond2_iff i).2 h3), dif_pos ((cond2_iff i).2 h3)]
    have e3 : 1024 * ((i 1).val + 1) = 4096 := by omega
    unfold Before at hb
    rw [e3] at hb
    constructor
    · intro r d
      refine (read_mem (Val := Elt Ideal) arg12.view f12 _ _ [] rfl r d r (by simp)).trans ?_
      exact (readAt_cols arg17.view f17' _ r d (by omega)).trans ((hb r _).trans (by simp only [Nat.zero_add]))
    · intro r d
      refine (read_mem (Val := Elt Ideal) arg13.view f13 _ _ [] rfl r d r (by simp)).trans ((unrot_at _ _ _ r d).trans ?_)
      exact congrArg₂ (· + ·)
        (congrArg₂ (· * ·) ((readAt_cols arg17.view f17' _ r d (by omega)).trans (hb r _))
          ((readAt_cols arg10.view f10 _ r d (by omega)).trans (by simp only [Nat.zero_add])))
        (congrArg₂ (· * ·) ((readAt_cols arg17.view f17' _ r (other d) (by omega)).trans (hb r _))
          ((readAt_cols arg11.view f11 _ r (other d) (by omega)).trans (by simp only [Nat.zero_add])))
  · exact ⟨dif_neg fun h => h3 ((cond2_iff i).1 h), dif_neg fun h => h3 ((cond2_iff i).1 h)⟩

end Cert.KernelIdeal.Val

end
-- ==== Proof.Inputs.lean ====
/-
  What the kernel's input windows hold: at grid point `4 h + g`, the tables of head `h` and of its keys from `1024 g`, as the
  operand arrays hold them.
-/
module

public import proofs.«01_k».proof.Proof.BodyVal
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn
open Finset (Ico)

local notation "𝕄" => MT nD τ sig Unit (Elt Ideal) ℕ (UR sig nD τ) ℕ

variable (m : (ℓ : Loc nD τ sig) → Buf (Elt Ideal) ℓ)

/-! ## One head's tables -/

/-- A number as an index is its remainder. -/
theorem ofNat_val (n i : ℕ) [NeZero n] : (Fin.ofNat n i).val = i % n := rfl

/-- Head `h`'s tables, in the operand arrays of the call. -/
def tabOf (Q K : FVec Ideal S4096x4096 .bf16) (R : FVec Ideal S4096x128 .bf16) (G O : FVec Ideal S4096x2048 .bf16)
    (L : FVec Ideal S16x4096x1 .f32) (h : ℕ) : Tab where
  scale := scaleLit
  q i d := if d < 128 then Q (ix2 (.ofNat 4096 i) (.ofNat 4096 (128 * h + d))) else Q (ix2 (.ofNat 4096 i) (.ofNat 4096 (128 * (16 + h) + (d - 128))))
  k j d := if d < 128 then K (ix2 (.ofNat 4096 j) (.ofNat 4096 (128 * h + d))) else R (ix2 (.ofNat 4096 j) (.ofNat 128 (d - 128)))
  v j d := K (ix2 (.ofNat 4096 j) (.ofNat 4096 (128 * (16 + h) + d)))
  dO i d := G (ix2 (.ofNat 4096 i) (.ofNat 2048 (128 * h + d)))
  o i d := O (ix2 (.ofNat 4096 i) (.ofNat 2048 (128 * h + d)))
  lse i := L (ix3 (.ofNat 16 h) (.ofNat 4096 i) 0)

/-- Head `h`'s tables on device `c`. -/
def tab (c : Dev nD) (h : ℕ) : Tab :=
  tabOf (V m c main_v51) (V m c main_v55) (V m c main_v60) (V m c main_v67) (V m c main_v69) (V m c main_v43) h

/-- The grid's points in order: head by head, and within a head the blocks of keys. -/
theorem coords_eq : ∀ t : Fin grid0.N, (grid0.coords t 0).val = t.val / 4 ∧ (grid0.coords t 1).val = t.val % 4 := by decide +kernel

/-- Where each window's block stands in its array. -/
theorem idx : ∀ t : Fin grid0.N,
    win0_0.index t = ![0, t.val / 4] ∧ win0_1.index t = ![0, 16 + t.val / 4] ∧ win0_2.index t = ![t.val % 4, t.val / 4]
    ∧ win0_3.index t = ![t.val % 4, 0] ∧ win0_4.index t = ![t.val % 4, 16 + t.val / 4] ∧ win0_5.index t = ![0, t.val / 4]
    ∧ win0_6.index t = ![0, t.val / 4] ∧ win0_7.index t = ![t.val / 4, 0, 0] ∧ win0_8.index t = ![0, 0] ∧ win0_9.index t = ![0, 0]
    ∧ win0_10.index t = ![0, t.val / 4] ∧ win0_11.index t = ![0, t.val / 4] ∧ win0_12.index t = ![t.val % 4, t.val / 4]
    ∧ win0_13.index t = ![t.val % 4, t.val / 4] ∧ win0_14.index t = ![t.val % 4, t.val / 4] := by decide +kernel

set_option maxHeartbeats 2000000 in
/-- The input blocks at a point are the head's tables at the point's keys. -/
theorem ins_of (Q K : FVec Ideal S4096x4096 .bf16) (R : FVec Ideal S4096x128 .bf16) (G O : FVec Ideal S4096x2048 .bf16)
    (L : FVec Ideal S16x4096x1 .f32) (t : Fin cfg0.N) :
    Ins (tabOf Q K R G O L (t.val / 4)) (t.val % 4) ((win0_0.blk t).view.read (Elt Ideal) Q) ((win0_1.blk t).view.read (Elt Ideal) Q)
      ((win0_2.blk t).view.read (Elt Ideal) K) ((win0_3.blk t).view.read (Elt Ideal) R) ((win0_4.blk t).view.read (Elt Ideal) K)
      ((win0_5.blk t).view.read (Elt Ideal) G) ((win0_6.blk t).view.read (Elt Ideal) O) ((win0_7.blk t).view.read (Elt Ideal) L) := by
  have ht : t.val < 64 := lt_of_lt_of_eq t.isLt N_0
  obtain ⟨i0, i1, i2, i3, i4, i5, i6, i7, -⟩ := idx t
  constructor
  · intro i d
    simp only [tabOf, if_pos d.isLt]
    blk_ext [i0] <;> simp only [ofNat_val] <;> omega
  · intro i d
    simp only [tabOf, if_neg (show ¬ 128 + d.val < 128 by omega)]
    blk_ext [i1] <;> simp only [ofNat_val] <;> omega
  · intro i d
    simp only [tabOf, if_pos d.isLt]
    blk_ext [i2] <;> simp only [ofNat_val] <;> omega
  · intro i d
    simp only [tabOf, if_neg (show ¬ 128 + d.val < 128 by omega)]
    blk_ext [i3] <;> simp only [ofNat_val] <;> omega
  · intro i d
    simp only [tabOf]
    blk_ext [i4] <;> simp only [ofNat_val] <;> omega
  · intro i d
    simp only [tabOf]
    blk_ext [i5] <;> simp only [ofNat_val] <;> omega
  · intro i d
    simp only [tabOf]
    blk_ext [i6] <;> simp only [ofNat_val] <;> omega
  · intro i
    simp only [tabOf]
    blk_ext [i7] <;> simp only [ofNat_val] <;> omega

/-- The same of the arrays as the call finds them. -/
theorem ins_at (c : Dev nD) (t : Fin cfg0.N) :
    Ins (tab m c (t.val / 4)) (t.val % 4) (iblk m c 0 t) (iblk m c 1 t) (iblk m c 2 t) (iblk m c 3 t) (iblk m c 4 t) (iblk m c 5 t)
      (iblk m c 6 t) (iblk m c 7 t) :=
  ins_of (V m c main_v51) (V m c main_v55) (V m c main_v60) (V m c main_v67) (V m c main_v69) (V m c main_v43) t

end Cert.KernelIdeal.Val

end
-- ==== Proof.ValueRun.lean ====
/-
  The kernel's run at the extended reals: the arrays it leaves are the heads' gradients, head by head in blocks of columns.
-/
module

public import proofs.«01_k».proof.Proof.Inputs

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn
open Finset (Ico)

local notation "𝕄" => MT nD τ sig Unit (Elt Ideal) ℕ (UR sig nD τ) ℕ

variable (m : (ℓ : Loc nD τ sig) → Buf (Elt Ideal) ℓ) (ρ : Dev nD → PrngReg)

/-! ## What the body leaves at a point -/

/-- The cosines and the signed sines, as the call finds them. -/
abbrev cosT (c : Dev nD) : FVec Ideal S4096x128 .f32 := V m c main_v63
abbrev sinT (c : Dev nD) : FVec Ideal S4096x128 .f32 := V m c main_v65

def dqn (c : Dev nD) (h : ℕ) : FVec Ideal S4096x128 .bf16 := fun y => (tab m c h).dq (Ico 0 4096) (y 0) (y 1)
def dqr (c : Dev nD) (h : ℕ) : FVec Ideal S4096x128 .bf16 :=
  fun y => unrot (fun i => (tab m c h).dq (Ico 0 4096) i) (cosT m c) (sinT m c) (y 0) (y 1)
def dkn (c : Dev nD) (h g : ℕ) : FVec Ideal S1024x128 .bf16 := fun y => (tab m c h).dk (Ico (1024 * g) 4096) (1024 * g + y 0) (y 1)
def dkr (c : Dev nD) (h g : ℕ) : FVec Ideal S1024x128 .bf16 := fun y => (tab m c h).dk (Ico (1024 * g) 4096) (1024 * g + y 0) (128 + y 1)
def dvv (c : Dev nD) (h g : ℕ) : FVec Ideal S1024x128 .bf16 := fun y => (tab m c h).dv (Ico (1024 * g) 4096) (1024 * g + y 0) (y 1)

/-- What each window's buffer holds after the point. -/
def leaves (c : Dev nD) : (w : Fin cfg0.W) → Fin cfg0.N → (cfg0.win w).block.Idx → Elt Ideal (cfg0.win w).elt := fun
  | 0 => fun t => iblk m c 0 t
  | 1 => fun t => iblk m c 1 t
  | 2 => fun t => iblk m c 2 t
  | 3 => fun t => iblk m c 3 t
  | 4 => fun t => iblk m c 4 t
  | 5 => fun t => iblk m c 5 t
  | 6 => fun t => iblk m c 6 t
  | 7 => fun t => iblk m c 7 t
  | 8 => fun t => iblk m c 8 t
  | 9 => fun t => iblk m c 9 t
  | 10 => fun t => dqn m c (t.val / 4)
  | 11 => fun t => dqr m c (t.val / 4)
  | 12 => fun t => dkn m c (t.val / 4) (t.val % 4)
  | 13 => fun t => dkr m c (t.val / 4) (t.val % 4)
  | 14 => fun t => dvv m c (t.val / 4) (t.val % 4)
  | ⟨_ + 15, h⟩ => absurd h (Nat.not_lt.2 (Nat.le_add_left _ _))

/-- What the scratch buffers hold between the points: the queries' sums over the earlier keys of the head at hand. -/
def carried (c : Dev nD) (n : ℕ) : sProp 𝕄 :=
  iprop((∃ X, owns (c : Thread nD τ) (Memref.whole cc0_scratch0) fullShare X ∗ ⌜n % 4 ≠ 0 → Before (tab m c (n / 4)) (n % 4) X⌝)
    ∗ (∃ X, owns (c : Thread nD τ) (Memref.whole cc0_scratch1) fullShare X)
    ∗ (∃ X, owns (c : Thread nD τ) (Memref.whole cc0_scratch2) fullShare X) ∗ ∃ r, prngReg c r)

/-- The proof data of the run. -/
def dats (_ : Fin 1) (c : Dev nD) : Dat τ (Elt Ideal) Unit ℕ (UR sig nD τ) ℕ cfg0 c where
  A w := V m c (Pipeline.arrRef spec0 w)
  after := leaves m c
  Φ t := carried m c t.val
  q w := Pipeline.shareOf spec0 w
  owed _ := 0

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- What the body is handed at point `t`. -/
def handed (c : Dev nD) (t : Fin cfg0.N) : sProp 𝕄 :=
  iprop(carried m c t.val ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))

/-- What it hands back. -/
def back (c : Dev nD) (t : Fin cfg0.N) : sProp 𝕄 :=
  iprop(carried m c (t.val + 1) ∗ (dats m 0 c).owesAt () t.castSucc
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t)

theorem found0 (c : Dev nD) (t : Fin cfg0.N) (d) : (dats m 0 c).before 0 t d = iblk m c 0 t :=
  before0_0_of m (dats m 0 c) (by dsimp only [dats]) (fun _ => by dsimp only [dats, leaves]) t d
theorem found1 (c : Dev nD) (t : Fin cfg0.N) (d) : (dats m 0 c).before 1 t d = iblk m c 1 t :=
  before0_1_of m (dats m 0 c) (by dsimp only [dats]) (fun _ => by dsimp only [dats, leaves]) t d
theorem found2 (c : Dev nD) (t : Fin cfg0.N) (d) : (dats m 0 c).before 2 t d = iblk m c 2 t :=
  before0_2_of m (dats m 0 c) (by dsimp only [dats]) (fun _ => by dsimp only [dats, leaves]) t d
theorem found3 (c : Dev nD) (t : Fin cfg0.N) (d) : (dats m 0 c).before 3 t d = iblk m c 3 t :=
  before0_3_of m (dats m 0 c) (by dsimp only [dats]) (fun _ => by dsimp only [dats, leaves]) t d
theorem found4 (c : Dev nD) (t : Fin cfg0.N) (d) : (dats m 0 c).before 4 t d = iblk m c 4 t :=
  before0_4_of m (dats m 0 c) (by dsimp only [dats]) (fun _ => by dsimp only [dats, leaves]) t d
theorem found5 (c : Dev nD) (t : Fin cfg0.N) (d) : (dats m 0 c).before 5 t d = iblk m c 5 t :=
  before0_5_of m (dats m 0 c) (by dsimp only [dats]) (fun _ => by dsimp only [dats, leaves]) t d
theorem found6 (c : Dev nD) (t : Fin cfg0.N) (d) : (dats m 0 c).before 6 t d = iblk m c 6 t :=
  before0_6_of m (dats m 0 c) (by dsimp only [dats]) (fun _ => by dsimp only [dats, leaves]) t d
theorem found7 (c : Dev nD) (t : Fin cfg0.N) (d) : (dats m 0 c).before 7 t d = iblk m c 7 t :=
  before0_7_of m (dats m 0 c) (by dsimp only [dats]) (fun _ => by dsimp only [dats, leaves]) t d
theorem found8 (c : Dev nD) (t : Fin cfg0.N) (d) : (dats m 0 c).before 8 t d = iblk m c 8 t :=
  before0_8_of m (dats m 0 c) (by dsimp only [dats]) (fun _ => by dsimp only [dats, leaves]) t d
theorem found9 (c : Dev nD) (t : Fin cfg0.N) (d) : (dats m 0 c).before 9 t d = iblk m c 9 t :=
  before0_9_of m (dats m 0 c) (by dsimp only [dats]) (fun _ => by dsimp only [dats, leaves]) t d

/-- A window the body stores into, or only reads, is left at its value. -/
theorem left_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare (leaves m c w t) := by
  unfold Dat.leavesExact; rw [hi]; dsimp only [dats]

/-- A window the body leaves alone is left as it was found. -/
theorem left_idle (c : Dev nD) (w : Fin cfg0.W) (t : Fin cfg0.N) (hi : cfg0.idle w (cfg0.grid.coords t) = true) (hf : (cfg0.win w).flush t = false) :
    (dats m 0 c).leavesExact w t
      = iprop(∃ d, owns (c : Thread nD τ) ((cfg0.win w).stage (cfg0.slots t w)) fullShare ((dats m 0 c).before w t d)) :=
  Dat.leavesExact_idle _ w t hi hf

/-- The cosines' and the sines' blocks are the whole arrays. -/
theorem whole_at (X Y : FVec Ideal S4096x128 .f32) (t : Fin cfg0.N) :
    (win0_8.blk t).view.read (Elt Ideal) X = X ∧ (win0_9.blk t).view.read (Elt Ideal) Y = Y := by
  obtain ⟨-, -, -, -, -, -, -, -, i8, i9, -⟩ := idx t
  constructor
  · funext y
    blk_ext [i8]
  · funext y
    blk_ext [i9]

/-- A whole memref's elements owned at some contents of its buffer are owned at what those contents read. -/
theorem owned (c : Dev nD) {sp : Space} {sh : Shape} {e : EltTy} (M : Memref sig .tc sp sh e)
    (f : M.view.ty.Contents (Elt Ideal)) {X : sh.Idx → Elt Ideal e} (h : M.view.read (Elt Ideal) f = X) :
    ((M.view.loc (c : Thread nD τ) ↦[M.view.set]{fullShare} f : sProp 𝕄)) ⊢ owns (c : Thread nD τ) M fullShare X := by
  subst h
  exact owns_intro (c : Thread nD τ) M fullShare f

/-- Two arrays of two axes that agree at every place are equal. -/
theorem at2 {a b : ℕ} {e : EltTy} {X Y : (Shape.mk 2 ![a, b]).Idx → Elt Ideal e} (h : ∀ (i : Fin a) (d : Fin b), X (ix2 i d) = Y (ix2 i d)) : X = Y :=
  funext fun y => by rw [← ix2_eta y]; exact h _ _

theorem busy_10 : ∀ t : Fin cfg0.N, t.val % 4 = 3 → cfg0.idle 10 (cfg0.grid.coords t) = false := by decide +kernel
theorem busy_11 : ∀ t : Fin cfg0.N, t.val % 4 = 3 → cfg0.idle 11 (cfg0.grid.coords t) = false := by decide +kernel
theorem idle_10 : ∀ t : Fin cfg0.N, t.val % 4 ≠ 3 → cfg0.idle 10 (cfg0.grid.coords t) = true := by decide +kernel
theorem idle_11 : ∀ t : Fin cfg0.N, t.val % 4 ≠ 3 → cfg0.idle 11 (cfg0.grid.coords t) = true := by decide +kernel

set_option maxHeartbeats 4000000 in
/-- The body at any point. -/
theorem sound_body (c : Dev nD) (t : Fin cfg0.N) :
    handed m c t ⊢ wp frame (wpE (defs₀ (F := Ideal)) Variants.none c none) Set.univ (bodyAt0 t) (fun _ => back m c t) := by
  have ht : t.val < 64 := lt_of_lt_of_eq t.isLt N_0
  obtain ⟨hc0, hc1⟩ := coords_eq t
  unfold handed carried bodyAt0
  simp only [found0, found1, found2, found3, found4, found5, found6, found7, found8, found9]
  unfold owns
  iintro ⟨⟨⟨%Y17, ⟨%f17, %e17, S0⟩, %hbef⟩, ⟨%Y18, %f18, -, S1⟩, ⟨%Y19, %f19, -, S2⟩, Hp⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩⟩
  have hin : Ins (tab m c (t.val / 4)) (grid0.coords t 1) ((st0_0 t).view.read (Elt Ideal) f0) ((st0_1 t).view.read (Elt Ideal) f1)
      ((st0_2 t).view.read (Elt Ideal) f2) ((st0_3 t).view.read (Elt Ideal) f3) ((st0_4 t).view.read (Elt Ideal) f4)
      ((st0_5 t).view.read (Elt Ideal) f5) ((st0_6 t).view.read (Elt Ideal) f6) ((st0_7 t).view.read (Elt Ideal) f7) := by
    rw [e0, e1, e2, e3, e4, e5, e6, e7, hc1]
    exact ins_at m c t
  iapply (wp_wand_r Idealize.ShloMosaic.frame (wpE (defs₀ (F := Ideal)) Variants.none (c : Thread nD τ) none) Set.univ)
  isplitl [H0 H1 H2 H3 H4 H5 H6 H7 H8 H9 H10 H11 H12 H13 H14 S0 S1 S2]
  · iapply (body c Set.univ (grid0.coords t) _ _ _ _ _ _ _ _ _ _ _ _ _ _ _ _ _ _ _ _ _ _ _ _ _ _ _ _ _ _ (Memref.whole cc0_scratch0) _ (Memref.whole cc0_scratch1) _ (Memref.whole cc0_scratch2) _
      (tab m c (t.val / 4)) rfl f0 f1 f2 f3 f4 f5 f6 f7 f8 f9 f10 f11 f12 f13 f14 f17 f18 f19 hin
      (by rw [e17, hc1]; exact hbef))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    iexact S2
  iintro %_
  iintro ⟨H0, H1, H2, H3, H4, H5, H6, H7, H8, H9, %g10, %g11, %g12, %g13, %g14, %g17, %g18, %g19, H10, H11, H12, H13, H14, S0, S1, S2, %hout, %hbef', %hq, %hk⟩
  have hcos := e8.trans (whole_at (cosT m c) (sinT m c) t).1
  have hsin := e9.trans (whole_at (cosT m c) (sinT m c) t).2
  rw [hcos, hsin, hc1] at hq
  rw [hc1] at hk hout hbef'
  unfold back
  isplitl [S0 S1 S2 Hp]
  · unfold carried
    isplitl [S0]
    · iexists _
      isplitl [S0]
      · iapply (owned c (Memref.whole cc0_scratch0) g17 rfl) $$ S0
      ipureintro
      intro h
      rw [show (t.val + 1) / 4 = t.val / 4 by omega, show (t.val + 1) % 4 = t.val % 4 + 1 by omega]
      exact hbef'
    isplitl [S1]
    · iexists _
      iapply (owned c (Memref.whole cc0_scratch1) g18 rfl) $$ S1
    isplitl [S2]
    · iexists _
      iapply (owned c (Memref.whole cc0_scratch2) g19 rfl) $$ S2
    iexact Hp
  isplitl [Ho]; · iexact Ho
  isplitl [H0]
  · rw [left_live m c 0 t rfl]; iapply (owned c (st0_0 t) f0 e0) $$ H0
  isplitl [H1]
  · rw [left_live m c 1 t rfl]; iapply (owned c (st0_1 t) f1 e1) $$ H1
  isplitl [H2]
  · rw [left_live m c 2 t rfl]; iapply (owned c (st0_2 t) f2 e2) $$ H2
  isplitl [H3]
  · rw [left_live m c 3 t rfl]; iapply (owned c (st0_3 t) f3 e3) $$ H3
  isplitl [H4]
  · rw [left_live m c 4 t rfl]; iapply (owned c (st0_4 t) f4 e4) $$ H4
  isplitl [H5]
  · rw [left_live m c 5 t rfl]; iapply (owned c (st0_5 t) f5 e5) $$ H5
  isplitl [H6]
  · rw [left_live m c 6 t rfl]; iapply (owned c (st0_6 t) f6 e6) $$ H6
  isplitl [H7]
  · rw [left_live m c 7 t rfl]; iapply (owned c (st0_7 t) f7 e7) $$ H7
  isplitl [H8]
  · rw [left_live m c 8 t rfl]; iapply (owned c (st0_8 t) f8 e8) $$ H8
  isplitl [H9]
  · rw [left_live m c 9 t rfl]; iapply (owned c (st0_9 t) f9 e9) $$ H9
  isplitl [H10]
  · by_cases h3 : t.val % 4 = 3
    · rw [left_live m c 10 t (busy_10 t h3)]
      iapply (owned c (st0_10 t) g10 (X := leaves m c 10 t) (at2 fun y d => (hq h3).qn y d)) $$ H10
    · rw [left_idle m c 10 t (idle_10 t h3) (by rw [Bool.eq_false_iff]; exact fun h => h3 ((flush0_10 t).1 h)), (hk h3).1]
      iexists d10
      iapply (owned c (st0_10 t) f10 e10) $$ H10
  isplitl [H11]
  · by_cases h3 : t.val % 4 = 3
    · rw [left_live m c 11 t (busy_11 t h3)]
      iapply (owned c (st0_11 t) g11 (X := leaves m c 11 t) (at2 fun y d => (hq h3).qr y d)) $$ H11
    · rw [left_idle m c 11 t (idle_11 t h3) (by rw [Bool.eq_false_iff]; exact fun h => h3 ((flush0_11 t).1 h)), (hk h3).2]
      iexists d11
      iapply (owned c (st0_11 t) f11 e11) $$ H11
  isplitl [H12]
  · rw [left_live m c 12 t rfl]
    iapply (owned c (st0_12 t) g12 (X := leaves m c 12 t) (at2 fun y d => hout.kn y d)) $$ H12
  isplitl [H13]
  · rw [left_live m c 13 t rfl]
    iapply (owned c (st0_13 t) g13 (X := leaves m c 13 t) (at2 fun y d => hout.kr y d)) $$ H13
  rw [left_live m c 14 t rfl]
  iapply (owned c (st0_14 t) g14 (X := leaves m c 14 t) (at2 fun y d => hout.v y d)) $$ H14

end Cert.KernelIdeal.Val

end
-- ==== Proof.Launched.lean ====
/-
  The kernel's launch at the extended reals: the arrays it leaves are the heads' gradients, head by head in blocks of columns.
-/
module

public import proofs.«01_k».proof.Proof.ValueRun

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn
open Finset (Ico)

local notation "𝕄" => MT nD τ sig Unit (Elt Ideal) ℕ (UR sig nD τ) ℕ

variable (m : (ℓ : Loc nD τ sig) → Buf (Elt Ideal) ℓ) (ρ : Dev nD → PrngReg)

/-- The library's body obligation. -/
theorem body_obligation (c : Dev nD) :
    BodyObligation (dats m 0 c) (defs₀ (F := Ideal)) Variants.none () Set.univ := fun t => by
  rw [bigSep_W0, defs₀_row]
  refine triple_restated (sound_body m c t) rfl ?_ fun _ => ?_
  · show handed m c t ⊢ handed m c t
    exact .rfl
  · rw [bigSep_W0]
    show back m c t ⊢ back m c t
    exact .rfl

/-! ## The arrays after the run -/

/-- The gradients of the five operands: in column `128 h + d`, head `h`'s column `d`. -/
def gradQn (c : Dev nD) : FVec Ideal S4096x2048 .bf16 := fun y => (tab m c ((y 1).val / 128)).dq (Ico 0 4096) (y 0) ((y 1).val % 128)
def gradQr (c : Dev nD) : FVec Ideal S4096x2048 .bf16 :=
  fun y => unrot (fun i => (tab m c ((y 1).val / 128)).dq (Ico 0 4096) i) (cosT m c) (sinT m c) (y 0) (.ofNat 128 (y 1).val)
def gradKn (c : Dev nD) : FVec Ideal S4096x2048 .bf16 := fun y => (tab m c ((y 1).val / 128)).dk (Ico 0 4096) (y 0) ((y 1).val % 128)
def gradKr (c : Dev nD) : FVec Ideal S4096x2048 .bf16 := fun y => (tab m c ((y 1).val / 128)).dk (Ico 0 4096) (y 0) (128 + (y 1).val % 128)
def gradV (c : Dev nD) : FVec Ideal S4096x2048 .bf16 := fun y => (tab m c ((y 1).val / 128)).dv (Ico 0 4096) (y 0) ((y 1).val % 128)

/-- A column of a head's block, and its head. -/
theorem col (h d : ℕ) (hd : d < 128) : (h * 128 + d) / 128 = h ∧ (h * 128 + d) % 128 = d := by omega

theorem arr10 (c : Dev nD) : (dats m 0 c).arrAt 10 cfg0.N = gradQn m c := by
  refine (dats m 0 c).arrAt_eq_of_covers 10 _ (by decide +kernel) fun t hf y => ?_
  have i := (idx t).2.2.2.2.2.2.2.2.2.2.1
  have hy := col (t.val / 4) (y 1).val (y 1).isLt
  blk_simp
  dsimp only [dats, leaves, dqn, gradQn]
  blk_simp [i, hy.1, hy.2]

theorem arr11 (c : Dev nD) : (dats m 0 c).arrAt 11 cfg0.N = gradQr m c := by
  refine (dats m 0 c).arrAt_eq_of_covers 11 _ (by decide +kernel) fun t hf y => ?_
  have i := (idx t).2.2.2.2.2.2.2.2.2.2.2.1
  have hy := col (t.val / 4) (y 1).val (y 1).isLt
  blk_simp
  dsimp only [dats, leaves, dqr, gradQr]
  blk_simp [i, hy.1]
  refine congrArg₂ (unrot (fun i => (tab m c (t.val / 4)).dq (Ico 0 4096) i) (cosT m c) (sinT m c)) (Fin.ext ?_) (Fin.ext hy.2.symm)
  blk_simp [i]

theorem arr12 (c : Dev nD) : (dats m 0 c).arrAt 12 cfg0.N = gradKn m c := by
  refine (dats m 0 c).arrAt_eq_of_covers 12 _ (by decide +kernel) fun t hf y => ?_
  have i := (idx t).2.2.2.2.2.2.2.2.2.2.2.2.1
  have hy := col (t.val / 4) (y 1).val (y 1).isLt
  blk_simp
  dsimp only [dats, leaves, dkn, gradKn]
  blk_simp [i, hy.1, hy.2]
  rw [Nat.mul_comm (t.val % 4)]
  exact Tab.dk_all _ (by omega) (Nat.le_add_right _ _) _

theorem arr13 (c : Dev nD) : (dats m 0 c).arrAt 13 cfg0.N = gradKr m c := by
  refine (dats m 0 c).arrAt_eq_of_covers 13 _ (by decide +kernel) fun t hf y => ?_
  have i := (idx t).2.2.2.2.2.2.2.2.2.2.2.2.2.1
  have hy := col (t.val / 4) (y 1).val (y 1).isLt
  blk_simp
  dsimp only [dats, leaves, dkr, gradKr]
  blk_simp [i, hy.1, hy.2]
  rw [Nat.mul_comm (t.val % 4)]
  exact Tab.dk_all _ (by omega) (Nat.le_add_right _ _) _

theorem arr14 (c : Dev nD) : (dats m 0 c).arrAt 14 cfg0.N = gradV m c := by
  refine (dats m 0 c).arrAt_eq_of_covers 14 _ (by decide +kernel) fun t hf y => ?_
  have i := (idx t).2.2.2.2.2.2.2.2.2.2.2.2.2.2
  have hy := col (t.val / 4) (y 1).val (y 1).isLt
  blk_simp
  dsimp only [dats, leaves, dvv, gradV]
  blk_simp [i, hy.1, hy.2]
  rw [Nat.mul_comm (t.val % 4)]
  exact Tab.dv_all _ (by omega) (Nat.le_add_right _ _) _

/-- The scratch buffers as the launch hands them over and takes them back. -/
theorem rest_eq (c : Dev nD) : (Pipeline.ΦA spec0 c : sProp 𝕄)
    = iprop(((∃ X, owns (c : Thread nD τ) (Memref.whole cc0_scratch0) fullShare X) ∗ (∃ X, owns (c : Thread nD τ) (Memref.whole cc0_scratch1) fullShare X)
      ∗ (∃ X, owns (c : Thread nD τ) (Memref.whole cc0_scratch2) fullShare X)) ∗ ∃ r, prngReg c r) := by
  unfold Pipeline.ΦA
  rw [scopedRest0_eq]; simp only [owns_whole]

theorem enter (c : Dev nD) : Pipeline.ΦA spec0 c ⊢ carried m c 0 := by
  rw [rest_eq]; unfold carried
  iintro ⟨⟨⟨%X, S0⟩, S1, S2⟩, Hp⟩
  isplitl [S0]
  · iexists X
    isplitl [S0]; · iexact S0
    ipureintro
    exact fun h => absurd rfl h
  isplitl [S1]; · iexact S1
  isplitl [S2]; · iexact S2
  iexact Hp

theorem leave (c : Dev nD) (n : ℕ) : carried m c n ⊢ Pipeline.ΦA spec0 c := by
  rw [rest_eq]; unfold carried
  iintro ⟨⟨%X, S0, -⟩, S1, S2, Hp⟩
  isplitl [S0 S1 S2]
  · isplitl [S0]
    · iexists X
      iexact S0
    isplitl [S1]; · iexact S1
    iexact S2
  iexact Hp

/-! ## The run -/

set_option backward.isDefEq.respectTransparency.types false in
/-- Every execution ends with the arrays as the grid leaves them and the other buffers as the call finds them. -/
theorem run_post : θ_run defs (onTc (τ := τ) (main (F := Ideal))) ⟨m, fun _ => 0, ρ⟩ (Pipeline.FramePost cfgs (dats m) 0 (V m)) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none)
    (hA := fun _ _ => by dsimp only [dats])
    (hin := fun c => enter m c) (hout := fun c => leave m c _) (hQ' := fun _ h => h.1)

/-- The result arrays after the run. -/
theorem results {r : PUnit × MemSt nD τ sig (Elt Ideal)} (h : Pipeline.FramePost cfgs (dats m) 0 (V m) r) (c : Dev nD) :
    r.2.mem ((c.tc : Thread nD τ).loc main_v70_0) = gradQn m c
      ∧ r.2.mem ((c.tc : Thread nD τ).loc main_v70_1) = gradQr m c
      ∧ r.2.mem ((c.tc : Thread nD τ).loc main_v70_2) = gradKn m c
      ∧ r.2.mem ((c.tc : Thread nD τ).loc main_v70_3) = gradKr m c
      ∧ r.2.mem ((c.tc : Thread nD τ).loc main_v70_4) = gradV m c :=
  ⟨((h c).1 10).trans (arr10 m c), ((h c).1 11).trans (arr11 m c), ((h c).1 12).trans (arr12 m c),
    ((h c).1 13).trans (arr13 m c), ((h c).1 14).trans (arr14 m c)⟩

/-- The arguments after the run. -/
theorem kept {r : PUnit × MemSt nD τ sig (Elt Ideal)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

end Cert.KernelIdeal.Val

end
-- ==== Proof.Softmax.lean ====
/-
  One row of a causal softmax over the extended reals, and the gradient of its scores, when the scores are real: the two
  ways of writing the weights agree, and so do the two ways of writing the gradient.
-/
module

public import Mathlib.Data.EReal.Operations
public import Mathlib.Data.Finset.Fold
public import Mathlib.Algebra.BigOperators.Field
public import Mathlib.Tactic.Ring
public import Mathlib.Tactic.FieldSimp
public import Mathlib.Tactic.Positivity
public import Idealize.ShloMosaic.PureOps.Ideal

@[expose] public section

noncomputable section

namespace Cert.Attn

open Idealize.ShloMosaic

/-! ## Extended reals that are real -/

/-- Neither infinity. -/
def IsReal (x : EReal) : Prop := ∃ r : ℝ, x = (r : EReal)

theorem isReal_of {x : EReal} (hb : x ≠ ⊥) (ht : x ≠ ⊤) : IsReal x := ⟨x.toReal, (EReal.coe_toReal ht hb).symm⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

/-- A finite sum of reals, taken among the extended reals. -/
theorem coe_sum {ι : Type*} (S : Finset ι) (f : ι → ℝ) : ∑ j ∈ S, (f j : EReal) = ((∑ j ∈ S, f j : ℝ) : EReal) := by
  classical
  induction S using Finset.induction_on with
  | empty => simp
  | insert a S ha ih => rw [Finset.sum_insert ha, Finset.sum_insert ha, ih, EReal.coe_add]

theorem IsReal.sum {ι : Type*} {S : Finset ι} {f : ι → EReal} (h : ∀ j, IsReal (f j)) : IsReal (∑ j ∈ S, f j) := by
  choose g hg using h
  exact ⟨∑ j ∈ S, g j, by simp only [hg, coe_sum]⟩

/-! ## A row -/

variable {n : ℕ} (i : Fin n) (s : Fin n → EReal)

/-- Row `i`'s scores, the later keys' at −∞. -/
def masked (j : Fin n) : EReal := if j ≤ i then s j else ⊥

/-- The row's greatest score. -/
def top : EReal := Finset.univ.fold max ⊥ (masked i s)

/-- The exponential of a score's distance from the greatest. -/
def ex (j : Fin n) : EReal := Ideal.exp (masked i s j - top i s)

/-- The row's sum of exponentials. -/
def tot : EReal := ∑ j, ex i s j

/-- The row's weights. -/
def wt (j : Fin n) : EReal := Ideal.div (ex i s j) (tot i s)

/-- The logarithm of the sum of the scores' exponentials. -/
def logSum : EReal := top i s + Ideal.log (tot i s)

variable {i s}

theorem top_real (hs : ∀ j, IsReal (s j)) : IsReal (top i s) := by
  refine isReal_of (fun h => ?_) (fun h => ?_)
  · obtain ⟨r, hr⟩ := hs i
    have : s i ≤ top i s := Finset.le_fold_max _ |>.mpr (.inr ⟨i, Finset.mem_univ i, by simp [masked]⟩)
    rw [h, hr] at this
    exact absurd (le_bot_iff.mp this) (EReal.coe_ne_bot r)
  · have : top i s < ⊤ := Finset.fold_max_lt _ |>.mpr ⟨bot_lt_top, fun j _ => by
      unfold masked
      obtain ⟨r, hr⟩ := hs j
      split
      · rw [hr]; exact EReal.coe_lt_top r
      · exact bot_lt_top⟩
    exact absurd h this.ne

/-- With real scores the row is a row of reals: its exponentials `e`, zero at later keys, with a positive sum. -/
theorem row_real (hs : ∀ j, IsReal (s j)) : ∃ (σ e : Fin n → ℝ) (μ : ℝ), (∀ j, s j = (σ j : EReal)) ∧ top i s = (μ : EReal)
    ∧ (∀ j, ex i s j = (e j : EReal)) ∧ (∀ j, j ≤ i → e j = Real.exp (σ j - μ)) ∧ (∀ j, ¬ j ≤ i → e j = 0) ∧ 0 < ∑ j, e j := by
  obtain ⟨μ, hμ⟩ := top_real (i := i) hs
  choose σ hσ using hs
  have h1 : ∀ j, ex i s j = ((if j ≤ i then Real.exp (σ j - μ) else 0 : ℝ) : EReal) := fun j => by
    unfold ex masked
    rw [hμ]
    split
    · rw [hσ, ← EReal.coe_sub, Ideal.exp_coe]
    · rw [EReal.bot_sub, Ideal.exp_bot, EReal.coe_zero]
  refine ⟨σ, fun j => if j ≤ i then Real.exp (σ j - μ) else 0, μ, hσ, hμ, h1, fun j h => if_pos h, fun j h => if_neg h, ?_⟩
  refine Finset.sum_pos' (fun j _ => ?_) ⟨i, Finset.mem_univ i, ?_⟩
  · split <;> positivity
  · rw [if_pos le_rfl]; positivity

theorem wt_real (hs : ∀ j, IsReal (s j)) (j : Fin n) : IsReal (wt i s j) := by
  obtain ⟨σ, e, μ, -, -, he, -, -, hp⟩ := row_real (i := i) hs
  refine ⟨e j * (1 / ∑ k, e k), ?_⟩
  unfold wt tot
  simp only [he]
  rw [coe_sum, Ideal.div_coe hp.ne', EReal.coe_mul]

theorem wt_later (hs : ∀ j, IsReal (s j)) {j : Fin n} (h : ¬ j ≤ i) : wt i s j = 0 := by
  obtain ⟨σ, e, μ, -, -, he, -, h0, hp⟩ := row_real (i := i) hs
  unfold wt tot
  simp only [he]
  rw [coe_sum, Ideal.div_coe hp.ne', h0 j h, EReal.coe_zero, zero_mul]

/-- The weight from the saved logarithm is the weight by division. -/
theorem exp_logSum (hs : ∀ j, IsReal (s j)) {j : Fin n} (h : j ≤ i) : Ideal.exp (s j - logSum i s) = wt i s j := by
  obtain ⟨σ, e, μ, hσ, hμ, he, h1, -, hp⟩ := row_real (i := i) hs
  unfold logSum wt tot
  simp only [he]
  rw [coe_sum, Ideal.div_coe hp.ne', hμ, hσ, Ideal.log_coe, if_neg hp.not_ge, ← EReal.coe_add, ← EReal.coe_sub, Ideal.exp_coe,
    ← EReal.coe_mul, h1 j h, ← sub_sub, Real.exp_sub (σ j - μ), Real.exp_log hp, div_eq_mul_one_div]

/-- The gradient of a masked score, from the weights' gradients `x`: through the quotient it is what the weights give. -/
theorem grad_score (hs : ∀ j, IsReal (s j)) {x : Fin n → EReal} (hx : ∀ j, IsReal (x j)) (j : Fin n) :
    (Ideal.div (x j) (tot i s) + -(∑ k, x k * Ideal.div 1 (tot i s * tot i s) * ex i s k)) * ex i s j
      = wt i s j * (x j - ∑ k, wt i s k * x k) := by
  obtain ⟨σ, e, μ, -, -, he, -, -, hp⟩ := row_real (i := i) hs
  choose y hy using hx
  have hq : ((∑ k, e k) * (∑ k, e k) : ℝ) ≠ 0 := (mul_pos hp hp).ne'
  unfold wt tot
  simp only [he, hy]
  rw [coe_sum, ← EReal.coe_mul, Ideal.div_coe hp.ne', Ideal.div_coe hp.ne', Ideal.div_coe hq, ← EReal.coe_one]
  simp only [Ideal.div_coe hp.ne', ← EReal.coe_mul, coe_sum, ← EReal.coe_neg, ← EReal.coe_add, ← EReal.coe_sub]
  congr 1
  generalize ∑ k, e k = l at *
  have h2 : ∑ k, y k * (1 * (1 / (l * l))) * e k = (1 / l) * ∑ k, e k * (1 / l) * y k := by
    rw [Finset.mul_sum]
    refine Finset.sum_congr rfl fun k _ => ?_
    field_simp
  rw [h2]
  ring

/-- The product of a row with the weights' mean of the values is the weights' mean of the products. -/
theorem mean_swap {d : ℕ} {w : Fin n → EReal} (hw : ∀ j, IsReal (w j)) {g : Fin d → EReal} (hg : ∀ a, IsReal (g a))
    {v : Fin n → Fin d → EReal} (hv : ∀ j a, IsReal (v j a)) :
    ∑ a, g a * ∑ j, v j a * w j = ∑ j, w j * ∑ a, g a * v j a := by
  choose w' hw using hw
  choose g' hg using hg
  choose v' hv using hv
  simp only [hw, hg, hv, ← EReal.coe_mul, coe_sum]
  congr 1
  simp only [Finset.mul_sum]
  rw [Finset.sum_comm]
  exact Finset.sum_congr rfl fun j _ => Finset.sum_congr rfl fun a _ => by ring

end Cert.Attn
-- ==== Proof.Heads.lean ====
/-
  The attention's operands, every head's, the gradients of plain causal attention in them, and the tables that the kernel works
  on: the rotated columns stand in a block of 128 as 32, 32 zeros, 32, 32 zeros. With real operands the gradients of the tables
  are the plain ones.
-/
module

public import proofs.«01_k».proof.Proof.Softmax
public import proofs.«01_k».proof.Proof.Table

@[expose] public section

noncomputable section

namespace Cert.Attn

open Idealize.ShloMosaic
open Finset (Ico)

/-- The attention's operands: `(token, head, column)`. -/
structure Args where
  /-- The scale of the scores. -/
  scale : EReal
  /-- The queries' columns without position. -/
  qn : Fin 4096 → Fin 16 → Fin 128 → EReal
  /-- The queries' columns before their rotation. -/
  qr : Fin 4096 → Fin 16 → Fin 64 → EReal
  /-- The keys' columns without position. -/
  kn : Fin 4096 → Fin 16 → Fin 128 → EReal
  /-- The rotated keys, one for all heads. -/
  kr : Fin 4096 → Fin 64 → EReal
  /-- The values. -/
  v : Fin 4096 → Fin 16 → Fin 128 → EReal
  /-- The rotation's cosines. -/
  cos : Fin 4096 → Fin 32 → EReal
  /-- The rotation's sines. -/
  sin : Fin 4096 → Fin 32 → EReal
  /-- The gradient that comes in. -/
  ct : Fin 4096 → Fin 16 → Fin 128 → EReal

/-- Every operand is real. -/
structure Args.Real (A : Args) : Prop where
  scale : IsReal A.scale
  qn : ∀ i h d, IsReal (A.qn i h d)
  qr : ∀ i h d, IsReal (A.qr i h d)
  kn : ∀ i h d, IsReal (A.kn i h d)
  kr : ∀ i d, IsReal (A.kr i d)
  v : ∀ i h d, IsReal (A.v i h d)
  cos : ∀ i d, IsReal (A.cos i d)
  sin : ∀ i d, IsReal (A.sin i d)
  ct : ∀ i h d, IsReal (A.ct i h d)

/-- Column `e` of the first half, of 64. -/
abbrev lo (e : Fin 32) : Fin 64 := ⟨e, by omega⟩

/-- Column `e` of the second half, of 64. -/
abbrev hi (e : Fin 32) : Fin 64 := ⟨32 + e, by omega⟩

/-- A function on both halves. -/
def halves (f g : Fin 32 → EReal) (e : Fin 64) : EReal := if h : e.val < 32 then f ⟨e, h⟩ else g ⟨e - 32, by omega⟩

theorem halves_lo (f g : Fin 32 → EReal) (e : Fin 32) : halves f g (lo e) = f e := dif_pos e.isLt

theorem halves_hi (f g : Fin 32 → EReal) (e : Fin 32) : halves f g (hi e) = g e := by
  unfold halves
  rw [dif_neg (by simp only [hi]; omega)]
  congr 1
  exact Fin.ext (by simp only [hi]; omega)

/-- Columns of 64 in a block of 128: each half followed by 32 zeros. -/
def spread (f : Fin 64 → EReal) (e : ℕ) : EReal :=
  if h : e < 32 then f (lo ⟨e, h⟩) else if e < 64 then 0 else if h : e - 64 < 32 then f (hi ⟨e - 64, h⟩) else 0

namespace Args

variable (A : Args)

/-- The rotated queries. -/
def rq (i : Fin 4096) (h : Fin 16) : Fin 64 → EReal :=
  halves (fun e => A.qr i h (lo e) * A.cos i e - A.qr i h (hi e) * A.sin i e)
    (fun e => A.qr i h (hi e) * A.cos i e + A.qr i h (lo e) * A.sin i e)

/-- The scaled scores. -/
def score (h : Fin 16) (i j : Fin 4096) : EReal :=
  (∑ d, A.qn i h d * A.kn j h d + ∑ e, A.rq i h e * A.kr j e) * A.scale

/-- The attention's weights. -/
def w (h : Fin 16) (i j : Fin 4096) : EReal := wt i (A.score h i) j

/-- The attention's output. -/
def o (h : Fin 16) (i : Fin 4096) (d : Fin 128) : EReal := ∑ j, A.v j h d * A.w h i j

/-- The weights' gradient. -/
def dw (h : Fin 16) (i j : Fin 4096) : EReal := ∑ d, A.ct i h d * A.v j h d

/-- The gradient of the unscaled scores, through the softmax's quotient. -/
def ds (h : Fin 16) (i j : Fin 4096) : EReal :=
  (if j ≤ i then
    (Ideal.div (A.dw h i j) (tot i (A.score h i))
      + -(∑ k, A.dw h i k * Ideal.div 1 (tot i (A.score h i) * tot i (A.score h i)) * ex i (A.score h i) k)) * ex i (A.score h i) j
  else 0) * A.scale

/-- The gradient of the queries' columns without position. -/
def dqn (h : Fin 16) (i : Fin 4096) (d : Fin 128) : EReal := ∑ j, A.ds h i j * A.kn j h d

/-- The gradient of the rotated queries. -/
def drq (h : Fin 16) (i : Fin 4096) (e : Fin 64) : EReal := ∑ j, A.ds h i j * A.kr j e

/-- The gradient of the queries' columns before their rotation. -/
def dqr (h : Fin 16) (i : Fin 4096) : Fin 64 → EReal :=
  halves (fun e => A.drq h i (hi e) * A.sin i e + A.drq h i (lo e) * A.cos i e)
    (fun e => A.drq h i (hi e) * A.cos i e + -A.drq h i (lo e) * A.sin i e)

/-- The gradient of the keys' columns without position. -/
def dkn (h : Fin 16) (j : Fin 4096) (d : Fin 128) : EReal := ∑ i, A.ds h i j * A.qn i h d

/-- Each head's part of the rotated keys' gradient. -/
def dkr (h : Fin 16) (j : Fin 4096) (e : Fin 64) : EReal := ∑ i, A.ds h i j * A.rq i h e

/-- The values' gradient. -/
def dv (h : Fin 16) (j : Fin 4096) (d : Fin 128) : EReal := ∑ i, A.ct i h d * A.w h i j

/-- Head `h`'s tables. -/
def tab (h : Fin 16) : Tab where
  scale := A.scale
  q i d := if d < 128 then A.qn (.ofNat 4096 i) h (.ofNat 128 d) else spread (A.rq (.ofNat 4096 i) h) (d - 128)
  k j d := if d < 128 then A.kn (.ofNat 4096 j) h (.ofNat 128 d) else spread (A.kr (.ofNat 4096 j)) (d - 128)
  v j d := A.v (.ofNat 4096 j) h (.ofNat 128 d)
  dO i d := A.ct (.ofNat 4096 i) h (.ofNat 128 d)
  o i d := A.o h (.ofNat 4096 i) (.ofNat 128 d)
  lse i := logSum (.ofNat 4096 i) (A.score h (.ofNat 4096 i))

end Args

/-! ## The zeros add nothing -/

/-- A sum over a block of 128 columns of two spread factors. -/
theorem sum_spread (f g : Fin 64 → EReal) : ∑ e : Fin 128, spread f e * spread g e = ∑ e, f e * g e := by
  have h1 : ∑ e : Fin 128, spread f e * spread g e
      = ((∑ e : Fin 32, spread f e * spread g e + ∑ e : Fin 32, spread f (32 + e) * spread g (32 + e))
        + ∑ e : Fin 32, spread f (64 + e) * spread g (64 + e)) + ∑ e : Fin 32, spread f (96 + e) * spread g (96 + e) := by
    have a := Fin.sum_univ_add (a := 96) (b := 32) fun e : Fin (96 + 32) => spread f e * spread g e
    have b := Fin.sum_univ_add (a := 64) (b := 32) fun e : Fin (64 + 32) => spread f e * spread g e
    have c := Fin.sum_univ_add (a := 32) (b := 32) fun e : Fin (32 + 32) => spread f e * spread g e
    simp only [Fin.val_castAdd, Fin.val_natAdd] at a b c
    exact a.trans (congrArg (· + _) (b.trans (congrArg (· + _) c)))
  have h2 : ∑ e, f e * g e = ∑ e : Fin 32, f (lo e) * g (lo e) + ∑ e : Fin 32, f (hi e) * g (hi e) :=
    Fin.sum_univ_add (a := 32) (b := 32) fun e : Fin (32 + 32) => f e * g e
  have z : ∀ (f : Fin 64 → EReal) (e : Fin 32), spread f e = f (lo e) ∧ spread f (32 + e) = 0 ∧ spread f (64 + e) = f (hi e) ∧ spread f (96 + e) = 0 := by
    intro f e
    unfold spread
    refine ⟨dif_pos e.isLt, ?_, ?_, ?_⟩
    · rw [dif_neg (by omega), if_pos (by omega)]
    · rw [dif_neg (by omega), if_neg (by omega), dif_pos (by omega)]
      congr 2
      exact Fin.ext (by simp)
    · rw [dif_neg (by omega), if_neg (by omega), dif_neg (by omega)]
  rw [h1, h2]
  simp only [(z f _).1, (z f _).2.1, (z f _).2.2.1, (z f _).2.2.2, (z g _).1, (z g _).2.2.1, zero_mul, Finset.sum_const_zero, add_zero]

namespace Args

variable {A : Args}

theorem ofNat_fin {n : ℕ} [NeZero n] (i : Fin n) : Fin.ofNat n i.val = i := Fin.ext (Nat.mod_eq_of_lt i.isLt)

theorem s_eq (h : Fin 16) (i j : Fin 4096) : (A.tab h).s i j = A.score h i j := by
  unfold Tab.s score
  refine congrArg (· * A.scale) ?_
  refine (Fin.sum_univ_add (a := 128) (b := 128) _).trans ?_
  refine congrArg₂ (· + ·) (Finset.sum_congr rfl fun d _ => ?_) ((Finset.sum_congr rfl fun e _ => ?_).trans (sum_spread _ _))
  · simp only [tab, Fin.val_castAdd, if_pos d.isLt, ofNat_fin]
  · simp only [tab, Fin.val_natAdd, if_neg (Nat.not_lt.mpr (Nat.le_add_right 128 _)), Nat.add_sub_cancel_left, ofNat_fin]

/-! ## Reals -/

theorem rq_real (hA : A.Real) (i : Fin 4096) (h : Fin 16) (e : Fin 64) : IsReal (A.rq i h e) := by
  unfold rq halves
  split
  · exact ((hA.qr _ _ _).mul (hA.cos _ _)).sub ((hA.qr _ _ _).mul (hA.sin _ _))
  · exact ((hA.qr _ _ _).mul (hA.cos _ _)).add ((hA.qr _ _ _).mul (hA.sin _ _))

theorem score_real (hA : A.Real) (h : Fin 16) (i j : Fin 4096) : IsReal (A.score h i j) :=
  ((IsReal.sum fun d => (hA.qn _ _ _).mul (hA.kn _ _ _)).add (IsReal.sum fun e => (rq_real hA _ _ _).mul (hA.kr _ _))).mul hA.scale

theorem dw_real (hA : A.Real) (h : Fin 16) (i j : Fin 4096) : IsReal (A.dw h i j) :=
  IsReal.sum fun d => (hA.ct _ _ _).mul (hA.v _ _ _)

/-! ## The tables' gradients -/

theorem P_eq (hA : A.Real) (h : Fin 16) (i j : Fin 4096) : (A.tab h).P i j = A.w h i j := by
  unfold Tab.P w
  split
  case isTrue hle =>
    rw [s_eq]
    simp only [tab, ofNat_fin]
    exact exp_logSum (score_real hA h i) hle
  case isFalse hle => exact (wt_later (score_real hA h i) hle).symm

theorem DP_eq (h : Fin 16) (i j : Fin 4096) : (A.tab h).DP i j = A.dw h i j := by
  simp only [Tab.DP, tab, ofNat_fin, dw]

theorem delta_eq (hA : A.Real) (h : Fin 16) (i : Fin 4096) : (A.tab h).delta i = ∑ j, A.w h i j * A.dw h i j := by
  simp only [Tab.delta, tab, ofNat_fin, o, dw]
  exact mean_swap (fun j => wt_real (score_real hA h i) j) (fun a => hA.ct _ _ _) (fun j a => hA.v _ _ _)

theorem DS_eq (hA : A.Real) (h : Fin 16) (i j : Fin 4096) : (A.tab h).DS i j = A.ds h i j := by
  unfold Tab.DS ds
  rw [P_eq hA, DP_eq, delta_eq hA]
  refine congrArg (· * A.scale) ?_
  split
  · exact (grad_score (score_real hA h i) (dw_real hA h i) j).symm
  case isFalse hle => rw [w, wt_later (score_real hA h i) hle, zero_mul]

theorem sum_rows (f : ℕ → EReal) : ∑ i ∈ Ico 0 4096, f i = ∑ i : Fin 4096, f i := by
  rw [Nat.Ico_zero_eq_range, Finset.sum_range]

theorem dq_low (hA : A.Real) (h : Fin 16) (i : Fin 4096) (d : Fin 128) : (A.tab h).dq (Ico 0 4096) i d = A.dqn h i d := by
  unfold Tab.dq dqn
  rw [sum_rows]
  refine Finset.sum_congr rfl fun j _ => ?_
  rw [DS_eq hA]
  simp only [tab, if_pos d.isLt, ofNat_fin]

/-- A sum of products with a spread factor is the sums, spread. -/
theorem sum_mul_spread {n : ℕ} (x : Fin n → EReal) (f : Fin n → Fin 64 → EReal) (e : ℕ) :
    ∑ j, x j * spread (f j) e = spread (fun a => ∑ j, x j * f j a) e := by
  unfold spread
  split
  · rfl
  · split
    · simp only [mul_zero, Finset.sum_const_zero]
    · split
      · rfl
      · simp only [mul_zero, Finset.sum_const_zero]

theorem dq_high (hA : A.Real) (h : Fin 16) (i : Fin 4096) (e : ℕ) : (A.tab h).dq (Ico 0 4096) i (128 + e) = spread (A.drq h i) e := by
  unfold Tab.dq
  rw [sum_rows, show A.drq h i = fun a => ∑ j, A.ds h i j * A.kr j a from rfl, ← sum_mul_spread]
  refine Finset.sum_congr rfl fun j _ => ?_
  rw [DS_eq hA]
  simp only [tab, if_neg (Nat.not_lt.mpr (Nat.le_add_right 128 e)), Nat.add_sub_cancel_left, ofNat_fin]

theorem dk_low (hA : A.Real) (h : Fin 16) (j : Fin 4096) (d : Fin 128) : (A.tab h).dk (Ico 0 4096) j d = A.dkn h j d := by
  unfold Tab.dk dkn
  rw [sum_rows]
  refine Finset.sum_congr rfl fun i _ => ?_
  rw [DS_eq hA]
  simp only [tab, if_pos d.isLt, ofNat_fin]

theorem dk_high (hA : A.Real) (h : Fin 16) (j : Fin 4096) (e : ℕ) : (A.tab h).dk (Ico 0 4096) j (128 + e) = spread (A.dkr h j) e := by
  unfold Tab.dk
  rw [sum_rows, show A.dkr h j = fun a => ∑ i, A.ds h i j * A.rq i h a from rfl, ← sum_mul_spread]
  refine Finset.sum_congr rfl fun i _ => ?_
  rw [DS_eq hA]
  simp only [tab, if_neg (Nat.not_lt.mpr (Nat.le_add_right 128 e)), Nat.add_sub_cancel_left, ofNat_fin]

theorem dv_eq (hA : A.Real) (h : Fin 16) (j : Fin 4096) (d : Fin 128) : (A.tab h).dv (Ico 0 4096) j d = A.dv h j d := by
  unfold Tab.dv dv
  rw [sum_rows]
  refine Finset.sum_congr rfl fun i _ => ?_
  rw [P_eq hA, mul_comm]
  simp only [tab, ofNat_fin]

end Args

end Cert.Attn
-- ==== Proof.Words.lean ====
/-
  Words that the programs' lines read: the causal mask's comparison of two positions, and the constants.
-/
module

public import Idealize.ShloMosaic.Lib.Pipeline.ValueKit
public import Idealize.ShloMosaic.Lib.WordCmp
public import Idealize.ShloMosaic.PureOps.Ideal.Laws
public import proofs.«01_k».proof.Proof.Softmax

@[expose] public section

noncomputable section

namespace Cert.Attn

open Idealize.ShloMosaic

/-- The causal mask chooses by the order of the positions. -/
theorem causal {α : Type} (i j : Fin 4096) (x y : α) :
    Scalar.select (IntOp.cmpi .sle (BitVec.ofNat 32 j.val) (BitVec.ofNat 32 i.val)) x y = if j ≤ i then x else y := by
  rw [WordCmp.cmpi_sle_ofNat (w := 32) (by omega) (by omega)]
  by_cases h : j ≤ i
  · simp [Scalar.select, h]
  · simp [Scalar.select, h]

/-- The word of −∞. -/
theorem negInf : Ideal.ofBits .f32 0xFF800000#32 = ⊥ := by simp [Ideal.ofBits, Ideal.ieee]

/-- The word of zero. -/
theorem zeroWord : Ideal.ofBits .f32 0x00000000#32 = 0 := by simp [Ideal.ofBits, Ideal.ieee]

/-- The word of +∞. -/
theorem posInf : Ideal.ofBits .f32 0x7F800000#32 = ⊤ := by simp [Ideal.ofBits, Ideal.ieee]

/-- The word of the scores' scale is a real. -/
theorem scale_real : IsReal (Ideal.ofBits .f32 0x3D93CD3A#32) := by
  have h : Ideal.ofBits .f32 0x3D93CD3A#32 = ((9686330 : ℝ) : EReal) * (((2 ^ 27)⁻¹ : ℝ) : EReal) := by simp [Ideal.ofBits, Ideal.ieee]
  rw [h]
  exact IsReal.mul ⟨_, rfl⟩ ⟨_, rfl⟩

end Cert.Attn
-- ==== Proof.Host.lean ====
/-
  What the operations before the kernel leave in its operands, at the extended reals: the tables of each head, over the
  arguments.
-/
module

public import proofs.«01_k».proof.Proof.Launched
public import proofs.«01_k».proof.Proof.Heads
public import proofs.«01_k».proof.Proof.Words
public import Idealize.ShloMosaic.Lib.StableHlo.RunRead

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Cert.Attn

variable (m : (ℓ : Loc nD τ sig) → Buf (Elt Ideal) ℓ)

/-- An argument as launched. -/
abbrev arg (c : Dev nD) (b : Ref sig .tc) := m (c, Proc.tc.devRef b)

/-- The attention's operands, in the arguments. -/
def args (c : Dev nD) : Args where
  scale := scaleLit
  qn i h d := (arg m c main_arg0 : FVec Ideal S4096x16x128 .f32) (ix3 i h d)
  qr i h d := (arg m c main_arg1 : FVec Ideal S4096x16x64 .f32) (ix3 i h d)
  kn i h d := (arg m c main_arg2 : FVec Ideal S4096x16x128 .f32) (ix3 i h d)
  kr i d := (arg m c main_arg3 : FVec Ideal S4096x64 .f32) (ix2 i d)
  v i h d := (arg m c main_arg4 : FVec Ideal S4096x16x128 .f32) (ix3 i h d)
  cos i d := (arg m c main_arg5 : FVec Ideal S4096x32 .f32) (ix2 i d)
  sin i d := (arg m c main_arg6 : FVec Ideal S4096x32 .f32) (ix2 i d)
  ct i h d := (arg m c main_arg7 : FVec Ideal S4096x16x128 .f32) (ix3 i h d)

/-! ## The lines, cut where the kernel's operands share them -/

/-- The scaled, masked scores, of the rotated queries `Q`. -/
def scoresOf (A0 A2 : FVec Ideal S4096x16x128 .f32) (Q : FVec Ideal S4096x16x64 .f32) (A3 : FVec Ideal S4096x64 .f32) : FVec Ideal S16x4096x4096 .f32 :=
  select
    (broadcastInDim S16x4096x4096 ![0, 1, 2] bcast_S1x4096x4096_S16x4096x4096_0_1_2
      (broadcastInDim S1x4096x4096 ![1, 2] bcast_S4096x4096_S1x4096x4096_1_2
        (cmpi .sle
          (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0))))))
    (mulf
      (addf (Host.dotGeneral dot_S4096x16x128_S4096x16x128_S16x4096x4096_2_2_0_0_1_1 none A0 A2)
        (Host.dotGeneral dot_S4096x16x64_S4096x16x64_S16x4096x4096_2_2_0_0_1_1 none Q
          (broadcastInDim S4096x16x64 ![0, 1, 2] bcast_S4096x1x64_S4096x16x64_0_1_2 (broadcastInDim S4096x1x64 ![0, 2] bcast_S4096x64_S4096x1x64_0_2 A3))))
      (broadcastInDim S16x4096x4096 ![] bcast_S_S16x4096x4096 (constant S_ .f32 0x3D93CD3A#32)))
    (broadcastInDim S16x4096x4096 ![] bcast_S_S16x4096x4096 (constant S_ .f32 0xFF800000#32))

theorem scoresOf_at (A0 A2 : FVec Ideal S4096x16x128 .f32) (Q : FVec Ideal S4096x16x64 .f32) (A3 : FVec Ideal S4096x64 .f32)
    (h : Fin 16) (i j : Fin 4096) :
    scoresOf A0 A2 Q A3 (ix3 h i j)
      = masked i (fun j => ((∑ d : Fin 128, (A0 (ix3 i h d) * A2 (ix3 j h d) : EReal) + ∑ d : Fin 64, (Q (ix3 i h d) * A3 (ix2 j d) : EReal)) * scaleLit : EReal)) j := by
  pointwise [scoresOf, masked, scaleLit]
  rw [causal, negInf]

theorem scores_eq (c : Dev nD) :
    V m c main_v30 = scoresOf (arg m c main_arg0) (arg m c main_arg2) (V m c main_v14) (arg m c main_arg3) := by
  dsimp only [V, scoresOf]
  simp only [hostOps0, hostOps0_1, hostOps0_2, List.flatten_cons, List.flatten_nil, List.append_nil, List.cons_append, List.nil_append]
  after_reads_simp
  simp only [StableHlo.TRef.ofBuf_toBuf]
  rfl

theorem v14_at (c : Dev nD) (i : Fin 4096) (h : Fin 16) (d : Fin 64) :
    (V m c main_v14 : FVec Ideal S4096x16x64 .f32) (ix3 i h d) = (args m c).rq i h d := by
  dsimp only [V]
  simp only [hostOps0, hostOps0_1, hostOps0_2, List.flatten_cons, List.flatten_nil, List.append_nil, List.cons_append, List.nil_append]
  after_reads_simp
  pointwise [Args.rq, halves, args]

/-- The shared masked scores are the operands'. -/
theorem v30_at (c : Dev nD) (h : Fin 16) (i j : Fin 4096) :
    (V m c main_v30 : FVec Ideal S16x4096x4096 .f32) (ix3 h i j) = masked i ((args m c).score h i) j := by
  rw [scores_eq, scoresOf_at]
  refine congrArg (fun s => masked i s j) (funext fun j => ?_)
  refine congrArg (· * scaleLit) (congrArg (_ + ·) (Finset.sum_congr rfl fun d _ => ?_))
  exact congrArg (· * _) (v14_at m c i h d)

/-- Each row's greatest score. -/
def topOf (X : FVec Ideal S16x4096x4096 .f32) : FVec Ideal S16x4096 .f32 :=
  Host.reduce FloatOps.maximumf X (constant S_ .f32 0xFF800000#32) reducesTo_S16x4096x4096_S16x4096_d2 h_S_

theorem topOf_at {X : FVec Ideal S16x4096x4096 .f32} {h : Fin 16} {i : Fin 4096} {s : Fin 4096 → EReal}
    (hX : ∀ j, X (ix3 h i j) = masked i s j) : topOf X (ix2 h i) = top i s := by
  pointwise [topOf, top]
  simp only [hX, negInf]

/-- The exponentials of the scores' distances from `M`. -/
def exOf (X : FVec Ideal S16x4096x4096 .f32) (M : FVec Ideal S16x4096 .f32) : FVec Ideal S16x4096x4096 .f32 :=
  Host.exp (subf X (broadcastInDim S16x4096x4096 ![0, 1, 2] bcast_S16x4096x1_S16x4096x4096_0_1_2
    (broadcastInDim S16x4096x1 ![0, 1] bcast_S16x4096_S16x4096x1_0_1 M)))

theorem exOf_at {X : FVec Ideal S16x4096x4096 .f32} {M : FVec Ideal S16x4096 .f32} {h : Fin 16} {i : Fin 4096} {s : Fin 4096 → EReal}
    (hX : ∀ j, X (ix3 h i j) = masked i s j) (hM : M (ix2 h i) = top i s) (j : Fin 4096) : exOf X M (ix3 h i j) = ex i s j := by
  pointwise [exOf, ex]
  rw [hX, hM]

/-- Each row's sum. -/
def totOf (E : FVec Ideal S16x4096x4096 .f32) : FVec Ideal S16x4096 .f32 :=
  Host.reduceAdd E (constant S_ .f32 0x00000000#32) reducesTo_S16x4096x4096_S16x4096_d2 h_S_

theorem totOf_at {E : FVec Ideal S16x4096x4096 .f32} {h : Fin 16} {i : Fin 4096} {s : Fin 4096 → EReal}
    (hE : ∀ j, E (ix3 h i j) = ex i s j) : totOf E (ix2 h i) = tot i s := by
  pointwise [totOf, tot]
  simp only [hE]

/-- The logarithm of each row's sum of exponentials. -/
def logOf (M L : FVec Ideal S16x4096 .f32) : FVec Ideal S16x4096x1 .f32 :=
  addf (broadcastInDim S16x4096x1 ![0, 1] bcast_S16x4096_S16x4096x1_0_1 M)
    (Host.log (broadcastInDim S16x4096x1 ![0, 1] bcast_S16x4096_S16x4096x1_0_1 L))

theorem logOf_at {M L : FVec Ideal S16x4096 .f32} {h : Fin 16} {i : Fin 4096} {s : Fin 4096 → EReal}
    (hM : M (ix2 h i) = top i s) (hL : L (ix2 h i) = tot i s) : logOf M L (ix3 h i 0) = logSum i s := by
  pointwise [logOf, logSum]
  rw [hM, hL]

theorem v43_of (c : Dev nD) (X : FVec Ideal S16x4096x4096 .f32) :
    V m c main_v30 = X → V m c main_v43 = logOf (topOf X) (totOf (exOf X (topOf X))) := by
  dsimp only [V]
  simp only [hostOps0, hostOps0_1, hostOps0_2, List.flatten_cons, List.flatten_nil, List.append_nil, List.cons_append, List.nil_append]
  after_reads_simp
  intro h
  rw [h]
  rfl

theorem v43_at (c : Dev nD) (h : Fin 16) (i : Fin 4096) :
    (V m c main_v43 : FVec Ideal S16x4096x1 .f32) (ix3 h i 0) = logSum i ((args m c).score h i) := by
  have hX := v30_at m c h i
  rw [v43_of m c _ rfl]
  exact logOf_at (topOf_at hX) (totOf_at (exOf_at hX (topOf_at hX)))

/-- The attention's output, of the exponentials and their sums. -/
def outOf (E : FVec Ideal S16x4096x4096 .f32) (L : FVec Ideal S16x4096 .f32) (A : FVec Ideal S4096x16x128 .f32) : FVec Ideal S4096x16x128 .f32 :=
  transpose S4096x16x128 [2, 0, 1]
    (Host.dotGeneral dot_S4096x16x128_S16x4096x4096_S16x128x4096_0_2_2_1_1_0 none A
      (Host.divf E (broadcastInDim S16x4096x4096 ![0, 1, 2] bcast_S16x4096x1_S16x4096x4096_0_1_2
        (broadcastInDim S16x4096x1 ![0, 1] bcast_S16x4096_S16x4096x1_0_1 L))))
    transposes_S16x128x4096_S4096x16x128_2_0_1

theorem outOf_at {E : FVec Ideal S16x4096x4096 .f32} {L : FVec Ideal S16x4096 .f32} (A : FVec Ideal S4096x16x128 .f32) {h : Fin 16} {i : Fin 4096}
    {s : Fin 4096 → EReal} (hE : ∀ j, E (ix3 h i j) = ex i s j) (hL : L (ix2 h i) = tot i s) (d : Fin 128) :
    outOf E L A (ix3 i h d) = (∑ j, A (ix3 j h d) * wt i s j : EReal) := by
  pointwise [outOf, wt]
  simp only [hE, hL]

theorem v41_of (c : Dev nD) (X : FVec Ideal S16x4096x4096 .f32) :
    V m c main_v30 = X → V m c main_v41 = outOf (exOf X (topOf X)) (totOf (exOf X (topOf X))) (arg m c main_arg4) := by
  dsimp only [V]
  simp only [hostOps0, hostOps0_1, hostOps0_2, List.flatten_cons, List.flatten_nil, List.append_nil, List.cons_append, List.nil_append]
  after_reads_simp
  intro h
  rw [h]
  rfl

theorem v69_of (c : Dev nD) (X : FVec Ideal S4096x16x128 .f32) : V m c main_v41 = X →
    V m c main_v69 = truncf (F := Ideal) .bf16 (shapeCast S4096x2048 X shapeCasts_S4096x16x128_S4096x2048) bitsLt_bf16_f32 := by
  dsimp only [V]
  simp only [hostOps0, hostOps0_1, hostOps0_2, List.flatten_cons, List.flatten_nil, List.append_nil, List.cons_append, List.nil_append]
  after_reads_simp
  intro h
  rw [h]
  rfl

/-- Columns as heads and columns within one. -/
theorem v69_at (c : Dev nD) (i : Fin 4096) (y : Fin 2048) :
    (V m c main_v69 : FVec Ideal S4096x2048 .bf16) (ix2 i y) = (args m c).o ⟨y / 128, by omega⟩ i ⟨y % 128, by omega⟩ := by
  rw [v69_of m c _ rfl]
  pointwise
  rw [v41_of m c _ rfl]
  have hX := v30_at m c ⟨y / 128, by omega⟩ i
  exact outOf_at _ (exOf_at hX (topOf_at hX)) (totOf_at (exOf_at hX (topOf_at hX))) _

theorem v67_at (c : Dev nD) (i : Fin 4096) (y : Fin 2048) :
    (V m c main_v67 : FVec Ideal S4096x2048 .bf16) (ix2 i y) = (args m c).ct i ⟨y / 128, by omega⟩ ⟨y % 128, by omega⟩ := by
  dsimp only [V]
  simp only [hostOps0, hostOps0_1, hostOps0_2, List.flatten_cons, List.flatten_nil, List.append_nil, List.cons_append, List.nil_append]
  after_reads_simp
  pointwise [args]

/-! ## The rotation's tables, and columns spread -/

theorem cosT_at (c : Dev nD) (i : Fin 4096) (e : Fin 128) :
    cosT m c (ix2 i e) = if h : e.val < 32 then (args m c).cos i ⟨e, h⟩ else if h1 : e.val - 32 < 32 then 1
      else if h2 : e.val - 32 - 32 < 32 then (args m c).cos i ⟨e - 32 - 32, h2⟩ else (1 : EReal) := by
  dsimp only [cosT]
  dsimp only [V]
  simp only [hostOps0, hostOps0_1, hostOps0_2, List.flatten_cons, List.flatten_nil, List.append_nil, List.cons_append, List.nil_append]
  after_reads_simp
  pointwise
  after_reads_simp
  pointwise [args]

theorem sinT_at (c : Dev nD) (i : Fin 4096) (e : Fin 128) :
    sinT m c (ix2 i e) = if h : e.val < 32 then -(args m c).sin i ⟨e, h⟩ else if h1 : e.val - 32 < 32 then 0
      else if h2 : e.val - 32 - 32 < 32 then (args m c).sin i ⟨e - 32 - 32, h2⟩ else (0 : EReal) := by
  dsimp only [sinT]
  dsimp only [V]
  simp only [hostOps0, hostOps0_1, hostOps0_2, List.flatten_cons, List.flatten_nil, List.append_nil, List.cons_append, List.nil_append]
  after_reads_simp
  pointwise
  after_reads_simp
  pointwise [args]

/-- A spread function, case by case. -/
theorem spread_eq (f : Fin 64 → EReal) (e : Fin 128) :
    spread f e = if h : e.val < 32 then f ⟨e, by omega⟩ else if h1 : e.val - 32 < 32 then 0
      else if h2 : e.val - 32 - 32 < 32 then f ⟨32 + (e - 32 - 32), by omega⟩ else 0 := by
  unfold spread
  by_cases h : e.val < 32
  · rw [dif_pos h, dif_pos h]
  · rw [dif_neg h, dif_neg h]
    by_cases h1 : e.val < 64
    · rw [if_pos h1, dif_pos (by omega)]
    · rw [if_neg h1, dif_neg (show ¬ e.val - 32 < 32 by omega)]
      by_cases h2 : e.val - 64 < 32
      · rw [dif_pos h2, dif_pos (show e.val - 32 - 32 < 32 by omega)]
        exact congrArg f (Fin.ext (by simp only; omega))
      · rw [dif_neg h2, dif_neg (show ¬ e.val - 32 - 32 < 32 by omega)]

theorem v60_at (c : Dev nD) (i : Fin 4096) (e : Fin 128) :
    (V m c main_v60 : FVec Ideal S4096x128 .bf16) (ix2 i e) = spread ((args m c).kr i) e := by
  dsimp only [V]
  simp only [hostOps0, hostOps0_1, hostOps0_2, List.flatten_cons, List.flatten_nil, List.append_nil, List.cons_append, List.nil_append]
  after_reads_simp
  pointwise
  after_reads_simp
  pointwise [args]
  rw [spread_eq]

/-! ## The operands' columns -/

/-- Heads and their columns laid in one row. -/
theorem flat_at (X : FVec Ideal S4096x16x128 .f32) (i : Fin 4096) (h : Fin 16) (d : Fin 128) (y : Fin 2048) (hy : y.val = 128 * h + d) :
    shapeCast S4096x2048 X shapeCasts_S4096x16x128_S4096x2048 (ix2 i y) = (X (ix3 i h d) : EReal) := by
  pointwise
  congr 2 <;> exact Fin.ext (by simp only; omega)

theorem v55_low (c : Dev nD) (i : Fin 4096) (h : Fin 16) (d : Fin 128) :
    (V m c main_v55 : FVec Ideal S4096x4096 .bf16) (ix2 i ⟨128 * h + d, by omega⟩) = (args m c).kn i h d := by
  dsimp only [V]
  simp only [hostOps0, hostOps0_1, hostOps0_2, List.flatten_cons, List.flatten_nil, List.append_nil, List.cons_append, List.nil_append]
  after_reads_simp
  pointwise
  refine (dif_pos (by omega)).trans ?_
  after_reads_simp
  exact flat_at _ i h d _ rfl

theorem v55_high (c : Dev nD) (i : Fin 4096) (h : Fin 16) (d : Fin 128) :
    (V m c main_v55 : FVec Ideal S4096x4096 .bf16) (ix2 i ⟨128 * (16 + h) + d, by omega⟩) = (args m c).v i h d := by
  dsimp only [V]
  simp only [hostOps0, hostOps0_1, hostOps0_2, List.flatten_cons, List.flatten_nil, List.append_nil, List.cons_append, List.nil_append]
  after_reads_simp
  pointwise
  refine (dif_neg (by omega)).trans ?_
  after_reads_simp
  exact flat_at _ i h d _ (by simp only; omega)

theorem v51_low (c : Dev nD) (i : Fin 4096) (h : Fin 16) (d : Fin 128) :
    (V m c main_v51 : FVec Ideal S4096x4096 .bf16) (ix2 i ⟨128 * h + d, by omega⟩) = (args m c).qn i h d := by
  dsimp only [V]
  simp only [hostOps0, hostOps0_1, hostOps0_2, List.flatten_cons, List.flatten_nil, List.append_nil, List.cons_append, List.nil_append]
  after_reads_simp
  pointwise
  refine (dif_pos (by omega)).trans ?_
  after_reads_simp
  exact flat_at _ i h d _ rfl

theorem v51_high_of (c : Dev nD) (X : FVec Ideal S4096x16x128 .f32) : V m c main_v48 = X → ∀ (i : Fin 4096) (h : Fin 16) (d : Fin 128),
    (V m c main_v51 : FVec Ideal S4096x4096 .bf16) (ix2 i ⟨128 * (16 + h) + d, by omega⟩) = (X (ix3 i h d) : EReal) := by
  dsimp only [V]
  simp only [hostOps0, hostOps0_1, hostOps0_2, List.flatten_cons, List.flatten_nil, List.append_nil, List.cons_append, List.nil_append]
  after_reads_simp
  intro hX i h d
  pointwise
  refine (dif_neg (by omega)).trans ?_
  after_reads_simp
  subst hX
  exact flat_at _ i h d _ (by simp only; omega)

theorem v48_of (c : Dev nD) (X : FVec Ideal S4096x16x64 .f32) : V m c main_v14 = X → ∀ (i : Fin 4096) (h : Fin 16) (e : Fin 128),
    (V m c main_v48 : FVec Ideal S4096x16x128 .f32) (ix3 i h e) = spread (fun e => (X (ix3 i h e) : EReal)) e := by
  dsimp only [V]
  simp only [hostOps0, hostOps0_1, hostOps0_2, List.flatten_cons, List.flatten_nil, List.append_nil, List.cons_append, List.nil_append]
  after_reads_simp
  intro hX i h e
  pointwise
  after_reads_simp
  subst hX
  rw [spread_eq]
  pointwise

theorem v51_high (c : Dev nD) (i : Fin 4096) (h : Fin 16) (d : Fin 128) :
    (V m c main_v51 : FVec Ideal S4096x4096 .bf16) (ix2 i ⟨128 * (16 + h) + d, by omega⟩) = spread ((args m c).rq i h) d := by
  rw [v51_high_of m c _ rfl, v48_of m c _ rfl]
  exact congrArg (spread · d) (funext fun e => v14_at m c i h e)

end Cert.KernelIdeal.Val
-- ==== Proof.Finite.lean ====
/-
  The precondition read back: every argument is real.
-/
module

public import proofs.«01_k».proof.Defs
public import proofs.«01_k».proof.Proof.Gen.Pre_finite
public import proofs.«01_k».proof.Proof.Host
public import Idealize.ShloMosaic.Lib.ReduceAll

@[expose] public section

noncomputable section

namespace Cert.Pre_finite

open Idealize.ShloMosaic Idealize.ShloMosaic.Tactic
open Cert.Attn

/-- Whether every element of an array lies strictly between −∞ and +∞. -/
def between {s : Shape} {axes : List (Fin s.rank)} (x : FVec Ideal s .f32) (b : S_.BroadcastsInDim s (![] : Fin 0 → Fin s.rank)) (r : s.ReducesTo axes S_) : IVec S_ 1 :=
  Host.reduce IntOp.andi
    (andi (cmpf .ogt x (broadcastInDim s ![] b (constant S_ .f32 0xFF800000#32))) (cmpf .olt x (broadcastInDim s ![] b (constant S_ .f32 0x7F800000#32))))
    (constantI S_ 1 1#1) r Gen.h_S_

theorem between_real {s : Shape} {axes : List (Fin s.rank)} {x : FVec Ideal s .f32} {b : S_.BroadcastsInDim s (![] : Fin 0 → Fin s.rank)} {r : s.ReducesTo axes S_}
    (h : between x b r ix0 = 1#1) (i : s.Idx) : IsReal (x i) := by
  haveI : Subsingleton S_.Idx := ⟨fun a b => funext fun k => k.elim0⟩
  obtain ⟨h1, h2⟩ := IntOp.andi_eq_one.1 (Host.reduce_andi_all _ _ r Gen.h_S_ ix0 h i)
  have e1 : Ideal.cmp .ogt (x i) (Ideal.ofBits .f32 0xFF800000#32) = 1#1 := h1
  have e2 : Ideal.cmp .olt (x i) (Ideal.ofBits .f32 0x7F800000#32) = 1#1 := h2
  rw [negInf] at e1
  rw [posInf] at e2
  refine isReal_of (fun hb => ?_) (fun ht => ?_)
  · rw [hb] at e1; simp [Ideal.cmp] at e1
  · rw [ht] at e2; simp [Ideal.cmp] at e2

/-- The precondition is the conjunction of the eight. -/
theorem fn_eq (x0 : FVec Ideal S4096x16x128 .f32) (x1 : FVec Ideal S4096x16x64 .f32) (x2 : FVec Ideal S4096x16x128 .f32)
    (x3 : FVec Ideal S4096x64 .f32) (x4 : FVec Ideal S4096x16x128 .f32) (x5 x6 : FVec Ideal S4096x32 .f32) (x7 : FVec Ideal S4096x16x128 .f32) :
    fn (F := Ideal) x0 x1 x2 x3 x4 x5 x6 x7
      = andi (andi (andi (andi (andi (andi (andi
          (between x0 Gen.bcast_S_S4096x16x128 Gen.reducesTo_S4096x16x128_S_d0_1_2) (between x1 Gen.bcast_S_S4096x16x64 Gen.reducesTo_S4096x16x64_S_d0_1_2))
          (between x2 Gen.bcast_S_S4096x16x128 Gen.reducesTo_S4096x16x128_S_d0_1_2)) (between x3 Gen.bcast_S_S4096x64 Gen.reducesTo_S4096x64_S_d0_1))
          (between x4 Gen.bcast_S_S4096x16x128 Gen.reducesTo_S4096x16x128_S_d0_1_2)) (between x5 Gen.bcast_S_S4096x32 Gen.reducesTo_S4096x32_S_d0_1))
          (between x6 Gen.bcast_S_S4096x32 Gen.reducesTo_S4096x32_S_d0_1)) (between x7 Gen.bcast_S_S4096x16x128 Gen.reducesTo_S4096x16x128_S_d0_1_2) := rfl

/-- The arguments that meet the precondition are real. -/
theorem real {m : (ℓ : Loc Cert.KernelIdeal.nD Cert.KernelIdeal.τ Cert.KernelIdeal.sig) → Buf (Elt Ideal) ℓ} (h : Cert.Pre_KernelIdeal_finite m)
    (c : Dev Cert.KernelIdeal.nD) : (Cert.KernelIdeal.Val.args m c).Real := by
  have e := congrFun ((fn_eq _ _ _ _ _ _ _ _).symm.trans (h c)) ix0
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨scale_real, fun i h d => between_real h0 (ix3 i h d), fun i h d => between_real h1 (ix3 i h d), fun i h d => between_real h2 (ix3 i h d),
    fun i d => between_real h3 (ix2 i d), fun i h d => between_real h4 (ix3 i h d), fun i d => between_real h5 (ix2 i d),
    fun i d => between_real h6 (ix2 i d), fun i h d => between_real h7 (ix3 i h d)⟩

end Cert.Pre_finite

end
-- ==== Proof.Grads.lean ====
/-
  The kernel's results, over the arguments: with real arguments, the plain gradients of every head's attention.
-/
module

public import proofs.«01_k».proof.Proof.Host

@[expose] public section

set_option maxRecDepth 16384

noncomputable section

namespace Cert.Attn

open Idealize.ShloMosaic
open Finset (Ico)

namespace Tab

/-- Two heads' tables agree in the columns that the gradients read. -/
structure Agree (T U : Tab) : Prop where
  scale : T.scale = U.scale
  q : ∀ i d, d < 256 → T.q i d = U.q i d
  k : ∀ i d, d < 256 → T.k i d = U.k i d
  v : ∀ i (d : Fin 128), T.v i d = U.v i d
  dO : ∀ i (d : Fin 128), T.dO i d = U.dO i d
  o : ∀ i (d : Fin 128), T.o i d = U.o i d
  lse : ∀ i, T.lse i = U.lse i

variable {T U : Tab} (e : Agree T U)
include e

theorem Agree.P (i j : ℕ) : T.P i j = U.P i j := by
  have hs : T.s i j = U.s i j := by
    unfold Tab.s
    rw [e.scale]
    exact congrArg (· * U.scale) (Finset.sum_congr rfl fun d _ => by rw [e.q i d d.isLt, e.k j d d.isLt])
  unfold Tab.P
  rw [hs, e.lse]

theorem Agree.DS (i j : ℕ) : T.DS i j = U.DS i j := by
  unfold Tab.DS Tab.DP Tab.delta
  simp only [e.P, e.scale, e.v, e.dO, e.o]

theorem Agree.dq (S : Finset ℕ) (i d : ℕ) (hd : d < 256) : T.dq S i d = U.dq S i d :=
  Finset.sum_congr rfl fun j _ => by rw [e.DS, e.k j d hd]

theorem Agree.dk (S : Finset ℕ) (j d : ℕ) (hd : d < 256) : T.dk S j d = U.dk S j d :=
  Finset.sum_congr rfl fun i _ => by rw [e.DS, e.q i d hd]

theorem Agree.dv (S : Finset ℕ) (j : ℕ) (d : Fin 128) : T.dv S j d = U.dv S j d :=
  Finset.sum_congr rfl fun i _ => by rw [e.P, e.dO i d]

end Tab

end Cert.Attn

namespace Cert.KernelIdeal.Val

open Cert.KernelIdeal Cert.KernelIdeal.Gen
open Idealize.ShloMosaic Idealize.ShloMosaic.TcCoe Idealize.ShloMosaic.Tactic
open Idealize.SL.Sem
open Cert.Attn
open Cert.Attn.Args (ofNat_fin)
open Finset (Ico)

variable (m : (ℓ : Loc nD τ sig) → Buf (Elt Ideal) ℓ)

/-- A number below the bound as an index. -/
theorem ofNat_lt {n k : ℕ} [NeZero n] (h : k < n) : Fin.ofNat n k = ⟨k, h⟩ := Fin.ext (Nat.mod_eq_of_lt h)

/-- The call's operands hold the tables of the arguments. -/
theorem tab_agree (c : Dev nD) (h : Fin 16) : Tab.Agree (tab m c h) ((args m c).tab h) where
  scale := rfl
  q i d hd := by
    simp only [tab, tabOf, Args.tab]
    split
    case isTrue hl =>
      rw [ofNat_lt (show 128 * h.val + d < 4096 by omega), ofNat_lt hl]
      exact v51_low m c (.ofNat 4096 i) h ⟨d, hl⟩
    case isFalse hl =>
      rw [ofNat_lt (show 128 * (16 + h.val) + (d - 128) < 4096 by omega)]
      exact v51_high m c (.ofNat 4096 i) h ⟨d - 128, by omega⟩
  k i d hd := by
    simp only [tab, tabOf, Args.tab]
    split
    case isTrue hl =>
      rw [ofNat_lt (show 128 * h.val + d < 4096 by omega), ofNat_lt hl]
      exact v55_low m c (.ofNat 4096 i) h ⟨d, hl⟩
    case isFalse hl =>
      rw [ofNat_lt (show d - 128 < 128 by omega)]
      exact v60_at m c (.ofNat 4096 i) ⟨d - 128, by omega⟩
  v i d := by
    simp only [tab, tabOf, Args.tab, ofNat_fin]
    rw [ofNat_lt (show 128 * (16 + h.val) + d.val < 4096 by omega)]
    exact v55_high m c (.ofNat 4096 i) h d
  dO i d := by
    simp only [tab, tabOf, Args.tab, ofNat_fin]
    rw [ofNat_lt (show 128 * h.val + d.val < 2048 by omega), v67_at]
    exact congrArg₂ ((args m c).ct (.ofNat 4096 i)) (Fin.ext (by simp only; omega)) (Fin.ext (by simp only; omega))
  o i d := by
    simp only [tab, tabOf, Args.tab, ofNat_fin]
    rw [ofNat_lt (show 128 * h.val + d.val < 2048 by omega), v69_at]
    exact congrArg₂ ((args m c).o · (.ofNat 4096 i)) (Fin.ext (by simp only; omega)) (Fin.ext (by simp only; omega))
  lse i := by
    simp only [tab, tabOf, Args.tab, ofNat_fin]
    exact v43_at m c h (.ofNat 4096 i)

/-- A column's head. -/
abbrev headOf (y : Fin 2048) : Fin 16 := ⟨y / 128, by omega⟩

/-- A column within its head. -/
abbrev colOf (y : Fin 2048) : Fin 128 := ⟨y % 128, by omega⟩

variable {m}

theorem gradQn_at {c : Dev nD} (hA : (args m c).Real) (i : Fin 4096) (y : Fin 2048) :
    gradQn m c (ix2 i y) = (args m c).dqn (headOf y) i (colOf y) :=
  ((tab_agree m c (headOf y)).dq _ _ _ (by omega)).trans (Args.dq_low hA (headOf y) i (colOf y))

theorem gradKn_at {c : Dev nD} (hA : (args m c).Real) (i : Fin 4096) (y : Fin 2048) :
    gradKn m c (ix2 i y) = (args m c).dkn (headOf y) i (colOf y) :=
  ((tab_agree m c (headOf y)).dk _ _ _ (by omega)).trans (Args.dk_low hA (headOf y) i (colOf y))

theorem gradKr_at {c : Dev nD} (hA : (args m c).Real) (i : Fin 4096) (y : Fin 2048) :
    gradKr m c (ix2 i y) = spread ((args m c).dkr (headOf y) i) (colOf y) :=
  ((tab_agree m c (headOf y)).dk _ _ _ (by omega)).trans (Args.dk_high hA (headOf y) i (colOf y))

theorem gradV_at {c : Dev nD} (hA : (args m c).Real) (i : Fin 4096) (y : Fin 2048) :
    gradV m c (ix2 i y) = (args m c).dv (headOf y) i (colOf y) :=
  ((tab_agree m c (headOf y)).dv _ _ (colOf y)).trans (Args.dv_eq hA (headOf y) i (colOf y))

/-- Rotating back a spread gradient spreads the plain one. -/
theorem unrot_spread (c : Dev nD) (h : Fin 16) {x : Fin 4096 → ℕ → EReal} (hx : ∀ i e, e < 128 → x i (128 + e) = spread ((args m c).drq h i) e)
    (i : Fin 4096) (e : Fin 128) : unrot x (cosT m c) (sinT m c) i e = spread ((args m c).dqr h i) e := by
  unfold unrot
  rw [hx i _ e.isLt, hx i _ (other e).isLt, cosT_at, sinT_at, spread_eq, spread_eq, spread_eq]
  obtain ⟨e, he⟩ := e
  simp only [other]
  by_cases h1 : e < 32
  · have e1 : (e + 64) % 128 = e + 64 := by omega
    simp only [e1, dif_pos h1, dif_neg (show ¬ e + 64 < 32 by omega), dif_neg (show ¬ e + 64 - 32 < 32 by omega),
      dif_pos (show e + 64 - 32 - 32 < 32 by omega)]
    refine (add_comm _ _).trans (Eq.trans ?_ (halves_lo _ _ ⟨e, h1⟩).symm)
    simp only [show e + 64 - 32 - 32 = e by omega]
  by_cases h2 : e < 64
  · have e1 : (e + 64) % 128 = e + 64 := by omega
    simp only [e1, dif_neg h1, dif_pos (show e - 32 < 32 by omega), dif_neg (show ¬ e + 64 < 32 by omega),
      dif_neg (show ¬ e + 64 - 32 < 32 by omega), dif_neg (show ¬ e + 64 - 32 - 32 < 32 by omega), zero_mul, add_zero]
  have e1 : (e + 64) % 128 = e - 64 := by omega
  by_cases h3 : e < 96
  · simp only [e1, dif_neg h1, dif_neg (show ¬ e - 32 < 32 by omega), dif_pos (show e - 32 - 32 < 32 by omega),
      dif_pos (show e - 64 < 32 by omega)]
    refine Eq.trans ?_ (halves_hi _ _ ⟨e - 32 - 32, by omega⟩).symm
    simp only [show e - 32 - 32 = e - 64 by omega, mul_neg, neg_mul]
  · simp only [e1, dif_neg h1, dif_neg (show ¬ e - 32 < 32 by omega), dif_neg (show ¬ e - 32 - 32 < 32 by omega),
      dif_neg (show ¬ e - 64 < 32 by omega), dif_pos (show e - 64 - 32 < 32 by omega), zero_mul, add_zero]

theorem gradQr_at {c : Dev nD} (hA : (args m c).Real) (i : Fin 4096) (y : Fin 2048) :
    gradQr m c (ix2 i y) = spread ((args m c).dqr (headOf y) i) (colOf y) :=
  unrot_spread c (headOf y) (fun i e he => ((tab_agree m c (headOf y)).dq _ _ _ (by omega)).trans (Args.dq_high hA (headOf y) i e)) i (colOf y)

end Cert.KernelIdeal.Val

end
-- ==== Proof.RefSoftmax.lean ====
/-
  The reference at the extended reals: its softmax, read at an index.
-/
module

public import proofs.«01_k».proof.Proof.Gen.ReferenceIdeal.Read
public import proofs.«01_k».proof.Proof.Heads
public import proofs.«01_k».proof.Proof.Words
public import Idealize.ShloMosaic.Lib.Pipeline.ValueKit

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.ShloMosaic.Tactic
open Cert.Attn

/-- The attention's operands, in the arguments. -/
def args (x0 : FVec Ideal S4096x16x128 .f32) (x1 : FVec Ideal S4096x16x64 .f32) (x2 : FVec Ideal S4096x16x128 .f32)
    (x3 : FVec Ideal S4096x64 .f32) (x4 : FVec Ideal S4096x16x128 .f32) (x5 x6 : FVec Ideal S4096x32 .f32)
    (x7 : FVec Ideal S4096x16x128 .f32) : Args where
  scale := Ideal.ofBits .f32 0x3D93CD3A#32
  qn i h d := x0 (ix3 i h d)
  qr i h d := x1 (ix3 i h d)
  kn i h d := x2 (ix3 i h d)
  kr i d := x3 (ix2 i d)
  v i h d := x4 (ix3 i h d)
  cos i d := x5 (ix2 i d)
  sin i d := x6 (ix2 i d)
  ct i h d := x7 (ix3 i h d)

variable (x0 : FVec Ideal S4096x16x128 .f32) (x1 : FVec Ideal S4096x16x64 .f32) (x2 : FVec Ideal S4096x16x128 .f32)
  (x3 : FVec Ideal S4096x64 .f32) (x4 : FVec Ideal S4096x16x128 .f32) (x5 x6 : FVec Ideal S4096x32 .f32)
  (x7 : FVec Ideal S4096x16x128 .f32)

/-! ## The softmax -/

theorem rq_at (i : Fin 4096) (h : Fin 16) (e : Fin 64) :
    val_main_v16 (F := Ideal) x1 x5 x6 (ix3 i h e) = (args x0 x1 x2 x3 x4 x5 x6 x7).rq i h e := by
  pointwise [val_main_v16, val_main_v15, val_main_v14, val_main_v13, val_main_v12, val_main_v11, val_main_v10, val_main_v9, val_main_v8,
    val_main_v7, val_main_v6, val_main_v5, val_main_v4, val_main_v3, val_main_v2, Args.rq, halves, args]

/-- The unscaled scores, of the rotated queries `Q`. -/
theorem raw_at (Q : FVec Ideal S4096x16x64 .f32) (h : Fin 16) (i j : Fin 4096) :
    (addf (val_main_v17 (F := Ideal) x0 x2) (Host.dotGeneral (φ₁ := .f32) (φ₂ := .f32) dot_S4096x16x64_S4096x16x64_S16x4096x4096_2_2_0_0_1_1 none Q
        (val_main_v1 (F := Ideal) x3)) : FVec Ideal S16x4096x4096 .f32) (ix3 h i j)
      = (∑ d : Fin 128, x0 (ix3 i h d) * x2 (ix3 j h d) + ∑ e : Fin 64, Q (ix3 i h e) * x3 (ix2 j e) : EReal) := by
  pointwise [val_main_v17, val_main_v1, val_main_v0]

/-- The causal mask, between two arrays. -/
theorem mask_at (X Y : FVec Ideal S16x4096x4096 .f32) (h : Fin 16) (i j : Fin 4096) :
    select (val_main_v30_1 (F := Ideal)) X Y (ix3 h i j) = if j ≤ i then X (ix3 h i j) else Y (ix3 h i j) := by
  pointwise [val_main_v30_1, val_main_v29, val_main_v28, val_main_v27, val_main_v26, val_main_v25, val_main_v24, val_main_v23, val_main_v22]
  exact causal i j _ _

theorem scale_at (k : S16x4096x4096.Idx) : val_main_v20 (F := Ideal) k = Ideal.ofBits .f32 0x3D93CD3A#32 := rfl

theorem low_at (k : S16x4096x4096.Idx) : val_main_call0_v2 (F := Ideal) k = (⊥ : EReal) := negInf

theorem score_at (h : Fin 16) (i j : Fin 4096) :
    val_main_v30_0 (F := Ideal) x0 x1 x2 x3 x5 x6 (ix3 h i j) = masked i ((args x0 x1 x2 x3 x4 x5 x6 x7).score h i) j := by
  have e : val_main_v21 (F := Ideal) x0 x1 x2 x3 x5 x6 (ix3 h i j) = (args x0 x1 x2 x3 x4 x5 x6 x7).score h i j := by
    refine (congrArg₂ (fun a b : EReal => a * b) (raw_at x0 x2 x3 (val_main_v16 (F := Ideal) x1 x5 x6) h i j) (scale_at _)).trans ?_
    exact congrArg (fun s : EReal => (_ + s) * _) (Finset.sum_congr rfl fun d _ => congrArg (fun q : EReal => q * _) (rq_at x0 x1 x2 x3 x4 x5 x6 x7 i h d))
  refine (mask_at _ _ h i j).trans ?_
  rw [e, low_at]
  rfl

theorem max_at (h : Fin 16) (i : Fin 4096) :
    val_main_v31 (F := Ideal) x0 x1 x2 x3 x5 x6 (ix2 h i) = top i ((args x0 x1 x2 x3 x4 x5 x6 x7).score h i) := by
  have hs := score_at x0 x1 x2 x3 x4 x5 x6 x7 h i
  unfold val_main_v31
  revert hs
  generalize val_main_v30_0 (F := Ideal) x0 x1 x2 x3 x5 x6 = S
  intro hs
  pointwise [val_main_cst_1, top]
  simp only [hs, negInf]

theorem top_at (h : Fin 16) (i : Fin 4096) :
    val_main_v38 (F := Ideal) x0 x1 x2 x3 x5 x6 (ix2 h i) = top i ((args x0 x1 x2 x3 x4 x5 x6 x7).score h i) := by
  have hm := max_at x0 x1 x2 x3 x4 x5 x6 x7 h i
  have hl : val_main_v37 (F := Ideal) (ix2 h i) = (⊥ : EReal) := negInf
  rw [val_main_v38_apply, hm, hl]
  generalize top i _ = t
  exact bot_sup_eq t

theorem ex_at (h : Fin 16) (i j : Fin 4096) :
    val_main_v51 (F := Ideal) x0 x1 x2 x3 x5 x6 (ix3 h i j) = ex i ((args x0 x1 x2 x3 x4 x5 x6 x7).score h i) j := by
  have hs := score_at x0 x1 x2 x3 x4 x5 x6 x7 h i j
  have ht := top_at x0 x1 x2 x3 x4 x5 x6 x7 h i
  unfold val_main_v51 val_main_v50 val_main_v49 val_main_v48
  revert hs ht
  generalize val_main_v38 (F := Ideal) x0 x1 x2 x3 x5 x6 = M
  generalize val_main_v30_0 (F := Ideal) x0 x1 x2 x3 x5 x6 = S
  intro hs ht
  pointwise [ex]
  rw [hs, ht]

theorem tot_at (h : Fin 16) (i : Fin 4096) :
    val_main_v52 (F := Ideal) x0 x1 x2 x3 x5 x6 (ix2 h i) = tot i ((args x0 x1 x2 x3 x4 x5 x6 x7).score h i) := by
  have hs := ex_at x0 x1 x2 x3 x4 x5 x6 x7 h i
  unfold val_main_v52
  revert hs
  generalize val_main_v51 (F := Ideal) x0 x1 x2 x3 x5 x6 = S
  intro hs
  pointwise [val_main_cst_9, tot]
  simp only [hs]

theorem w_at (h : Fin 16) (i j : Fin 4096) :
    val_main_v55 (F := Ideal) x0 x1 x2 x3 x5 x6 (ix3 h i j) = (args x0 x1 x2 x3 x4 x5 x6 x7).w h i j := by
  have hs := ex_at x0 x1 x2 x3 x4 x5 x6 x7 h i j
  have ht := tot_at x0 x1 x2 x3 x4 x5 x6 x7 h i
  unfold val_main_v55 val_main_v54 val_main_v53
  revert hs ht
  generalize val_main_v52 (F := Ideal) x0 x1 x2 x3 x5 x6 = T
  generalize val_main_v51 (F := Ideal) x0 x1 x2 x3 x5 x6 = S
  intro hs ht
  pointwise [Args.w, wt]
  rw [hs, ht]

end Cert.ReferenceIdeal.Val

end
-- ==== Proof.Ref.lean ====
/-
  The reference at the extended reals: its results, read at an index, are the plain gradients of every head's attention.
-/
module

public import proofs.«01_k».proof.Proof.Gen.ReferenceIdeal.Read
public import proofs.«01_k».proof.Proof.Heads
public import proofs.«01_k».proof.Proof.Words
public import proofs.«01_k».proof.Proof.RefSoftmax
public import Idealize.ShloMosaic.Lib.Pipeline.ValueKit

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.ShloMosaic.Tactic
open Cert.Attn

variable (x0 : FVec Ideal S4096x16x128 .f32) (x1 : FVec Ideal S4096x16x64 .f32) (x2 : FVec Ideal S4096x16x128 .f32)
  (x3 : FVec Ideal S4096x64 .f32) (x4 : FVec Ideal S4096x16x128 .f32) (x5 x6 : FVec Ideal S4096x32 .f32)
  (x7 : FVec Ideal S4096x16x128 .f32)

/-! ## The scores' gradient -/

theorem dw_at (h : Fin 16) (i j : Fin 4096) :
    val_main_v62 (F := Ideal) x4 x7 (ix3 h i j) = (args x0 x1 x2 x3 x4 x5 x6 x7).dw h i j := by
  pointwise [val_main_v62, val_main_v61, Args.dw, args]

/-- The second term of a row: minus the sum over its keys. -/
theorem row_at (h : Fin 16) (i : Fin 4096) :
    val_main_v73 (F := Ideal) x0 x1 x2 x3 x4 x5 x6 x7 (ix2 h i)
      = -(∑ k, (args x0 x1 x2 x3 x4 x5 x6 x7).dw h i k
          * Ideal.div 1 (tot i ((args x0 x1 x2 x3 x4 x5 x6 x7).score h i) * tot i ((args x0 x1 x2 x3 x4 x5 x6 x7).score h i))
          * ex i ((args x0 x1 x2 x3 x4 x5 x6 x7).score h i) k : EReal) := by
  have hs := ex_at x0 x1 x2 x3 x4 x5 x6 x7 h i
  have ht := tot_at x0 x1 x2 x3 x4 x5 x6 x7 h i
  have hd := dw_at x0 x1 x2 x3 x4 x5 x6 x7 h i
  unfold val_main_v73 val_main_v70 val_main_v69 val_main_v68 val_main_v67 val_main_v66 val_main_v65 val_main_v58 val_main_v56 val_main_v53
  revert hs ht hd
  generalize val_main_v62 (F := Ideal) x4 x7 = D
  generalize val_main_v52 (F := Ideal) x0 x1 x2 x3 x5 x6 = T
  generalize val_main_v51 (F := Ideal) x0 x1 x2 x3 x5 x6 = S
  intro hs ht hd
  pointwise [val_main_v57, val_main_cst_10, val_main_cst_11, val_main_cst_12]
  simp only [hs, ht, hd, Fin.sum_univ_one]

theorem none_at (k : S16x4096x4096.Idx) : val_main_call1_v0 (F := Ideal) k = (0 : EReal) := zeroWord

theorem ds_at (h : Fin 16) (i j : Fin 4096) :
    val_main_v79 (F := Ideal) x0 x1 x2 x3 x4 x5 x6 x7 (ix3 h i j) = (args x0 x1 x2 x3 x4 x5 x6 x7).ds h i j := by
  have hs := ex_at x0 x1 x2 x3 x4 x5 x6 x7 h i j
  have ht := tot_at x0 x1 x2 x3 x4 x5 x6 x7 h i
  have hd := dw_at x0 x1 x2 x3 x4 x5 x6 x7 h i j
  have hr := row_at x0 x1 x2 x3 x4 x5 x6 x7 h i
  have e : val_main_v76 (F := Ideal) x0 x1 x2 x3 x4 x5 x6 x7 (ix3 h i j)
      = ((Ideal.div (val_main_v62 (F := Ideal) x4 x7 (ix3 h i j)) (val_main_v52 (F := Ideal) x0 x1 x2 x3 x5 x6 (ix2 h i))
          + val_main_v73 (F := Ideal) x0 x1 x2 x3 x4 x5 x6 x7 (ix2 h i)) * val_main_v51 (F := Ideal) x0 x1 x2 x3 x5 x6 (ix3 h i j) : EReal) := by
    unfold val_main_v76 val_main_v75 val_main_v74 val_main_v72 val_main_v71 val_main_v53
    generalize val_main_v73 (F := Ideal) x0 x1 x2 x3 x4 x5 x6 x7 = R
    generalize val_main_v62 (F := Ideal) x4 x7 = D
    generalize val_main_v52 (F := Ideal) x0 x1 x2 x3 x5 x6 = T
    generalize val_main_v51 (F := Ideal) x0 x1 x2 x3 x5 x6 = S
    pointwise
  rw [hs, ht, hd, hr] at e
  refine congrArg₂ (fun a b : EReal => a * b) ((mask_at _ _ h i j).trans ?_) (scale_at _)
  rw [e, none_at]

/-! ## The results -/

theorem dqn_at (i : Fin 4096) (h : Fin 16) (d : Fin 128) :
    val_main_v87 (F := Ideal) x0 x1 x2 x3 x4 x5 x6 x7 (ix3 i h d) = (args x0 x1 x2 x3 x4 x5 x6 x7).dqn h i d := by
  have hs := ds_at x0 x1 x2 x3 x4 x5 x6 x7 h i
  unfold val_main_v87 val_main_v86
  revert hs
  generalize val_main_v79 (F := Ideal) x0 x1 x2 x3 x4 x5 x6 x7 = S
  intro hs
  pointwise [Args.dqn]
  simp only [hs]
  rfl

theorem dkn_at (j : Fin 4096) (h : Fin 16) (d : Fin 128) :
    val_main_v85 (F := Ideal) x0 x1 x2 x3 x4 x5 x6 x7 (ix3 j h d) = (args x0 x1 x2 x3 x4 x5 x6 x7).dkn h j d := by
  have hs := fun i => ds_at x0 x1 x2 x3 x4 x5 x6 x7 h i j
  unfold val_main_v85 val_main_v84
  revert hs
  generalize val_main_v79 (F := Ideal) x0 x1 x2 x3 x4 x5 x6 x7 = S
  intro hs
  pointwise [Args.dkn]
  simp only [hs]
  rfl

theorem dkr_at (j : Fin 4096) (h : Fin 16) (e : Fin 64) :
    val_main_v81 (F := Ideal) x0 x1 x2 x3 x4 x5 x6 x7 (ix3 j h e) = (args x0 x1 x2 x3 x4 x5 x6 x7).dkr h j e := by
  have hs := fun i => ds_at x0 x1 x2 x3 x4 x5 x6 x7 h i j
  have hq := fun i => rq_at x0 x1 x2 x3 x4 x5 x6 x7 i h e
  unfold val_main_v81 val_main_v80
  revert hs hq
  generalize val_main_v79 (F := Ideal) x0 x1 x2 x3 x4 x5 x6 x7 = S
  generalize val_main_v16 (F := Ideal) x1 x5 x6 = Q
  intro hs hq
  pointwise [Args.dkr]
  simp only [hs, hq]

theorem drq_at (i : Fin 4096) (h : Fin 16) (e : Fin 64) :
    val_main_v83 (F := Ideal) x0 x1 x2 x3 x4 x5 x6 x7 (ix3 i h e) = (args x0 x1 x2 x3 x4 x5 x6 x7).drq h i e := by
  have hs := ds_at x0 x1 x2 x3 x4 x5 x6 x7 h i
  unfold val_main_v83 val_main_v82
  revert hs
  generalize val_main_v79 (F := Ideal) x0 x1 x2 x3 x4 x5 x6 x7 = S
  intro hs
  pointwise [val_main_v1, val_main_v0, Args.drq]
  simp only [hs]
  rfl

theorem dv_at (j : Fin 4096) (h : Fin 16) (d : Fin 128) :
    val_main_v64 (F := Ideal) x0 x1 x2 x3 x5 x6 x7 (ix3 j h d) = (args x0 x1 x2 x3 x4 x5 x6 x7).dv h j d := by
  have hs := fun i => w_at x0 x1 x2 x3 x4 x5 x6 x7 h i j
  unfold val_main_v64 val_main_v63
  revert hs
  generalize val_main_v55 (F := Ideal) x0 x1 x2 x3 x5 x6 = S
  intro hs
  pointwise [val_main_v61, Args.dv]
  simp only [hs]
  rfl

theorem dqr_at (i : Fin 4096) (h : Fin 16) (e : Fin 64) :
    val_main_v101 (F := Ideal) x0 x1 x2 x3 x4 x5 x6 x7 (ix3 i h e) = (args x0 x1 x2 x3 x4 x5 x6 x7).dqr h i e := by
  have hs := drq_at x0 x1 x2 x3 x4 x5 x6 x7 i h
  unfold val_main_v101 val_main_v100 val_main_v99 val_main_v97 val_main_v96 val_main_v94 val_main_v93 val_main_v91 val_main_v89 val_main_v88
  revert hs
  generalize val_main_v83 (F := Ideal) x0 x1 x2 x3 x4 x5 x6 x7 = S
  intro hs
  pointwise [val_main_v98, val_main_v95, val_main_v92, val_main_v90, val_main_v3, val_main_v2, Args.dqr, halves]
  simp only [hs]
  rfl

/-- Columns of 64 split into halves, each followed by 32 zeros. -/
theorem padded_at (X : FVec Ideal S4096x16x64 .f32) (z : FVec Ideal S_ .f32) (hz : ∀ k, z k = (0 : EReal)) (i : Fin 4096) (y : Fin 2048) :
    shapeCast S4096x2048 (pad S4096x16x2x64 ![0, 0, 0, 0] ![0, 0, 0, 32] ![0, 0, 0, 0] (shapeCast S4096x16x2x32 X shapeCasts_S4096x16x64_S4096x16x2x32)
      z pads_S4096x16x2x32_S4096x16x2x64_000_000_000_0320 h_S_) shapeCasts_S4096x16x2x64_S4096x2048 (ix2 i y)
      = spread (fun e => X (ix3 i ⟨y / 128, by omega⟩ e)) (y % 128) := by
  pointwise
  unfold spread
  by_cases h1 : y.val % 128 < 32
  · refine (dif_pos (show y.val / 128 < 16 ∧ y.val / 64 % 2 < 2 ∧ y.val % 64 < 32 by omega)).trans (Eq.trans ?_ (dif_pos h1).symm)
    refine congrArg (fun e : Fin 64 => (X (ix3 i ⟨y / 128, by omega⟩ e) : EReal)) (Fin.ext ?_)
    show y.val / 64 % 2 * 32 + y.val % 64 = y.val % 128
    omega
  refine Eq.trans ?_ (dif_neg h1).symm
  by_cases h2 : y.val % 128 < 64
  · exact (dif_neg (show ¬ (y.val / 128 < 16 ∧ y.val / 64 % 2 < 2 ∧ y.val % 64 < 32) by omega)).trans ((hz _).trans (if_pos h2).symm)
  refine Eq.trans ?_ (if_neg h2).symm
  by_cases h3 : y.val % 128 - 64 < 32
  · refine (dif_pos (show y.val / 128 < 16 ∧ y.val / 64 % 2 < 2 ∧ y.val % 64 < 32 by omega)).trans (Eq.trans ?_ (dif_pos h3).symm)
    refine congrArg (fun e : Fin 64 => (X (ix3 i ⟨y / 128, by omega⟩ e) : EReal)) (Fin.ext ?_)
    show y.val / 64 % 2 * 32 + y.val % 64 = 32 + (y.val % 128 - 64)
    omega
  · refine (dif_neg (show ¬ (y.val / 128 < 16 ∧ y.val / 64 % 2 < 2 ∧ y.val % 64 < 32) by omega)).trans ((hz _).trans ?_)
    rw [dif_neg h3]

/-- Heads' columns in one row. -/
theorem flat_at (X : FVec Ideal S4096x16x128 .f32) (i : Fin 4096) (y : Fin 2048) :
    truncf (F := Ideal) .bf16 (shapeCast S4096x2048 X shapeCasts_S4096x16x128_S4096x2048) bitsLt_bf16_f32 (ix2 i y)
      = (X (ix3 i ⟨y / 128, by omega⟩ ⟨y % 128, by omega⟩) : EReal) := by
  pointwise

theorem word_at (k : S_.Idx) : val_main_call2_v0 (F := Ideal) k = (0 : EReal) := by
  pointwise [val_main_call2_v0, val_main_c]
  show (((0#32 : BitVec 32).toInt : ℝ) : EReal) = 0
  simp

theorem v111_at (i : Fin 4096) (y : Fin 2048) :
    val_main_v111 (F := Ideal) x0 x1 x2 x3 x4 x5 x6 x7 (ix2 i y) = (args x0 x1 x2 x3 x4 x5 x6 x7).dqn ⟨y / 128, by omega⟩ i ⟨y % 128, by omega⟩ :=
  (flat_at _ i y).trans (dqn_at x0 x1 x2 x3 x4 x5 x6 x7 i _ _)

theorem v112_at (i : Fin 4096) (y : Fin 2048) :
    val_main_v112 (F := Ideal) x0 x1 x2 x3 x4 x5 x6 x7 (ix2 i y) = spread ((args x0 x1 x2 x3 x4 x5 x6 x7).dqr ⟨y / 128, by omega⟩ i) (y % 128) :=
  (padded_at _ _ word_at i y).trans (congrArg (spread · _) (funext fun e => dqr_at x0 x1 x2 x3 x4 x5 x6 x7 i _ e))

theorem v113_at (i : Fin 4096) (y : Fin 2048) :
    val_main_v113 (F := Ideal) x0 x1 x2 x3 x4 x5 x6 x7 (ix2 i y) = (args x0 x1 x2 x3 x4 x5 x6 x7).dkn ⟨y / 128, by omega⟩ i ⟨y % 128, by omega⟩ :=
  (flat_at _ i y).trans (dkn_at x0 x1 x2 x3 x4 x5 x6 x7 i _ _)

theorem v114_at (i : Fin 4096) (y : Fin 2048) :
    val_main_v114 (F := Ideal) x0 x1 x2 x3 x4 x5 x6 x7 (ix2 i y) = spread ((args x0 x1 x2 x3 x4 x5 x6 x7).dkr ⟨y / 128, by omega⟩ i) (y % 128) :=
  (padded_at _ _ word_at i y).trans (congrArg (spread · _) (funext fun e => dkr_at x0 x1 x2 x3 x4 x5 x6 x7 i _ e))

theorem v115_at (i : Fin 4096) (y : Fin 2048) :
    val_main_v115 (F := Ideal) x0 x1 x2 x3 x5 x6 x7 (ix2 i y) = (args x0 x1 x2 x3 x4 x5 x6 x7).dv ⟨y / 128, by omega⟩ i ⟨y % 128, by omega⟩ :=
  (flat_at _ i y).trans (dv_at x0 x1 x2 x3 x4 x5 x6 x7 i _ _)

end Cert.ReferenceIdeal.Val

end
-- ==== Proof.Equal.lean ====
/-
  The two programs' results, index by index: with real arguments both are the plain gradients.
-/
module

public import proofs.«01_k».proof.Proof.Finite
public import proofs.«01_k».proof.Proof.Grads
public import proofs.«01_k».proof.Proof.Ref
public import proofs.«01_k».proof.Proof.Gen.ReferenceIdeal.Run

@[expose] public section

noncomputable section

namespace Cert.Proof

open Idealize.ShloMosaic Idealize.ShloMosaic.Tactic Idealize.SL.Sem
open Cert.KernelIdeal.Val Cert.ReferenceIdeal.Read Cert.ReferenceIdeal.Val
open Cert.ReferenceIdeal (S4096x16x128 S4096x16x64 S4096x64 S4096x32 S4096x2048)

variable {m : (ℓ : Loc Cert.KernelIdeal.nD Cert.KernelIdeal.τ Cert.KernelIdeal.sig) → Buf (Elt Ideal) ℓ} {c : Dev Cert.KernelIdeal.nD}

/-- Two arrays of rows that agree at every row and column. -/
theorem rows_ext {f g : FVec Ideal S4096x2048 .bf16} (h : ∀ (i : Fin 4096) (y : Fin 2048), f (ix2 i y) = g (ix2 i y)) : f = g :=
  funext fun y => by rw [← ix2_eta y]; exact h (y 0) (y 1)

/-- The reference's results of the kernel's arguments are the kernel's. -/
theorem equal (hA : (Cert.KernelIdeal.Val.args m c).Real) {x0 : FVec Ideal S4096x16x128 .f32} {x1 : FVec Ideal S4096x16x64 .f32}
    {x2 : FVec Ideal S4096x16x128 .f32} {x3 : FVec Ideal S4096x64 .f32} {x4 : FVec Ideal S4096x16x128 .f32} {x5 x6 : FVec Ideal S4096x32 .f32}
    {x7 : FVec Ideal S4096x16x128 .f32} (e0 : x0 = arg m c Cert.KernelIdeal.main_arg0) (e1 : x1 = arg m c Cert.KernelIdeal.main_arg1)
    (e2 : x2 = arg m c Cert.KernelIdeal.main_arg2) (e3 : x3 = arg m c Cert.KernelIdeal.main_arg3) (e4 : x4 = arg m c Cert.KernelIdeal.main_arg4)
    (e5 : x5 = arg m c Cert.KernelIdeal.main_arg5) (e6 : x6 = arg m c Cert.KernelIdeal.main_arg6) (e7 : x7 = arg m c Cert.KernelIdeal.main_arg7) :
    val_main_v111 (F := Ideal) x0 x1 x2 x3 x4 x5 x6 x7 = gradQn m c
      ∧ val_main_v112 (F := Ideal) x0 x1 x2 x3 x4 x5 x6 x7 = gradQr m c
      ∧ val_main_v113 (F := Ideal) x0 x1 x2 x3 x4 x5 x6 x7 = gradKn m c
      ∧ val_main_v114 (F := Ideal) x0 x1 x2 x3 x4 x5 x6 x7 = gradKr m c
      ∧ val_main_v115 (F := Ideal) x0 x1 x2 x3 x5 x6 x7 = gradV m c := by
  have eA : Cert.ReferenceIdeal.Val.args x0 x1 x2 x3 x4 x5 x6 x7 = Cert.KernelIdeal.Val.args m c := by
    subst e0 e1 e2 e3 e4 e5 e6 e7; rfl
  refine ⟨rows_ext fun i y => (v111_at x0 x1 x2 x3 x4 x5 x6 x7 i y).trans ?_, rows_ext fun i y => (v112_at x0 x1 x2 x3 x4 x5 x6 x7 i y).trans ?_,
    rows_ext fun i y => (v113_at x0 x1 x2 x3 x4 x5 x6 x7 i y).trans ?_, rows_ext fun i y => (v114_at x0 x1 x2 x3 x4 x5 x6 x7 i y).trans ?_,
    rows_ext fun i y => (v115_at x0 x1 x2 x3 x4 x5 x6 x7 i y).trans ?_⟩ <;> rw [eA]
  · exact (gradQn_at hA i y).symm
  · exact (gradQr_at hA i y).symm
  · exact (gradKn_at hA i y).symm
  · exact (gradKr_at hA i y).symm
  · exact (gradV_at hA i y).symm

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre same
  refine ⟨gradQn m, gradQr m, gradKn m, gradKr m, gradV m, ?_, ?_⟩
  · refine (θ_run _ _ _).mono (fun r h c => ?_) (run_post m g)
    obtain ⟨h0, h1, h2, h3, h4⟩ := results m h c
    exact ⟨h0, h1, h2, h3, h4, kept m h c⟩
  · refine (θ_run _ _ _).mono (fun r h c => ?_) (Cert.ReferenceIdeal.Value.run (F := Ideal) m' g')
    obtain ⟨e0, e1, e2, e3, e4, e5, e6, e7⟩ := same c
    obtain ⟨h0, h1, h2, h3, h4, hrest⟩ := h c
    obtain ⟨r0, r1, r2, r3, r4⟩ := equal (Cert.Pre_finite.real hpre c) e0 e1 e2 e3 e4 e5 e6 e7
    exact ⟨h0.trans ((val_main_v111_eq (StableHlo.launchContents m' c)).trans r0), h1.trans ((val_main_v112_eq (StableHlo.launchContents m' c)).trans r1),
      h2.trans ((val_main_v113_eq (StableHlo.launchContents m' c)).trans r2), h3.trans ((val_main_v114_eq (StableHlo.launchContents m' c)).trans r3),
      h4.trans ((val_main_v115_eq (StableHlo.launchContents m' c)).trans r4), hrest⟩

end Cert.Proof

end
-- ==== Proof.Gate.lean ====
/-
  The gate `z · σ(z)`: the kernels' sigmoid, spelt with the hyperbolic tangent, is the quotient the reference computes, at
  every extended real; and the derivative of the gate in the two arrangements, at the reals.
-/
module

public import proofs.«01_k».proof.Proof.Words

@[expose] public section

noncomputable section

namespace Cert.Attn

open Idealize.ShloMosaic

/-- The word of one half. -/
theorem halfWord : Ideal.ofBits .f32 0x3F000000#32 = ((1 / 2 : ℝ) : EReal) := by
  have h : Ideal.ofBits .f32 0x3F000000#32 = ((8388608 : ℝ) : EReal) * (((2 ^ 24)⁻¹ : ℝ) : EReal) := by simp [Ideal.ofBits, Ideal.ieee]
  rw [h, ← EReal.coe_mul]
  norm_num

/-- The word of one. -/
theorem oneWord : Ideal.ofBits .f32 0x3F800000#32 = 1 := by
  have h : Ideal.ofBits .f32 0x3F800000#32 = ((8388608 : ℝ) : EReal) * (((2 ^ 23)⁻¹ : ℝ) : EReal) := by simp [Ideal.ofBits, Ideal.ieee]
  rw [h, ← EReal.coe_mul, ← EReal.coe_one]
  norm_num

/-- The sigmoid. -/
def sigm (z : EReal) : EReal := Ideal.logistic z

theorem sigm_real {z : EReal} (h : IsReal z) : IsReal (sigm z) := by
  obtain ⟨r, rfl⟩ := h
  exact ⟨_, Ideal.logistic_coe r⟩

/-- The kernels' spelling of it. -/
theorem sigm_tanh (z : EReal) :
    Ideal.ofBits .f32 0x3F000000#32 * Ideal.tanh (Ideal.ofBits .f32 0x3F000000#32 * z) + Ideal.ofBits .f32 0x3F000000#32 = sigm z := by
  rw [halfWord, sigm]
  induction z using EReal.rec with
  | bot =>
    rw [EReal.coe_mul_bot_of_pos (by norm_num), Ideal.tanh_bot, Ideal.logistic_bot, ← EReal.coe_one, ← EReal.coe_neg, ← EReal.coe_mul, ← EReal.coe_add,
      ← EReal.coe_zero]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    refine congrArg _ ?_
    have e : Real.exp (-r) = Real.exp (-(1 / 2 * r)) * Real.exp (-(1 / 2 * r)) := by rw [← Real.exp_add]; ring_nf
    have p : Real.exp (1 / 2 * r) * Real.exp (-(1 / 2 * r)) = 1 := by rw [← Real.exp_add]; simp
    have h1 := Real.exp_pos (1 / 2 * r)
    have h2 := Real.exp_pos (-(1 / 2 * r))
    rw [Real.tanh_eq_sinh_div_cosh, Real.sinh_eq, Real.cosh_eq, e]
    generalize Real.exp (1 / 2 * r) = a at *
    generalize Real.exp (-(1 / 2 * r)) = b at *
    field_simp
    nlinarith [p]

/-- The reference's spelling of it. -/
theorem sigm_div (z : EReal) :
    Ideal.div (Ideal.ofBits .f32 0x3F800000#32) (Ideal.ofBits .f32 0x3F800000#32 + Ideal.exp (-z)) = sigm z := by
  rw [oneWord]; rfl

/-- The derivative of the gate, with a factor spread over its two terms. -/
theorem gate_deriv {a o z : EReal} (ha : IsReal a) (ho : IsReal o) (hz : IsReal z) :
    a * o * (sigm z * (1 + z * (1 - sigm z))) = o * a * sigm z + z * (o * a) * (sigm z * (1 - sigm z)) := by
  obtain ⟨s, hs⟩ := sigm_real hz
  obtain ⟨a, rfl⟩ := ha
  obtain ⟨o, rfl⟩ := ho
  obtain ⟨z, rfl⟩ := hz
  rw [hs, ← EReal.coe_one]
  norm_cast
  ring

end Cert.Attn

end
-- ==== Proof.GateBwd.lean ====
/-
  The gate's backward call: each grid point takes 512 rows, and the two arrays after the run are the gradients of the gate's
  two operands, row by row.
-/
module

public import proofs.«01_k».proof.Defs
public import proofs.«01_k».proof.Proof.Gate
public import proofs.«01_k».proof.Proof.Gen.Kernel2Ideal.Value
public import proofs.«01_k».proof.Proof.Gen.Pre_finite2
public import proofs.«01_k».proof.Proof.Gen.Reference2Ideal.Run
public import proofs.«01_k».proof.Proof.Gen.Reference2Ideal.Read
public import Idealize.ShloMosaic.Lib.Pipeline.ValueKit
public import Idealize.ShloMosaic.Lib.StableHlo.RunRead
public import Idealize.ShloMosaic.Lib.Quiescent
public import Idealize.ShloMosaic.Adequacy
public import Idealize.ShloMosaic.Init
public import proofs.«01_k».proof.Proof.Finite

@[expose] public section

set_option maxRecDepth 16384

noncomputable section

namespace Cert.Kernel2Ideal.Val

open Cert.Kernel2Ideal Cert.Kernel2Ideal.Gen Cert.Kernel2Ideal.Value
open Idealize.ShloMosaic Idealize.ShloMosaic.TcCoe Idealize.ShloMosaic.Tactic
open Idealize.SL.Sem
open Cert.Attn

variable (m : (ℓ : Loc nD τ sig) → Buf (Elt Ideal) ℓ)

/-- An argument as launched. -/
abbrev arg (c : Dev nD) (b : Ref sig .tc) := m (c, Proc.tc.devRef b)

/-- Row `i` of the output's gradient against row `y` of the weight. -/
def accOf (G : FVec Ideal S4096x1024 .f32) (W : FVec Ideal S2048x1024 .f32) (i : Fin 4096) (y : Fin 2048) : EReal :=
  ∑ k : Fin 1024, G (ix2 i k) * W (ix2 y k)

/-- The two gradients. -/
def gradO (G : FVec Ideal S4096x1024 .f32) (W : FVec Ideal S2048x1024 .f32) (Z : FVec Ideal S4096x2048 .f32) : FVec Ideal S4096x2048 .bf16 :=
  fun x => accOf G W (x 0) (x 1) * (Z x * sigm (Z x))
def gradZ (G : FVec Ideal S4096x1024 .f32) (W : FVec Ideal S2048x1024 .f32) (O Z : FVec Ideal S4096x2048 .f32) : FVec Ideal S4096x2048 .bf16 :=
  fun x => accOf G W (x 0) (x 1) * O x * (sigm (Z x) * (1 + Z x * (1 - sigm (Z x))))

theorem idx : ∀ t : Fin grid0.N,
    win0_0.index t = ![t.val, 0] ∧ win0_1.index t = ![0, 0] ∧ win0_2.index t = ![t.val, 0] ∧ win0_3.index t = ![t.val, 0]
    ∧ win0_4.index t = ![t.val, 0] ∧ win0_5.index t = ![t.val, 0] := by decide +kernel

/-! ## The host's operands -/

theorem v0_eq (c : Dev nD) : V m c main_v0 = truncf (F := Ideal) .bf16 (arg m c main_arg0) bitsLt_bf16_f32 := by
  dsimp only [V]; simp only [hostOps0]; after_reads_simp
theorem v1_eq (c : Dev nD) : V m c main_v1 = truncf (F := Ideal) .bf16 (arg m c main_arg1) bitsLt_bf16_f32 := by
  dsimp only [V]; simp only [hostOps0]; after_reads_simp
theorem v2_eq (c : Dev nD) : V m c main_v2 = truncf (F := Ideal) .bf16 (arg m c main_arg2) bitsLt_bf16_f32 := by
  dsimp only [V]; simp only [hostOps0]; after_reads_simp

/-! ## One point -/

theorem pay1_at (P0 : FVec Ideal S512x1024 .f32) (P1 : FVec Ideal S2048x1024 .bf16) (i : Fin 512) (y : Fin 2048) :
    k0_pay1 (F := Ideal) P0 P1 (ix2 i y) = (∑ k : Fin 1024, P0 (ix2 i k) * P1 (ix2 y k) : EReal) := by
  pointwise [k0_pay1]

theorem pay4_at (P0 : FVec Ideal S512x1024 .f32) (P1 : FVec Ideal S2048x1024 .bf16) (P2 : FVec Ideal S512x2048 .bf16) (i : Fin 512) (y : Fin 2048) :
    k0_pay4 (F := Ideal) P0 P1 P2 (ix2 i y) = (k0_pay1 (F := Ideal) P0 P1 (ix2 i y) * (P2 (ix2 i y) * sigm (P2 (ix2 i y))) : EReal) := by
  unfold k0_pay4
  generalize k0_pay1 (F := Ideal) P0 P1 = A
  pointwise [k0_pay2, k0_pay3]
  rw [sigm_tanh]

theorem pay5_at (P0 : FVec Ideal S512x1024 .f32) (P1 : FVec Ideal S2048x1024 .bf16) (P2 P3 : FVec Ideal S512x2048 .bf16) (i : Fin 512) (y : Fin 2048) :
    k0_pay5 (F := Ideal) P0 P1 P2 P3 (ix2 i y)
      = (k0_pay1 (F := Ideal) P0 P1 (ix2 i y) * P2 (ix2 i y) * (sigm (P3 (ix2 i y)) * (1 + P3 (ix2 i y) * (1 - sigm (P3 (ix2 i y))))) : EReal) := by
  unfold k0_pay5
  generalize k0_pay1 (F := Ideal) P0 P1 = A
  pointwise [k0_pay2, k0_pay3]
  rw [sigm_tanh]

section
variable {P0 : FVec Ideal S512x1024 .f32} {P1 : FVec Ideal S2048x1024 .bf16} {P2 P3 : FVec Ideal S512x2048 .bf16}
  {G : FVec Ideal S4096x1024 .f32} {W : FVec Ideal S2048x1024 .bf16} {O Z : FVec Ideal S4096x2048 .bf16} {r : Fin 4096} {i : Fin 512} {y : Fin 2048}
  (h0 : ∀ k, P0 (ix2 i k) = G (ix2 r k)) (h1 : ∀ k, P1 (ix2 y k) = W (ix2 y k)) (h2 : P2 (ix2 i y) = O (ix2 r y)) (h3 : P3 (ix2 i y) = Z (ix2 r y))
include h0 h1

theorem pay1_of : k0_pay1 (F := Ideal) P0 P1 (ix2 i y) = accOf G W r y := by
  rw [pay1_at]
  simp only [h0, h1]
  rfl

include h3
theorem pay4_of : k0_pay4 (F := Ideal) P0 P1 P3 (ix2 i y) = gradO G W Z (ix2 r y) := by
  rw [pay4_at, pay1_of h0 h1, h3]
  rfl

include h2
theorem pay5_of : k0_pay5 (F := Ideal) P0 P1 P2 P3 (ix2 i y) = gradZ G W O Z (ix2 r y) := by
  rw [pay5_at, pay1_of h0 h1, h2, h3]
  rfl
end

/-! ## The arrays after the run -/

variable (G : FVec Ideal S4096x1024 .f32) (W : FVec Ideal S2048x1024 .bf16) (O Z : FVec Ideal S4096x2048 .bf16) (t : Fin cfg0.N) (i : Fin 512) (y : Fin 2048)

/-- Row `i` of point `t`'s block. -/
def row : Fin 4096 := ⟨512 * t.val + i.val, by have := lt_of_lt_of_eq t.isLt N_0; omega⟩

theorem emb4 : (win0_4.blk t).view.emb (ix2 i y) = ix2 (row t i) y := by
  obtain ⟨i0, i1, i2, i3, i4, i5⟩ := idx t
  blk_ext [i4, row] <;> omega
theorem emb5 : (win0_5.blk t).view.emb (ix2 i y) = ix2 (row t i) y := by
  obtain ⟨i0, i1, i2, i3, i4, i5⟩ := idx t
  blk_ext [i5, row] <;> omega

theorem in0 (k : Fin 1024) : (win0_0.blk t).view.read (Elt Ideal) G (ix2 i k) = G (ix2 (row t i) k) := by
  obtain ⟨i0, i1, i2, i3, i4, i5⟩ := idx t
  blk_ext [i0, row] <;> omega
theorem in1 (k : Fin 1024) : (win0_1.blk t).view.read (Elt Ideal) W (ix2 y k) = W (ix2 y k) := by
  obtain ⟨i0, i1, i2, i3, i4, i5⟩ := idx t
  blk_ext [i1, row] <;> omega
theorem in2 : (win0_2.blk t).view.read (Elt Ideal) O (ix2 i y) = O (ix2 (row t i) y) := by
  obtain ⟨i0, i1, i2, i3, i4, i5⟩ := idx t
  blk_ext [i2, row] <;> omega
theorem in3 : (win0_3.blk t).view.read (Elt Ideal) Z (ix2 i y) = Z (ix2 (row t i) y) := by
  obtain ⟨i0, i1, i2, i3, i4, i5⟩ := idx t
  blk_ext [i3, row] <;> omega

theorem block4 : k0_pay4 (F := Ideal) ((win0_0.blk t).view.read (Elt Ideal) G) ((win0_1.blk t).view.read (Elt Ideal) W) ((win0_3.blk t).view.read (Elt Ideal) Z) (ix2 i y)
    = gradO G W Z ((win0_4.blk t).view.emb (ix2 i y)) := by
  rw [emb4]
  exact pay4_of (in0 G t i) (in1 W t y) (in3 Z t i y)

theorem block5 : k0_pay5 (F := Ideal) ((win0_0.blk t).view.read (Elt Ideal) G) ((win0_1.blk t).view.read (Elt Ideal) W) ((win0_2.blk t).view.read (Elt Ideal) O)
      ((win0_3.blk t).view.read (Elt Ideal) Z) (ix2 i y)
    = gradZ G W O Z ((win0_5.blk t).view.emb (ix2 i y)) := by
  rw [emb5]
  exact pay5_of (in0 G t i) (in1 W t y) (h2 := in2 O t i y) (h3 := in3 Z t i y)

theorem arr4 (c : Dev nD) : (dats m 0 c).arrAt 4 cfg0.N = gradO (arg m c main_arg3) (arg m c main_arg2) (arg m c main_arg1) := by
  refine (dats m 0 c).arrAt_eq_of_covers 4 _ (by decide +kernel) fun t hf y => ?_
  have e := block4 (V m c main_arg3) (V m c main_v2) (V m c main_v1) t (y 0) (y 1)
  rw [V_main_arg3, v1_eq, v2_eq] at e
  blk_simp
  rw [after0_4]
  frame_out
  rw [← ix2_eta y]
  exact e

theorem arr5 (c : Dev nD) : (dats m 0 c).arrAt 5 cfg0.N = gradZ (arg m c main_arg3) (arg m c main_arg2) (arg m c main_arg0) (arg m c main_arg1) := by
  refine (dats m 0 c).arrAt_eq_of_covers 5 _ (by decide +kernel) fun t hf y => ?_
  have e := block5 (V m c main_arg3) (V m c main_v2) (V m c main_v0) (V m c main_v1) t (y 0) (y 1)
  rw [V_main_arg3, v0_eq, v1_eq, v2_eq] at e
  blk_simp
  rw [after0_5]
  frame_out
  rw [← ix2_eta y]
  exact e

end Cert.Kernel2Ideal.Val

namespace Cert.Reference2Ideal.Val

open Cert.Reference2Ideal Cert.Reference2Ideal.Read
open Idealize.ShloMosaic Idealize.ShloMosaic.Tactic
open Idealize.SL.Sem
open Cert.Attn Cert.Kernel2Ideal.Val

variable (x0 x1 : FVec Ideal S4096x2048 .f32) (x2 : FVec Ideal S2048x1024 .f32) (x3 : FVec Ideal S4096x1024 .f32)

/-! ## The reference's two gradients -/

theorem v0_2_at (i : Fin 4096) (y : Fin 2048) : val_main_v0_2 (F := Ideal) x1 (ix2 i y) = sigm (x1 (ix2 i y)) := by
  pointwise [val_main_v0_2, val_main_call0_v4, val_main_call0_v3, val_main_call0_v2, val_main_call0_v1, val_main_call0_v0, val_main_call0_cst, val_main_call0_cst_0]
  rfl

theorem v5_at (i : Fin 4096) (y : Fin 2048) : val_main_v5 (F := Ideal) x2 x3 (ix2 i y) = accOf x3 x2 i y := by
  pointwise [val_main_v5, accOf]

theorem v9_at (i : Fin 4096) (y : Fin 2048) : val_main_v9 (F := Ideal) x1 x2 x3 (ix2 i y) = gradO x3 x2 x1 (ix2 i y) := by
  have hs := v0_2_at x1 i y
  have ha := v5_at x2 x3 i y
  unfold val_main_v9 val_main_v7 val_main_v0_0
  revert hs ha
  generalize val_main_v0_2 (F := Ideal) x1 = S
  generalize val_main_v5 (F := Ideal) x2 x3 = A
  intro hs ha
  pointwise
  rw [hs, ha]
  rfl

theorem v10_at (h0 : ∀ i, IsReal (x0 i)) (h1 : ∀ i, IsReal (x1 i)) (h2 : ∀ i, IsReal (x2 i)) (h3 : ∀ i, IsReal (x3 i)) (i : Fin 4096) (y : Fin 2048) :
    val_main_v10 (F := Ideal) x0 x1 x2 x3 (ix2 i y) = gradZ x3 x2 x0 x1 (ix2 i y) := by
  have hs := v0_2_at x1 i y
  have ha := v5_at x2 x3 i y
  unfold val_main_v10 val_main_v8 val_main_call1_v1 val_main_call1_v2 val_main_call1_v0 val_main_v6 val_main_v0_1 val_main_call0_v7
  revert hs ha
  generalize val_main_v0_2 (F := Ideal) x1 = S
  generalize val_main_v5 (F := Ideal) x2 x3 = A
  intro hs ha
  refine Eq.trans ?_ (gate_deriv (IsReal.sum fun k => (h3 _).mul (h2 _)) (h0 _) (h1 _)).symm
  pointwise [val_main_call0_v6, val_main_call0_cst_1]
  rw [hs, ha]
  rfl

end Cert.Reference2Ideal.Val

namespace Cert.Pre_finite2

open Idealize.ShloMosaic Idealize.ShloMosaic.Tactic
open Cert.Attn
open Cert.Pre_finite (between between_real)

/-- The precondition is the conjunction of the four. -/
theorem fn_eq (x0 x1 : FVec Ideal S4096x2048 .f32) (x2 : FVec Ideal S2048x1024 .f32) (x3 : FVec Ideal S4096x1024 .f32) :
    fn (F := Ideal) x0 x1 x2 x3
      = andi (andi (andi (between x0 Gen.bcast_S_S4096x2048 Gen.reducesTo_S4096x2048_S_d0_1) (between x1 Gen.bcast_S_S4096x2048 Gen.reducesTo_S4096x2048_S_d0_1))
          (between x2 Gen.bcast_S_S2048x1024 Gen.reducesTo_S2048x1024_S_d0_1)) (between x3 Gen.bcast_S_S4096x1024 Gen.reducesTo_S4096x1024_S_d0_1) := rfl

/-- The arguments that meet the precondition are real. -/
theorem real {x0 x1 : FVec Ideal S4096x2048 .f32} {x2 : FVec Ideal S2048x1024 .f32} {x3 : FVec Ideal S4096x1024 .f32}
    (h : fn (F := Ideal) x0 x1 x2 x3 = fun _ => 1#1) :
    (∀ i, IsReal (x0 i)) ∧ (∀ i, IsReal (x1 i)) ∧ (∀ i, IsReal (x2 i)) ∧ ∀ i, IsReal (x3 i) := by
  have e := congrFun ((fn_eq _ _ _ _).symm.trans h) ix0
  obtain ⟨e, h3⟩ := IntOp.andi_eq_one.1 e
  obtain ⟨e, h2⟩ := IntOp.andi_eq_one.1 e
  obtain ⟨h0, h1⟩ := IntOp.andi_eq_one.1 e
  exact ⟨between_real h0, between_real h1, between_real h2, between_real h3⟩

end Cert.Pre_finite2

namespace Cert.Proof

open Idealize.ShloMosaic Idealize.SL.Sem
open Cert.Attn Cert.Kernel2Ideal.Val Cert.Reference2Ideal.Val Cert.Reference2Ideal.Read

/-- The gate's backward call is the derivative of the gated output. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre same
  refine ⟨fun c => gradO (arg m c Cert.Kernel2Ideal.main_arg3) (arg m c Cert.Kernel2Ideal.main_arg2) (arg m c Cert.Kernel2Ideal.main_arg1),
    fun c => gradZ (arg m c Cert.Kernel2Ideal.main_arg3) (arg m c Cert.Kernel2Ideal.main_arg2) (arg m c Cert.Kernel2Ideal.main_arg0)
      (arg m c Cert.Kernel2Ideal.main_arg1), ?_, ?_⟩
  · refine (θ_run _ _ _).mono (fun r h c => ?_) (Cert.Kernel2Ideal.Value.run_blocks (F := Ideal) m g)
    obtain ⟨h0, h1, hrest⟩ := h c
    exact ⟨h0.trans (arr4 m c), h1.trans (arr5 m c), hrest⟩
  · refine (θ_run _ _ _).mono (fun r h c => ?_) (Cert.Reference2Ideal.Value.run (F := Ideal) m' g')
    obtain ⟨e0, e1, e2, e3⟩ := same c
    obtain ⟨h0, h1, hrest⟩ := h c
    obtain ⟨r0, r1, r2, r3⟩ := Cert.Pre_finite2.real (hpre c)
    refine ⟨h0.trans ?_, h1.trans ?_, hrest⟩
    · rw [e1, e2, e3]
      refine (val_main_v9_eq _ _ _).trans (funext fun y => ?_)
      rw [← ix2_eta y]
      exact v9_at _ _ _ (y 0) (y 1)
    · rw [e0, e1, e2, e3]
      refine (val_main_v10_eq _ _ _ _).trans (funext fun y => ?_)
      rw [← ix2_eta y]
      exact v10_at _ _ _ _ r0 r1 r2 r3 (y 0) (y 1)

/-- The reference runs to its end, and leaves its arguments and every counter as they were. -/
theorem frame_reference2 : Cert.quiescent_Reference2Ideal (hReference2Ideal := Cert.Reference2Ideal.Gen.facts) :=
  fun m g _ => (θ_run (Cert.Reference2Ideal.defs (F := Ideal)) _ _).mono
    (fun r h => ⟨fun c => (h c).2.2, sem_eq_zero_of_no_sems (by decide) r.2⟩)
    (Cert.Reference2Ideal.Value.run (F := Ideal) m g)

end Cert.Proof

end
-- ==== Proof.GateWeight.lean ====
/-
  The call for the gradient of the output projection's weight: eight blocks of 512 rows, each point adding its rows' products
  to the running sum, and the sum written out after the last.
-/
module

public import proofs.«01_k».proof.Defs
public import proofs.«01_k».proof.Proof.Gate
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init
public import proofs.«01_k».proof.Proof.Finite

@[expose] public section

set_option maxRecDepth 16384

noncomputable section

namespace Cert.Kernel3Ideal.Val

open Cert.Kernel3Ideal Cert.Kernel3Ideal.Gen Cert.Kernel3Ideal.Value
open Idealize.ShloMosaic Idealize.ShloMosaic.TcCoe Idealize.ShloMosaic.Tactic
open Idealize.SL.Sem
open Cert.Attn

variable (m : (ℓ : Loc nD τ sig) → Buf (Elt Ideal) ℓ)

/-- An argument as launched. -/
abbrev arg (c : Dev nD) (b : Ref sig .tc) := m (c, Proc.tc.devRef b)

/-- The weight's gradient: the gated rows against the output's gradient. -/
def gradW (O Z : FVec Ideal S4096x2048 .f32) (G : FVec Ideal S4096x1024 .f32) : FVec Ideal S2048x1024 .bf16 :=
  fun x => ∑ r : Fin 4096, O (ix2 r (x 0)) * (Z (ix2 r (x 0)) * sigm (Z (ix2 r (x 0)))) * G (ix2 r (x 1))

theorem idx : ∀ t : Fin grid0.N,
    win0_0.index t = ![t.val, 0] ∧ win0_1.index t = ![t.val, 0] ∧ win0_2.index t = ![t.val, 0] ∧ win0_3.index t = ![0, 0] := by decide +kernel

/-! ## The host's operands -/

theorem v0_eq (c : Dev nD) : V m c main_v0 = truncf (F := Ideal) .bf16 (arg m c main_arg0) bitsLt_bf16_f32 := by
  dsimp only [V]; simp only [hostOps0]; after_reads_simp
theorem v1_eq (c : Dev nD) : V m c main_v1 = truncf (F := Ideal) .bf16 (arg m c main_arg1) bitsLt_bf16_f32 := by
  dsimp only [V]; simp only [hostOps0]; after_reads_simp

/-! ## One point -/

/-- What a point's rows add at an index. -/
def part (P0 P1 : FVec Ideal S512x2048 .bf16) (P2 : FVec Ideal S512x1024 .f32) (j : S2048x1024.Idx) : EReal :=
  ∑ k : Fin 512, P0 (ix2 k (j 0)) * (P1 (ix2 k (j 0)) * sigm (P1 (ix2 k (j 0)))) * P2 (ix2 k (j 1))

theorem pay2_at (P0 P1 : FVec Ideal S512x2048 .bf16) (P2 : FVec Ideal S512x1024 .f32) (A : FVec Ideal S2048x1024 .f32) (i : Fin 2048) (y : Fin 1024) :
    k0_pay2 (F := Ideal) P0 P1 P2 A (ix2 i y) = (A (ix2 i y) + part P0 P1 P2 (ix2 i y) : EReal) := by
  pointwise [k0_pay2]
  simp only [sigm_tanh]
  rfl

theorem pay2_apply (P0 P1 : FVec Ideal S512x2048 .bf16) (P2 : FVec Ideal S512x1024 .f32) (A : FVec Ideal S2048x1024 .f32) (j : S2048x1024.Idx) :
    k0_pay2 (F := Ideal) P0 P1 P2 A j = (A j + part P0 P1 P2 j : EReal) := by
  rw [← ix2_eta j]
  exact pay2_at P0 P1 P2 A (j 0) (j 1)

theorem pay1_apply (j : S2048x1024.Idx) : k0_pay1 (F := Ideal) j = (0 : EReal) := by
  rw [← ix2_eta j]
  pointwise [k0_pay1]

/-! ## The running sum -/

/-- After the last point the written block is the running sum. -/
theorem last_eq (c : Dev nD) (t : Fin cfg0.N) (h : t.val % 8 = 7) (j : S2048x1024.Idx) :
    (outsAt0 m c t.val t.isLt).1 j = (outsAt0 m c t.val t.isLt).2 j := by
  rw [outsAt0_C m c t (by omega) h]
  frame_out
  rfl

theorem sum_eq (c : Dev nD) (t : Fin cfg0.N) (ht : t.val + 1 = cfg0.N) (j : S2048x1024.Idx) :
    (outsAt0 m c t.val t.isLt).2 j = (∑ p : Fin cfg0.N, part (iblk m c 0 p) (iblk m c 1 p) (iblk m c 2 p) j : EReal) := by
  have h := Pipeline.eq_sum_fin_of_reset_step_apply_last (fun n h => (outsAt0 m c n h).2) 8 (fun _ => (0 : EReal))
    (fun p j => part (iblk m c 0 p) (iblk m c 1 p) (iblk m c 2 p) j)
    (fun t h j => by
      rw [outsAt0_A m c t h (by omega)]
      frame_out
      rw [pay2_apply, pay1_apply])
    (fun t h j => by
      by_cases h7 : t.val % 8 = 7
      · rw [outsAt0_C m c t h h7]
        frame_out
        rw [pay2_apply, (Memref.isWhole_whole _).read_unread]
      · rw [outsAt0_B m c t h h7]
        frame_out
        rw [pay2_apply, (Memref.isWhole_whole _).read_unread])
    (le_of_eq N_0) t ht j
  rw [h, zero_add]

section
variable (G : FVec Ideal S4096x1024 .f32) (O Z : FVec Ideal S4096x2048 .bf16) (t : Fin cfg0.N) (k : Fin 512)

/-- Row `k` of point `t`'s block. -/
def row : Fin 4096 := ⟨t.val * 512 + k.val, by have := lt_of_lt_of_eq t.isLt N_0; omega⟩

theorem in0 (y : Fin 2048) : (win0_0.blk t).view.read (Elt Ideal) O (ix2 k y) = O (ix2 (row t k) y) := by
  obtain ⟨i0, i1, i2, i3⟩ := idx t
  blk_ext [i0, row] <;> omega
theorem in1 (y : Fin 2048) : (win0_1.blk t).view.read (Elt Ideal) Z (ix2 k y) = Z (ix2 (row t k) y) := by
  obtain ⟨i0, i1, i2, i3⟩ := idx t
  blk_ext [i1, row] <;> omega
theorem in2 (y : Fin 1024) : (win0_2.blk t).view.read (Elt Ideal) G (ix2 k y) = G (ix2 (row t k) y) := by
  obtain ⟨i0, i1, i2, i3⟩ := idx t
  blk_ext [i2, row] <;> omega
theorem emb3 (i : Fin 2048) (y : Fin 1024) : (win0_3.blk t).view.emb (ix2 i y) = ix2 i y := by
  obtain ⟨i0, i1, i2, i3⟩ := idx t
  blk_ext [i3] <;> omega

theorem part_of {P0 P1 : FVec Ideal S512x2048 .bf16} {P2 : FVec Ideal S512x1024 .f32} (h0 : ∀ k y, P0 (ix2 k y) = O (ix2 (row t k) y))
    (h1 : ∀ k y, P1 (ix2 k y) = Z (ix2 (row t k) y)) (h2 : ∀ k y, P2 (ix2 k y) = G (ix2 (row t k) y)) (i : Fin 2048) (y : Fin 1024) :
    part P0 P1 P2 (ix2 i y)
      = ∑ k : Fin 512, O (ix2 (row t k) i) * (Z (ix2 (row t k) i) * sigm (Z (ix2 (row t k) i))) * G (ix2 (row t k) y) := by
  refine Finset.sum_congr rfl fun k _ => ?_
  have e0 := h0 k i
  have e1 := h1 k i
  have e2 := h2 k y
  show P0 (ix2 k i) * (P1 (ix2 k i) * sigm (P1 (ix2 k i))) * P2 (ix2 k y) = _
  rw [e0, e1, e2]

/-- The points' rows together are all the rows. -/
theorem parts (i : Fin 2048) (y : Fin 1024) :
    (∑ p : Fin cfg0.N, part ((win0_0.blk p).view.read (Elt Ideal) O) ((win0_1.blk p).view.read (Elt Ideal) Z) ((win0_2.blk p).view.read (Elt Ideal) G) (ix2 i y) : EReal)
      = gradW O Z G (ix2 i y) := by
  rw [Finset.sum_congr rfl fun p _ => part_of G O Z p (in0 O p) (in1 Z p) (in2 G p) i y]
  exact Fin.sum_mul_add_congr (S := 8) (n := 512) fun _ _ _ => rfl

theorem parts_emb (i : Fin 2048) (y : Fin 1024) :
    (∑ p : Fin cfg0.N, part ((win0_0.blk p).view.read (Elt Ideal) O) ((win0_1.blk p).view.read (Elt Ideal) Z) ((win0_2.blk p).view.read (Elt Ideal) G) (ix2 i y) : EReal)
      = gradW O Z G ((win0_3.blk t).view.emb (ix2 i y)) := by
  rw [emb3, parts]

end

theorem arr3 (c : Dev nD) : (dats m 0 c).arrAt 3 cfg0.N = gradW (arg m c main_arg0) (arg m c main_arg1) (arg m c main_arg3) := by
  refine (dats m 0 c).arrAt_eq_of_covers 3 _ (by decide +kernel) fun t hf y => ?_
  have hl : t.val % 8 = 7 := (flush0_3 t).mp hf
  have hN := lt_of_lt_of_eq t.isLt N_0
  have hN' : cfg0.N = 8 := N_0
  have e := parts_emb (V m c main_arg3) (V m c main_v0) (V m c main_v1) t (y 0) (y 1)
  rw [V_main_arg3, v0_eq, v1_eq] at e
  have s := (last_eq m c t hl y).trans (sum_eq m c t (by omega) y)
  blk_simp
  rw [after0_3]
  refine s.trans ?_
  rw [← ix2_eta y]
  exact e

end Cert.Kernel3Ideal.Val

namespace Cert.Reference3Ideal.Val

open Cert.Reference3Ideal Cert.Reference3Ideal.Read
open Idealize.ShloMosaic Idealize.ShloMosaic.Tactic
open Idealize.SL.Sem
open Cert.Attn Cert.Kernel3Ideal.Val

variable (x0 x1 : FVec Ideal S4096x2048 .f32) (x3 : FVec Ideal S4096x1024 .f32)

theorem v0_2_at (i : Fin 4096) (y : Fin 2048) : val_main_v0_2 (F := Ideal) x1 (ix2 i y) = sigm (x1 (ix2 i y)) := by
  pointwise [val_main_v0_2, val_main_call0_v4, val_main_call0_v3, val_main_call0_v2, val_main_call0_v1, val_main_call0_v0, val_main_call0_cst, val_main_call0_cst_0]
  rfl

theorem v1_at (i : Fin 4096) (y : Fin 2048) :
    val_main_v1 (F := Ideal) x0 x1 (ix2 i y) = (x0 (ix2 i y) * (x1 (ix2 i y) * sigm (x1 (ix2 i y))) : EReal) := by
  have hs := v0_2_at x1 i y
  unfold val_main_v1 val_main_v0_0
  revert hs
  generalize val_main_v0_2 (F := Ideal) x1 = S
  intro hs
  pointwise
  rw [hs]

theorem v9_at (i : Fin 2048) (y : Fin 1024) : val_main_v9 (F := Ideal) x0 x1 x3 (ix2 i y) = gradW x0 x1 x3 (ix2 i y) := by
  have h1 := fun r => v1_at x0 x1 r i
  unfold val_main_v9 val_main_v4 val_main_v3
  revert h1
  generalize val_main_v1 (F := Ideal) x0 x1 = A
  intro h1
  pointwise
  refine Finset.sum_congr rfl fun r _ => ?_
  rw [h1, mul_comm]
  rfl

end Cert.Reference3Ideal.Val

namespace Cert.Proof

open Idealize.ShloMosaic Idealize.SL.Sem
open Cert.Attn Cert.Kernel3Ideal.Val Cert.Reference3Ideal.Val Cert.Reference3Ideal.Read

/-- The weight's gradient is the gated rows against the output's gradient, in the kernel and in the reference. -/
theorem algebraic3 : Cert.algebraic_Kernel3Ideal_Reference3Ideal (hKernel3Ideal := Cert.Kernel3Ideal.Gen.facts)
    (hReference3Ideal := Cert.Reference3Ideal.Gen.facts) := by
  intro m g m' g' _ same
  refine ⟨fun c => gradW (arg m c Cert.Kernel3Ideal.main_arg0) (arg m c Cert.Kernel3Ideal.main_arg1) (arg m c Cert.Kernel3Ideal.main_arg3), ?_, ?_⟩
  · refine (θ_run _ _ _).mono (fun r h c => ?_) (Cert.Kernel3Ideal.Value.run_blocks (F := Ideal) m g)
    obtain ⟨h0, hrest⟩ := h c
    exact ⟨h0.trans (arr3 m c), hrest⟩
  · refine (θ_run _ _ _).mono (fun r h c => ?_) (Cert.Reference3Ideal.Value.run (F := Ideal) m' g')
    obtain ⟨e0, e1, e2, e3⟩ := same c
    obtain ⟨h0, hrest⟩ := h c
    refine ⟨h0.trans ?_, hrest⟩
    rw [e0, e1, e3]
    refine (val_main_v9_eq _ _ _).trans (funext fun y => ?_)
    rw [← ix2_eta y]
    exact v9_at _ _ _ (y 0) (y 1)

/-- The reference runs to its end, and leaves its arguments and every counter as they were. -/
theorem frame_reference3 : Cert.quiescent_Reference3Ideal (hReference3Ideal := Cert.Reference3Ideal.Gen.facts) :=
  fun m g _ => (θ_run (Cert.Reference3Ideal.defs (F := Ideal)) _ _).mono
    (fun r h => ⟨fun c => (h c).2, sem_eq_zero_of_no_sems (by decide) r.2⟩)
    (Cert.Reference3Ideal.Value.run (F := Ideal) m g)

end Cert.Proof

end
-- ==== Proof.InputWeight.lean ====
/-
  The call for the gradients of the input projection's weight and bias: for each of the three parts, four points over blocks of
  1024 rows, each adding its rows' products to one running sum and the sums of its columns to another.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Kernel4Ideal.Val

open Cert.Kernel4Ideal Cert.Kernel4Ideal.Gen Cert.Kernel4Ideal.Value
open Idealize.ShloMosaic Idealize.ShloMosaic.TcCoe Idealize.ShloMosaic.Tactic
open Idealize.SL.Sem

variable (m : (ℓ : Loc nD τ sig) → Buf (Elt Ideal) ℓ)

/-- An argument as launched. -/
abbrev arg (c : Dev nD) (b : Ref sig .tc) := m (c, Proc.tc.devRef b)

/-- The part of number `a`. -/
def sel {α : Type} (a : ℕ) (A B C : α) : α := if a = 0 then A else if a = 1 then B else C

/-- Row `r` of the parts side by side. -/
def cat (A B C : FVec Ideal S4096x2048 .f32) (r : Fin 4096) (l : Fin 6144) : EReal :=
  sel (l.val / 2048) A B C (ix2 r ⟨l.val % 2048, Nat.mod_lt _ (by decide)⟩)

/-- The weight's gradient: the rows of the input against the parts' gradients. -/
def gradW (X : FVec Ideal S4096x1024 .f32) (A B C : FVec Ideal S4096x2048 .f32) : FVec Ideal S1024x6144 .bf16 :=
  fun x => ∑ r : Fin 4096, X (ix2 r (x 0)) * cat A B C r (x 1)

/-- The bias's gradient: the sums of the parts' columns. -/
def gradB (A B C : FVec Ideal S4096x2048 .f32) : FVec Ideal S1x6144 .f32 :=
  fun x => ∑ r : Fin 4096, cat A B C r (x 1)

theorem idx : ∀ t : Fin grid0.N,
    win0_0.index t = ![t.val % 4, 0] ∧ win0_1.index t = ![t.val % 4, 0] ∧ win0_2.index t = ![t.val % 4, 0] ∧ win0_3.index t = ![t.val % 4, 0]
      ∧ win0_4.index t = ![0, t.val / 4] ∧ win0_5.index t = ![0, t.val / 4] := by decide +kernel

/-! ## The host's operands -/

theorem v0_eq (c : Dev nD) : V m c main_v0 = truncf (F := Ideal) .bf16 (arg m c main_arg4) bitsLt_bf16_f32 := by
  dsimp only [V]; simp only [hostOps0]; after_reads_simp
theorem v1_eq (c : Dev nD) : V m c main_v1 = truncf (F := Ideal) .bf16 (arg m c main_arg5) bitsLt_bf16_f32 := by
  dsimp only [V]; simp only [hostOps0]; after_reads_simp
theorem v2_eq (c : Dev nD) : V m c main_v2 = truncf (F := Ideal) .bf16 (arg m c main_arg6) bitsLt_bf16_f32 := by
  dsimp only [V]; simp only [hostOps0]; after_reads_simp

/-! ## One point -/

/-- What a point's rows add to the product at an index. -/
def partW (P : FVec Ideal S1024x1024 .f32) (Q : FVec Ideal S1024x2048 .bf16) (j : S1024x2048.Idx) : EReal :=
  ∑ k : Fin 1024, P (ix2 k (j 0)) * Q (ix2 k (j 1))

/-- What a point's rows add to the columns' sums at an index. -/
def partB (Q : FVec Ideal S1024x2048 .bf16) (j : S1x2048.Idx) : EReal :=
  ∑ k : Fin 1024, Q (ix2 k (j 1))

theorem pay1_apply (j : S1024x2048.Idx) : k0_pay1 (F := Ideal) j = (0 : EReal) := by
  rw [← ix2_eta j]
  pointwise [k0_pay1]

theorem pay2_apply (j : S1x2048.Idx) : k0_pay2 (F := Ideal) j = (0 : EReal) := by
  rw [← ix2_eta j]
  pointwise [k0_pay2]

theorem pay4_at (P : FVec Ideal S1024x1024 .f32) (Q : FVec Ideal S1024x2048 .bf16) (A : FVec Ideal S1024x2048 .f32) (i : Fin 1024) (y : Fin 2048) :
    k0_pay4 (F := Ideal) P Q A (ix2 i y) = (A (ix2 i y) + partW P Q (ix2 i y) : EReal) := by
  pointwise [k0_pay4, k0_pay3]
  rfl

theorem pay4_apply (P : FVec Ideal S1024x1024 .f32) (Q : FVec Ideal S1024x2048 .bf16) (A : FVec Ideal S1024x2048 .f32) (j : S1024x2048.Idx) :
    k0_pay4 (F := Ideal) P Q A j = (A j + partW P Q j : EReal) := by
  rw [← ix2_eta j]
  exact pay4_at P Q A (j 0) (j 1)

theorem pay5_at (Q : FVec Ideal S1024x2048 .bf16) (A : FVec Ideal S1x2048 .f32) (i : Fin 1) (y : Fin 2048) :
    k0_pay5 (F := Ideal) Q A (ix2 i y) = (A (ix2 i y) + partB Q (ix2 i y) : EReal) := by
  pointwise [k0_pay5, k0_pay3]
  rfl

theorem pay5_apply (Q : FVec Ideal S1024x2048 .bf16) (A : FVec Ideal S1x2048 .f32) (j : S1x2048.Idx) :
    k0_pay5 (F := Ideal) Q A j = (A j + partB Q j : EReal) := by
  rw [← ix2_eta j]
  exact pay5_at Q A (j 0) (j 1)

/-! ## The running sums -/

/-- The block of the part that point `t` is at. -/
abbrev seg (c : Dev nD) (t : Fin cfg0.N) : FVec Ideal S1024x2048 .bf16 := sel (t.val / 4) (iblk m c 1 t) (iblk m c 2 t) (iblk m c 3 t)

/-- A part's first point starts both sums. -/
theorem first_eq (c : Dev nD) (t : Fin cfg0.N) (h : t.val % 4 = 0) :
    (outsAt0 m c t.val t.isLt).2 = (k0_pay5 (F := Ideal) (seg m c t) (k0_pay2 (F := Ideal)), k0_pay4 (F := Ideal) (iblk m c 0 t) (seg m c t) (k0_pay1 (F := Ideal))) := by
  have hN := lt_of_lt_of_eq t.isLt N_0
  rcases (by omega : t.val / 4 = 0 ∨ t.val / 4 = 1 ∨ t.val / 4 = 2) with e | e | e
  · rw [outsAt0_A m c t h (by omega) (by omega) (by omega) (by omega)]
    frame_out
    simp only [seg, e, sel]
    rfl
  · rw [outsAt0_D m c t h (by omega) (by omega) (by omega) (by omega)]
    frame_out
    simp only [seg, e, sel]
    rfl
  · rw [outsAt0_G m c t h (by omega) (by omega) (by omega) (by omega)]
    frame_out
    simp only [seg, e, sel]
    rfl

/-- The sums after the point before. -/
abbrev prev (c : Dev nD) (t : Fin cfg0.N) := (outsAt0 m c (t.val - 1) (Nat.lt_of_le_of_lt (Nat.sub_le _ _) t.isLt)).2

/-- Every other point adds to both. -/
theorem step_eq (c : Dev nD) (t : Fin cfg0.N) (h : ¬t.val % 4 = 0) :
    (outsAt0 m c t.val t.isLt).2 = (k0_pay5 (F := Ideal) (seg m c t) (prev m c t).1, k0_pay4 (F := Ideal) (iblk m c 0 t) (seg m c t) (prev m c t).2) := by
  have hN := lt_of_lt_of_eq t.isLt N_0
  by_cases h3 : t.val % 4 = 3
  · rcases (by omega : t.val / 4 = 0 ∨ t.val / 4 = 1 ∨ t.val / 4 = 2) with e | e | e
    · rw [outsAt0_C m c t h (by omega) (by omega) (by omega) h3]
      frame_out
      simp only [seg, e, sel, (Memref.isWhole_whole _).read_unread]
      rfl
    · rw [outsAt0_F m c t h (by omega) (by omega) (by omega) h3]
      frame_out
      simp only [seg, e, sel, (Memref.isWhole_whole _).read_unread]
      rfl
    · rw [outsAt0_I m c t h (by omega) (by omega) (by omega) h3]
      frame_out
      simp only [seg, e, sel, (Memref.isWhole_whole _).read_unread]
      rfl
  · rcases (by omega : t.val / 4 = 0 ∨ t.val / 4 = 1 ∨ t.val / 4 = 2) with e | e | e
    · rw [outsAt0_B m c t h (by omega) (by omega) (by omega) h3]
      frame_out
      simp only [seg, e, sel, (Memref.isWhole_whole _).read_unread]
      rfl
    · rw [outsAt0_E m c t h (by omega) (by omega) (by omega) h3]
      frame_out
      simp only [seg, e, sel, (Memref.isWhole_whole _).read_unread]
      rfl
    · rw [outsAt0_H m c t h (by omega) (by omega) (by omega) h3]
      frame_out
      simp only [seg, e, sel, (Memref.isWhole_whole _).read_unread]
      rfl

/-- A part's last point writes the product's sum out. -/
theorem last_eq (c : Dev nD) (t : Fin cfg0.N) (h : t.val % 4 = 3) :
    (outsAt0 m c t.val t.isLt).1 = k0_pay12 (F := Ideal) (outsAt0 m c t.val t.isLt).2.2 := by
  have hN := lt_of_lt_of_eq t.isLt N_0
  rcases (by omega : t.val / 4 = 0 ∨ t.val / 4 = 1 ∨ t.val / 4 = 2) with e | e | e
  · rw [outsAt0_C m c t (by omega) (by omega) (by omega) (by omega) h]
    frame_out
  · rw [outsAt0_F m c t (by omega) (by omega) (by omega) (by omega) h]
    frame_out
  · rw [outsAt0_I m c t (by omega) (by omega) (by omega) (by omega) h]
    frame_out

theorem sumW (c : Dev nD) (t : Fin cfg0.N) (h : t.val % 4 = 3) (j : S1024x2048.Idx) :
    (outsAt0 m c t.val t.isLt).2.2 j = (∑ s : Fin 4, partW (iblk m c 0 ⟨4 * (t.val / 4) + s.val, Pipeline.run_point_lt_of_flush t h s⟩)
      (seg m c ⟨4 * (t.val / 4) + s.val, Pipeline.run_point_lt_of_flush t h s⟩) j : EReal) := by
  have h := Pipeline.eq_sum_fin_of_reset_step_apply_of_flush (fun n h => (outsAt0 m c n h).2.2) 4 (fun _ => (0 : EReal))
    (fun p j => partW (iblk m c 0 p) (seg m c p) j)
    (fun t h j => by
      rw [first_eq m c t h]
      exact (pay4_apply _ _ _ j).trans (congrArg (· + _) (pay1_apply j)))
    (fun t h j => by
      rw [step_eq m c t h]
      exact pay4_apply _ _ _ j)
    t h j
  rw [h, zero_add]

theorem sumB (c : Dev nD) (t : Fin cfg0.N) (h : t.val % 4 = 3) (j : S1x2048.Idx) :
    (outsAt0 m c t.val t.isLt).2.1 j = (∑ s : Fin 4, partB (seg m c ⟨4 * (t.val / 4) + s.val, Pipeline.run_point_lt_of_flush t h s⟩) j : EReal) := by
  have h := Pipeline.eq_sum_fin_of_reset_step_apply_of_flush (fun n h => (outsAt0 m c n h).2.1) 4 (fun _ => (0 : EReal))
    (fun p j => partB (seg m c p) j)
    (fun t h j => by
      rw [first_eq m c t h]
      exact (pay5_apply _ _ j).trans (congrArg (· + _) (pay2_apply j)))
    (fun t h j => by
      rw [step_eq m c t h]
      exact pay5_apply _ _ j)
    t h j
  rw [h, zero_add]

/-! ## The blocks read -/

section
variable (t : Fin cfg0.N) (k : Fin 1024) (y : Fin 2048)

/-- Row `k` of the block that point `t` is at. -/
def row : Fin 4096 := ⟨t.val % 4 * 1024 + k.val, by omega⟩

/-- Column `y` of the part that point `t` is at. -/
def col : Fin 6144 := ⟨2048 * (t.val / 4) + y.val, by have := lt_of_lt_of_eq t.isLt N_0; omega⟩

section
variable (X : FVec Ideal S4096x1024 .f32) (A : FVec Ideal S4096x2048 .bf16)
theorem in0 (i : Fin 1024) : (win0_0.blk t).view.read (Elt Ideal) X (ix2 k i) = X (ix2 (row t k) i) := by
  obtain ⟨i0, i1, i2, i3, i4, i5⟩ := idx t
  blk_ext [i0, row] <;> omega
theorem in1 : (win0_1.blk t).view.read (Elt Ideal) A (ix2 k y) = A (ix2 (row t k) y) := by
  obtain ⟨i0, i1, i2, i3, i4, i5⟩ := idx t
  blk_ext [i1, row] <;> omega
theorem in2 : (win0_2.blk t).view.read (Elt Ideal) A (ix2 k y) = A (ix2 (row t k) y) := by
  obtain ⟨i0, i1, i2, i3, i4, i5⟩ := idx t
  blk_ext [i2, row] <;> omega
theorem in3 : (win0_3.blk t).view.read (Elt Ideal) A (ix2 k y) = A (ix2 (row t k) y) := by
  obtain ⟨i0, i1, i2, i3, i4, i5⟩ := idx t
  blk_ext [i3, row] <;> omega
theorem emb4 (i : Fin 1024) : (win0_4.blk t).view.emb (ix2 i y) = ix2 i (col t y) := by
  obtain ⟨i0, i1, i2, i3, i4, i5⟩ := idx t
  blk_ext [i4, col] <;> omega
theorem emb5 (i : Fin 1) : (win0_5.blk t).view.emb (ix2 i y) = ix2 i (col t y) := by
  obtain ⟨i0, i1, i2, i3, i4, i5⟩ := idx t
  blk_ext [i5, col] <;> omega
end

theorem cat_of (A B C : FVec Ideal S4096x2048 .f32) (r : Fin 4096) (l : Fin 6144) (a : ℕ) (k : Fin 2048) (ha : l.val / 2048 = a) (hk : l.val % 2048 = k.val) :
    cat A B C r l = sel a A B C (ix2 r k) := by
  subst ha
  exact congrArg _ (congrArg _ (Fin.ext hk))

theorem cat_col (A B C : FVec Ideal S4096x2048 .f32) (r : Fin 4096) : cat A B C r (col t y) = sel (t.val / 4) A B C (ix2 r y) :=
  cat_of A B C r _ _ _ (by show (2048 * (t.val / 4) + y.val) / 2048 = _; omega) (by show (2048 * (t.val / 4) + y.val) % 2048 = _; omega)

/-- The block of a part holds the part's rows. -/
theorem seg_at (c : Dev nD) (a : ℕ) (ha : t.val / 4 = a) :
    seg m c t (ix2 k y) = sel a (arg m c main_arg4) (arg m c main_arg5) (arg m c main_arg6) (ix2 (row t k) y) := by
  have e1 := in1 t k y (V m c main_v0)
  have e2 := in2 t k y (V m c main_v1)
  have e3 := in3 t k y (V m c main_v2)
  rw [v0_eq] at e1
  rw [v1_eq] at e2
  rw [v2_eq] at e3
  subst ha
  unfold seg sel
  by_cases h0 : t.val / 4 = 0
  · rw [if_pos h0, if_pos h0]
    exact e1
  · rw [if_neg h0, if_neg h0]
    by_cases h1 : t.val / 4 = 1
    · rw [if_pos h1, if_pos h1]
      exact e2
    · rw [if_neg h1, if_neg h1]
      exact e3

end

theorem outW (c : Dev nD) (t : Fin cfg0.N) (h : t.val % 4 = 3) (i : Fin 1024) (y : Fin 2048) :
    (outsAt0 m c t.val t.isLt).1 (ix2 i y)
      = gradW (arg m c main_arg0) (arg m c main_arg4) (arg m c main_arg5) (arg m c main_arg6) ((win0_4.blk t).view.emb (ix2 i y)) := by
  rw [emb4, last_eq m c t h]
  refine Eq.trans (sumW m c t h (ix2 i y)) ?_
  refine Fin.sum_mul_add_congr (S := 4) (n := 1024) fun s k hl => ?_
  have hp := Pipeline.run_point_lt_of_flush t h s
  have hr : row ⟨4 * (t.val / 4) + s.val, hp⟩ k = ⟨s.val * 1024 + k.val, hl⟩ := Fin.ext (by show (4 * (t.val / 4) + s.val) % 4 * 1024 + k.val = s.val * 1024 + k.val; omega)
  have e := seg_at m ⟨4 * (t.val / 4) + s.val, hp⟩ k y c (t.val / 4) (by show (4 * (t.val / 4) + s.val) / 4 = _; omega)
  have e0 := in0 ⟨4 * (t.val / 4) + s.val, hp⟩ k (V m c main_arg0) i
  rw [hr] at e e0
  rw [V_main_arg0] at e0
  rw [← cat_col] at e
  exact congrArg₂ (fun a b : EReal => a * b) e0 e

theorem outB (c : Dev nD) (t : Fin cfg0.N) (h : t.val % 4 = 3) (i : Fin 1) (y : Fin 2048) :
    (outsAt0 m c t.val t.isLt).2.1 (ix2 i y)
      = gradB (arg m c main_arg4) (arg m c main_arg5) (arg m c main_arg6) ((win0_5.blk t).view.emb (ix2 i y)) := by
  rw [emb5]
  refine Eq.trans (sumB m c t h (ix2 i y)) ?_
  refine Fin.sum_mul_add_congr (S := 4) (n := 1024) fun s k hl => ?_
  have hp := Pipeline.run_point_lt_of_flush t h s
  have hr : row ⟨4 * (t.val / 4) + s.val, hp⟩ k = ⟨s.val * 1024 + k.val, hl⟩ := Fin.ext (by show (4 * (t.val / 4) + s.val) % 4 * 1024 + k.val = s.val * 1024 + k.val; omega)
  have e := seg_at m ⟨4 * (t.val / 4) + s.val, hp⟩ k y c (t.val / 4) (by show (4 * (t.val / 4) + s.val) / 4 = _; omega)
  rw [hr, ← cat_col] at e
  exact e

theorem arr4 (c : Dev nD) : (dats m 0 c).arrAt 4 cfg0.N = gradW (arg m c main_arg0) (arg m c main_arg4) (arg m c main_arg5) (arg m c main_arg6) := by
  refine (dats m 0 c).arrAt_eq_of_covers 4 _ (by decide +kernel) fun t hf y => ?_
  have e := outW m c t ((flush0_4 t).mp hf) (y 0) (y 1)
  blk_simp
  rw [after0_4]
  rw [← ix2_eta y]
  exact e

theorem arr5 (c : Dev nD) : (dats m 0 c).arrAt 5 cfg0.N = gradB (arg m c main_arg4) (arg m c main_arg5) (arg m c main_arg6) := by
  refine (dats m 0 c).arrAt_eq_of_covers 5 _ (by decide +kernel) fun t hf y => ?_
  have e := outB m c t ((flush0_5 t).mp hf) (y 0) (y 1)
  blk_simp
  rw [after0_5]
  rw [← ix2_eta y]
  exact e

end Cert.Kernel4Ideal.Val

namespace Cert.Reference4Ideal.Val

open Cert.Reference4Ideal Cert.Reference4Ideal.Read
open Idealize.ShloMosaic Idealize.ShloMosaic.Tactic
open Idealize.SL.Sem
open Cert.Kernel4Ideal.Val

variable (x0 : FVec Ideal S4096x1024 .f32) (x4 x5 x6 : FVec Ideal S4096x2048 .f32)

theorem v11_at (r : Fin 4096) (l : Fin 6144) : val_main_v11 (F := Ideal) x4 x5 x6 (ix2 r l) = cat x4 x5 x6 r l := by
  pointwise [val_main_v11]
  by_cases h0 : l.val < 2048
  · rw [dif_pos h0]
    exact (cat_of x4 x5 x6 r l 0 ⟨l.val, h0⟩ (by omega) (by show l.val % 2048 = l.val; omega)).symm
  · rw [dif_neg h0]
    by_cases h1 : l.val - 2048 < 2048
    · rw [dif_pos h1]
      exact (cat_of x4 x5 x6 r l 1 ⟨l.val - 2048, h1⟩ (by omega) (by show l.val % 2048 = l.val - 2048; omega)).symm
    · rw [dif_neg h1]
      exact (cat_of x4 x5 x6 r l 2 ⟨l.val - 2048 - 2048, by omega⟩ (by omega) (by show l.val % 2048 = l.val - 2048 - 2048; omega)).symm

theorem v19_at (i : Fin 1024) (l : Fin 6144) : val_main_v19 (F := Ideal) x0 x4 x5 x6 (ix2 i l) = gradW x0 x4 x5 x6 (ix2 i l) := by
  have h := fun r => v11_at x4 x5 x6 r l
  unfold val_main_v19 val_main_v16 val_main_v15
  revert h
  generalize val_main_v11 (F := Ideal) x4 x5 x6 = A
  intro h
  pointwise
  refine Finset.sum_congr rfl fun r _ => ?_
  rw [h, mul_comm]
  rfl

theorem v20_at (i : Fin 1) (l : Fin 6144) : val_main_v20 (F := Ideal) x4 x5 x6 (ix2 i l) = gradB x4 x5 x6 (ix2 i l) := by
  have h := fun r => v11_at x4 x5 x6 r l
  unfold val_main_v20 val_main_v14 val_main_v13 val_main_v12
  revert h
  generalize val_main_v11 (F := Ideal) x4 x5 x6 = A
  intro h
  pointwise [val_main_cst_1, val_main_cst_2]
  refine (Fin.sum_univ_one _).trans (Finset.sum_congr rfl fun r _ => ?_)
  exact h r

end Cert.Reference4Ideal.Val

namespace Cert.Proof

open Idealize.ShloMosaic Idealize.SL.Sem
open Cert.Kernel4Ideal.Val Cert.Reference4Ideal.Val Cert.Reference4Ideal.Read

/-- The weight's and the bias's gradients are the same in the kernel and in the reference. -/
theorem algebraic4 : Cert.algebraic_Kernel4Ideal_Reference4Ideal (hKernel4Ideal := Cert.Kernel4Ideal.Gen.facts)
    (hReference4Ideal := Cert.Reference4Ideal.Gen.facts) := by
  intro m g m' g' _ same
  refine ⟨fun c => gradW (arg m c Cert.Kernel4Ideal.main_arg0) (arg m c Cert.Kernel4Ideal.main_arg4) (arg m c Cert.Kernel4Ideal.main_arg5)
      (arg m c Cert.Kernel4Ideal.main_arg6),
    fun c => gradB (arg m c Cert.Kernel4Ideal.main_arg4) (arg m c Cert.Kernel4Ideal.main_arg5) (arg m c Cert.Kernel4Ideal.main_arg6), ?_, ?_⟩
  · refine (θ_run _ _ _).mono (fun r h c => ?_) (Cert.Kernel4Ideal.Value.run_blocks (F := Ideal) m g)
    obtain ⟨h0, h1, hrest⟩ := h c
    exact ⟨h0.trans (arr4 m c), h1.trans (arr5 m c), hrest⟩
  · refine (θ_run _ _ _).mono (fun r h c => ?_) (Cert.Reference4Ideal.Value.run (F := Ideal) m' g')
    obtain ⟨e0, e1, e2, e3, e4, e5, e6⟩ := same c
    obtain ⟨h0, h1, hrest⟩ := h c
    refine ⟨h0.trans ?_, h1.trans ?_, hrest⟩
    · rw [e0, e4, e5, e6]
      refine (val_main_v19_eq _ _ _ _).trans (funext fun y => ?_)
      rw [← ix2_eta y]
      exact v19_at _ _ _ _ (y 0) (y 1)
    · rw [e4, e5, e6]
      refine (val_main_v20_eq _ _ _).trans (funext fun y => ?_)
      rw [← ix2_eta y]
      exact v20_at _ _ _ (y 0) (y 1)

/-- The reference runs to its end, and leaves its arguments and every counter as they were. -/
theorem frame_reference4 : Cert.quiescent_Reference4Ideal (hReference4Ideal := Cert.Reference4Ideal.Gen.facts) :=
  fun m g _ => (θ_run (Cert.Reference4Ideal.defs (F := Ideal)) _ _).mono
    (fun r h => ⟨fun c => (h c).2.2, sem_eq_zero_of_no_sems (by decide) r.2⟩)
    (Cert.Reference4Ideal.Value.run (F := Ideal) m g)

end Cert.Proof

end
-- ==== Proof.InputBwd.lean ====
/-
  The call for the residual stream's gradient: for each block of 512 rows, three points, one per part of the projection, each
  adding its part's product with the columns of the projection's weight; the last adds the residual's own gradient.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Kernel5Ideal.Val

open Cert.Kernel5Ideal Cert.Kernel5Ideal.Gen Cert.Kernel5Ideal.Value
open Idealize.ShloMosaic Idealize.ShloMosaic.TcCoe Idealize.ShloMosaic.Tactic
open Idealize.SL.Sem

variable (m : (ℓ : Loc nD τ sig) → Buf (Elt Ideal) ℓ)

/-- An argument as launched. -/
abbrev arg (c : Dev nD) (b : Ref sig .tc) := m (c, Proc.tc.devRef b)

/-- The residual's factor, the word of 1.41421354. -/
def alpha : EReal := Ideal.ofBits .f32 0x3FB504F3#32

/-- A sum over an interval, its first `a` terms apart. -/
theorem sum_split {n : ℕ} (a b : ℕ) (h : n = a + b) (f : Fin n → EReal) :
    ∑ l, f l = (∑ k : Fin a, f ⟨k.val, by omega⟩) + ∑ k : Fin b, f ⟨a + k.val, by omega⟩ := by
  subst h
  exact Fin.sum_univ_add f

theorem idx : ∀ t : Fin grid0.N,
    win0_0.index t = ![t.val / 3, 0] ∧ win0_1.index t = ![t.val / 3, 0] ∧ win0_2.index t = ![t.val / 3, 0] ∧ win0_3.index t = ![0, 0, 0]
      ∧ win0_4.index t = ![t.val / 3, 0] ∧ win0_5.index t = ![0, 0] ∧ win0_6.index t = ![t.val / 3, 0] := by decide +kernel

/-! ## The host's operands -/

theorem v0_eq (c : Dev nD) : V m c main_v0 = truncf (F := Ideal) .bf16 (arg m c main_arg4) bitsLt_bf16_f32 := by
  dsimp only [V]; simp only [hostOps0]; after_reads_simp
theorem v1_eq (c : Dev nD) : V m c main_v1 = truncf (F := Ideal) .bf16 (arg m c main_arg5) bitsLt_bf16_f32 := by
  dsimp only [V]; simp only [hostOps0]; after_reads_simp
theorem v2_eq (c : Dev nD) : V m c main_v2 = truncf (F := Ideal) .bf16 (arg m c main_arg6) bitsLt_bf16_f32 := by
  dsimp only [V]; simp only [hostOps0]; after_reads_simp
theorem v6_eq (c : Dev nD) : V m c main_v6 = broadcastInDim S1x1024 ![] bcast_S_S1x1024 (constant (F := Ideal) S_ .f32 0x00000000#32) := by
  dsimp only [V]; simp only [hostOps0]; after_reads_simp

theorem v5_eq (c : Dev nD) : V m c main_v5 = truncf (F := Ideal) .bf16 (transpose S4x1024x1536 [1, 0, 2]
    (shapeCast S1024x4x1536 (arg m c main_arg1) shapeCasts_S1024x6144_S1024x4x1536) transposes_S1024x4x1536_S4x1024x1536_1_0_2) bitsLt_bf16_f32 := by
  dsimp only [V]; simp only [hostOps0]; after_reads_simp
  rfl

theorem v5_at (c : Dev nD) (n : Fin 4) (j : Fin 1024) (k : Fin 1536) :
    V m c main_v5 (ix3 n j k) = arg m c main_arg1 (ix2 j ⟨1536 * n.val + k.val, by omega⟩) := by
  rw [v5_eq]
  pointwise
  exact congrArg _ (congrArg _ (Fin.ext (by show n.val * 1536 + k.val = 1536 * n.val + k.val; omega)))

theorem v6_at (c : Dev nD) (y : Fin 1024) : V m c main_v6 (ix2 0 y) = (0 : EReal) := by
  rw [v6_eq]
  pointwise

/-! ## One point -/

theorem pay1_at (i : Fin 512) (y : Fin 1024) : k0_pay1 (F := Ideal) (ix2 i y) = (0 : EReal) := by
  pointwise [k0_pay1]

theorem pay2_at (Q : FVec Ideal S512x1024 .f32) (P : FVec Ideal S512x2048 .bf16) (U : FVec Ideal S1x1024x1536 .bf16) (V : FVec Ideal S1x1024x512 .bf16)
    (i : Fin 512) (y : Fin 1024) :
    k0_pay2 (F := Ideal) Q P U V (ix2 i y) = (Q (ix2 i y) + ((∑ k : Fin 1536, P (ix2 i ⟨k.val, by omega⟩) * U (ix3 0 y k))
      + ∑ k : Fin 512, P (ix2 i ⟨1536 + k.val, by omega⟩) * V (ix3 0 y k)) : EReal) := by
  pointwise [k0_pay2]

theorem pay3_at (Q : FVec Ideal S512x1024 .f32) (P : FVec Ideal S512x2048 .bf16) (U V : FVec Ideal S1x1024x1024 .bf16)
    (i : Fin 512) (y : Fin 1024) :
    k0_pay3 (F := Ideal) Q P U V (ix2 i y) = (Q (ix2 i y) + ((∑ k : Fin 1024, P (ix2 i ⟨k.val, by omega⟩) * U (ix3 0 y k))
      + ∑ k : Fin 1024, P (ix2 i ⟨1024 + k.val, by omega⟩) * V (ix3 0 y k)) : EReal) := by
  pointwise [k0_pay3]

theorem pay4_at (Q : FVec Ideal S512x1024 .f32) (P : FVec Ideal S512x2048 .bf16) (U : FVec Ideal S1x1024x512 .bf16) (V : FVec Ideal S1x1024x1536 .bf16)
    (i : Fin 512) (y : Fin 1024) :
    k0_pay4 (F := Ideal) Q P U V (ix2 i y) = (Q (ix2 i y) + ((∑ k : Fin 512, P (ix2 i ⟨k.val, by omega⟩) * U (ix3 0 y k))
      + ∑ k : Fin 1536, P (ix2 i ⟨512 + k.val, by omega⟩) * V (ix3 0 y k)) : EReal) := by
  pointwise [k0_pay4]

theorem pay5_at (Q R : FVec Ideal S512x1024 .f32) (B : FVec Ideal S1x1024 .f32) (i : Fin 512) (y : Fin 1024) :
    k0_pay5 (F := Ideal) Q R B (ix2 i y) = (alpha * R (ix2 i y) + Q (ix2 i y) + B (ix2 0 y) : EReal) := by
  pointwise [k0_pay5]
  rfl

section
variable {Q : FVec Ideal S512x1024 .f32} {P : FVec Ideal S512x2048 .bf16} {A : FVec Ideal S4096x2048 .f32} {W : FVec Ideal S1024x6144 .f32}
  {r : Fin 4096} {i : Fin 512} {y : Fin 1024} {q : EReal} (hQ : Q (ix2 i y) = q) (hP : ∀ k, P (ix2 i k) = A (ix2 r k))
include hQ hP

theorem pay2_of {U : FVec Ideal S1x1024x1536 .bf16} {V : FVec Ideal S1x1024x512 .bf16} (hU : ∀ k, U (ix3 0 y k) = W (ix2 y ⟨k.val, by omega⟩))
    (hV : ∀ k, V (ix3 0 y k) = W (ix2 y ⟨1536 + k.val, by omega⟩)) :
    k0_pay2 (F := Ideal) Q P U V (ix2 i y) = (q + ∑ l : Fin 2048, A (ix2 r l) * W (ix2 y ⟨l.val, by omega⟩) : EReal) := by
  rw [pay2_at, hQ, sum_split 1536 512 rfl]
  simp only [hP, hU, hV]

theorem pay3_of {U V : FVec Ideal S1x1024x1024 .bf16} (hU : ∀ k, U (ix3 0 y k) = W (ix2 y ⟨2048 + k.val, by omega⟩))
    (hV : ∀ k, V (ix3 0 y k) = W (ix2 y ⟨2048 + (1024 + k.val), by omega⟩)) :
    k0_pay3 (F := Ideal) Q P U V (ix2 i y) = (q + ∑ l : Fin 2048, A (ix2 r l) * W (ix2 y ⟨2048 + l.val, by omega⟩) : EReal) := by
  rw [pay3_at, hQ, sum_split 1024 1024 rfl]
  simp only [hP, hU, hV]

theorem pay4_of {U : FVec Ideal S1x1024x512 .bf16} {V : FVec Ideal S1x1024x1536 .bf16} (hU : ∀ k, U (ix3 0 y k) = W (ix2 y ⟨4096 + k.val, by omega⟩))
    (hV : ∀ k, V (ix3 0 y k) = W (ix2 y ⟨4096 + (512 + k.val), by omega⟩)) :
    k0_pay4 (F := Ideal) Q P U V (ix2 i y) = (q + ∑ l : Fin 2048, A (ix2 r l) * W (ix2 y ⟨4096 + l.val, by omega⟩) : EReal) := by
  rw [pay4_at, hQ, sum_split 512 1536 rfl]
  simp only [hP, hU, hV]
end

/-! ## The three points of a block -/

/-- The scratch after the point before. -/
abbrev prev (c : Dev nD) (t : Fin cfg0.N) : FVec Ideal S512x1024 .f32 :=
  (outsAt0 m c (t.val - 1) (Nat.lt_of_le_of_lt (Nat.sub_le _ _) t.isLt)).2

/-- The loaded rectangle of the weight's blocks. -/
abbrev ldW (c : Dev nD) (t : Fin cfg0.N) (a b n : ℕ) (h : ∀ d, (![a, 0, b] : Fin 3 → ℕ) d + (![1, 1024, n] : Fin 3 → ℕ) d ≤ S4x1024x1536.size d) :=
  View.ld (iblk m c 3 t) (Rect.unit (s := S4x1024x1536) ![a, 0, b] ![1, 1024, n] h)

theorem last_eq (c : Dev nD) (t : Fin cfg0.N) (h : t.val % 3 = 2) :
    (outsAt0 m c t.val t.isLt).1 = k0_pay5 (k0_pay4 (prev m c t) (iblk m c 2 t) (ldW m c t 2 1024 512 inb_S4x1024x1536_S1x1024x512_2_0_1024)
      (ldW m c t 3 0 1536 inb_S4x1024x1536_S1x1024x1536_3_0_0)) (iblk m c 4 t) (iblk m c 5 t) := by
  rw [outsAt0_C m c t (by omega) (by omega) (by omega) h h]
  frame_out
  rw [(Memref.isWhole_whole _).read_unread]
  rfl

theorem step1 (c : Dev nD) (t : Fin cfg0.N) (h : t.val % 3 = 1) :
    (outsAt0 m c t.val t.isLt).2 = k0_pay3 (prev m c t) (iblk m c 1 t) (ldW m c t 1 512 1024 inb_S4x1024x1536_S1x1024x1024_1_0_512)
      (ldW m c t 2 0 1024 inb_S4x1024x1536_S1x1024x1024_2_0_0) := by
  rw [outsAt0_B m c t (by omega) (by omega) h (by omega) (by omega)]
  frame_out
  rw [(Memref.isWhole_whole _).read_unread]
  rfl

theorem step0 (c : Dev nD) (t : Fin cfg0.N) (h : t.val % 3 = 0) :
    (outsAt0 m c t.val t.isLt).2 = k0_pay2 k0_pay1 (iblk m c 0 t) (ldW m c t 0 0 1536 inb_S4x1024x1536_S1x1024x1536_0_0_0)
      (ldW m c t 1 0 512 inb_S4x1024x1536_S1x1024x512_1_0_0) := by
  rw [outsAt0_A m c t h h (by omega) (by omega) (by omega)]
  frame_out
  rfl

/-! ## The blocks read -/

section
variable (c : Dev nD) (t : Fin cfg0.N) (i : Fin 512) (y : Fin 1024)

/-- Row `i` of the block that point `t` is at. -/
def row : Fin 4096 := ⟨512 * (t.val / 3) + i.val, by have := lt_of_lt_of_eq t.isLt N_0; omega⟩

section
variable (X : FVec Ideal S4096x2048 .bf16) (R : FVec Ideal S4096x1024 .f32) (U : FVec Ideal S4x1024x1536 .bf16) (B : FVec Ideal S1x1024 .f32)
theorem in0 (k : Fin 2048) : (win0_0.blk t).view.read (Elt Ideal) X (ix2 i k) = X (ix2 (row t i) k) := by
  obtain ⟨i0, i1, i2, i3, i4, i5, i6⟩ := idx t
  blk_ext [i0, row] <;> omega
theorem in1 (k : Fin 2048) : (win0_1.blk t).view.read (Elt Ideal) X (ix2 i k) = X (ix2 (row t i) k) := by
  obtain ⟨i0, i1, i2, i3, i4, i5, i6⟩ := idx t
  blk_ext [i1, row] <;> omega
theorem in2 (k : Fin 2048) : (win0_2.blk t).view.read (Elt Ideal) X (ix2 i k) = X (ix2 (row t i) k) := by
  obtain ⟨i0, i1, i2, i3, i4, i5, i6⟩ := idx t
  blk_ext [i2, row] <;> omega
theorem in3 (a : Fin 4) (k : Fin 1536) : (win0_3.blk t).view.read (Elt Ideal) U (ix3 a y k) = U (ix3 a y k) := by
  obtain ⟨i0, i1, i2, i3, i4, i5, i6⟩ := idx t
  blk_ext [i3] <;> omega
theorem in4 : (win0_4.blk t).view.read (Elt Ideal) R (ix2 i y) = R (ix2 (row t i) y) := by
  obtain ⟨i0, i1, i2, i3, i4, i5, i6⟩ := idx t
  blk_ext [i4, row] <;> omega
theorem in5 : (win0_5.blk t).view.read (Elt Ideal) B (ix2 0 y) = B (ix2 0 y) := by
  obtain ⟨i0, i1, i2, i3, i4, i5, i6⟩ := idx t
  blk_ext [i5] <;> omega
theorem emb6 : (win0_6.blk t).view.emb (ix2 i y) = ix2 (row t i) y := by
  obtain ⟨i0, i1, i2, i3, i4, i5, i6⟩ := idx t
  blk_ext [i6, row] <;> omega
end

/-- The loaded rectangle holds the weight's columns. -/
theorem ldW_at (a b n : ℕ) (ha : a < 4) (hb : b + n ≤ 1536) (h) (k : Fin n) :
    ldW m c t a b n h (ix3 0 y k) = arg m c main_arg1 (ix2 y ⟨1536 * a + (b + k.val), by omega⟩) := by
  refine Eq.trans ?_ (v5_at m c ⟨a, ha⟩ y ⟨b + k.val, by omega⟩)
  refine Eq.trans ?_ (in3 t y (V m c main_v5) ⟨a, ha⟩ ⟨b + k.val, by omega⟩)
  show (win0_3.blk t).view.read (Elt Ideal) (V m c main_v5) _ = _
  refine congrArg _ (funext fun d => Fin.ext ?_)
  match d with
  | 0 => show a + 1 * 0 = a; omega
  | 1 => show 0 + 1 * y.val = y.val; omega
  | 2 => show b + 1 * k.val = b + k.val; omega
/-- A part's term of the sum: its gradient's row against the weight's columns from `o`. -/
def term (X : FVec Ideal S4096x2048 .f32) (W : FVec Ideal S1024x6144 .f32) (o : ℕ) (ho : o + 2048 ≤ 6144) (r : Fin 4096) (y : Fin 1024) : EReal :=
  ∑ l : Fin 2048, X (ix2 r l) * W (ix2 y ⟨o + l.val, by omega⟩)

theorem acc0 (h : t.val % 3 = 0) :
    (outsAt0 m c t.val t.isLt).2 (ix2 i y) = (0 + term (arg m c main_arg4) (arg m c main_arg1) 0 (by omega) (row t i) y : EReal) := by
  rw [step0 m c t h]
  refine (pay2_of (W := arg m c main_arg1) (pay1_at i y) (in0 t i (V m c main_v0)) (fun k => (ldW_at m c t y 0 0 1536 (by omega) (by omega) _ k).trans ?_)
    (fun k => (ldW_at m c t y 1 0 512 (by omega) (by omega) _ k).trans ?_)).trans ?_
  · exact congrArg _ (congrArg _ (Fin.ext (by show 1536 * 0 + (0 + k.val) = k.val; omega)))
  · exact congrArg _ (congrArg _ (Fin.ext (by show 1536 * 1 + (0 + k.val) = 1536 + k.val; omega)))
  · rw [v0_eq]
    refine congrArg _ (Finset.sum_congr rfl fun l _ => congrArg _ (congrArg _ (congrArg _ (Fin.ext ?_))))
    show l.val = 0 + l.val
    omega

theorem acc1 (h : t.val % 3 = 1) :
    (outsAt0 m c t.val t.isLt).2 (ix2 i y) = (0 + term (arg m c main_arg4) (arg m c main_arg1) 0 (by omega) (row t i) y
      + term (arg m c main_arg5) (arg m c main_arg1) 2048 (by omega) (row t i) y : EReal) := by
  have hN := lt_of_lt_of_eq t.isLt N_0
  have e := acc0 m c ⟨t.val - 1, by omega⟩ i y (by show (t.val - 1) % 3 = 0; omega)
  have hr : row ⟨t.val - 1, by omega⟩ i = row t i := Fin.ext (by show 512 * ((t.val - 1) / 3) + i.val = 512 * (t.val / 3) + i.val; omega)
  rw [hr] at e
  rw [step1 m c t h]
  refine (pay3_of (W := arg m c main_arg1) e (in1 t i (V m c main_v1)) (fun k => (ldW_at m c t y 1 512 1024 (by omega) (by omega) _ k).trans ?_)
    (fun k => (ldW_at m c t y 2 0 1024 (by omega) (by omega) _ k).trans ?_)).trans ?_
  · exact congrArg _ (congrArg _ (Fin.ext (by show 1536 * 1 + (512 + k.val) = 2048 + k.val; omega)))
  · exact congrArg _ (congrArg _ (Fin.ext (by show 1536 * 2 + (0 + k.val) = 2048 + (1024 + k.val); omega)))
  · rw [v1_eq]
    rfl

theorem out2 (h : t.val % 3 = 2) :
    (outsAt0 m c t.val t.isLt).1 (ix2 i y) = (alpha * arg m c main_arg3 (ix2 (row t i) y)
      + (0 + term (arg m c main_arg4) (arg m c main_arg1) 0 (by omega) (row t i) y + term (arg m c main_arg5) (arg m c main_arg1) 2048 (by omega) (row t i) y
        + term (arg m c main_arg6) (arg m c main_arg1) 4096 (by omega) (row t i) y) + 0 : EReal) := by
  have hN := lt_of_lt_of_eq t.isLt N_0
  have e := acc1 m c ⟨t.val - 1, by omega⟩ i y (by show (t.val - 1) % 3 = 1; omega)
  have hr : row ⟨t.val - 1, by omega⟩ i = row t i := Fin.ext (by show 512 * ((t.val - 1) / 3) + i.val = 512 * (t.val / 3) + i.val; omega)
  rw [hr] at e
  have e4 := in4 t i y (V m c main_arg3)
  rw [V_main_arg3] at e4
  have e5 := (in5 t y (V m c main_v6)).trans (v6_at m c y)
  rw [last_eq m c t h, pay5_at]
  refine congrArg₂ _ (congrArg₂ _ (congrArg _ e4) ?_) e5
  refine (pay4_of (W := arg m c main_arg1) e (in2 t i (V m c main_v2)) (fun k => (ldW_at m c t y 2 1024 512 (by omega) (by omega) _ k).trans ?_)
    (fun k => (ldW_at m c t y 3 0 1536 (by omega) (by omega) _ k).trans ?_)).trans ?_
  · exact congrArg _ (congrArg _ (Fin.ext (by show 1536 * 2 + (1024 + k.val) = 4096 + k.val; omega)))
  · exact congrArg _ (congrArg _ (Fin.ext (by show 1536 * 3 + (0 + k.val) = 4096 + (512 + k.val); omega)))
  · rw [v2_eq]
    rfl

end

/-- The residual stream's gradient: the residual's, and the three parts' against the projection's weight. -/
def gradX (A B C : FVec Ideal S4096x2048 .f32) (W : FVec Ideal S1024x6144 .f32) (R : FVec Ideal S4096x1024 .f32) : FVec Ideal S4096x1024 .f32 :=
  fun x => alpha * R x + (term A W 0 (by omega) (x 0) (x 1) + term B W 2048 (by omega) (x 0) (x 1) + term C W 4096 (by omega) (x 0) (x 1))

theorem out_emb (c : Dev nD) (t : Fin cfg0.N) (i : Fin 512) (y : Fin 1024) (h : t.val % 3 = 2) :
    (outsAt0 m c t.val t.isLt).1 (ix2 i y) = gradX (arg m c main_arg4) (arg m c main_arg5) (arg m c main_arg6) (arg m c main_arg1) (arg m c main_arg3)
      ((win0_6.blk t).view.emb (ix2 i y)) := by
  rw [emb6, out2 m c t i y h, zero_add, add_zero]
  rfl

theorem arr6 (c : Dev nD) : (dats m 0 c).arrAt 6 cfg0.N
    = gradX (arg m c main_arg4) (arg m c main_arg5) (arg m c main_arg6) (arg m c main_arg1) (arg m c main_arg3) := by
  refine (dats m 0 c).arrAt_eq_of_covers 6 _ (by decide +kernel) fun t hf y => ?_
  have e := out_emb m c t (y 0) (y 1) ((flush0_6 t).mp hf)
  blk_simp
  rw [after0_6]
  rw [← ix2_eta y]
  exact e

end Cert.Kernel5Ideal.Val

namespace Cert.Reference5Ideal.Val

open Cert.Reference5Ideal Cert.Reference5Ideal.Read
open Idealize.ShloMosaic Idealize.ShloMosaic.Tactic
open Idealize.SL.Sem
open Cert.Kernel5Ideal.Val

variable (x1 : FVec Ideal S1024x6144 .f32) (x3 : FVec Ideal S4096x1024 .f32) (x4 x5 x6 : FVec Ideal S4096x2048 .f32)

theorem cat0 (r : Fin 4096) (l : Fin 2048) (h : l.val < 6144) : val_main_v11 (F := Ideal) x4 x5 x6 (ix2 r ⟨l.val, h⟩) = x4 (ix2 r l) := by
  pointwise [val_main_v11]
theorem cat1 (r : Fin 4096) (l : Fin 2048) (h : 2048 + l.val < 6144) : val_main_v11 (F := Ideal) x4 x5 x6 (ix2 r ⟨2048 + l.val, h⟩) = x5 (ix2 r l) := by
  pointwise [val_main_v11]
theorem cat2 (r : Fin 4096) (l : Fin 2048) (h : 2048 + (2048 + l.val) < 6144) : val_main_v11 (F := Ideal) x4 x5 x6 (ix2 r ⟨2048 + (2048 + l.val), h⟩) = x6 (ix2 r l) := by
  pointwise [val_main_v11]

theorem v18_at (r : Fin 4096) (y : Fin 1024) : val_main_v18 (F := Ideal) x1 x3 x4 x5 x6 (ix2 r y) = gradX x4 x5 x6 x1 x3 (ix2 r y) := by
  have h0 := cat0 x4 x5 x6 r
  have h1 := cat1 x4 x5 x6 r
  have h2 := cat2 x4 x5 x6 r
  unfold val_main_v18 val_main_v17
  revert h0 h1 h2
  generalize val_main_v11 (F := Ideal) x4 x5 x6 = A
  intro h0 h1 h2
  pointwise [val_main_v10, val_main_v9, val_main_cst_0]
  rw [sum_split 2048 4096 rfl, sum_split 2048 2048 rfl]
  simp only [h0, h1, h2]
  have t0 : term x4 x1 0 (by omega) r y = ∑ l : Fin 2048, x4 (ix2 r l) * x1 (ix2 y ⟨l.val, by omega⟩) :=
    Finset.sum_congr rfl fun l _ => congrArg _ (congrArg _ (congrArg _ (Fin.ext (by show 0 + l.val = l.val; omega))))
  have t2 : term x6 x1 4096 (by omega) r y = ∑ l : Fin 2048, x6 (ix2 r l) * x1 (ix2 y ⟨2048 + (2048 + l.val), by omega⟩) :=
    Finset.sum_congr rfl fun l _ => congrArg _ (congrArg _ (congrArg _ (Fin.ext (by show 4096 + l.val = 2048 + (2048 + l.val); omega))))
  show _ = alpha * x3 (ix2 r y) + (term x4 x1 0 (by omega) r y + term x5 x1 2048 (by omega) r y + term x6 x1 4096 (by omega) r y)
  rw [t0, t2]
  exact congrArg (alpha * x3 (ix2 r y) + ·) (add_assoc _ _ _).symm

end Cert.Reference5Ideal.Val

namespace Cert.Proof

open Idealize.ShloMosaic Idealize.SL.Sem
open Cert.Kernel5Ideal.Val Cert.Reference5Ideal.Val Cert.Reference5Ideal.Read

/-- The residual stream's gradient is the same in the kernel and in the reference. -/
theorem algebraic5 : Cert.algebraic_Kernel5Ideal_Reference5Ideal (hKernel5Ideal := Cert.Kernel5Ideal.Gen.facts)
    (hReference5Ideal := Cert.Reference5Ideal.Gen.facts) := by
  intro m g m' g' _ same
  refine ⟨fun c => gradX (arg m c Cert.Kernel5Ideal.main_arg4) (arg m c Cert.Kernel5Ideal.main_arg5) (arg m c Cert.Kernel5Ideal.main_arg6)
    (arg m c Cert.Kernel5Ideal.main_arg1) (arg m c Cert.Kernel5Ideal.main_arg3), ?_, ?_⟩
  · refine (θ_run _ _ _).mono (fun r h c => ?_) (Cert.Kernel5Ideal.Value.run_blocks (F := Ideal) m g)
    obtain ⟨h0, hrest⟩ := h c
    exact ⟨h0.trans (arr6 m c), hrest⟩
  · refine (θ_run _ _ _).mono (fun r h c => ?_) (Cert.Reference5Ideal.Value.run (F := Ideal) m' g')
    obtain ⟨e0, e1, e2, e3, e4, e5, e6⟩ := same c
    obtain ⟨h0, hrest⟩ := h c
    refine ⟨h0.trans ?_, hrest⟩
    rw [e1, e3, e4, e5, e6]
    refine (val_main_v18_eq _ _ _ _ _).trans (funext fun y => ?_)
    rw [← ix2_eta y]
    exact v18_at _ _ _ _ _ (y 0) (y 1)

/-- The reference runs to its end, and leaves its arguments and every counter as they were. -/
theorem frame_reference5 : Cert.quiescent_Reference5Ideal (hReference5Ideal := Cert.Reference5Ideal.Gen.facts) :=
  fun m g _ => (θ_run (Cert.Reference5Ideal.defs (F := Ideal)) _ _).mono
    (fun r h => ⟨fun c => (h c).2, sem_eq_zero_of_no_sems (by decide) r.2⟩)
    (Cert.Reference5Ideal.Value.run (F := Ideal) m g)

end Cert.Proof

end
-- ==== Proof.Norm.lean ====
/-
  The layer norm of a row, and its gradient in two arrangements: the calls' closed form, and the reference's terms, one per use
  of the row. At the reals the two are equal.
-/
module

public import proofs.«01_k».proof.Proof.Gate

@[expose] public section

noncomputable section

namespace Cert.Norm

open Idealize.ShloMosaic
open Cert.Attn (IsReal coe_sum)

/-- The words of the row's length, of the norm's epsilon, of two and of minus one half. -/
theorem lenWord : Ideal.ofBits .f32 0x45000000#32 = ((2048 : ℝ) : EReal) := by
  have h : Ideal.ofBits .f32 0x45000000#32 = ((8388608 : ℝ) : EReal) * (((2 ^ 12)⁻¹ : ℝ) : EReal) := by simp [Ideal.ofBits, Ideal.ieee]
  rw [h, ← EReal.coe_mul]
  norm_num
theorem epsWord : ∃ e : ℝ, 0 < e ∧ Ideal.ofBits .f32 0x3727C5AC#32 = (e : EReal) := by
  have h : Ideal.ofBits .f32 0x3727C5AC#32 = ((10995116 : ℝ) : EReal) * (((2 ^ 40)⁻¹ : ℝ) : EReal) := by simp [Ideal.ofBits, Ideal.ieee]
  rw [h, ← EReal.coe_mul]
  exact ⟨_, by norm_num, rfl⟩
theorem twoWord : Ideal.ofBits .f32 0x40000000#32 = ((2 : ℝ) : EReal) := by
  have h : Ideal.ofBits .f32 0x40000000#32 = ((8388608 : ℝ) : EReal) * (((2 ^ 22)⁻¹ : ℝ) : EReal) := by simp [Ideal.ofBits, Ideal.ieee]
  rw [h, ← EReal.coe_mul]
  norm_num
theorem negHalfWord : Ideal.ofBits .f32 0xBF000000#32 = ((-(1 / 2) : ℝ) : EReal) := by
  have h : Ideal.ofBits .f32 0xBF000000#32 = -(((8388608 : ℝ) : EReal) * (((2 ^ 24)⁻¹ : ℝ) : EReal)) := by simp [Ideal.ofBits, Ideal.ieee]
  rw [h, ← EReal.coe_mul, ← EReal.coe_neg]
  norm_num

/-- The mean of a row. -/
def mean (u : Fin 2048 → EReal) : EReal := Ideal.div (∑ j, u j) (Ideal.ofBits .f32 0x45000000#32)

/-- The row without its mean, its variance with the epsilon, and the scale to unit variance. -/
def cen (u : Fin 2048 → EReal) (j : Fin 2048) : EReal := u j - mean u
def wid (u : Fin 2048 → EReal) : EReal := mean (fun j => cen u j * cen u j) + Ideal.ofBits .f32 0x3727C5AC#32
def rstd (u : Fin 2048 → EReal) : EReal := Ideal.rsqrt (wid u)

/-- The normed row. -/
def nrm (u : Fin 2048 → EReal) (j : Fin 2048) : EReal := cen u j * rstd u

/-- The gradient of the row, for a gradient `c` of the normed row: the calls' closed form. -/
def bwd (u c : Fin 2048 → EReal) (j : Fin 2048) : EReal :=
  rstd u * (c j - mean c - nrm u j * mean (fun l => c l * nrm u l))

/-- The gradient of the row as the reference adds it up: through the scale, through the variance, and through the mean. -/
def slope (u c : Fin 2048 → EReal) : EReal :=
  Ideal.div ((∑ l, cen u l * c l) * (Ideal.ofBits .f32 0xBF000000#32 * Ideal.div (rstd u) (wid u))) (Ideal.ofBits .f32 0x45000000#32)
def terms (u c : Fin 2048 → EReal) (j : Fin 2048) : EReal :=
  (c j * rstd u + slope u c * (Ideal.ofBits .f32 0x40000000#32 * cen u j))
    + Ideal.div ((∑ l, -(c l * rstd u)) + ∑ l, -(slope u c * (Ideal.ofBits .f32 0x40000000#32 * cen u l))) (Ideal.ofBits .f32 0x45000000#32)

theorem mean_coe (U : Fin 2048 → ℝ) : mean (fun j => (U j : EReal)) = (((∑ j, U j) * (1 / 2048) : ℝ) : EReal) := by
  unfold mean
  rw [lenWord, Ideal.div_coe (by norm_num), coe_sum, ← EReal.coe_mul]

/-- A real row's parts: the centred row has sum zero, and the scale's square undoes the width. -/
theorem parts {u : Fin 2048 → EReal} (hu : ∀ j, IsReal (u j)) :
    ∃ (X : Fin 2048 → ℝ) (w r : ℝ), cen u = (fun j => (X j : EReal)) ∧ wid u = (w : EReal) ∧ rstd u = (r : EReal) ∧ ∑ j, X j = 0 ∧ 0 < w ∧ r * r * w = 1 := by
  choose U hU using hu
  obtain rfl : u = fun j => (U j : EReal) := funext hU
  obtain ⟨e, he, hw⟩ := epsWord
  have hc : cen (fun j => (U j : EReal)) = fun j => ((U j - (∑ l, U l) * (1 / 2048) : ℝ) : EReal) := funext fun j => by
    unfold cen
    rw [mean_coe, EReal.coe_sub]
  have hW : wid (fun j => (U j : EReal))
      = (((∑ j, (U j - (∑ l, U l) * (1 / 2048)) * (U j - (∑ l, U l) * (1 / 2048))) * (1 / 2048) + e : ℝ) : EReal) := by
    unfold wid
    rw [hc, hw, EReal.coe_add, ← mean_coe]
    simp only [EReal.coe_mul]
  have hp : 0 < (∑ j, (U j - (∑ l, U l) * (1 / 2048)) * (U j - (∑ l, U l) * (1 / 2048))) * (1 / 2048) + e :=
    add_pos_of_nonneg_of_pos (mul_nonneg (Finset.sum_nonneg fun j _ => mul_self_nonneg _) (by norm_num)) he
  revert hW hp
  generalize (∑ j, (U j - (∑ l, U l) * (1 / 2048)) * (U j - (∑ l, U l) * (1 / 2048))) * (1 / 2048) + e = w
  intro hW hp
  refine ⟨_, w, (Real.sqrt w)⁻¹, hc, hW, ?_, ?_, hp, ?_⟩
  · unfold rstd
    rw [hW, Ideal.rsqrt_coe, if_neg hp.le.not_gt, if_neg hp.ne']
  · rw [Finset.sum_sub_distrib, Finset.sum_const, Finset.card_univ, Fintype.card_fin, nsmul_eq_mul]
    push_cast
    ring
  · rw [← mul_inv, Real.mul_self_sqrt hp.le, inv_mul_cancel₀ hp.ne']

theorem nrm_real {u : Fin 2048 → EReal} (hu : ∀ j, IsReal (u j)) (j : Fin 2048) : IsReal (nrm u j) := by
  obtain ⟨X, w, r, hX, hw, hr, -⟩ := parts hu
  unfold nrm
  rw [hX, hr]
  exact IsReal.mul ⟨_, rfl⟩ ⟨_, rfl⟩

/-- The two arrangements are equal at the reals. -/
theorem terms_eq {u c : Fin 2048 → EReal} (hu : ∀ j, IsReal (u j)) (hc : ∀ j, IsReal (c j)) (j : Fin 2048) : terms u c j = bwd u c j := by
  obtain ⟨X, w, r, hX, hw, hr, h0, hp, h1⟩ := parts hu
  choose C hC using hc
  obtain rfl : c = fun j => (C j : EReal) := funext hC
  have hs : slope u (fun j => (C j : EReal)) = (((∑ l, X l * C l) * (-(1 / 2) * (r * (1 / w))) * (1 / 2048) : ℝ) : EReal) := by
    unfold slope
    rw [hX, hw, hr, negHalfWord, lenWord, Ideal.div_coe (by norm_num), Ideal.div_coe hp.ne']
    simp only [← EReal.coe_mul, coe_sum]
  have ht : terms u (fun j => (C j : EReal)) j
      = (((C j * r + (∑ l, X l * C l) * (-(1 / 2) * (r * (1 / w))) * (1 / 2048) * (2 * X j))
        + ((∑ l, -(C l * r)) + ∑ l, -((∑ l, X l * C l) * (-(1 / 2) * (r * (1 / w))) * (1 / 2048) * (2 * X l))) * (1 / 2048) : ℝ) : EReal) := by
    unfold terms
    rw [hs, hX, hr, twoWord, lenWord, Ideal.div_coe (by norm_num)]
    simp only [← EReal.coe_mul, ← EReal.coe_neg, coe_sum, ← EReal.coe_add]
  have hb : bwd u (fun j => (C j : EReal)) j
      = ((r * (C j - (∑ l, C l) * (1 / 2048) - X j * r * ((∑ l, C l * (X l * r)) * (1 / 2048))) : ℝ) : EReal) := by
    have hm : mean (fun l => (C l : EReal) * nrm u l) = (((∑ l, C l * (X l * r)) * (1 / 2048) : ℝ) : EReal) := by
      rw [← mean_coe]
      unfold nrm
      rw [hX, hr]
      simp only [← EReal.coe_mul]
    unfold bwd
    rw [hm, mean_coe]
    unfold nrm
    rw [hX, hr]
    simp only [← EReal.coe_mul, ← EReal.coe_sub]
  rw [ht, hb]
  refine congrArg _ ?_
  have e1 : ∑ l, -(C l * r) = -((∑ l, C l) * r) := by rw [Finset.sum_neg_distrib, Finset.sum_mul]
  have e2 : ∀ q : ℝ, ∑ l, -(q * (2 * X l)) = 0 := fun q => by
    rw [Finset.sum_neg_distrib, ← Finset.mul_sum, ← Finset.mul_sum, h0, mul_zero, mul_zero, neg_zero]
  have e3 : ∑ l, C l * (X l * r) = (∑ l, X l * C l) * r := by
    rw [Finset.sum_mul]
    exact Finset.sum_congr rfl fun l _ => by ring
  rw [e1, e2, e3]
  have e4 : 1 / w = r * r := by rw [one_div, eq_comm]; exact eq_inv_of_mul_eq_one_left h1
  rw [e4]
  ring

end Cert.Norm

end
-- ==== Proof.BranchBwd.lean ====
/-
  The call for the gradients at the convolution's output: each grid point takes 256 rows, and the arrays after the run are the
  gradients of the rows, of the gate's part of the projection, and of the norm's scale and shift.
-/
module

public import proofs.«01_k».proof.Defs
public import proofs.«01_k».proof.Proof.Gate
public import proofs.«01_k».proof.Proof.Norm
public import proofs.«01_k».proof.Proof.Finite
public import proofs.«01_k».proof.Proof.Gen.Kernel6Ideal.Value
public import proofs.«01_k».proof.Proof.Gen.Pre_finite6
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Branch

open Cert.Attn Cert.Norm

/-! ## One row: `a` the gradient of the product, `z` the gate's row, `u` the norm's, `g` and `b` its scale and shift -/

section
variable (a z u g b : Fin 2048 → EReal) (y : Fin 2048)

/-- The normed, scaled and shifted row. -/
def pre : EReal := nrm u y * g y + b y

/-- Its gradient, the gate's gradient and the row's gradient. -/
def gradP : EReal := a y * (z y * sigm (z y)) * (sigm (pre u g b y) * (1 + pre u g b y * (1 - sigm (pre u g b y))))
def gradZ : EReal := a y * (pre u g b y * sigm (pre u g b y)) * (sigm (z y) * (1 + z y * (1 - sigm (z y))))
def gradU : EReal := bwd u (fun l => gradP a z u g b l * g l) y
end

section
variable {a z u g b : Fin 2048 → EReal} (ha : ∀ y, IsReal (a y)) (hz : ∀ y, IsReal (z y)) (hu : ∀ y, IsReal (u y)) (hg : ∀ y, IsReal (g y))
  (hb : ∀ y, IsReal (b y)) (y : Fin 2048)
include hu hg hb

theorem pre_real : IsReal (pre u g b y) := ((nrm_real hu y).mul (hg y)).add (hb y)

include ha hz

/-- The two gradients as the reference adds them up. -/
theorem gradP_eq : a y * (z y * sigm (z y)) * sigm (pre u g b y)
      + pre u g b y * (a y * (z y * sigm (z y))) * (sigm (pre u g b y) * (1 - sigm (pre u g b y))) = gradP a z u g b y := by
  refine Eq.trans ?_ (gate_deriv (ha y) ((hz y).mul (sigm_real (hz y))) (pre_real hu hg hb y)).symm
  rw [mul_comm (z y * sigm (z y)) (a y)]
theorem gradZ_eq : pre u g b y * sigm (pre u g b y) * a y * sigm (z y)
      + z y * (pre u g b y * sigm (pre u g b y) * a y) * (sigm (z y) * (1 - sigm (z y))) = gradZ a z u g b y :=
  (gate_deriv (ha y) ((pre_real hu hg hb y).mul (sigm_real (pre_real hu hg hb y))) (hz y)).symm
theorem gradP_real : IsReal (gradP a z u g b y) := by
  have one : IsReal 1 := ⟨1, EReal.coe_one.symm⟩
  have hp := pre_real hu hg hb y
  exact ((ha y).mul ((hz y).mul (sigm_real (hz y)))).mul ((sigm_real hp).mul (one.add (hp.mul (one.sub (sigm_real hp)))))
end

end Cert.Branch

namespace Cert.Kernel6Ideal.Val

open Cert.Kernel6Ideal Cert.Kernel6Ideal.Gen Cert.Kernel6Ideal.Value
open Idealize.ShloMosaic Idealize.ShloMosaic.TcCoe Idealize.ShloMosaic.Tactic
open Idealize.SL.Sem
open Cert.Attn Cert.Norm

variable (m : (ℓ : Loc nD τ sig) → Buf (Elt Ideal) ℓ)

/-- An argument as launched. -/
abbrev arg (c : Dev nD) (b : Ref sig .tc) := m (c, Proc.tc.devRef b)

/-! ## The rows of the arguments -/

section
variable (U : FVec Ideal S4096x2048 .f32) (Z : FVec Ideal S4096x6144 .f32) (g b : FVec Ideal S2048 .f32) (W : FVec Ideal S2048x1024 .f32)
  (G : FVec Ideal S4096x1024 .f32)

/-- A row of the norm's input, of the projection's last part, and of the product's gradient. -/
def rowU (r : Fin 4096) (y : Fin 2048) : EReal := U (ix2 r y)
def rowZ (r : Fin 4096) (y : Fin 2048) : EReal := Z (ix2 r ⟨4096 + y.val, by omega⟩)
def rowA (r : Fin 4096) (y : Fin 2048) : EReal := ∑ k : Fin 1024, G (ix2 r k) * W (ix2 y k)
def vec (v : FVec Ideal S2048 .f32) (y : Fin 2048) : EReal := v (ix1 y)

/-- The gradient of the normed row. -/
def gradP (r : Fin 4096) (y : Fin 2048) : EReal := Branch.gradP (rowA W G r) (rowZ Z r) (rowU U r) (vec g) (vec b) y

/-- The four gradients. -/
def outU : FVec Ideal S4096x2048 .f32 := fun x => Branch.gradU (rowA W G (x 0)) (rowZ Z (x 0)) (rowU U (x 0)) (vec g) (vec b) (x 1)
def outZ : FVec Ideal S4096x2048 .bf16 := fun x => Branch.gradZ (rowA W G (x 0)) (rowZ Z (x 0)) (rowU U (x 0)) (vec g) (vec b) (x 1)
def outG : FVec Ideal S1x2048 .f32 := fun x => ∑ r : Fin 4096, gradP U Z g b W G r (x 1) * nrm (rowU U r) (x 1)
def outB : FVec Ideal S1x2048 .f32 := fun x => ∑ r : Fin 4096, gradP U Z g b W G r (x 1)
end

/-! ## One point -/

section
variable (P0 : FVec Ideal S256x1024 .f32) (P1 : FVec Ideal S2048x1024 .bf16) (P2 P3 : FVec Ideal S256x2048 .f32) (P4 P5 : FVec Ideal S1x2048 .f32)
  (i : Fin 256) (y : Fin 2048)

/-- A row of a block. -/
def brow (P : FVec Ideal S256x2048 .f32) (i : Fin 256) (y : Fin 2048) : EReal := P (ix2 i y)
def bacc (i : Fin 256) (y : Fin 2048) : EReal := ∑ k : Fin 1024, P0 (ix2 i k) * P1 (ix2 y k)
def bvec (P : FVec Ideal S1x2048 .f32) (y : Fin 2048) : EReal := P (ix2 0 y)

theorem pay5_at : k0_pay5 (F := Ideal) P0 P1 (ix2 i y) = bacc P0 P1 i y := by
  pointwise [k0_pay5, bacc]

theorem pay6_at (o : Fin 1) : k0_pay6 (F := Ideal) P4 (ix2 o y) = bvec P4 y := by
  obtain rfl := Subsingleton.elim o 0
  pointwise [k0_pay6, bvec]

theorem pay7_at : k0_pay7 (F := Ideal) P2 (ix2 i y) = cen (brow P2 i) y := by
  pointwise [k0_pay7]
  rfl

theorem pay8_at (o : Fin 1) : k0_pay8 (F := Ideal) P2 (ix2 i o) = rstd (brow P2 i) := by
  have h := fun y => pay7_at P2 i y
  unfold k0_pay8
  revert h
  generalize k0_pay7 (F := Ideal) P2 = A
  intro h
  pointwise
  simp only [h]
  rfl

theorem pay9_at : k0_pay9 (F := Ideal) P2 (ix2 i y) = nrm (brow P2 i) y := by
  have h := pay7_at P2 i y
  have h' := fun o => pay8_at P2 i o
  unfold k0_pay9
  revert h h'
  generalize k0_pay7 (F := Ideal) P2 = A
  generalize k0_pay8 (F := Ideal) P2 = B
  intro h h'
  pointwise
  rw [h, h']
  rfl

theorem pay10_at : k0_pay10 (F := Ideal) P2 P4 P5 (ix2 i y) = Branch.pre (brow P2 i) (bvec P4) (bvec P5) y := by
  have h := pay9_at P2 i y
  have h' := fun o => pay6_at P4 y o
  unfold k0_pay10
  revert h h'
  generalize k0_pay9 (F := Ideal) P2 = A
  generalize k0_pay6 (F := Ideal) P4 = B
  intro h h'
  pointwise
  rw [h, h']
  rfl

/-- The gate's argument is read as its half's hyperbolic tangent first. -/
theorem pay12_at : k0_pay12 (F := Ideal) (k0_pay11 (F := Ideal) P3) (Scalar.ofBits .f32 0x3F000000#32) (ix2 i y) = sigm (P3 (ix2 i y)) := by
  pointwise [k0_pay12, k0_pay11]
  rw [sigm_tanh]

theorem pay13_at : k0_pay13 (F := Ideal) P3 (ix2 i y) = sigm (P3 (ix2 i y)) := by
  pointwise [k0_pay13]
  rw [sigm_tanh]

/-- The payloads at the point's blocks. -/
abbrev acc6 := k0_pay5 (F := Ideal) P0 P1
abbrev pre6 := k0_pay10 (F := Ideal) P2 P4 P5
abbrev dz6 := k0_pay14 (F := Ideal) (acc6 P0 P1) P3 (pre6 P2 P4 P5) (k0_pay11 (F := Ideal) P3) (Scalar.ofBits .f32 0x3F000000#32)
abbrev dp6 := k0_pay15 (F := Ideal) (acc6 P0 P1) P3 (pre6 P2 P4 P5) (k0_pay11 (F := Ideal) P3) (Scalar.ofBits .f32 0x3F000000#32)
abbrev du6 := k0_pay16 (F := Ideal) (acc6 P0 P1) P3 (k0_pay6 (F := Ideal) P4) (k0_pay8 (F := Ideal) P2) (k0_pay9 (F := Ideal) P2) (pre6 P2 P4 P5)
  (k0_pay11 (F := Ideal) P3) (Scalar.ofBits .f32 0x3F000000#32)
abbrev dg6 := k0_pay17 (F := Ideal) (acc6 P0 P1) P3 (k0_pay9 (F := Ideal) P2) (pre6 P2 P4 P5) (k0_pay11 (F := Ideal) P3) (Scalar.ofBits .f32 0x3F000000#32)
abbrev db6 := k0_pay1 (F := Ideal) (dp6 P0 P1 P2 P3 P4 P5)

theorem dz6_at : dz6 P0 P1 P2 P3 P4 P5 (ix2 i y) = Branch.gradZ (bacc P0 P1 i) (brow P3 i) (brow P2 i) (bvec P4) (bvec P5) y := by
  have ha := pay5_at P0 P1 i y
  have hp := pay10_at P2 P4 P5 i y
  have hs := pay12_at P3 i y
  unfold dz6 acc6 pre6 k0_pay14
  revert ha hp hs
  generalize k0_pay5 (F := Ideal) P0 P1 = A
  generalize k0_pay10 (F := Ideal) P2 P4 P5 = B
  generalize k0_pay12 (F := Ideal) (k0_pay11 (F := Ideal) P3) _ = S
  intro ha hp hs
  have ht := pay13_at B i y
  revert ht
  generalize k0_pay13 (F := Ideal) B = T
  intro ht
  pointwise
  rw [ht, ha, hp, hs]
  rfl

theorem dp6_at : dp6 P0 P1 P2 P3 P4 P5 (ix2 i y) = Branch.gradP (bacc P0 P1 i) (brow P3 i) (brow P2 i) (bvec P4) (bvec P5) y := by
  have ha := pay5_at P0 P1 i y
  have hp := pay10_at P2 P4 P5 i y
  have hs := pay12_at P3 i y
  unfold dp6 acc6 pre6 k0_pay15
  revert ha hp hs
  generalize k0_pay5 (F := Ideal) P0 P1 = A
  generalize k0_pay10 (F := Ideal) P2 P4 P5 = B
  generalize k0_pay12 (F := Ideal) (k0_pay11 (F := Ideal) P3) _ = S
  intro ha hp hs
  have ht := pay13_at B i y
  revert ht
  generalize k0_pay13 (F := Ideal) B = T
  intro ht
  pointwise
  rw [ht, ha, hp, hs]
  rfl

theorem du6_at : du6 P0 P1 P2 P3 P4 P5 (ix2 i y) = Branch.gradU (bacc P0 P1 i) (brow P3 i) (brow P2 i) (bvec P4) (bvec P5) y := by
  have hd := fun y => dp6_at P0 P1 P2 P3 P4 P5 i y
  have hg := fun y o => pay6_at P4 y o
  have hr := fun o => pay8_at P2 i o
  have hn := fun y => pay9_at P2 i y
  unfold du6 k0_pay16
  unfold dp6 at hd
  revert hd hg hr hn
  generalize k0_pay15 (F := Ideal) (acc6 P0 P1) P3 _ _ _ = D
  generalize k0_pay6 (F := Ideal) P4 = A
  generalize k0_pay8 (F := Ideal) P2 = R
  generalize k0_pay9 (F := Ideal) P2 = N
  intro hd hg hr hn
  pointwise
  simp only [hd, hg, hr, hn]
  rfl

theorem dg6_at (o : Fin 1) : dg6 P0 P1 P2 P3 P4 P5 (ix2 o y)
    = ∑ i : Fin 256, Branch.gradP (bacc P0 P1 i) (brow P3 i) (brow P2 i) (bvec P4) (bvec P5) y * nrm (brow P2 i) y := by
  have hd := fun i => dp6_at P0 P1 P2 P3 P4 P5 i y
  have hn := fun i => pay9_at P2 i y
  unfold dg6 k0_pay17
  unfold dp6 at hd
  revert hd hn
  generalize k0_pay15 (F := Ideal) (acc6 P0 P1) P3 _ _ _ = D
  generalize k0_pay9 (F := Ideal) P2 = N
  intro hd hn
  pointwise
  simp only [hd, hn]

theorem db6_at (o : Fin 1) : db6 P0 P1 P2 P3 P4 P5 (ix2 o y)
    = ∑ i : Fin 256, Branch.gradP (bacc P0 P1 i) (brow P3 i) (brow P2 i) (bvec P4) (bvec P5) y := by
  have hd := fun i => dp6_at P0 P1 P2 P3 P4 P5 i y
  unfold db6 k0_pay1
  revert hd
  generalize dp6 P0 P1 P2 P3 P4 P5 = D
  intro hd
  pointwise
  simp only [hd]

theorem pay3_at (A B : FVec Ideal S1x2048 .f32) (o : Fin 1) : k0_pay3 (F := Ideal) A B (ix2 o y) = (B (ix2 o y) + A (ix2 o y) : EReal) := by
  pointwise [k0_pay3]

theorem pay4_at (A : FVec Ideal S256x2048 .f32) (B : FVec Ideal S1x2048 .f32) (o : Fin 1) :
    k0_pay4 (F := Ideal) A B (ix2 o y) = (B (ix2 o y) + k0_pay1 (F := Ideal) A (ix2 o y) : EReal) := by
  unfold k0_pay4
  generalize k0_pay1 (F := Ideal) A = C
  pointwise
end

/-! ## The outputs after each point -/

/-- A function of the point's blocks. -/
abbrev at6 {α : Type} (c : Dev nD) (t : Fin cfg0.N)
    (f : FVec Ideal S256x1024 .f32 → FVec Ideal S2048x1024 .bf16 → FVec Ideal S256x2048 .f32 → FVec Ideal S256x2048 .f32 → FVec Ideal S1x2048 .f32
      → FVec Ideal S1x2048 .f32 → α) : α :=
  f (iblk m c 0 t) (iblk m c 1 t) (iblk m c 2 t) (iblk m c 3 t) (iblk m c 4 t) (iblk m c 5 t)

/-- The first point starts both sums. -/
theorem first_eq (c : Dev nD) (t : Fin cfg0.N) (h : t.val % 16 = 0) :
    outsAt0 m c t.val t.isLt = (at6 m c t du6, k0_pay2 (F := Ideal) (at6 m c t dz6), at6 m c t dg6, at6 m c t db6) := by
  have hN := lt_of_lt_of_eq t.isLt N_0
  rw [outsAt0_A m c t h (by omega) h (by omega)]
  frame_out

/-- The outputs after the point before. -/
abbrev prev (c : Dev nD) (t : Fin cfg0.N) := outsAt0 m c (t.val - 1) (Nat.lt_of_le_of_lt (Nat.sub_le _ _) t.isLt)

/-- Every other point adds to both. -/
theorem step_eq (c : Dev nD) (t : Fin cfg0.N) (h : ¬t.val % 16 = 0) :
    outsAt0 m c t.val t.isLt = (at6 m c t du6, k0_pay2 (F := Ideal) (at6 m c t dz6), k0_pay3 (F := Ideal) (at6 m c t dg6) (prev m c t).2.2.1,
      k0_pay4 (F := Ideal) (at6 m c t dp6) (prev m c t).2.2.2) := by
  have hN := lt_of_lt_of_eq t.isLt N_0
  rw [outsAt0_B m c t h (by omega) h (by omega)]
  frame_out

theorem du_eq (c : Dev nD) (t : Fin cfg0.N) : (outsAt0 m c t.val t.isLt).1 = at6 m c t du6 := by
  by_cases h : t.val % 16 = 0
  · rw [first_eq m c t h]
  · rw [step_eq m c t h]
theorem dz_eq (c : Dev nD) (t : Fin cfg0.N) : (outsAt0 m c t.val t.isLt).2.1 = k0_pay2 (F := Ideal) (at6 m c t dz6) := by
  by_cases h : t.val % 16 = 0
  · rw [first_eq m c t h]
  · rw [step_eq m c t h]

theorem sumG (c : Dev nD) (t : Fin cfg0.N) (h : t.val % 16 = 15) (j : S1x2048.Idx) :
    (outsAt0 m c t.val t.isLt).2.2.1 j = (∑ s : Fin 16, at6 m c ⟨16 * (t.val / 16) + s.val, Pipeline.run_point_lt_of_flush t h s⟩ dg6 j : EReal) := by
  have h := Pipeline.eq_sum_fin_of_reset_step_apply_of_flush (fun n h => (outsAt0 m c n h).2.2.1) 16 (fun _ => (0 : EReal))
    (fun p j => at6 m c p dg6 j)
    (fun t h j => by
      rw [first_eq m c t h]
      exact (zero_add _).symm)
    (fun t h j => by
      rw [step_eq m c t h, ← ix2_eta j]
      exact pay3_at (j 1) _ _ (j 0))
    t h j
  rw [h, zero_add]

theorem sumB (c : Dev nD) (t : Fin cfg0.N) (h : t.val % 16 = 15) (j : S1x2048.Idx) :
    (outsAt0 m c t.val t.isLt).2.2.2 j = (∑ s : Fin 16, at6 m c ⟨16 * (t.val / 16) + s.val, Pipeline.run_point_lt_of_flush t h s⟩ db6 j : EReal) := by
  have h := Pipeline.eq_sum_fin_of_reset_step_apply_of_flush (fun n h => (outsAt0 m c n h).2.2.2) 16 (fun _ => (0 : EReal))
    (fun p j => at6 m c p db6 j)
    (fun t h j => by
      rw [first_eq m c t h]
      exact (zero_add _).symm)
    (fun t h j => by
      rw [step_eq m c t h, ← ix2_eta j]
      exact pay4_at (j 1) _ _ (j 0))
    t h j
  rw [h, zero_add]

/-! ## The blocks read -/

theorem idx : ∀ t : Fin grid0.N,
    win0_0.index t = ![t.val, 0] ∧ win0_1.index t = ![0, 0] ∧ win0_2.index t = ![t.val, 0] ∧ win0_3.index t = ![t.val, 2]
      ∧ win0_4.index t = ![0, 0] ∧ win0_5.index t = ![0, 0] ∧ win0_6.index t = ![t.val, 0] ∧ win0_7.index t = ![t.val, 0]
      ∧ win0_8.index t = ![0, 0] ∧ win0_9.index t = ![0, 0] := by decide +kernel

theorem v0_at (c : Dev nD) (o : Fin 1) (y : Fin 2048) : (V m c main_v0 : FVec Ideal S1x2048 .f32) (ix2 o y) = vec (arg m c main_arg2) y := by
  have e : (V m c main_v0 : FVec Ideal S1x2048 .f32) = shapeCast S1x2048 (arg m c main_arg2 : FVec Ideal S2048 .f32) shapeCasts_S2048_S1x2048 := by
    dsimp only [V]; simp only [hostOps0]; after_reads_simp; rfl
  rw [e]
  generalize (arg m c main_arg2 : FVec Ideal S2048 .f32) = v
  pointwise
  rfl
theorem v1_at (c : Dev nD) (o : Fin 1) (y : Fin 2048) : (V m c main_v1 : FVec Ideal S1x2048 .f32) (ix2 o y) = vec (arg m c main_arg3) y := by
  have e : (V m c main_v1 : FVec Ideal S1x2048 .f32) = shapeCast S1x2048 (arg m c main_arg3 : FVec Ideal S2048 .f32) shapeCasts_S2048_S1x2048 := by
    dsimp only [V]; simp only [hostOps0]; after_reads_simp; rfl
  rw [e]
  generalize (arg m c main_arg3 : FVec Ideal S2048 .f32) = v
  pointwise
  rfl
theorem v2_eq (c : Dev nD) : V m c main_v2 = truncf (F := Ideal) .bf16 (arg m c main_arg4) bitsLt_bf16_f32 := by
  dsimp only [V]; simp only [hostOps0]; after_reads_simp

section
variable (t : Fin cfg0.N) (i : Fin 256) (y : Fin 2048)

/-- Row `i` of point `t`'s block. -/
def row : Fin 4096 := ⟨256 * t.val + i.val, by have := lt_of_lt_of_eq t.isLt N_0; omega⟩

theorem in0 (G : FVec Ideal S4096x1024 .f32) (k : Fin 1024) : (win0_0.blk t).view.read (Elt Ideal) G (ix2 i k) = G (ix2 (row t i) k) := by
  obtain ⟨i0, i1, i2, i3, i4, i5, i6, i7, i8, i9⟩ := idx t
  blk_ext [i0, row] <;> omega
theorem in1 (W : FVec Ideal S2048x1024 .bf16) (k : Fin 1024) : (win0_1.blk t).view.read (Elt Ideal) W (ix2 y k) = W (ix2 y k) := by
  obtain ⟨i0, i1, i2, i3, i4, i5, i6, i7, i8, i9⟩ := idx t
  blk_ext [i1] <;> omega
theorem in2 (U : FVec Ideal S4096x2048 .f32) : (win0_2.blk t).view.read (Elt Ideal) U (ix2 i y) = U (ix2 (row t i) y) := by
  obtain ⟨i0, i1, i2, i3, i4, i5, i6, i7, i8, i9⟩ := idx t
  blk_ext [i2, row] <;> omega
theorem in3 (Z : FVec Ideal S4096x6144 .f32) : (win0_3.blk t).view.read (Elt Ideal) Z (ix2 i y) = rowZ Z (row t i) y := by
  obtain ⟨i0, i1, i2, i3, i4, i5, i6, i7, i8, i9⟩ := idx t
  unfold rowZ
  blk_ext [i3, row] <;> omega
theorem in4 (g : FVec Ideal S1x2048 .f32) : (win0_4.blk t).view.read (Elt Ideal) g (ix2 (0 : Fin 1) y) = g (ix2 0 y) := by
  obtain ⟨i0, i1, i2, i3, i4, i5, i6, i7, i8, i9⟩ := idx t
  blk_ext [i4] <;> omega
theorem in5 (g : FVec Ideal S1x2048 .f32) : (win0_5.blk t).view.read (Elt Ideal) g (ix2 (0 : Fin 1) y) = g (ix2 0 y) := by
  obtain ⟨i0, i1, i2, i3, i4, i5, i6, i7, i8, i9⟩ := idx t
  blk_ext [i5] <;> omega
theorem emb6 : (win0_6.blk t).view.emb (ix2 i y) = ix2 (row t i) y := by
  obtain ⟨i0, i1, i2, i3, i4, i5, i6, i7, i8, i9⟩ := idx t
  blk_ext [i6, row] <;> omega
theorem emb7 : (win0_7.blk t).view.emb (ix2 i y) = ix2 (row t i) y := by
  obtain ⟨i0, i1, i2, i3, i4, i5, i6, i7, i8, i9⟩ := idx t
  blk_ext [i7, row] <;> omega
theorem emb8 (o : Fin 1) : (win0_8.blk t).view.emb (ix2 o y) = ix2 o y := by
  obtain ⟨i0, i1, i2, i3, i4, i5, i6, i7, i8, i9⟩ := idx t
  blk_ext [i8] <;> omega
theorem emb9 (o : Fin 1) : (win0_9.blk t).view.emb (ix2 o y) = ix2 o y := by
  obtain ⟨i0, i1, i2, i3, i4, i5, i6, i7, i8, i9⟩ := idx t
  blk_ext [i9] <;> omega

variable (c : Dev nD)

theorem bacc_eq : bacc (iblk m c 0 t) (iblk m c 1 t) i = rowA (arg m c main_arg4) (arg m c main_arg6) (row t i) := funext fun y => by
  have e0 := fun k => in0 t i (V m c main_arg6) k
  have e1 := fun k => in1 t y (V m c main_v2) k
  rw [V_main_arg6] at e0
  rw [v2_eq] at e1
  exact Finset.sum_congr rfl fun k _ => congrArg₂ (fun a b : EReal => a * b) (e0 k) (e1 k)
theorem browU_eq : brow (iblk m c 2 t) i = rowU (arg m c main_arg0) (row t i) := funext fun y => by
  have e := in2 t i y (V m c main_arg0)
  rw [V_main_arg0] at e
  exact e
theorem browZ_eq : brow (iblk m c 3 t) i = rowZ (arg m c main_arg1) (row t i) := funext fun y => by
  have e := in3 t i y (V m c main_arg1)
  rw [V_main_arg1] at e
  exact e
theorem bvecG_eq : bvec (iblk m c 4 t) = vec (arg m c main_arg2) := funext fun y => (in4 t y (V m c main_v0)).trans (v0_at m c 0 y)
theorem bvecB_eq : bvec (iblk m c 5 t) = vec (arg m c main_arg3) := funext fun y => (in5 t y (V m c main_v1)).trans (v1_at m c 0 y)
end

/-! ## The arrays after the run -/

theorem arr6 (c : Dev nD) : (dats m 0 c).arrAt 6 cfg0.N
    = outU (arg m c main_arg0) (arg m c main_arg1) (arg m c main_arg2) (arg m c main_arg3) (arg m c main_arg4) (arg m c main_arg6) := by
  refine (dats m 0 c).arrAt_eq_of_covers 6 _ (by decide +kernel) fun t hf y => ?_
  have e (i : Fin 256) (j : Fin 2048) : at6 m c t du6 (ix2 i j) = outU (arg m c main_arg0) (arg m c main_arg1) (arg m c main_arg2) (arg m c main_arg3) (arg m c main_arg4)
      (arg m c main_arg6) ((win0_6.blk t).view.emb (ix2 i j)) := by
    rw [emb6]
    refine (du6_at _ _ _ _ _ _ i j).trans ?_
    rw [bacc_eq, browU_eq, browZ_eq, bvecG_eq, bvecB_eq]
    rfl
  blk_simp
  rw [after0_6, du_eq, ← ix2_eta y]
  exact e (y 0) (y 1)

theorem arr7 (c : Dev nD) : (dats m 0 c).arrAt 7 cfg0.N
    = outZ (arg m c main_arg0) (arg m c main_arg1) (arg m c main_arg2) (arg m c main_arg3) (arg m c main_arg4) (arg m c main_arg6) := by
  refine (dats m 0 c).arrAt_eq_of_covers 7 _ (by decide +kernel) fun t hf y => ?_
  have e (i : Fin 256) (j : Fin 2048) : at6 m c t dz6 (ix2 i j) = outZ (arg m c main_arg0) (arg m c main_arg1) (arg m c main_arg2) (arg m c main_arg3) (arg m c main_arg4)
      (arg m c main_arg6) ((win0_7.blk t).view.emb (ix2 i j)) := by
    rw [emb7]
    refine (dz6_at _ _ _ _ _ _ i j).trans ?_
    rw [bacc_eq, browU_eq, browZ_eq, bvecG_eq, bvecB_eq]
    rfl
  blk_simp
  rw [after0_7, dz_eq, ← ix2_eta y]
  exact e (y 0) (y 1)

theorem arr8 (c : Dev nD) : (dats m 0 c).arrAt 8 cfg0.N
    = outG (arg m c main_arg0) (arg m c main_arg1) (arg m c main_arg2) (arg m c main_arg3) (arg m c main_arg4) (arg m c main_arg6) := by
  refine (dats m 0 c).arrAt_eq_of_covers 8 _ (by decide +kernel) fun t hf y => ?_
  have h := (flush0_8 t).mp hf
  have e (i : Fin 1) (j : Fin 2048) : (outsAt0 m c t.val t.isLt).2.2.1 (ix2 i j) = outG (arg m c main_arg0) (arg m c main_arg1) (arg m c main_arg2) (arg m c main_arg3)
      (arg m c main_arg4) (arg m c main_arg6) ((win0_8.blk t).view.emb (ix2 i j)) := by
    rw [emb8]
    refine ((sumG m c t h _).trans (Finset.sum_congr rfl fun s _ => dg6_at _ _ _ _ _ _ j i)).trans ?_
    refine Fin.sum_mul_add_congr (S := 16) (n := 256) fun s k hl => ?_
    have hp := Pipeline.run_point_lt_of_flush t h s
    have hN := lt_of_lt_of_eq t.isLt N_0
    have hr : row ⟨16 * (t.val / 16) + s.val, hp⟩ k = ⟨s.val * 256 + k.val, hl⟩ :=
      Fin.ext (by show 256 * (16 * (t.val / 16) + s.val) + k.val = s.val * 256 + k.val; omega)
    rw [bacc_eq, browU_eq, browZ_eq, bvecG_eq, bvecB_eq, hr]
    rfl
  blk_simp
  rw [after0_8, ← ix2_eta y]
  exact e (y 0) (y 1)

theorem arr9 (c : Dev nD) : (dats m 0 c).arrAt 9 cfg0.N
    = outB (arg m c main_arg0) (arg m c main_arg1) (arg m c main_arg2) (arg m c main_arg3) (arg m c main_arg4) (arg m c main_arg6) := by
  refine (dats m 0 c).arrAt_eq_of_covers 9 _ (by decide +kernel) fun t hf y => ?_
  have h := (flush0_9 t).mp hf
  have e (i : Fin 1) (j : Fin 2048) : (outsAt0 m c t.val t.isLt).2.2.2 (ix2 i j) = outB (arg m c main_arg0) (arg m c main_arg1) (arg m c main_arg2) (arg m c main_arg3)
      (arg m c main_arg4) (arg m c main_arg6) ((win0_9.blk t).view.emb (ix2 i j)) := by
    rw [emb9]
    refine ((sumB m c t h _).trans (Finset.sum_congr rfl fun s _ => db6_at _ _ _ _ _ _ j i)).trans ?_
    refine Fin.sum_mul_add_congr (S := 16) (n := 256) fun s k hl => ?_
    have hp := Pipeline.run_point_lt_of_flush t h s
    have hN := lt_of_lt_of_eq t.isLt N_0
    have hr : row ⟨16 * (t.val / 16) + s.val, hp⟩ k = ⟨s.val * 256 + k.val, hl⟩ :=
      Fin.ext (by show 256 * (16 * (t.val / 16) + s.val) + k.val = s.val * 256 + k.val; omega)
    rw [bacc_eq, browU_eq, browZ_eq, bvecG_eq, bvecB_eq, hr]
    rfl
  blk_simp
  rw [after0_9, ← ix2_eta y]
  exact e (y 0) (y 1)

end Cert.Kernel6Ideal.Val

end
-- ==== Proof.BranchEqual.lean ====
/-
  The reference's gradients at the convolution branch's output are the call's: the derivative of the norm adds up to the closed form
  the call computes, and the derivatives of the two gates to the call's.
-/
module

public import proofs.«01_k».proof.Defs
public import proofs.«01_k».proof.Proof.Finite
public import proofs.«01_k».proof.Proof.BranchBwd

@[expose] public section

set_option maxRecDepth 16384

noncomputable section

namespace Cert.Reference6Ideal.Val

open Cert.Reference6Ideal Cert.Reference6Ideal.Read
open Idealize.ShloMosaic Idealize.ShloMosaic.Tactic
open Idealize.SL.Sem
open Cert.Attn Cert.Norm
open Cert.Kernel6Ideal.Val (rowU rowZ rowA vec gradP outU outZ outG outB)

variable (x0 : FVec Ideal S4096x2048 .f32) (x1 : FVec Ideal S4096x6144 .f32) (x2 x3 : FVec Ideal S2048 .f32) (x4 : FVec Ideal S2048x1024 .f32)
  (x6 : FVec Ideal S4096x1024 .f32) (r : Fin 4096) (y : Fin 2048) (o : Fin 1)

/-! ## The forward values -/

theorem v2_at : val_main_v2 (F := Ideal) x1 (ix2 r y) = rowZ x1 r y := by
  pointwise [val_main_v2, rowZ]
theorem v8_at : val_main_v8 (F := Ideal) x0 (ix2 r y) = cen (rowU x0 r) y := by
  pointwise [val_main_v8, val_main_v7, val_main_v6, val_main_v5, val_main_v4, val_main_v3, val_main_cst, val_main_cst_0]
  rfl
theorem v17_at : val_main_v17 (F := Ideal) x0 (ix2 r y) = cen (rowU x0 r) y := by
  pointwise [val_main_v17, val_main_v16, val_main_v6, val_main_v5, val_main_v4, val_main_v3, val_main_cst, val_main_cst_0]
  rfl
theorem v19_at : val_main_v19 (F := Ideal) x0 (ix2 r o) = wid (rowU x0 r) := by
  have h := fun y => v8_at x0 r y
  unfold val_main_v19 val_main_v15 val_main_v13 val_main_v12 val_main_v9
  revert h
  generalize val_main_v8 (F := Ideal) x0 = A
  intro h
  pointwise [val_main_v18, val_main_v14, val_main_cst_2, val_main_cst_3, val_main_cst_4]
  simp only [h]
  rfl
theorem v20_at : val_main_v20 (F := Ideal) x0 (ix2 r o) = rstd (rowU x0 r) := by
  have h := v19_at x0 r o
  unfold val_main_v20
  revert h
  generalize val_main_v19 (F := Ideal) x0 = A
  intro h
  pointwise
  rw [h]
  rfl
theorem v25_at : val_main_v25 (F := Ideal) x0 (ix2 r y) = nrm (rowU x0 r) y := by
  have h := v17_at x0 r y
  have h' := fun o => v20_at x0 r o
  unfold val_main_v25 val_main_v24
  revert h h'
  generalize val_main_v17 (F := Ideal) x0 = A
  generalize val_main_v20 (F := Ideal) x0 = B
  intro h h'
  pointwise
  rw [h, h']
  rfl
theorem v31_at : val_main_v31 (F := Ideal) x0 x2 x3 (ix2 r y) = Branch.pre (rowU x0 r) (vec x2) (vec x3) y := by
  have h := v25_at x0 r y
  unfold val_main_v31 val_main_v28
  revert h
  generalize val_main_v25 (F := Ideal) x0 = A
  intro h
  pointwise [val_main_v27, val_main_v26, val_main_v30, val_main_v29]
  rw [h]
  rfl
theorem v32_2_at : val_main_v32_2 (F := Ideal) x0 x2 x3 (ix2 r y) = sigm (Branch.pre (rowU x0 r) (vec x2) (vec x3) y) := by
  have h := v31_at x0 x2 x3 r y
  unfold val_main_v32_2 val_main_call0_v3 val_main_call0_v1 val_main_call0_v0
  revert h
  generalize val_main_v31 (F := Ideal) x0 x2 x3 = A
  intro h
  pointwise [val_main_call0_v4, val_main_call0_v2, val_main_call0_cst, val_main_call0_cst_0]
  rw [h]
  rfl
theorem v33_2_at : val_main_v33_2 (F := Ideal) x1 (ix2 r y) = sigm (rowZ x1 r y) := by
  have h := v2_at x1 r y
  unfold val_main_v33_2 val_main_call1_v3 val_main_call1_v1 val_main_call1_v0
  revert h
  generalize val_main_v2 (F := Ideal) x1 = A
  intro h
  pointwise [val_main_call1_v4, val_main_call1_v2, val_main_call1_cst, val_main_call1_cst_0]
  rw [h]
  rfl
theorem v45_at : val_main_v45 (F := Ideal) x4 x6 (ix2 r y) = rowA x4 x6 r y := by
  pointwise [val_main_v45, val_main_v39, rowA]

/-! ## The gradients of the two factors, for real arguments -/

section
variable {x0 x1 x2 x3 x4 x6} (h0 : ∀ i, IsReal (x0 i)) (h1 : ∀ i, IsReal (x1 i)) (h2 : ∀ i, IsReal (x2 i)) (h3 : ∀ i, IsReal (x3 i))
  (h4 : ∀ i, IsReal (x4 i)) (h6 : ∀ i, IsReal (x6 i))
include h0 h1 h2 h3 h4 h6

theorem v48_at : val_main_v48 (F := Ideal) x0 x1 x2 x3 x4 x6 (ix2 r y)
    = Branch.gradZ (rowA x4 x6 r) (rowZ x1 r) (rowU x0 r) (vec x2) (vec x3) y := by
  have hz := v2_at x1 r y
  have hp := v31_at x0 x2 x3 r y
  have hs := v32_2_at x0 x2 x3 r y
  have ht := v33_2_at x1 r y
  have ha := v45_at x4 x6 r y
  refine Eq.trans ?_ (Branch.gradZ_eq (fun y => IsReal.sum fun k => (h6 _).mul (h4 _)) (fun _ => h1 _) (fun _ => h0 _) (fun _ => h2 _) (fun _ => h3 _) y)
  unfold val_main_v48 val_main_call2_v1 val_main_call2_v2 val_main_call2_v0 val_main_v46 val_main_v32_0 val_main_v33_1 val_main_call1_v7
  revert hz hp hs ht ha
  generalize val_main_v2 (F := Ideal) x1 = A
  generalize val_main_v31 (F := Ideal) x0 x2 x3 = B
  generalize val_main_v32_2 (F := Ideal) x0 x2 x3 = C
  generalize val_main_v33_2 (F := Ideal) x1 = D
  generalize val_main_v45 (F := Ideal) x4 x6 = E
  intro hz hp hs ht ha
  pointwise [val_main_call1_v6, val_main_call1_cst_1]
  rw [hz, hp, hs, ht, ha]
  rfl

theorem v49_at : val_main_v49 (F := Ideal) x0 x1 x2 x3 x4 x6 (ix2 r y) = gradP x0 x1 x2 x3 x4 x6 r y := by
  have hz := v2_at x1 r y
  have hp := v31_at x0 x2 x3 r y
  have hs := v32_2_at x0 x2 x3 r y
  have ht := v33_2_at x1 r y
  have ha := v45_at x4 x6 r y
  refine Eq.trans ?_ (Branch.gradP_eq (fun y => IsReal.sum fun k => (h6 _).mul (h4 _)) (fun _ => h1 _) (fun _ => h0 _) (fun _ => h2 _) (fun _ => h3 _) y)
  unfold val_main_v49 val_main_call3_v1 val_main_call3_v2 val_main_call3_v0 val_main_v47 val_main_v33_0 val_main_v32_1 val_main_call0_v7
  revert hz hp hs ht ha
  generalize val_main_v2 (F := Ideal) x1 = A
  generalize val_main_v31 (F := Ideal) x0 x2 x3 = B
  generalize val_main_v32_2 (F := Ideal) x0 x2 x3 = C
  generalize val_main_v33_2 (F := Ideal) x1 = D
  generalize val_main_v45 (F := Ideal) x4 x6 = E
  intro hz hp hs ht ha
  pointwise [val_main_call0_v6, val_main_call0_cst_1]
  rw [hz, hp, hs, ht, ha]
  rfl

/-! ## The four results -/

theorem v83_at : val_main_v83 (F := Ideal) x0 x1 x2 x3 x4 x6 (ix2 r y) = outZ x0 x1 x2 x3 x4 x6 (ix2 r y) := by
  have h := v48_at r y h0 h1 h2 h3 h4 h6
  unfold val_main_v83
  revert h
  generalize val_main_v48 (F := Ideal) x0 x1 x2 x3 x4 x6 = A
  intro h
  pointwise
  rw [h]
  rfl

theorem v85_at : val_main_v85 (F := Ideal) x0 x1 x2 x3 x4 x6 (ix2 o y) = outB x0 x1 x2 x3 x4 x6 (ix2 o y) := by
  have h := fun r => v49_at r y h0 h1 h2 h3 h4 h6
  unfold val_main_v85 val_main_v52 val_main_v51 val_main_v50
  revert h
  generalize val_main_v49 (F := Ideal) x0 x1 x2 x3 x4 x6 = A
  intro h
  pointwise [val_main_cst_8, val_main_cst_9]
  simp only [h, Fin.sum_univ_one]
  rfl

theorem v84_at : val_main_v84 (F := Ideal) x0 x1 x2 x3 x4 x6 (ix2 o y) = outG x0 x1 x2 x3 x4 x6 (ix2 o y) := by
  have h := fun r => v49_at r y h0 h1 h2 h3 h4 h6
  have h' := fun r => v25_at x0 r y
  unfold val_main_v84 val_main_v58 val_main_v55 val_main_v54 val_main_v53
  revert h h'
  generalize val_main_v49 (F := Ideal) x0 x1 x2 x3 x4 x6 = A
  generalize val_main_v25 (F := Ideal) x0 = B
  intro h h'
  pointwise [val_main_cst_10, val_main_cst_11]
  simp only [h, h', Fin.sum_univ_one]
  exact Finset.sum_congr rfl fun r _ => mul_comm (nrm (rowU x0 r) y) _

theorem v57_at : val_main_v57 (F := Ideal) x0 x1 x2 x3 x4 x6 (ix2 r y) = gradP x0 x1 x2 x3 x4 x6 r y * vec x2 y := by
  have h := v49_at r y h0 h1 h2 h3 h4 h6
  unfold val_main_v57
  revert h
  generalize val_main_v49 (F := Ideal) x0 x1 x2 x3 x4 x6 = A
  intro h
  pointwise [val_main_v56, val_main_v26]
  rw [h]
  rfl

/-- The factor on twice the centred row. -/
theorem v69_at : val_main_v69 (F := Ideal) x0 x1 x2 x3 x4 x6 (ix2 r o) = slope (rowU x0 r) (fun y => gradP x0 x1 x2 x3 x4 x6 r y * vec x2 y) := by
  have hc := fun y => v57_at r y h0 h1 h2 h3 h4 h6
  have hu := fun y => v17_at x0 r y
  have hw := fun o => v19_at x0 r o
  have hr := fun o => v20_at x0 r o
  unfold val_main_v69 val_main_v64 val_main_v61 val_main_v60 val_main_v59 val_main_v23 val_main_v21
  revert hc hu hw hr
  generalize val_main_v57 (F := Ideal) x0 x1 x2 x3 x4 x6 = C
  generalize val_main_v17 (F := Ideal) x0 = U
  generalize val_main_v20 (F := Ideal) x0 = R
  generalize val_main_v19 (F := Ideal) x0 = W
  intro hc hu hw hr
  pointwise [val_main_v68, val_main_v22, val_main_cst_5, val_main_cst_12, val_main_cst_14]
  simp only [hc, hu, hw, hr]
  rfl

theorem v63_at : val_main_v63 (F := Ideal) x0 x1 x2 x3 x4 x6 (ix2 r y) = gradP x0 x1 x2 x3 x4 x6 r y * vec x2 y * rstd (rowU x0 r) := by
  have hc := v57_at r y h0 h1 h2 h3 h4 h6
  have hr := fun o => v20_at x0 r o
  unfold val_main_v63 val_main_v62
  revert hc hr
  generalize val_main_v57 (F := Ideal) x0 x1 x2 x3 x4 x6 = C
  generalize val_main_v20 (F := Ideal) x0 = R
  intro hc hr
  pointwise
  rw [hc, hr]

theorem v72_at : val_main_v72 (F := Ideal) x0 x1 x2 x3 x4 x6 (ix2 r y)
    = slope (rowU x0 r) (fun y => gradP x0 x1 x2 x3 x4 x6 r y * vec x2 y) * (Ideal.ofBits .f32 0x40000000#32 * cen (rowU x0 r) y) := by
  have hs := fun o => v69_at r o h0 h1 h2 h3 h4 h6
  have hu := v8_at x0 r y
  unfold val_main_v72 val_main_v71 val_main_v70 val_main_v11
  revert hs hu
  generalize val_main_v69 (F := Ideal) x0 x1 x2 x3 x4 x6 = C
  generalize val_main_v8 (F := Ideal) x0 = U
  intro hs hu
  pointwise [val_main_v10, val_main_cst_1, val_main_cst_15]
  simp only [hs, hu, Fin.sum_univ_one]

theorem v82_at : val_main_v82 (F := Ideal) x0 x1 x2 x3 x4 x6 (ix2 r y) = outU x0 x1 x2 x3 x4 x6 (ix2 r y) := by
  have hc := fun y => v63_at r y h0 h1 h2 h3 h4 h6
  have hs := fun y => v72_at r y h0 h1 h2 h3 h4 h6
  refine Eq.trans ?_ (terms_eq (u := rowU x0 r) (c := fun y => gradP x0 x1 x2 x3 x4 x6 r y * vec x2 y) (fun _ => h0 _)
    (fun y => (Branch.gradP_real (fun y => IsReal.sum fun k => (h6 _).mul (h4 _)) (fun _ => h1 _) (fun _ => h0 _) (fun _ => h2 _) (fun _ => h3 _) y).mul (h2 _)) y)
  unfold val_main_v82 val_main_v76 val_main_v81 val_main_v80 val_main_v79 val_main_v77 val_main_v67 val_main_v66 val_main_v65 val_main_v75 val_main_v74 val_main_v73
  revert hc hs
  generalize val_main_v63 (F := Ideal) x0 x1 x2 x3 x4 x6 = C
  generalize val_main_v72 (F := Ideal) x0 x1 x2 x3 x4 x6 = D
  intro hc hs
  pointwise [val_main_v78, val_main_cst_13, val_main_cst_16, val_main_cst_17, val_main_cst_18]
  simp only [hc, hs, Fin.sum_univ_one]
  rfl
end

end Cert.Reference6Ideal.Val

namespace Cert.Pre_finite6

open Idealize.ShloMosaic Idealize.ShloMosaic.Tactic
open Cert.Attn
open Cert.Pre_finite (between between_real)

section
variable {x0 : FVec Ideal S4096x2048 .f32} {x1 : FVec Ideal S4096x6144 .f32} {x2 x3 : FVec Ideal S2048 .f32} {x4 : FVec Ideal S2048x1024 .f32}
  {x5 : FVec Ideal S1024 .f32} {x6 : FVec Ideal S4096x1024 .f32}

/-- The precondition is the conjunction of the seven. -/
theorem fn_eq : fn (F := Ideal) x0 x1 x2 x3 x4 x5 x6
      = andi (andi (andi (andi (andi (andi (between x0 Gen.bcast_S_S4096x2048 Gen.reducesTo_S4096x2048_S_d0_1)
          (between x1 Gen.bcast_S_S4096x6144 Gen.reducesTo_S4096x6144_S_d0_1)) (between x2 Gen.bcast_S_S2048 Gen.reducesTo_S2048_S_d0))
          (between x3 Gen.bcast_S_S2048 Gen.reducesTo_S2048_S_d0)) (between x4 Gen.bcast_S_S2048x1024 Gen.reducesTo_S2048x1024_S_d0_1))
          (between x5 Gen.bcast_S_S1024 Gen.reducesTo_S1024_S_d0)) (between x6 Gen.bcast_S_S4096x1024 Gen.reducesTo_S4096x1024_S_d0_1) := rfl

/-- The arguments that meet the precondition are real. -/
theorem real (h : fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x6 i) := by
  have e := congrFun (fn_eq.symm.trans h) ix0
  obtain ⟨e, h6⟩ := IntOp.andi_eq_one.1 e
  obtain ⟨e, -⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨between_real h0, between_real h1, between_real h2, between_real h3, between_real h4, between_real h6⟩
end

end Cert.Pre_finite6

namespace Cert.Proof

open Idealize.ShloMosaic Idealize.SL.Sem
open Cert.Attn Cert.Kernel6Ideal.Val Cert.Reference6Ideal.Val Cert.Reference6Ideal.Read

/-- The convolution branch's backward call is the derivative of the branch's output. -/
theorem algebraic6 : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hpre same
  refine ⟨fun c => outU (arg m c Cert.Kernel6Ideal.main_arg0) (arg m c Cert.Kernel6Ideal.main_arg1) (arg m c Cert.Kernel6Ideal.main_arg2)
      (arg m c Cert.Kernel6Ideal.main_arg3) (arg m c Cert.Kernel6Ideal.main_arg4) (arg m c Cert.Kernel6Ideal.main_arg6),
    fun c => outZ (arg m c Cert.Kernel6Ideal.main_arg0) (arg m c Cert.Kernel6Ideal.main_arg1) (arg m c Cert.Kernel6Ideal.main_arg2)
      (arg m c Cert.Kernel6Ideal.main_arg3) (arg m c Cert.Kernel6Ideal.main_arg4) (arg m c Cert.Kernel6Ideal.main_arg6),
    fun c => outG (arg m c Cert.Kernel6Ideal.main_arg0) (arg m c Cert.Kernel6Ideal.main_arg1) (arg m c Cert.Kernel6Ideal.main_arg2)
      (arg m c Cert.Kernel6Ideal.main_arg3) (arg m c Cert.Kernel6Ideal.main_arg4) (arg m c Cert.Kernel6Ideal.main_arg6),
    fun c => outB (arg m c Cert.Kernel6Ideal.main_arg0) (arg m c Cert.Kernel6Ideal.main_arg1) (arg m c Cert.Kernel6Ideal.main_arg2)
      (arg m c Cert.Kernel6Ideal.main_arg3) (arg m c Cert.Kernel6Ideal.main_arg4) (arg m c Cert.Kernel6Ideal.main_arg6), ?_, ?_⟩
  · refine (θ_run _ _ _).mono (fun r h c => ?_) (Cert.Kernel6Ideal.Value.run_blocks (F := Ideal) m g)
    obtain ⟨h0, h1, h2, h3, hrest⟩ := h c
    exact ⟨h0.trans (arr6 m c), h1.trans (arr7 m c), h2.trans (arr8 m c), h3.trans (arr9 m c), hrest⟩
  · refine (θ_run _ _ _).mono (fun r h c => ?_) (Cert.Reference6Ideal.Value.run (F := Ideal) m' g')
    obtain ⟨e0, e1, e2, e3, e4, -, e6⟩ := same c
    obtain ⟨h0, h1, h2, h3, hrest⟩ := h c
    obtain ⟨r0, r1, r2, r3, r4, r6⟩ := Cert.Pre_finite6.real (hpre c)
    refine ⟨h0.trans ?_, h1.trans ?_, h2.trans ?_, h3.trans ?_, hrest⟩
    · refine (val_main_v82_eq m' c).trans ?_
      rw [e0, e1, e2, e3, e4, e6]
      refine funext fun y => ?_
      rw [← ix2_eta y]
      exact v82_at (y 0) (y 1) r0 r1 r2 r3 r4 r6
    · refine (val_main_v83_eq m' c).trans ?_
      rw [e0, e1, e2, e3, e4, e6]
      refine funext fun y => ?_
      rw [← ix2_eta y]
      exact v83_at (y 0) (y 1) r0 r1 r2 r3 r4 r6
    · refine (val_main_v84_eq m' c).trans ?_
      rw [e0, e1, e2, e3, e4, e6]
      refine funext fun y => ?_
      rw [← ix2_eta y]
      exact v84_at (y 1) (y 0) r0 r1 r2 r3 r4 r6
    · refine (val_main_v85_eq m' c).trans ?_
      rw [e0, e1, e2, e3, e4, e6]
      refine funext fun y => ?_
      rw [← ix2_eta y]
      exact v85_at (y 1) (y 0) r0 r1 r2 r3 r4 r6

/-- The reference runs to its end, and leaves its arguments and every counter as they were. -/
theorem frame_reference6 : Cert.quiescent_Reference6Ideal (hReference6Ideal := Cert.Reference6Ideal.Gen.facts) :=
  fun m g _ => (θ_run (Cert.Reference6Ideal.defs (F := Ideal)) _ _).mono
    (fun r h => ⟨fun c => (h c).2.2.2.2, sem_eq_zero_of_no_sems (by decide) r.2⟩)
    (Cert.Reference6Ideal.Value.run (F := Ideal) m g)

end Cert.Proof

end
-- ==== Proof.InputProj.lean ====
/-
  The conformer branch's input projection: each point takes 1024 rows and the columns that one chip holds, and writes their
  product and the bias.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Kernel7Ideal.Val

open Cert.Kernel7Ideal Cert.Kernel7Ideal.Gen Cert.Kernel7Ideal.Value
open Idealize.ShloMosaic Idealize.ShloMosaic.TcCoe Idealize.ShloMosaic.Tactic
open Idealize.SL.Sem

variable (m : (ℓ : Loc nD τ sig) → Buf (Elt Ideal) ℓ)

/-- An argument as launched. -/
abbrev arg (c : Dev nD) (b : Ref sig .tc) := m (c, Proc.tc.devRef b)

/-- The projection: the rows of the input against the weight, and the bias. -/
def projOf (X : FVec Ideal S4096x1024 .f32) (W : FVec Ideal S1024x6144 .f32) (B : FVec Ideal S6144 .f32) : FVec Ideal S4096x6144 .f32 :=
  fun x => (∑ k : Fin 1024, X (ix2 (x 0) k) * W (ix2 k (x 1))) + B (ix1 (x 1))

theorem idx : ∀ t : Fin grid0.N,
    win0_0.index t = ![t.val / 4, 0] ∧ win0_1.index t = ![t.val % 4, 0, 0] ∧ win0_2.index t = ![0, t.val % 4]
      ∧ win0_3.index t = ![t.val / 4, t.val % 4] := by decide +kernel

/-! ## The host's operands -/

theorem v0_at (c : Dev nD) (o : Fin 1) (y : Fin 6144) :
    (V m c main_v0 : FVec Ideal S1x6144 .f32) (ix2 o y) = (arg m c main_arg2 : FVec Ideal S6144 .f32) (ix1 y) := by
  have e : (V m c main_v0 : FVec Ideal S1x6144 .f32) = shapeCast S1x6144 (arg m c main_arg2 : FVec Ideal S6144 .f32) shapeCasts_S6144_S1x6144 := by
    dsimp only [V]; simp only [hostOps0]; after_reads_simp; rfl
  rw [e]
  exact shapeCast_apply _ shapeCasts_S6144_S1x6144 (ix2 o y) (ix1 y)
    (by rewrite [Shape.rowMajor_val_one, Shape.rowMajor_val_two]; show y.val = o.val * 6144 + y.val; omega)

theorem v3_eq (c : Dev nD) : V m c main_v3 = truncf (F := Ideal) .bf16 (transpose S4x1024x1536 [1, 0, 2]
    (shapeCast S1024x4x1536 (arg m c main_arg1) shapeCasts_S1024x6144_S1024x4x1536) transposes_S1024x4x1536_S4x1024x1536_1_0_2) bitsLt_bf16_f32 := by
  dsimp only [V]; simp only [hostOps0]; after_reads_simp
  rfl

/-- The weight of chip `n` has the columns from `1536 * n`. -/
theorem v3_at (c : Dev nD) (n : Fin 4) (j : Fin 1024) (k : Fin 1536) :
    V m c main_v3 (ix3 n j k) = arg m c main_arg1 (ix2 j ⟨1536 * n.val + k.val, by omega⟩) := by
  rw [v3_eq]
  pointwise
  exact congrArg _ (congrArg _ (Fin.ext (by show n.val * 1536 + k.val = 1536 * n.val + k.val; omega)))

/-! ## One point -/

theorem pay1_at (P0 : FVec Ideal S1024x1024 .f32) (P1 : FVec Ideal S1x1024x1536 .bf16) (P2 : FVec Ideal S1x1536 .f32) (i : Fin 1024) (y : Fin 1536) :
    k0_pay1 (F := Ideal) P0 P1 P2 (ix2 i y) = ((∑ k : Fin 1024, P0 (ix2 i k) * P1 (ix3 0 k y)) + P2 (ix2 0 y) : EReal) := by
  pointwise [k0_pay1]

section
variable (X : FVec Ideal S4096x1024 .f32) (U : FVec Ideal S4x1024x1536 .bf16) (B : FVec Ideal S1x6144 .f32) (t : Fin cfg0.N) (i : Fin 1024) (y : Fin 1536)

/-- Row `i` of point `t`'s block. -/
def row : Fin 4096 := ⟨1024 * (t.val / 4) + i.val, by have := lt_of_lt_of_eq t.isLt N_0; omega⟩

/-- Column `y` of point `t`'s block. -/
def col : Fin 6144 := ⟨1536 * (t.val % 4) + y.val, by omega⟩

/-- The chip whose columns point `t` takes. -/
def chip : Fin 4 := ⟨t.val % 4, by omega⟩

theorem in0 (k : Fin 1024) : (win0_0.blk t).view.read (Elt Ideal) X (ix2 i k) = X (ix2 (row t i) k) := by
  obtain ⟨i0, i1, i2, i3⟩ := idx t
  blk_ext [i0, row] <;> omega
theorem in1 (k : Fin 1024) : (win0_1.blk t).view.read (Elt Ideal) U (ix3 0 k y) = U (ix3 (chip t) k y) := by
  obtain ⟨i0, i1, i2, i3⟩ := idx t
  blk_ext [i1, chip] <;> omega
theorem in2 : (win0_2.blk t).view.read (Elt Ideal) B (ix2 0 y) = B (ix2 0 (col t y)) := by
  obtain ⟨i0, i1, i2, i3⟩ := idx t
  blk_ext [i2, col] <;> omega
theorem emb3 : (win0_3.blk t).view.emb (ix2 i y) = ix2 (row t i) (col t y) := by
  obtain ⟨i0, i1, i2, i3⟩ := idx t
  blk_ext [i3, row, col] <;> omega
end

theorem block3 (c : Dev nD) (t : Fin cfg0.N) (i : Fin 1024) (y : Fin 1536) :
    k0_pay1 (F := Ideal) (iblk m c 0 t) (iblk m c 1 t) (iblk m c 2 t) (ix2 i y)
      = projOf (arg m c main_arg0) (arg m c main_arg1) (arg m c main_arg2) ((win0_3.blk t).view.emb (ix2 i y)) := by
  rw [emb3]
  refine (pay1_at _ _ _ i y).trans ?_
  have e0 := in0 (V m c main_arg0) t i
  rw [V_main_arg0] at e0
  have e1 := fun k => (in1 (V m c main_v3) t y k).trans (v3_at m c (chip t) k y)
  have e2 := (in2 (V m c main_v0) t y).trans (v0_at m c 0 (col t y))
  exact congrArg₂ (fun a b : EReal => a + b) (Finset.sum_congr rfl fun k _ => congrArg₂ (fun a b : EReal => a * b) (e0 k) (e1 k)) e2

theorem arr3 (c : Dev nD) : (dats m 0 c).arrAt 3 cfg0.N = projOf (arg m c main_arg0) (arg m c main_arg1) (arg m c main_arg2) := by
  refine (dats m 0 c).arrAt_eq_of_covers 3 _ (by decide +kernel) fun t hf y => ?_
  have e := block3 m c t (y 0) (y 1)
  blk_simp
  rw [after0_3]
  frame_out
  rw [← ix2_eta y]
  exact e

end Cert.Kernel7Ideal.Val

namespace Cert.Reference7Ideal.Val

open Cert.Reference7Ideal Cert.Reference7Ideal.Read
open Idealize.ShloMosaic Idealize.ShloMosaic.Tactic
open Idealize.SL.Sem
open Cert.Kernel7Ideal.Val

variable (x0 : FVec Ideal S4096x1024 .f32) (x1 : FVec Ideal S1024x6144 .f32) (x2 : FVec Ideal S6144 .f32)

theorem v3_at (i : Fin 4096) (y : Fin 6144) : val_main_v3 (F := Ideal) x0 x1 x2 (ix2 i y) = projOf x0 x1 x2 (ix2 i y) := by
  pointwise [val_main_v3, val_main_v2, val_main_v1, val_main_v0, projOf]

end Cert.Reference7Ideal.Val

namespace Cert.Proof

open Idealize.ShloMosaic Idealize.SL.Sem
open Cert.Kernel7Ideal.Val Cert.Reference7Ideal.Val Cert.Reference7Ideal.Read

/-- The projection is the same in the kernel and in the reference. -/
theorem algebraic7 : Cert.algebraic_Kernel7Ideal_Reference7Ideal (hKernel7Ideal := Cert.Kernel7Ideal.Gen.facts)
    (hReference7Ideal := Cert.Reference7Ideal.Gen.facts) := by
  intro m g m' g' _ same
  refine ⟨fun c => projOf (arg m c Cert.Kernel7Ideal.main_arg0) (arg m c Cert.Kernel7Ideal.main_arg1) (arg m c Cert.Kernel7Ideal.main_arg2), ?_, ?_⟩
  · refine (θ_run _ _ _).mono (fun r h c => ?_) (Cert.Kernel7Ideal.Value.run_blocks (F := Ideal) m g)
    obtain ⟨h0, hrest⟩ := h c
    exact ⟨h0.trans (arr3 m c), hrest⟩
  · refine (θ_run _ _ _).mono (fun r h c => ?_) (Cert.Reference7Ideal.Value.run (F := Ideal) m' g')
    obtain ⟨e0, e1, e2⟩ := same c
    obtain ⟨h0, hrest⟩ := h c
    refine ⟨h0.trans ?_, hrest⟩
    rw [e0, e1, e2]
    refine (val_main_v3_eq _ _ _).trans (funext fun y => ?_)
    rw [← ix2_eta y]
    exact v3_at _ _ _ (y 0) (y 1)

/-- The reference runs to its end, and leaves its arguments and every counter as they were. -/
theorem frame_reference7 : Cert.quiescent_Reference7Ideal (hReference7Ideal := Cert.Reference7Ideal.Gen.facts) :=
  fun m g _ => (θ_run (Cert.Reference7Ideal.defs (F := Ideal)) _ _).mono
    (fun r h => ⟨fun c => (h c).2, sem_eq_zero_of_no_sems (by decide) r.2⟩)
    (Cert.Reference7Ideal.Value.run (F := Ideal) m g)

end Cert.Proof

end
-- ==== Proof.OutWeight.lean ====
/-
  The call for the gradients of the conformer branch's output projection: four points over blocks of 1024 rows, each adding its
  rows' products to one running sum and the sums of its columns to another.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Kernel8Ideal.Val

open Cert.Kernel8Ideal Cert.Kernel8Ideal.Gen Cert.Kernel8Ideal.Value
open Idealize.ShloMosaic Idealize.ShloMosaic.TcCoe Idealize.ShloMosaic.Tactic
open Idealize.SL.Sem

variable (m : (ℓ : Loc nD τ sig) → Buf (Elt Ideal) ℓ)

/-- An argument as launched. -/
abbrev arg (c : Dev nD) (b : Ref sig .tc) := m (c, Proc.tc.devRef b)

/-- The weight's gradient: the rows of the projection's input against the output's gradient. -/
def gradW (U : FVec Ideal S4096x2048 .f32) (G : FVec Ideal S4096x1024 .f32) : FVec Ideal S2048x1024 .bf16 :=
  fun x => ∑ r : Fin 4096, U (ix2 r (x 0)) * G (ix2 r (x 1))

/-- The bias's gradient: the sums of the columns. -/
def gradB (G : FVec Ideal S4096x1024 .f32) : FVec Ideal S1x1024 .f32 :=
  fun x => ∑ r : Fin 4096, G (ix2 r (x 1))

theorem idx : ∀ t : Fin grid0.N,
    win0_0.index t = ![t.val, 0] ∧ win0_1.index t = ![t.val, 0] ∧ win0_2.index t = ![0, 0] ∧ win0_3.index t = ![0, 0] := by decide +kernel

theorem v0_eq (c : Dev nD) : V m c main_v0 = truncf (F := Ideal) .bf16 (arg m c main_arg0) bitsLt_bf16_f32 := by
  dsimp only [V]; simp only [hostOps0]; after_reads_simp

/-! ## One point -/

/-- What a point's rows add to the product at an index. -/
def partW (P : FVec Ideal S1024x2048 .bf16) (Q : FVec Ideal S1024x1024 .f32) (j : S2048x1024.Idx) : EReal :=
  ∑ k : Fin 1024, P (ix2 k (j 0)) * Q (ix2 k (j 1))

/-- What a point's rows add to the columns' sums at an index. -/
def partB (Q : FVec Ideal S1024x1024 .f32) (j : S1x1024.Idx) : EReal :=
  ∑ k : Fin 1024, Q (ix2 k (j 1))

theorem pay1_apply (j : S2048x1024.Idx) : k0_pay1 (F := Ideal) j = (0 : EReal) := by
  rw [← ix2_eta j]
  pointwise [k0_pay1]

theorem pay2_apply (j : S1x1024.Idx) : k0_pay2 (F := Ideal) j = (0 : EReal) := by
  rw [← ix2_eta j]
  pointwise [k0_pay2]

theorem pay3_at (P : FVec Ideal S1024x2048 .bf16) (Q : FVec Ideal S1024x1024 .f32) (A : FVec Ideal S2048x1024 .f32) (i : Fin 2048) (y : Fin 1024) :
    k0_pay3 (F := Ideal) P Q A (ix2 i y) = (A (ix2 i y) + partW P Q (ix2 i y) : EReal) := by
  pointwise [k0_pay3]
  rfl

theorem pay3_apply (P : FVec Ideal S1024x2048 .bf16) (Q : FVec Ideal S1024x1024 .f32) (A : FVec Ideal S2048x1024 .f32) (j : S2048x1024.Idx) :
    k0_pay3 (F := Ideal) P Q A j = (A j + partW P Q j : EReal) := by
  rw [← ix2_eta j]
  exact pay3_at P Q A (j 0) (j 1)

theorem pay4_at (Q : FVec Ideal S1024x1024 .f32) (A : FVec Ideal S1x1024 .f32) (i : Fin 1) (y : Fin 1024) :
    k0_pay4 (F := Ideal) Q A (ix2 i y) = (A (ix2 i y) + partB Q (ix2 i y) : EReal) := by
  pointwise [k0_pay4]
  rfl

theorem pay4_apply (Q : FVec Ideal S1024x1024 .f32) (A : FVec Ideal S1x1024 .f32) (j : S1x1024.Idx) :
    k0_pay4 (F := Ideal) Q A j = (A j + partB Q j : EReal) := by
  rw [← ix2_eta j]
  exact pay4_at Q A (j 0) (j 1)

/-! ## The running sums -/

/-- The first point starts both sums. -/
theorem first_eq (c : Dev nD) (t : Fin cfg0.N) (h : t.val % 4 = 0) :
    (outsAt0 m c t.val t.isLt).2 = (k0_pay4 (F := Ideal) (iblk m c 1 t) (k0_pay2 (F := Ideal)), k0_pay3 (F := Ideal) (iblk m c 0 t) (iblk m c 1 t) (k0_pay1 (F := Ideal))) := by
  rw [outsAt0_A m c t h (by omega)]
  frame_out

/-- The sums after the point before. -/
abbrev prev (c : Dev nD) (t : Fin cfg0.N) := (outsAt0 m c (t.val - 1) (Nat.lt_of_le_of_lt (Nat.sub_le _ _) t.isLt)).2

/-- Every other point adds to both. -/
theorem step_eq (c : Dev nD) (t : Fin cfg0.N) (h : ¬t.val % 4 = 0) :
    (outsAt0 m c t.val t.isLt).2 = (k0_pay4 (F := Ideal) (iblk m c 1 t) (prev m c t).1, k0_pay3 (F := Ideal) (iblk m c 0 t) (iblk m c 1 t) (prev m c t).2) := by
  by_cases h3 : t.val % 4 = 3
  · rw [outsAt0_C m c t h h3]
    frame_out
    simp only [(Memref.isWhole_whole _).read_unread]
  · rw [outsAt0_B m c t h h3]
    frame_out
    simp only [(Memref.isWhole_whole _).read_unread]

/-- The last point writes the product's sum out. -/
theorem last_eq (c : Dev nD) (t : Fin cfg0.N) (h : t.val % 4 = 3) (j : S2048x1024.Idx) :
    (outsAt0 m c t.val t.isLt).1 j = (outsAt0 m c t.val t.isLt).2.2 j := by
  rw [outsAt0_C m c t (by omega) h]
  frame_out
  rfl

theorem sumW (c : Dev nD) (t : Fin cfg0.N) (ht : t.val + 1 = cfg0.N) (j : S2048x1024.Idx) :
    (outsAt0 m c t.val t.isLt).2.2 j = (∑ p : Fin cfg0.N, partW (iblk m c 0 p) (iblk m c 1 p) j : EReal) := by
  have h := Pipeline.eq_sum_fin_of_reset_step_apply_last (fun n h => (outsAt0 m c n h).2.2) 4 (fun _ => (0 : EReal))
    (fun p j => partW (iblk m c 0 p) (iblk m c 1 p) j)
    (fun t h j => by
      rw [first_eq m c t h]
      exact (pay3_apply _ _ _ j).trans (congrArg (· + _) (pay1_apply j)))
    (fun t h j => by
      rw [step_eq m c t h]
      exact pay3_apply _ _ _ j)
    (le_of_eq N_0) t ht j
  rw [h, zero_add]

theorem sumB (c : Dev nD) (t : Fin cfg0.N) (ht : t.val + 1 = cfg0.N) (j : S1x1024.Idx) :
    (outsAt0 m c t.val t.isLt).2.1 j = (∑ p : Fin cfg0.N, partB (iblk m c 1 p) j : EReal) := by
  have h := Pipeline.eq_sum_fin_of_reset_step_apply_last (fun n h => (outsAt0 m c n h).2.1) 4 (fun _ => (0 : EReal))
    (fun p j => partB (iblk m c 1 p) j)
    (fun t h j => by
      rw [first_eq m c t h]
      exact (pay4_apply _ _ j).trans (congrArg (· + _) (pay2_apply j)))
    (fun t h j => by
      rw [step_eq m c t h]
      exact pay4_apply _ _ j)
    (le_of_eq N_0) t ht j
  rw [h, zero_add]

/-! ## The blocks read -/

section
variable (t : Fin cfg0.N) (k : Fin 1024)

/-- Row `k` of point `t`'s block. -/
def row : Fin 4096 := ⟨t.val * 1024 + k.val, by have := lt_of_lt_of_eq t.isLt N_0; omega⟩

theorem in0 (U : FVec Ideal S4096x2048 .bf16) (y : Fin 2048) : (win0_0.blk t).view.read (Elt Ideal) U (ix2 k y) = U (ix2 (row t k) y) := by
  obtain ⟨i0, i1, i2, i3⟩ := idx t
  blk_ext [i0, row] <;> omega
theorem in1 (G : FVec Ideal S4096x1024 .f32) (y : Fin 1024) : (win0_1.blk t).view.read (Elt Ideal) G (ix2 k y) = G (ix2 (row t k) y) := by
  obtain ⟨i0, i1, i2, i3⟩ := idx t
  blk_ext [i1, row] <;> omega
theorem emb2 (i : Fin 2048) (y : Fin 1024) : (win0_2.blk t).view.emb (ix2 i y) = ix2 i y := by
  obtain ⟨i0, i1, i2, i3⟩ := idx t
  blk_ext [i2] <;> omega
theorem emb3 (i : Fin 1) (y : Fin 1024) : (win0_3.blk t).view.emb (ix2 i y) = ix2 i y := by
  obtain ⟨i0, i1, i2, i3⟩ := idx t
  blk_ext [i3] <;> omega
end

theorem outW (c : Dev nD) (t : Fin cfg0.N) (h : t.val % 4 = 3) (i : Fin 2048) (y : Fin 1024) :
    (outsAt0 m c t.val t.isLt).1 (ix2 i y) = gradW (arg m c main_arg0) (arg m c main_arg3) ((win0_2.blk t).view.emb (ix2 i y)) := by
  have hN := lt_of_lt_of_eq t.isLt N_0
  have hN' : cfg0.N = 4 := N_0
  rw [emb2, last_eq m c t h]
  refine Eq.trans (sumW m c t (by omega) (ix2 i y)) ?_
  refine Fin.sum_mul_add_congr (S := 4) (n := 1024) fun p k _ => ?_
  have e0 := in0 p k (V m c main_v0) i
  have e1 := in1 p k (V m c main_arg3) y
  rw [v0_eq] at e0
  rw [V_main_arg3] at e1
  exact congrArg₂ (fun a b : EReal => a * b) e0 e1

theorem outB (c : Dev nD) (t : Fin cfg0.N) (h : t.val % 4 = 3) (i : Fin 1) (y : Fin 1024) :
    (outsAt0 m c t.val t.isLt).2.1 (ix2 i y) = gradB (arg m c main_arg3) ((win0_3.blk t).view.emb (ix2 i y)) := by
  have hN := lt_of_lt_of_eq t.isLt N_0
  have hN' : cfg0.N = 4 := N_0
  rw [emb3]
  refine Eq.trans (sumB m c t (by omega) (ix2 i y)) ?_
  refine Fin.sum_mul_add_congr (S := 4) (n := 1024) fun p k _ => ?_
  have e1 := in1 p k (V m c main_arg3) y
  rw [V_main_arg3] at e1
  exact e1

theorem arr2 (c : Dev nD) : (dats m 0 c).arrAt 2 cfg0.N = gradW (arg m c main_arg0) (arg m c main_arg3) := by
  refine (dats m 0 c).arrAt_eq_of_covers 2 _ (by decide +kernel) fun t hf y => ?_
  have e := outW m c t ((flush0_2 t).mp hf) (y 0) (y 1)
  blk_simp
  rw [after0_2]
  rw [← ix2_eta y]
  exact e

theorem arr3 (c : Dev nD) : (dats m 0 c).arrAt 3 cfg0.N = gradB (arg m c main_arg3) := by
  refine (dats m 0 c).arrAt_eq_of_covers 3 _ (by decide +kernel) fun t hf y => ?_
  have e := outB m c t ((flush0_3 t).mp hf) (y 0) (y 1)
  blk_simp
  rw [after0_3]
  rw [← ix2_eta y]
  exact e

end Cert.Kernel8Ideal.Val

namespace Cert.Reference8Ideal.Val

open Cert.Reference8Ideal Cert.Reference8Ideal.Read
open Idealize.ShloMosaic Idealize.ShloMosaic.Tactic
open Idealize.SL.Sem
open Cert.Kernel8Ideal.Val

variable (x0 : FVec Ideal S4096x2048 .f32) (x3 : FVec Ideal S4096x1024 .f32)

theorem v11_at (i : Fin 2048) (l : Fin 1024) : val_main_v11 (F := Ideal) x0 x3 (ix2 i l) = gradW x0 x3 (ix2 i l) := by
  pointwise [val_main_v11, val_main_v9, val_main_v8, val_main_v4]
  refine Finset.sum_congr rfl fun r _ => ?_
  rw [mul_comm]
  rfl

theorem v12_at (i : Fin 1) (l : Fin 1024) : val_main_v12 (F := Ideal) x3 (ix2 i l) = gradB x3 (ix2 i l) := by
  pointwise [val_main_v12, val_main_v7, val_main_v6, val_main_v5, val_main_cst, val_main_cst_0]
  exact (Fin.sum_univ_one _).trans rfl

end Cert.Reference8Ideal.Val

namespace Cert.Proof

open Idealize.ShloMosaic Idealize.SL.Sem
open Cert.Kernel8Ideal.Val Cert.Reference8Ideal.Val Cert.Reference8Ideal.Read

/-- The weight's and the bias's gradients are the same in the kernel and in the reference. -/
theorem algebraic8 : Cert.algebraic_Kernel8Ideal_Reference8Ideal (hKernel8Ideal := Cert.Kernel8Ideal.Gen.facts)
    (hReference8Ideal := Cert.Reference8Ideal.Gen.facts) := by
  intro m g m' g' _ same
  refine ⟨fun c => gradW (arg m c Cert.Kernel8Ideal.main_arg0) (arg m c Cert.Kernel8Ideal.main_arg3),
    fun c => gradB (arg m c Cert.Kernel8Ideal.main_arg3), ?_, ?_⟩
  · refine (θ_run _ _ _).mono (fun r h c => ?_) (Cert.Kernel8Ideal.Value.run_blocks (F := Ideal) m g)
    obtain ⟨h0, h1, hrest⟩ := h c
    exact ⟨h0.trans (arr2 m c), h1.trans (arr3 m c), hrest⟩
  · refine (θ_run _ _ _).mono (fun r h c => ?_) (Cert.Reference8Ideal.Value.run (F := Ideal) m' g')
    obtain ⟨e0, e1, e2, e3⟩ := same c
    obtain ⟨h0, h1, hrest⟩ := h c
    refine ⟨h0.trans ?_, h1.trans ?_, hrest⟩
    · rw [e0, e3]
      refine (val_main_v11_eq _ _).trans (funext fun y => ?_)
      rw [← ix2_eta y]
      exact v11_at _ _ (y 0) (y 1)
    · rw [e3]
      refine (val_main_v12_eq _).trans (funext fun y => ?_)
      rw [← ix2_eta y]
      exact v12_at _ (y 0) (y 1)

/-- The reference runs to its end, and leaves its arguments and every counter as they were. -/
theorem frame_reference8 : Cert.quiescent_Reference8Ideal (hReference8Ideal := Cert.Reference8Ideal.Gen.facts) :=
  fun m g _ => (θ_run (Cert.Reference8Ideal.defs (F := Ideal)) _ _).mono
    (fun r h => ⟨fun c => (h c).2.2, sem_eq_zero_of_no_sems (by decide) r.2⟩)
    (Cert.Reference8Ideal.Value.run (F := Ideal) m g)

end Cert.Proof

end
-- ==== Proof.GateProj.lean ====
/-
  The projection to the attention's gate: each point takes 1024 rows, and writes their product with the gate's columns of the
  weight.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Kernel9Ideal.Val

open Cert.Kernel9Ideal Cert.Kernel9Ideal.Gen Cert.Kernel9Ideal.Value
open Idealize.ShloMosaic Idealize.ShloMosaic.TcCoe Idealize.ShloMosaic.Tactic
open Idealize.SL.Sem

variable (m : (ℓ : Loc nD τ sig) → Buf (Elt Ideal) ℓ)

/-- An argument as launched. -/
abbrev arg (c : Dev nD) (b : Ref sig .tc) := m (c, Proc.tc.devRef b)

/-- The gate's argument: the rows of the input against the weight's columns from 512. -/
def gateOf (X : FVec Ideal S4096x1024 .f32) (W : FVec Ideal S1024x2560 .f32) : FVec Ideal S4096x2048 .bf16 :=
  fun x => ∑ k : Fin 1024, X (ix2 (x 0) k) * W (ix2 k ⟨512 + (x 1).val, Nat.add_lt_add_left (x 1).isLt 512⟩)

theorem idx : ∀ t : Fin grid0.N,
    win0_0.index t = ![t.val, 0] ∧ win0_1.index t = ![0, 0] ∧ win0_2.index t = ![t.val, 0] := by decide +kernel

/-! ## The host's operands -/

theorem v0_eq (c : Dev nD) : V m c main_v0 = truncf (F := Ideal) .bf16 (arg m c main_arg0) bitsLt_bf16_f32 := by
  dsimp only [V]; simp only [hostOps0]; after_reads_simp

theorem v2_at (c : Dev nD) (k : Fin 1024) (y : Fin 2048) :
    (V m c main_v2 : FVec Ideal S1024x2048 .bf16) (ix2 k y) = (arg m c main_arg1 : FVec Ideal S1024x2560 .f32) (ix2 k ⟨512 + y.val, by omega⟩) := by
  dsimp only [V]; simp only [hostOps0]; after_reads_simp
  pointwise

/-! ## One point -/

theorem pay1_at (P0 : FVec Ideal S1024x1024 .bf16) (P1 : FVec Ideal S1024x2048 .bf16) (i : Fin 1024) (y : Fin 2048) :
    k0_pay1 (F := Ideal) P0 P1 (ix2 i y) = (∑ k : Fin 1024, P0 (ix2 i k) * P1 (ix2 k y) : EReal) := by
  pointwise [k0_pay1]

section
variable (X : FVec Ideal S4096x1024 .bf16) (W : FVec Ideal S1024x2048 .bf16) (t : Fin cfg0.N) (i : Fin 1024) (y : Fin 2048)

/-- Row `i` of point `t`'s block. -/
def row : Fin 4096 := ⟨1024 * t.val + i.val, by have := lt_of_lt_of_eq t.isLt N_0; omega⟩

theorem in0 (k : Fin 1024) : (win0_0.blk t).view.read (Elt Ideal) X (ix2 i k) = X (ix2 (row t i) k) := by
  obtain ⟨i0, i1, i2⟩ := idx t
  blk_ext [i0, row] <;> omega
theorem in1 (k : Fin 1024) : (win0_1.blk t).view.read (Elt Ideal) W (ix2 k y) = W (ix2 k y) := by
  obtain ⟨i0, i1, i2⟩ := idx t
  blk_ext [i1] <;> omega
theorem emb2 : (win0_2.blk t).view.emb (ix2 i y) = ix2 (row t i) y := by
  obtain ⟨i0, i1, i2⟩ := idx t
  blk_ext [i2, row] <;> omega
end

theorem block2 (c : Dev nD) (t : Fin cfg0.N) (i : Fin 1024) (y : Fin 2048) :
    k0_pay1 (F := Ideal) (iblk m c 0 t) (iblk m c 1 t) (ix2 i y)
      = gateOf (arg m c main_arg0) (arg m c main_arg1) ((win0_2.blk t).view.emb (ix2 i y)) := by
  rw [emb2]
  refine (pay1_at _ _ i y).trans ?_
  have e0 := in0 (V m c main_v0) t i
  rw [v0_eq] at e0
  have e1 := fun k => (in1 (V m c main_v2) t y k).trans (v2_at m c k y)
  exact Finset.sum_congr rfl fun k _ => congrArg₂ (fun a b : EReal => a * b) (e0 k) (e1 k)

theorem arr2 (c : Dev nD) : (dats m 0 c).arrAt 2 cfg0.N = gateOf (arg m c main_arg0) (arg m c main_arg1) := by
  refine (dats m 0 c).arrAt_eq_of_covers 2 _ (by decide +kernel) fun t hf y => ?_
  have e := block2 m c t (y 0) (y 1)
  blk_simp
  rw [after0_2]
  frame_out
  rw [← ix2_eta y]
  exact e

end Cert.Kernel9Ideal.Val

namespace Cert.Reference9Ideal.Val

open Cert.Reference9Ideal Cert.Reference9Ideal.Read
open Idealize.ShloMosaic Idealize.ShloMosaic.Tactic
open Idealize.SL.Sem
open Cert.Kernel9Ideal.Val

variable (x0 : FVec Ideal S4096x1024 .f32) (x1 : FVec Ideal S1024x2560 .f32)

theorem v3_at (i : Fin 4096) (y : Fin 2048) : val_main_v3 (F := Ideal) x0 x1 (ix2 i y) = gateOf x0 x1 (ix2 i y) := by
  pointwise [val_main_v3, val_main_v2, val_main_v0, gateOf]

end Cert.Reference9Ideal.Val

namespace Cert.Proof

open Idealize.ShloMosaic Idealize.SL.Sem
open Cert.Kernel9Ideal.Val Cert.Reference9Ideal.Val Cert.Reference9Ideal.Read

/-- The gate's argument is the same in the kernel and in the reference. -/
theorem algebraic9 : Cert.algebraic_Kernel9Ideal_Reference9Ideal (hKernel9Ideal := Cert.Kernel9Ideal.Gen.facts)
    (hReference9Ideal := Cert.Reference9Ideal.Gen.facts) := by
  intro m g m' g' _ same
  refine ⟨fun c => gateOf (arg m c Cert.Kernel9Ideal.main_arg0) (arg m c Cert.Kernel9Ideal.main_arg1), ?_, ?_⟩
  · refine (θ_run _ _ _).mono (fun r h c => ?_) (Cert.Kernel9Ideal.Value.run_blocks (F := Ideal) m g)
    obtain ⟨h0, hrest⟩ := h c
    exact ⟨h0.trans (arr2 m c), hrest⟩
  · refine (θ_run _ _ _).mono (fun r h c => ?_) (Cert.Reference9Ideal.Value.run (F := Ideal) m' g')
    obtain ⟨e0, e1⟩ := same c
    obtain ⟨h0, hrest⟩ := h c
    refine ⟨h0.trans ?_, hrest⟩
    rw [e0, e1]
    refine (val_main_v3_eq _ _).trans (funext fun y => ?_)
    rw [← ix2_eta y]
    exact v3_at _ _ (y 0) (y 1)

/-- The reference runs to its end, and leaves its arguments and every counter as they were. -/
theorem frame_reference9 : Cert.quiescent_Reference9Ideal (hReference9Ideal := Cert.Reference9Ideal.Gen.facts) :=
  fun m g _ => (θ_run (Cert.Reference9Ideal.defs (F := Ideal)) _ _).mono
    (fun r h => ⟨fun c => (h c).2, sem_eq_zero_of_no_sems (by decide) r.2⟩)
    (Cert.Reference9Ideal.Value.run (F := Ideal) m g)

end Cert.Proof

end
-- ==== Proof.GateInWeight.lean ====
/-
  The call for the gradient of the gate's part of the attention's input weight: four points over blocks of 1024 rows, each adding
  its rows' products to the running sum, and the sum written out after the last.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Kernel10Ideal.Val

open Cert.Kernel10Ideal Cert.Kernel10Ideal.Gen Cert.Kernel10Ideal.Value
open Idealize.ShloMosaic Idealize.ShloMosaic.TcCoe Idealize.ShloMosaic.Tactic
open Idealize.SL.Sem

variable (m : (ℓ : Loc nD τ sig) → Buf (Elt Ideal) ℓ)

/-- An argument as launched. -/
abbrev arg (c : Dev nD) (b : Ref sig .tc) := m (c, Proc.tc.devRef b)

/-- The gradient of the weight's columns of the gate: the rows of the input against the gate's gradient. -/
def gradW (X : FVec Ideal S4096x1024 .f32) (G : FVec Ideal S4096x2048 .f32) : FVec Ideal S1024x2048 .bf16 :=
  fun x => ∑ r : Fin 4096, X (ix2 r (x 0)) * G (ix2 r (x 1))

theorem idx : ∀ t : Fin grid0.N,
    win0_0.index t = ![t.val, 0] ∧ win0_1.index t = ![t.val, 0] ∧ win0_2.index t = ![0, 0] := by decide +kernel

theorem v0_eq (c : Dev nD) : V m c main_v0 = truncf (F := Ideal) .bf16 (arg m c main_arg0) bitsLt_bf16_f32 := by
  dsimp only [V]; simp only [hostOps0]; after_reads_simp
theorem v1_eq (c : Dev nD) : V m c main_v1 = truncf (F := Ideal) .bf16 (arg m c main_arg3) bitsLt_bf16_f32 := by
  dsimp only [V]; simp only [hostOps0]; after_reads_simp

/-! ## One point -/

/-- What a point's rows add at an index. -/
def part (P : FVec Ideal S1024x1024 .bf16) (Q : FVec Ideal S1024x2048 .bf16) (j : S1024x2048.Idx) : EReal :=
  ∑ k : Fin 1024, P (ix2 k (j 0)) * Q (ix2 k (j 1))

theorem pay1_apply (j : S1024x2048.Idx) : k0_pay1 (F := Ideal) j = (0 : EReal) := by
  rw [← ix2_eta j]
  pointwise [k0_pay1]

theorem pay2_at (P : FVec Ideal S1024x1024 .bf16) (Q : FVec Ideal S1024x2048 .bf16) (A : FVec Ideal S1024x2048 .f32) (i : Fin 1024) (y : Fin 2048) :
    k0_pay2 (F := Ideal) P Q A (ix2 i y) = (A (ix2 i y) + part P Q (ix2 i y) : EReal) := by
  pointwise [k0_pay2]
  rfl

theorem pay2_apply (P : FVec Ideal S1024x1024 .bf16) (Q : FVec Ideal S1024x2048 .bf16) (A : FVec Ideal S1024x2048 .f32) (j : S1024x2048.Idx) :
    k0_pay2 (F := Ideal) P Q A j = (A j + part P Q j : EReal) := by
  rw [← ix2_eta j]
  exact pay2_at P Q A (j 0) (j 1)

/-! ## The running sum -/

/-- After the last point the written block is the running sum. -/
theorem last_eq (c : Dev nD) (t : Fin cfg0.N) (h : t.val % 4 = 3) (j : S1024x2048.Idx) :
    (outsAt0 m c t.val t.isLt).1 j = (outsAt0 m c t.val t.isLt).2 j := by
  rw [outsAt0_C m c t (by omega) h]
  frame_out
  rfl

theorem sum_eq (c : Dev nD) (t : Fin cfg0.N) (ht : t.val + 1 = cfg0.N) (j : S1024x2048.Idx) :
    (outsAt0 m c t.val t.isLt).2 j = (∑ p : Fin cfg0.N, part (iblk m c 0 p) (iblk m c 1 p) j : EReal) := by
  have h := Pipeline.eq_sum_fin_of_reset_step_apply_last (fun n h => (outsAt0 m c n h).2) 4 (fun _ => (0 : EReal))
    (fun p j => part (iblk m c 0 p) (iblk m c 1 p) j)
    (fun t h j => by
      rw [outsAt0_A m c t h (by omega)]
      frame_out
      rw [pay2_apply, pay1_apply])
    (fun t h j => by
      by_cases h3 : t.val % 4 = 3
      · rw [outsAt0_C m c t h h3]
        frame_out
        rw [pay2_apply, (Memref.isWhole_whole _).read_unread]
      · rw [outsAt0_B m c t h h3]
        frame_out
        rw [pay2_apply, (Memref.isWhole_whole _).read_unread])
    (le_of_eq N_0) t ht j
  rw [h, zero_add]

/-! ## The blocks read -/

section
variable (t : Fin cfg0.N) (k : Fin 1024)

/-- Row `k` of point `t`'s block. -/
def row : Fin 4096 := ⟨t.val * 1024 + k.val, by have := lt_of_lt_of_eq t.isLt N_0; omega⟩

theorem in0 (X : FVec Ideal S4096x1024 .bf16) (y : Fin 1024) : (win0_0.blk t).view.read (Elt Ideal) X (ix2 k y) = X (ix2 (row t k) y) := by
  obtain ⟨i0, i1, i2⟩ := idx t
  blk_ext [i0, row] <;> omega
theorem in1 (G : FVec Ideal S4096x2048 .bf16) (y : Fin 2048) : (win0_1.blk t).view.read (Elt Ideal) G (ix2 k y) = G (ix2 (row t k) y) := by
  obtain ⟨i0, i1, i2⟩ := idx t
  blk_ext [i1, row] <;> omega
theorem emb2 (i : Fin 1024) (y : Fin 2048) : (win0_2.blk t).view.emb (ix2 i y) = ix2 i y := by
  obtain ⟨i0, i1, i2⟩ := idx t
  blk_ext [i2] <;> omega
end

theorem outW (c : Dev nD) (t : Fin cfg0.N) (h : t.val % 4 = 3) (i : Fin 1024) (y : Fin 2048) :
    (outsAt0 m c t.val t.isLt).1 (ix2 i y) = gradW (arg m c main_arg0) (arg m c main_arg3) ((win0_2.blk t).view.emb (ix2 i y)) := by
  have hN := lt_of_lt_of_eq t.isLt N_0
  have hN' : cfg0.N = 4 := N_0
  rw [emb2, last_eq m c t h]
  refine Eq.trans (sum_eq m c t (by omega) (ix2 i y)) ?_
  refine Fin.sum_mul_add_congr (S := 4) (n := 1024) fun p k _ => ?_
  have e0 := in0 p k (V m c main_v0) i
  have e1 := in1 p k (V m c main_v1) y
  rw [v0_eq] at e0
  rw [v1_eq] at e1
  exact congrArg₂ (fun a b : EReal => a * b) e0 e1

theorem arr2 (c : Dev nD) : (dats m 0 c).arrAt 2 cfg0.N = gradW (arg m c main_arg0) (arg m c main_arg3) := by
  refine (dats m 0 c).arrAt_eq_of_covers 2 _ (by decide +kernel) fun t hf y => ?_
  have e := outW m c t ((flush0_2 t).mp hf) (y 0) (y 1)
  blk_simp
  rw [after0_2]
  rw [← ix2_eta y]
  exact e

end Cert.Kernel10Ideal.Val

namespace Cert.Reference10Ideal.Val

open Cert.Reference10Ideal Cert.Reference10Ideal.Read
open Idealize.ShloMosaic Idealize.ShloMosaic.Tactic
open Idealize.SL.Sem
open Cert.Kernel10Ideal.Val

variable (x0 : FVec Ideal S4096x1024 .f32) (x2 : FVec Ideal S4096x512 .f32) (x3 : FVec Ideal S4096x2048 .f32)

theorem cat_at (r : Fin 4096) (l : Fin 2048) (h : 512 + l.val < 2560) : val_main_v3 (F := Ideal) x2 x3 (ix2 r ⟨512 + l.val, h⟩) = x3 (ix2 r l) := by
  pointwise [val_main_v3]

theorem v8_at (i : Fin 1024) (l : Fin 2048) : val_main_v8 (F := Ideal) x0 x2 x3 (ix2 i l) = gradW x0 x3 (ix2 i l) := by
  have h := fun r => cat_at x2 x3 r l
  unfold val_main_v8 val_main_v7 val_main_v5 val_main_v4
  revert h
  generalize val_main_v3 (F := Ideal) x2 x3 = A
  intro h
  pointwise
  refine Finset.sum_congr rfl fun r _ => ?_
  rw [h, mul_comm]
  rfl

end Cert.Reference10Ideal.Val

namespace Cert.Proof

open Idealize.ShloMosaic Idealize.SL.Sem
open Cert.Kernel10Ideal.Val Cert.Reference10Ideal.Val Cert.Reference10Ideal.Read

/-- The gradient of the gate's part of the weight is the same in the kernel and in the reference. -/
theorem algebraic10 : Cert.algebraic_Kernel10Ideal_Reference10Ideal (hKernel10Ideal := Cert.Kernel10Ideal.Gen.facts)
    (hReference10Ideal := Cert.Reference10Ideal.Gen.facts) := by
  intro m g m' g' _ same
  refine ⟨fun c => gradW (arg m c Cert.Kernel10Ideal.main_arg0) (arg m c Cert.Kernel10Ideal.main_arg3), ?_, ?_⟩
  · refine (θ_run _ _ _).mono (fun r h c => ?_) (Cert.Kernel10Ideal.Value.run_blocks (F := Ideal) m g)
    obtain ⟨h0, hrest⟩ := h c
    exact ⟨h0.trans (arr2 m c), hrest⟩
  · refine (θ_run _ _ _).mono (fun r h c => ?_) (Cert.Reference10Ideal.Value.run (F := Ideal) m' g')
    obtain ⟨e0, e1, e2, e3⟩ := same c
    obtain ⟨h0, hrest⟩ := h c
    refine ⟨h0.trans ?_, hrest⟩
    rw [e0, e2, e3]
    refine (val_main_v8_eq _ _ _).trans (funext fun y => ?_)
    rw [← ix2_eta y]
    exact v8_at _ _ _ (y 0) (y 1)

/-- The reference runs to its end, and leaves its arguments and every counter as they were. -/
theorem frame_reference10 : Cert.quiescent_Reference10Ideal (hReference10Ideal := Cert.Reference10Ideal.Gen.facts) :=
  fun m g _ => (θ_run (Cert.Reference10Ideal.defs (F := Ideal)) _ _).mono
    (fun r h => ⟨fun c => (h c).2, sem_eq_zero_of_no_sems (by decide) r.2⟩)
    (Cert.Reference10Ideal.Value.run (F := Ideal) m g)

end Cert.Proof

end
-- ==== Proof.NormOut.lean ====
/-
  The attention branch's output projection with the layer norm of its residual sum: each point takes 512 rows, and writes their
  layer norm, the normed rows and the scales.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Kernel11Ideal.Val

open Cert.Kernel11Ideal Cert.Kernel11Ideal.Gen Cert.Kernel11Ideal.Value
open Idealize.ShloMosaic Idealize.ShloMosaic.TcCoe Idealize.ShloMosaic.Tactic
open Idealize.SL.Sem

variable (m : (ℓ : Loc nD τ sig) → Buf (Elt Ideal) ℓ)

/-- An argument as launched. -/
abbrev arg (c : Dev nD) (b : Ref sig .tc) := m (c, Proc.tc.devRef b)

/-- The residual's factor. -/
def alpha : EReal := Ideal.ofBits .f32 0x3FB504F3#32

/-! ## One row -/

/-- The mean of a row, the row without it, the scale to unit variance, the normed row, and that scaled and shifted. -/
def mean (u : Fin 1024 → EReal) : EReal := Ideal.div (∑ j, u j) (Ideal.ofBits .f32 0x44800000#32)
def cen (u : Fin 1024 → EReal) (j : Fin 1024) : EReal := u j - mean u
def rstd (u : Fin 1024 → EReal) : EReal := Ideal.rsqrt (mean (fun j => cen u j * cen u j) + Ideal.ofBits .f32 0x3727C5AC#32)
def nrm (u : Fin 1024 → EReal) (j : Fin 1024) : EReal := cen u j * rstd u
def out (u g b : Fin 1024 → EReal) (j : Fin 1024) : EReal := nrm u j * g j + b j

section
variable (X : FVec Ideal S4096x1024 .f32) (U : FVec Ideal S4096x2048 .f32) (W : FVec Ideal S2048x1024 .f32) (B g b : FVec Ideal S1024 .f32)

/-- A row of the residual sum: the scaled row, and the branch's product with its bias. -/
def rowR (r : Fin 4096) (y : Fin 1024) : EReal := alpha * X (ix2 r y) + ((∑ k : Fin 2048, U (ix2 r k) * W (ix2 k y)) + B (ix1 y))
def vec (v : FVec Ideal S1024 .f32) (y : Fin 1024) : EReal := v (ix1 y)

/-- The four results: the layer norm, twice, the normed rows, and the scales. -/
def outH : FVec Ideal S4096x1024 .f32 := fun x => out (rowR X U W B (x 0)) (vec g) (vec b) (x 1)
def outHb : FVec Ideal S4096x1024 .bf16 := fun x => out (rowR X U W B (x 0)) (vec g) (vec b) (x 1)
def outN : FVec Ideal S4096x1024 .f32 := fun x => nrm (rowR X U W B (x 0)) (x 1)
def outS : FVec Ideal S4096x1 .f32 := fun x => rstd (rowR X U W B (x 0))
end

theorem idx : ∀ t : Fin grid0.N,
    win0_0.index t = ![t.val, 0] ∧ win0_1.index t = ![0, 0] ∧ win0_2.index t = ![0, 0] ∧ win0_3.index t = ![t.val, 0] ∧ win0_4.index t = ![0, 0]
      ∧ win0_5.index t = ![0, 0] ∧ win0_6.index t = ![t.val, 0] ∧ win0_7.index t = ![t.val, 0] ∧ win0_8.index t = ![t.val, 0]
      ∧ win0_9.index t = ![t.val, 0] := by decide +kernel

/-! ## The host's operands -/

theorem v0_eq (c : Dev nD) : V m c main_v0 = truncf (F := Ideal) .bf16 (arg m c main_arg1) bitsLt_bf16_f32 := by
  dsimp only [V]; simp only [hostOps0]; after_reads_simp
theorem v1_eq (c : Dev nD) : V m c main_v1 = truncf (F := Ideal) .bf16 (arg m c main_arg2) bitsLt_bf16_f32 := by
  dsimp only [V]; simp only [hostOps0]; after_reads_simp

/-- A vector as one row. -/
theorem flat_at (v : FVec Ideal S1024 .f32) (o : Fin 1) (y : Fin 1024) : shapeCast S1x1024 v shapeCasts_S1024_S1x1024 (ix2 o y) = vec v y :=
  shapeCast_apply _ shapeCasts_S1024_S1x1024 (ix2 o y) (ix1 y)
    (by rewrite [Shape.rowMajor_val_one, Shape.rowMajor_val_two]; show y.val = o.val * 1024 + y.val; omega)

theorem v2_at (c : Dev nD) (o : Fin 1) (y : Fin 1024) : V m c main_v2 (ix2 o y) = vec (arg m c main_arg3) y := by
  refine Eq.trans (congrFun (?_ : V m c main_v2 = shapeCast S1x1024 (arg m c main_arg3 : FVec Ideal S1024 .f32) shapeCasts_S1024_S1x1024) _) (flat_at _ o y)
  dsimp only [V]; simp only [hostOps0]; after_reads_simp; rfl
theorem v3_at (c : Dev nD) (o : Fin 1) (y : Fin 1024) : V m c main_v3 (ix2 o y) = vec (arg m c main_arg4) y := by
  refine Eq.trans (congrFun (?_ : V m c main_v3 = shapeCast S1x1024 (arg m c main_arg4 : FVec Ideal S1024 .f32) shapeCasts_S1024_S1x1024) _) (flat_at _ o y)
  dsimp only [V]; simp only [hostOps0]; after_reads_simp; rfl
theorem v4_at (c : Dev nD) (o : Fin 1) (y : Fin 1024) : V m c main_v4 (ix2 o y) = vec (arg m c main_arg5) y := by
  refine Eq.trans (congrFun (?_ : V m c main_v4 = shapeCast S1x1024 (arg m c main_arg5 : FVec Ideal S1024 .f32) shapeCasts_S1024_S1x1024) _) (flat_at _ o y)
  dsimp only [V]; simp only [hostOps0]; after_reads_simp; rfl

/-! ## One point -/

section
variable (P0 : FVec Ideal S512x2048 .bf16) (P1 : FVec Ideal S2048x1024 .bf16) (P2 : FVec Ideal S1x1024 .f32) (P3 : FVec Ideal S512x1024 .f32)
  (P4 P5 : FVec Ideal S1x1024 .f32) (i : Fin 512) (y : Fin 1024)

/-- A row of a block's residual sum, in the call's order. -/
def bres (i : Fin 512) (y : Fin 1024) : EReal := (alpha * P3 (ix2 i y) + ∑ k : Fin 2048, P0 (ix2 i k) * P1 (ix2 k y)) + P2 (ix2 0 y)
def bvec (P : FVec Ideal S1x1024 .f32) (y : Fin 1024) : EReal := P (ix2 0 y)

theorem pay2_at : k0_pay2 (F := Ideal) P0 P1 P2 P3 (ix2 i y) = cen (bres P0 P1 P2 P3 i) y := by
  pointwise [k0_pay2]
  rfl

theorem pay3_at (o : Fin 1) : k0_pay3 (F := Ideal) P0 P1 P2 P3 (ix2 i o) = rstd (bres P0 P1 P2 P3 i) := by
  have h := fun y => pay2_at P0 P1 P2 P3 i y
  unfold k0_pay3
  revert h
  generalize k0_pay2 (F := Ideal) P0 P1 P2 P3 = A
  intro h
  pointwise
  simp only [h]
  rfl

theorem pay4_at : k0_pay4 (F := Ideal) P0 P1 P2 P3 (ix2 i y) = nrm (bres P0 P1 P2 P3 i) y := by
  have h := pay2_at P0 P1 P2 P3 i y
  have h' := fun o => pay3_at P0 P1 P2 P3 i o
  unfold k0_pay4
  revert h h'
  generalize k0_pay2 (F := Ideal) P0 P1 P2 P3 = A
  generalize k0_pay3 (F := Ideal) P0 P1 P2 P3 = B
  intro h h'
  pointwise
  rw [h, h']
  rfl

/-- The value that both layer norm blocks are of, with its loads of whole blocks read. -/
theorem pay6_eq : k0_pay6 (F := Ideal) P0 P1 P2 P3 P4 P5 = k0_pay5 (F := Ideal) P0 P1 P2 P3 P4 P5 := by
  unfold k0_pay6
  simp (disch := decide) only [View.ld_unit_lit']

theorem pay5_at : k0_pay5 (F := Ideal) P0 P1 P2 P3 P4 P5 (ix2 i y) = out (bres P0 P1 P2 P3 i) (bvec P4) (bvec P5) y := by
  have h := pay4_at P0 P1 P2 P3 i y
  unfold k0_pay5
  revert h
  generalize k0_pay4 (F := Ideal) P0 P1 P2 P3 = A
  intro h
  pointwise
  rw [h]
  rfl
end

/-! ## The blocks read -/

section
variable (t : Fin cfg0.N) (i : Fin 512) (y : Fin 1024) (o : Fin 1)

/-- Row `i` of point `t`'s block. -/
def row : Fin 4096 := ⟨512 * t.val + i.val, by have := lt_of_lt_of_eq t.isLt N_0; omega⟩

theorem in0 (X : FVec Ideal S4096x2048 .bf16) (k : Fin 2048) : (win0_0.blk t).view.read (Elt Ideal) X (ix2 i k) = X (ix2 (row t i) k) := by
  obtain ⟨i0, i1, i2, i3, i4, i5, i6, i7, i8, i9⟩ := idx t
  blk_ext [i0, row] <;> omega
theorem in1 (X : FVec Ideal S2048x1024 .bf16) (k : Fin 2048) : (win0_1.blk t).view.read (Elt Ideal) X (ix2 k y) = X (ix2 k y) := by
  obtain ⟨i0, i1, i2, i3, i4, i5, i6, i7, i8, i9⟩ := idx t
  blk_ext [i1] <;> omega
theorem in2 (X : FVec Ideal S1x1024 .f32) : (win0_2.blk t).view.read (Elt Ideal) X (ix2 o y) = X (ix2 o y) := by
  obtain ⟨i0, i1, i2, i3, i4, i5, i6, i7, i8, i9⟩ := idx t
  blk_ext [i2] <;> omega
theorem in3 (X : FVec Ideal S4096x1024 .f32) : (win0_3.blk t).view.read (Elt Ideal) X (ix2 i y) = X (ix2 (row t i) y) := by
  obtain ⟨i0, i1, i2, i3, i4, i5, i6, i7, i8, i9⟩ := idx t
  blk_ext [i3, row] <;> omega
theorem in4 (X : FVec Ideal S1x1024 .f32) : (win0_4.blk t).view.read (Elt Ideal) X (ix2 o y) = X (ix2 o y) := by
  obtain ⟨i0, i1, i2, i3, i4, i5, i6, i7, i8, i9⟩ := idx t
  blk_ext [i4] <;> omega
theorem in5 (X : FVec Ideal S1x1024 .f32) : (win0_5.blk t).view.read (Elt Ideal) X (ix2 o y) = X (ix2 o y) := by
  obtain ⟨i0, i1, i2, i3, i4, i5, i6, i7, i8, i9⟩ := idx t
  blk_ext [i5] <;> omega
theorem emb6 : (win0_6.blk t).view.emb (ix2 i y) = ix2 (row t i) y := by
  obtain ⟨i0, i1, i2, i3, i4, i5, i6, i7, i8, i9⟩ := idx t
  blk_ext [i6, row] <;> omega
theorem emb7 : (win0_7.blk t).view.emb (ix2 i y) = ix2 (row t i) y := by
  obtain ⟨i0, i1, i2, i3, i4, i5, i6, i7, i8, i9⟩ := idx t
  blk_ext [i7, row] <;> omega
theorem emb8 : (win0_8.blk t).view.emb (ix2 i y) = ix2 (row t i) y := by
  obtain ⟨i0, i1, i2, i3, i4, i5, i6, i7, i8, i9⟩ := idx t
  blk_ext [i8, row] <;> omega
theorem emb9 : (win0_9.blk t).view.emb (ix2 i o) = ix2 (row t i) o := by
  obtain ⟨i0, i1, i2, i3, i4, i5, i6, i7, i8, i9⟩ := idx t
  blk_ext [i9, row] <;> omega

/-- A block's rows of the residual sum are the rows of the arguments. -/
theorem bres_eq (c : Dev nD) : bres (iblk m c 0 t) (iblk m c 1 t) (iblk m c 2 t) (iblk m c 3 t) i
    = rowR (arg m c main_arg0) (arg m c main_arg1) (arg m c main_arg2) (arg m c main_arg3) (row t i) := funext fun y => by
  have e0 := in0 t i (V m c main_v0)
  have e1 := in1 t y (V m c main_v1)
  have e2 := (in2 t y 0 (V m c main_v2)).trans (v2_at m c 0 y)
  have e3 := in3 t i y (V m c main_arg0)
  rw [v0_eq] at e0
  rw [v1_eq] at e1
  rw [V_main_arg0] at e3
  refine Eq.trans ?_ (add_assoc _ _ _)
  exact congrArg₂ (fun a b : EReal => a + b) (congrArg₂ (fun a b : EReal => alpha * a + b) e3
    (Finset.sum_congr rfl fun k _ => congrArg₂ (fun a b : EReal => a * b) (e0 k) (e1 k))) e2

theorem bvec4_eq (c : Dev nD) : bvec (iblk m c 4 t) = vec (arg m c main_arg4) := funext fun y => (in4 t y 0 (V m c main_v3)).trans (v3_at m c 0 y)
theorem bvec5_eq (c : Dev nD) : bvec (iblk m c 5 t) = vec (arg m c main_arg5) := funext fun y => (in5 t y 0 (V m c main_v4)).trans (v4_at m c 0 y)

theorem block6 (c : Dev nD) : k0_pay5 (F := Ideal) (iblk m c 0 t) (iblk m c 1 t) (iblk m c 2 t) (iblk m c 3 t) (iblk m c 4 t) (iblk m c 5 t) (ix2 i y)
    = out (rowR (arg m c main_arg0) (arg m c main_arg1) (arg m c main_arg2) (arg m c main_arg3) (row t i)) (vec (arg m c main_arg4)) (vec (arg m c main_arg5)) y := by
  rw [← bres_eq, ← bvec4_eq m t, ← bvec5_eq m t]
  exact pay5_at _ _ _ _ _ _ i y
theorem block8 (c : Dev nD) : k0_pay4 (F := Ideal) (iblk m c 0 t) (iblk m c 1 t) (iblk m c 2 t) (iblk m c 3 t) (ix2 i y)
    = nrm (rowR (arg m c main_arg0) (arg m c main_arg1) (arg m c main_arg2) (arg m c main_arg3) (row t i)) y := by
  rw [← bres_eq]
  exact pay4_at _ _ _ _ i y
theorem block9 (c : Dev nD) : k0_pay3 (F := Ideal) (iblk m c 0 t) (iblk m c 1 t) (iblk m c 2 t) (iblk m c 3 t) (ix2 i o)
    = rstd (rowR (arg m c main_arg0) (arg m c main_arg1) (arg m c main_arg2) (arg m c main_arg3) (row t i)) := by
  rw [← bres_eq]
  exact pay3_at _ _ _ _ i o
end

theorem arr6 (c : Dev nD) : (dats m 0 c).arrAt 6 cfg0.N = outH (arg m c main_arg0) (arg m c main_arg1) (arg m c main_arg2) (arg m c main_arg3) (arg m c main_arg4) (arg m c main_arg5) := by
  refine (dats m 0 c).arrAt_eq_of_covers 6 _ (by decide +kernel) fun t hf y => ?_
  have e := block6 m t (y 0) (y 1) c
  have q := emb6 t (y 0) (y 1)
  blk_simp
  rw [after0_6]
  frame_out
  rw [pay6_eq]
  rw [← ix2_eta y]
  refine Eq.trans ?_ (congrArg (outH (arg m c main_arg0) (arg m c main_arg1) (arg m c main_arg2) (arg m c main_arg3) (arg m c main_arg4) (arg m c main_arg5)) q).symm
  exact e
theorem arr7 (c : Dev nD) : (dats m 0 c).arrAt 7 cfg0.N = outHb (arg m c main_arg0) (arg m c main_arg1) (arg m c main_arg2) (arg m c main_arg3) (arg m c main_arg4) (arg m c main_arg5) := by
  refine (dats m 0 c).arrAt_eq_of_covers 7 _ (by decide +kernel) fun t hf y => ?_
  have e := block6 m t (y 0) (y 1) c
  have q := emb7 t (y 0) (y 1)
  blk_simp
  rw [after0_7]
  frame_out
  rw [pay6_eq]
  rw [← ix2_eta y]
  refine Eq.trans ?_ (congrArg (outHb (arg m c main_arg0) (arg m c main_arg1) (arg m c main_arg2) (arg m c main_arg3) (arg m c main_arg4) (arg m c main_arg5)) q).symm
  exact e
theorem arr8 (c : Dev nD) : (dats m 0 c).arrAt 8 cfg0.N = outN (arg m c main_arg0) (arg m c main_arg1) (arg m c main_arg2) (arg m c main_arg3) := by
  refine (dats m 0 c).arrAt_eq_of_covers 8 _ (by decide +kernel) fun t hf y => ?_
  have e := block8 m t (y 0) (y 1) c
  have q := emb8 t (y 0) (y 1)
  blk_simp
  rw [after0_8]
  frame_out
  rw [← ix2_eta y]
  refine Eq.trans ?_ (congrArg (outN (arg m c main_arg0) (arg m c main_arg1) (arg m c main_arg2) (arg m c main_arg3)) q).symm
  exact e
theorem arr9 (c : Dev nD) : (dats m 0 c).arrAt 9 cfg0.N = outS (arg m c main_arg0) (arg m c main_arg1) (arg m c main_arg2) (arg m c main_arg3) := by
  refine (dats m 0 c).arrAt_eq_of_covers 9 _ (by decide +kernel) fun t hf y => ?_
  have e := block9 m t (y 0) (y 1) c
  have q := emb9 t (y 0) (y 1)
  blk_simp
  rw [after0_9]
  frame_out
  rw [← ix2_eta y]
  refine Eq.trans ?_ (congrArg (outS (arg m c main_arg0) (arg m c main_arg1) (arg m c main_arg2) (arg m c main_arg3)) q).symm
  exact e

end Cert.Kernel11Ideal.Val

namespace Cert.Reference11Ideal.Val

open Cert.Reference11Ideal Cert.Reference11Ideal.Read
open Idealize.ShloMosaic Idealize.ShloMosaic.Tactic
open Idealize.SL.Sem
open Cert.Kernel11Ideal.Val

variable (x0 : FVec Ideal S4096x1024 .f32) (x1 : FVec Ideal S4096x2048 .f32) (x2 : FVec Ideal S2048x1024 .f32) (x3 x4 x5 : FVec Ideal S1024 .f32)
  (r : Fin 4096) (y : Fin 1024) (o : Fin 1)

theorem v6_at : val_main_v6 (F := Ideal) x0 x1 x2 x3 (ix2 r y) = rowR x0 x1 x2 x3 r y := by
  pointwise [val_main_v6, val_main_v5, val_main_v4, val_main_v3, val_main_v2, val_main_v1, val_main_v0, val_main_cst]
  rfl

/-- The row without its mean, as each of the three places writes it. -/
theorem v12_at : val_main_v12 (F := Ideal) x0 x1 x2 x3 (ix2 r y) = cen (rowR x0 x1 x2 x3 r) y := by
  have h := fun y => v6_at x0 x1 x2 x3 r y
  unfold val_main_v12 val_main_v11 val_main_v10 val_main_v8 val_main_v7
  revert h
  generalize val_main_v6 (F := Ideal) x0 x1 x2 x3 = A
  intro h
  pointwise [val_main_v9, val_main_cst_0, val_main_cst_1, val_main_v23, val_main_cst_5, val_main_cst_6]
  simp only [h]
  rfl
theorem v47_at : val_main_v47 (F := Ideal) x0 x1 x2 x3 (ix2 r y) = cen (rowR x0 x1 x2 x3 r) y := by
  have h := fun y => v6_at x0 x1 x2 x3 r y
  unfold val_main_v47 val_main_v46 val_main_v10 val_main_v8 val_main_v7
  revert h
  generalize val_main_v6 (F := Ideal) x0 x1 x2 x3 = A
  intro h
  pointwise [val_main_v9, val_main_cst_0, val_main_cst_1, val_main_v23, val_main_cst_5, val_main_cst_6]
  simp only [h]
  rfl
theorem v26_at : val_main_v26 (F := Ideal) x0 x1 x2 x3 (ix2 r y) = cen (rowR x0 x1 x2 x3 r) y := by
  have h := fun y => v6_at x0 x1 x2 x3 r y
  unfold val_main_v26 val_main_v25 val_main_v24 val_main_v22 val_main_v21
  revert h
  generalize val_main_v6 (F := Ideal) x0 x1 x2 x3 = A
  intro h
  pointwise [val_main_v9, val_main_cst_0, val_main_cst_1, val_main_v23, val_main_cst_5, val_main_cst_6]
  simp only [h]
  rfl
theorem v33_at : val_main_v33 (F := Ideal) x0 x1 x2 x3 (ix2 r y) = cen (rowR x0 x1 x2 x3 r) y := by
  have h := fun y => v6_at x0 x1 x2 x3 r y
  unfold val_main_v33 val_main_v32 val_main_v24 val_main_v22 val_main_v21
  revert h
  generalize val_main_v6 (F := Ideal) x0 x1 x2 x3 = A
  intro h
  pointwise [val_main_v9, val_main_cst_0, val_main_cst_1, val_main_v23, val_main_cst_5, val_main_cst_6]
  simp only [h]
  rfl

/-- The scale, from either of the two. -/
theorem v20_at : val_main_v20 (F := Ideal) x0 x1 x2 x3 (ix2 r o) = rstd (rowR x0 x1 x2 x3 r) := by
  have h := fun y => v12_at x0 x1 x2 x3 r y
  unfold val_main_v20 val_main_v19 val_main_v17 val_main_v15 val_main_v14 val_main_v13
  revert h
  generalize val_main_v12 (F := Ideal) x0 x1 x2 x3 = A
  intro h
  pointwise [val_main_v18, val_main_v16, val_main_cst_2, val_main_cst_3, val_main_cst_4]
  simp only [h]
  rfl
theorem v36_at : val_main_v36 (F := Ideal) x0 x1 x2 x3 (ix2 r o) = rstd (rowR x0 x1 x2 x3 r) := by
  have h := fun y => v26_at x0 x1 x2 x3 r y
  unfold val_main_v36 val_main_v35 val_main_v31 val_main_v29 val_main_v28 val_main_v27
  revert h
  generalize val_main_v26 (F := Ideal) x0 x1 x2 x3 = A
  intro h
  pointwise [val_main_v34, val_main_v30, val_main_cst_7, val_main_cst_8, val_main_cst_9]
  simp only [h]
  rfl

/-- The normed row, of either. -/
theorem v49_at : val_main_v49 (F := Ideal) x0 x1 x2 x3 (ix2 r y) = nrm (rowR x0 x1 x2 x3 r) y := by
  have h := v47_at x0 x1 x2 x3 r y
  have h' := fun o => v20_at x0 x1 x2 x3 r o
  unfold val_main_v49 val_main_v48
  revert h h'
  generalize val_main_v47 (F := Ideal) x0 x1 x2 x3 = A
  generalize val_main_v20 (F := Ideal) x0 x1 x2 x3 = B
  intro h h'
  pointwise
  rw [h, h']
  rfl
theorem v38_at : val_main_v38 (F := Ideal) x0 x1 x2 x3 (ix2 r y) = nrm (rowR x0 x1 x2 x3 r) y := by
  have h := v33_at x0 x1 x2 x3 r y
  have h' := fun o => v36_at x0 x1 x2 x3 r o
  unfold val_main_v38 val_main_v37
  revert h h'
  generalize val_main_v33 (F := Ideal) x0 x1 x2 x3 = A
  generalize val_main_v36 (F := Ideal) x0 x1 x2 x3 = B
  intro h h'
  pointwise
  rw [h, h']
  rfl

theorem v44_at : val_main_v44 (F := Ideal) x0 x1 x2 x3 x4 x5 (ix2 r y) = out (rowR x0 x1 x2 x3 r) (vec x4) (vec x5) y := by
  have h := v38_at x0 x1 x2 x3 r y
  unfold val_main_v44 val_main_v41
  revert h
  generalize val_main_v38 (F := Ideal) x0 x1 x2 x3 = A
  intro h
  pointwise [val_main_v40, val_main_v39, val_main_v43, val_main_v42]
  rw [h]
  rfl

end Cert.Reference11Ideal.Val

namespace Cert.Proof

open Idealize.ShloMosaic Idealize.SL.Sem
open Cert.Kernel11Ideal.Val Cert.Reference11Ideal.Val Cert.Reference11Ideal.Read

/-- The layer norm of the residual sum, its normed rows and its scales are the same in the kernel and in the reference. -/
theorem algebraic11 : Cert.algebraic_Kernel11Ideal_Reference11Ideal (hKernel11Ideal := Cert.Kernel11Ideal.Gen.facts)
    (hReference11Ideal := Cert.Reference11Ideal.Gen.facts) := by
  intro m g m' g' _ same
  refine ⟨fun c => outH (arg m c Cert.Kernel11Ideal.main_arg0) (arg m c Cert.Kernel11Ideal.main_arg1) (arg m c Cert.Kernel11Ideal.main_arg2) (arg m c Cert.Kernel11Ideal.main_arg3) (arg m c Cert.Kernel11Ideal.main_arg4) (arg m c Cert.Kernel11Ideal.main_arg5),
    fun c => outHb (arg m c Cert.Kernel11Ideal.main_arg0) (arg m c Cert.Kernel11Ideal.main_arg1) (arg m c Cert.Kernel11Ideal.main_arg2) (arg m c Cert.Kernel11Ideal.main_arg3) (arg m c Cert.Kernel11Ideal.main_arg4) (arg m c Cert.Kernel11Ideal.main_arg5),
    fun c => outN (arg m c Cert.Kernel11Ideal.main_arg0) (arg m c Cert.Kernel11Ideal.main_arg1) (arg m c Cert.Kernel11Ideal.main_arg2) (arg m c Cert.Kernel11Ideal.main_arg3),
    fun c => outS (arg m c Cert.Kernel11Ideal.main_arg0) (arg m c Cert.Kernel11Ideal.main_arg1) (arg m c Cert.Kernel11Ideal.main_arg2) (arg m c Cert.Kernel11Ideal.main_arg3), ?_, ?_⟩
  · refine (θ_run _ _ _).mono (fun r h c => ?_) (Cert.Kernel11Ideal.Value.run_blocks (F := Ideal) m g)
    obtain ⟨h0, h1, h2, h3, hrest⟩ := h c
    exact ⟨h0.trans (arr6 m c), h1.trans (arr7 m c), h2.trans (arr8 m c), h3.trans (arr9 m c), hrest⟩
  · refine (θ_run _ _ _).mono (fun r h c => ?_) (Cert.Reference11Ideal.Value.run (F := Ideal) m' g')
    obtain ⟨e0, e1, e2, e3, e4, e5⟩ := same c
    obtain ⟨h0, h1, h2, h3, hrest⟩ := h c
    refine ⟨h0.trans ?_, h1.trans ?_, h2.trans ?_, h3.trans ?_, hrest⟩
    · refine (val_main_v44_eq _ _).trans ?_
      rw [e0, e1, e2, e3, e4, e5]
      refine funext fun y => ?_
      rw [← ix2_eta y]
      exact v44_at _ _ _ _ _ _ (y 0) (y 1)
    · refine (val_main_v45_eq _ _).trans ?_
      rw [e0, e1, e2, e3, e4, e5]
      refine funext fun y => ?_
      rw [← ix2_eta y]
      exact v44_at _ _ _ _ _ _ (y 0) (y 1)
    · refine (val_main_v49_eq _ _).trans ?_
      rw [e0, e1, e2, e3]
      refine funext fun y => ?_
      rw [← ix2_eta y]
      exact v49_at _ _ _ _ (y 0) (y 1)
    · rw [e0, e1, e2, e3]
      refine (val_main_v20_eq _ _ _ _).trans (funext fun y => ?_)
      rw [← ix2_eta y]
      exact v20_at _ _ _ _ (y 0) (y 1)

/-- The reference runs to its end, and leaves its arguments and every counter as they were. -/
theorem frame_reference11 : Cert.quiescent_Reference11Ideal (hReference11Ideal := Cert.Reference11Ideal.Gen.facts) :=
  fun m g _ => (θ_run (Cert.Reference11Ideal.defs (F := Ideal)) _ _).mono
    (fun r h => ⟨fun c => (h c).2.2.2.2, sem_eq_zero_of_no_sems (by decide) r.2⟩)
    (Cert.Reference11Ideal.Value.run (F := Ideal) m g)

end Cert.Proof

end
-- ==== Proof.KeyValue.lean ====
/-
  The projection to the attention's keys and values: each point takes 1024 rows and half of the columns, and writes their
  product.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Kernel12Ideal.Val

open Cert.Kernel12Ideal Cert.Kernel12Ideal.Gen Cert.Kernel12Ideal.Value
open Idealize.ShloMosaic Idealize.ShloMosaic.TcCoe Idealize.ShloMosaic.Tactic
open Idealize.SL.Sem

variable (m : (ℓ : Loc nD τ sig) → Buf (Elt Ideal) ℓ)

/-- An argument as launched. -/
abbrev arg (c : Dev nD) (b : Ref sig .tc) := m (c, Proc.tc.devRef b)

/-- Column `l` of a weight whose heads' columns lie side by side. -/
def flat (A : FVec Ideal S256x16x128 .f32) (k : Fin 256) (l : Fin 2048) : EReal := A (ix3 k ⟨l.val / 128, by omega⟩ ⟨l.val % 128, by omega⟩)

/-- The keys' weight and the values' weight side by side. -/
def cat (A B : FVec Ideal S256x16x128 .f32) (k : Fin 256) (l : Fin 4096) : EReal :=
  if h : l.val < 2048 then flat A k ⟨l.val, h⟩ else flat B k ⟨l.val - 2048, by omega⟩

theorem cat_lo (A B : FVec Ideal S256x16x128 .f32) (k : Fin 256) (l : Fin 4096) (h : l.val < 2048) : cat A B k l = flat A k ⟨l.val, h⟩ := dif_pos h
theorem cat_hi (A B : FVec Ideal S256x16x128 .f32) (k : Fin 256) (l : Fin 4096) (h : ¬l.val < 2048) : cat A B k l = flat B k ⟨l.val - 2048, by omega⟩ := dif_neg h

/-- The keys and the values: the rows of the compressed row against both weights. -/
def keysOf (C : FVec Ideal S4096x256 .f32) (A B : FVec Ideal S256x16x128 .f32) : FVec Ideal S4096x4096 .bf16 :=
  fun x => ∑ k : Fin 256, C (ix2 (x 0) k) * cat A B k (x 1)

theorem idx : ∀ t : Fin grid0.N,
    win0_0.index t = ![t.val / 2, 0] ∧ win0_1.index t = ![0, t.val % 2] ∧ win0_2.index t = ![t.val / 2, t.val % 2] := by decide +kernel

/-! ## The host's operands -/

theorem v0_eq (c : Dev nD) : V m c main_v0 = truncf (F := Ideal) .bf16 (arg m c main_arg0) bitsLt_bf16_f32 := by
  dsimp only [V]; simp only [hostOps0]; after_reads_simp

theorem v5_eq (c : Dev nD) : V m c main_v5 = concatenate (α := Ideal .bf16) S256x4096 1
    [⟨S256x2048, shapeCast S256x2048 (truncf (F := Ideal) .bf16 (arg m c main_arg1) bitsLt_bf16_f32) shapeCasts_S256x16x128_S256x2048⟩,
      ⟨S256x2048, shapeCast S256x2048 (truncf (F := Ideal) .bf16 (arg m c main_arg2) bitsLt_bf16_f32) shapeCasts_S256x16x128_S256x2048⟩]
    concatenates_S256x2048_S256x2048_S256x4096_d1 := by
  dsimp only [V]; simp only [hostOps0]; after_reads_simp
  rfl

theorem v5_at (c : Dev nD) (k : Fin 256) (l : Fin 4096) :
    V m c main_v5 (ix2 k l) = cat (arg m c main_arg1) (arg m c main_arg2) k l := by
  rw [v5_eq]
  pointwise [cat, flat]

/-! ## One point -/

theorem pay1_at (P0 : FVec Ideal S1024x256 .bf16) (P1 : FVec Ideal S256x2048 .bf16) (i : Fin 1024) (y : Fin 2048) :
    k0_pay1 (F := Ideal) P0 P1 (ix2 i y) = (∑ k : Fin 256, P0 (ix2 i k) * P1 (ix2 k y) : EReal) := by
  pointwise [k0_pay1]

section
variable (X : FVec Ideal S4096x256 .bf16) (U : FVec Ideal S256x4096 .bf16) (t : Fin cfg0.N) (i : Fin 1024) (y : Fin 2048)

/-- Row `i` of point `t`'s block. -/
def row : Fin 4096 := ⟨1024 * (t.val / 2) + i.val, by have := lt_of_lt_of_eq t.isLt N_0; omega⟩

/-- Column `y` of point `t`'s block. -/
def col : Fin 4096 := ⟨2048 * (t.val % 2) + y.val, by omega⟩

theorem in0 (k : Fin 256) : (win0_0.blk t).view.read (Elt Ideal) X (ix2 i k) = X (ix2 (row t i) k) := by
  obtain ⟨i0, i1, i2⟩ := idx t
  blk_ext [i0, row] <;> omega
theorem in1 (k : Fin 256) : (win0_1.blk t).view.read (Elt Ideal) U (ix2 k y) = U (ix2 k (col t y)) := by
  obtain ⟨i0, i1, i2⟩ := idx t
  blk_ext [i1, col] <;> omega
theorem emb2 : (win0_2.blk t).view.emb (ix2 i y) = ix2 (row t i) (col t y) := by
  obtain ⟨i0, i1, i2⟩ := idx t
  blk_ext [i2, row, col] <;> omega
end

theorem block2 (c : Dev nD) (t : Fin cfg0.N) (i : Fin 1024) (y : Fin 2048) :
    k0_pay1 (F := Ideal) (iblk m c 0 t) (iblk m c 1 t) (ix2 i y)
      = keysOf (arg m c main_arg0) (arg m c main_arg1) (arg m c main_arg2) ((win0_2.blk t).view.emb (ix2 i y)) := by
  rw [emb2]
  refine (pay1_at _ _ i y).trans ?_
  have e0 := in0 (V m c main_v0) t i
  rw [v0_eq] at e0
  have e1 := fun k => (in1 (V m c main_v5) t y k).trans (v5_at m c k (col t y))
  exact Finset.sum_congr rfl fun k _ => congrArg₂ (fun a b : EReal => a * b) (e0 k) (e1 k)

theorem arr2 (c : Dev nD) : (dats m 0 c).arrAt 2 cfg0.N = keysOf (arg m c main_arg0) (arg m c main_arg1) (arg m c main_arg2) := by
  refine (dats m 0 c).arrAt_eq_of_covers 2 _ (by decide +kernel) fun t hf y => ?_
  have e := block2 m c t (y 0) (y 1)
  blk_simp
  rw [after0_2]
  frame_out
  rw [← ix2_eta y]
  exact e

end Cert.Kernel12Ideal.Val

namespace Cert.Reference12Ideal.Val

open Cert.Reference12Ideal Cert.Reference12Ideal.Read
open Idealize.ShloMosaic Idealize.ShloMosaic.Tactic
open Idealize.SL.Sem
open Cert.Kernel12Ideal.Val

variable (x0 : FVec Ideal S4096x256 .f32) (x1 x2 : FVec Ideal S256x16x128 .f32)

theorem v2_at (i : Fin 4096) (y : Fin 2048) : val_main_v2 (F := Ideal) x0 x1 (ix2 i y) = (∑ k : Fin 256, x0 (ix2 i k) * flat x1 k y : EReal) := by
  pointwise [val_main_v2, val_main_v0, flat]

theorem v3_at (i : Fin 4096) (y : Fin 2048) : val_main_v3 (F := Ideal) x0 x2 (ix2 i y) = (∑ k : Fin 256, x0 (ix2 i k) * flat x2 k y : EReal) := by
  pointwise [val_main_v3, val_main_v1, flat]

theorem v5_at (i : Fin 4096) (y : Fin 4096) : val_main_v5 (F := Ideal) x0 x1 x2 (ix2 i y) = keysOf x0 x1 x2 (ix2 i y) := by
  have h := v2_at x0 x1 i
  have h' := v3_at x0 x2 i
  unfold val_main_v5 val_main_v4
  revert h h'
  generalize val_main_v2 (F := Ideal) x0 x1 = A
  generalize val_main_v3 (F := Ideal) x0 x2 = B
  intro h h'
  pointwise
  by_cases h0 : y.val < 2048
  · rw [dif_pos h0, h]
    refine Finset.sum_congr rfl fun k _ => congrArg _ ?_
    exact (cat_lo x1 x2 k y h0).symm
  · rw [dif_neg h0, h']
    refine Finset.sum_congr rfl fun k _ => congrArg _ ?_
    exact (cat_hi x1 x2 k y h0).symm

end Cert.Reference12Ideal.Val

namespace Cert.Proof

open Idealize.ShloMosaic Idealize.SL.Sem
open Cert.Kernel12Ideal.Val Cert.Reference12Ideal.Val Cert.Reference12Ideal.Read

/-- The keys and the values are the same in the kernel and in the reference. -/
theorem algebraic12 : Cert.algebraic_Kernel12Ideal_Reference12Ideal (hKernel12Ideal := Cert.Kernel12Ideal.Gen.facts)
    (hReference12Ideal := Cert.Reference12Ideal.Gen.facts) := by
  intro m g m' g' _ same
  refine ⟨fun c => keysOf (arg m c Cert.Kernel12Ideal.main_arg0) (arg m c Cert.Kernel12Ideal.main_arg1) (arg m c Cert.Kernel12Ideal.main_arg2), ?_, ?_⟩
  · refine (θ_run _ _ _).mono (fun r h c => ?_) (Cert.Kernel12Ideal.Value.run_blocks (F := Ideal) m g)
    obtain ⟨h0, hrest⟩ := h c
    exact ⟨h0.trans (arr2 m c), hrest⟩
  · refine (θ_run _ _ _).mono (fun r h c => ?_) (Cert.Reference12Ideal.Value.run (F := Ideal) m' g')
    obtain ⟨e0, e1, e2⟩ := same c
    obtain ⟨h0, hrest⟩ := h c
    refine ⟨h0.trans ?_, hrest⟩
    rw [e0, e1, e2]
    refine (val_main_v5_eq _ _ _).trans (funext fun y => ?_)
    rw [← ix2_eta y]
    exact Cert.Reference12Ideal.Val.v5_at _ _ _ (y 0) (y 1)

/-- The reference runs to its end, and leaves its arguments and every counter as they were. -/
theorem frame_reference12 : Cert.quiescent_Reference12Ideal (hReference12Ideal := Cert.Reference12Ideal.Gen.facts) :=
  fun m g _ => (θ_run (Cert.Reference12Ideal.defs (F := Ideal)) _ _).mono
    (fun r h => ⟨fun c => (h c).2, sem_eq_zero_of_no_sems (by decide) r.2⟩)
    (Cert.Reference12Ideal.Value.run (F := Ideal) m g)

end Cert.Proof

end
-- ==== Proof.KeyValueWeight.lean ====
/-
  The call for the gradients of the keys' and the values' weights: for each of the two, four points over blocks of 1024 rows,
  each adding its rows' products to one running sum.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Kernel13Ideal.Val

open Cert.Kernel13Ideal Cert.Kernel13Ideal.Gen Cert.Kernel13Ideal.Value
open Idealize.ShloMosaic Idealize.ShloMosaic.TcCoe Idealize.ShloMosaic.Tactic
open Idealize.SL.Sem

variable (m : (ℓ : Loc nD τ sig) → Buf (Elt Ideal) ℓ)

/-- An argument as launched. -/
abbrev arg (c : Dev nD) (b : Ref sig .tc) := m (c, Proc.tc.devRef b)

/-- Column `l` of a gradient whose heads' columns lie side by side. -/
def flat (A : FVec Ideal S4096x16x128 .f32) (r : Fin 4096) (l : Fin 2048) : EReal := A (ix3 r ⟨l.val / 128, by omega⟩ ⟨l.val % 128, by omega⟩)

/-- The keys' gradient and the values' gradient side by side. -/
def cat (A B : FVec Ideal S4096x16x128 .f32) (r : Fin 4096) (l : Fin 4096) : EReal :=
  if h : l.val < 2048 then flat A r ⟨l.val, h⟩ else flat B r ⟨l.val - 2048, by omega⟩

theorem cat_lo (A B : FVec Ideal S4096x16x128 .f32) (r : Fin 4096) (l : Fin 4096) (h : l.val < 2048) : cat A B r l = flat A r ⟨l.val, h⟩ := dif_pos h
theorem cat_hi (A B : FVec Ideal S4096x16x128 .f32) (r : Fin 4096) (l : Fin 4096) (h : ¬l.val < 2048) : cat A B r l = flat B r ⟨l.val - 2048, by omega⟩ := dif_neg h

/-- The gradients of both weights side by side: the compressed rows against the gradients of the keys and of the values. -/
def gradW (C : FVec Ideal S4096x256 .f32) (A B : FVec Ideal S4096x16x128 .f32) : FVec Ideal S256x4096 .bf16 :=
  fun x => ∑ r : Fin 4096, C (ix2 r (x 0)) * cat A B r (x 1)

theorem idx : ∀ t : Fin grid0.N,
    win0_0.index t = ![t.val % 4, 0] ∧ (t.val < 4 → win0_1.index t = ![t.val % 4, 0]) ∧ (4 ≤ t.val → win0_2.index t = ![t.val % 4, 0])
      ∧ win0_3.index t = ![0, t.val / 4] := by decide +kernel

/-! ## The host's operands -/

theorem v0_eq (c : Dev nD) : V m c main_v0 = truncf (F := Ideal) .bf16 (arg m c main_arg0) bitsLt_bf16_f32 := by
  dsimp only [V]; simp only [hostOps0]; after_reads_simp

theorem v2_at (c : Dev nD) (r : Fin 4096) (l : Fin 2048) : V m c main_v2 (ix2 r l) = flat (arg m c main_arg3) r l := by
  have e : V m c main_v2 = truncf (F := Ideal) .bf16 (shapeCast S4096x2048 (arg m c main_arg3) shapeCasts_S4096x16x128_S4096x2048) bitsLt_bf16_f32 := by
    dsimp only [V]; simp only [hostOps0]; after_reads_simp
    rfl
  rw [e]
  pointwise [flat]

theorem v4_at (c : Dev nD) (r : Fin 4096) (l : Fin 2048) : V m c main_v4 (ix2 r l) = flat (arg m c main_arg4) r l := by
  have e : V m c main_v4 = truncf (F := Ideal) .bf16 (shapeCast S4096x2048 (arg m c main_arg4) shapeCasts_S4096x16x128_S4096x2048) bitsLt_bf16_f32 := by
    dsimp only [V]; simp only [hostOps0]; after_reads_simp
    rfl
  rw [e]
  pointwise [flat]

/-! ## One point -/

/-- What a point's rows add at an index. -/
def part (P : FVec Ideal S1024x256 .bf16) (Q : FVec Ideal S1024x2048 .bf16) (j : S256x2048.Idx) : EReal :=
  ∑ k : Fin 1024, P (ix2 k (j 0)) * Q (ix2 k (j 1))

theorem pay1_apply (j : S256x2048.Idx) : k0_pay1 (F := Ideal) j = (0 : EReal) := by
  rw [← ix2_eta j]
  pointwise [k0_pay1]

theorem pay2_at (P : FVec Ideal S1024x256 .bf16) (Q : FVec Ideal S1024x2048 .bf16) (A : FVec Ideal S256x2048 .f32) (i : Fin 256) (y : Fin 2048) :
    k0_pay2 (F := Ideal) P Q A (ix2 i y) = (A (ix2 i y) + part P Q (ix2 i y) : EReal) := by
  pointwise [k0_pay2]
  rfl

theorem pay2_apply (P : FVec Ideal S1024x256 .bf16) (Q : FVec Ideal S1024x2048 .bf16) (A : FVec Ideal S256x2048 .f32) (j : S256x2048.Idx) :
    k0_pay2 (F := Ideal) P Q A j = (A j + part P Q j : EReal) := by
  rw [← ix2_eta j]
  exact pay2_at P Q A (j 0) (j 1)

/-! ## The running sum -/

/-- The block of the part that point `t` is at: the first four points are at the first part, the others at the second. -/
abbrev seg (c : Dev nD) (t : Fin cfg0.N) : FVec Ideal S1024x2048 .bf16 := if t.val < 4 then iblk m c 1 t else iblk m c 2 t

/-- A part's first point starts the sum. -/
theorem first_eq (c : Dev nD) (t : Fin cfg0.N) (h : t.val % 4 = 0) :
    (outsAt0 m c t.val t.isLt).2 = k0_pay2 (F := Ideal) (iblk m c 0 t) (seg m c t) (k0_pay1 (F := Ideal)) := by
  by_cases e : t.val < 4
  · rw [outsAt0_A m c t h e (by omega) (by omega)]
    frame_out
    simp only [seg, if_pos e]
  · rw [outsAt0_D m c t h e (by omega) (by omega)]
    frame_out
    simp only [seg, if_neg e]
    rfl

/-- Every other point adds to it. -/
theorem step_eq (c : Dev nD) (t : Fin cfg0.N) (h : ¬t.val % 4 = 0) :
    (outsAt0 m c t.val t.isLt).2 = k0_pay2 (F := Ideal) (iblk m c 0 t) (seg m c t)
      (outsAt0 m c (t.val - 1) (Nat.lt_of_le_of_lt (Nat.sub_le _ _) t.isLt)).2 := by
  by_cases h3 : t.val % 4 = 3
  · by_cases e : t.val < 4
    · rw [outsAt0_C m c t h e (by omega) h3]
      frame_out
      simp only [seg, if_pos e, (Memref.isWhole_whole _).read_unread]
    · rw [outsAt0_F m c t h e (by omega) h3]
      frame_out
      simp only [seg, if_neg e, (Memref.isWhole_whole _).read_unread]
      rfl
  · by_cases e : t.val < 4
    · rw [outsAt0_B m c t h e (by omega) h3]
      frame_out
      simp only [seg, if_pos e, (Memref.isWhole_whole _).read_unread]
    · rw [outsAt0_E m c t h e (by omega) h3]
      frame_out
      simp only [seg, if_neg e, (Memref.isWhole_whole _).read_unread]
      rfl

/-- A part's last point writes the sum out. -/
theorem last_eq (c : Dev nD) (t : Fin cfg0.N) (h : t.val % 4 = 3) (j : S256x2048.Idx) :
    (outsAt0 m c t.val t.isLt).1 j = (outsAt0 m c t.val t.isLt).2 j := by
  by_cases e : t.val < 4
  · rw [outsAt0_C m c t (by omega) e (by omega) h]
    frame_out
    rfl
  · rw [outsAt0_F m c t (by omega) e (by omega) h]
    frame_out
    rfl

theorem sum_eq (c : Dev nD) (t : Fin cfg0.N) (h : t.val % 4 = 3) (j : S256x2048.Idx) :
    (outsAt0 m c t.val t.isLt).2 j = (∑ s : Fin 4, part (iblk m c 0 ⟨4 * (t.val / 4) + s.val, Pipeline.run_point_lt_of_flush t h s⟩)
      (seg m c ⟨4 * (t.val / 4) + s.val, Pipeline.run_point_lt_of_flush t h s⟩) j : EReal) := by
  have h := Pipeline.eq_sum_fin_of_reset_step_apply_of_flush (fun n h => (outsAt0 m c n h).2) 4 (fun _ => (0 : EReal))
    (fun p j => part (iblk m c 0 p) (seg m c p) j)
    (fun t h j => by
      rw [first_eq m c t h]
      exact (pay2_apply _ _ _ j).trans (congrArg (· + _) (pay1_apply j)))
    (fun t h j => by
      rw [step_eq m c t h]
      exact pay2_apply _ _ _ j)
    t h j
  rw [h, zero_add]

/-! ## The blocks read -/

section
variable (t : Fin cfg0.N) (k : Fin 1024) (y : Fin 2048)

/-- Row `k` of the block that point `t` is at. -/
def row : Fin 4096 := ⟨t.val % 4 * 1024 + k.val, by omega⟩

/-- Column `y` of the part that point `t` is at. -/
def col : Fin 4096 := ⟨2048 * (t.val / 4) + y.val, by have := lt_of_lt_of_eq t.isLt N_0; omega⟩

theorem in0 (X : FVec Ideal S4096x256 .bf16) (i : Fin 256) : (win0_0.blk t).view.read (Elt Ideal) X (ix2 k i) = X (ix2 (row t k) i) := by
  obtain ⟨i0, i1, i2, i3⟩ := idx t
  blk_ext [i0, row] <;> omega
theorem in1 (A : FVec Ideal S4096x2048 .bf16) (e : t.val < 4) : (win0_1.blk t).view.read (Elt Ideal) A (ix2 k y) = A (ix2 (row t k) y) := by
  obtain ⟨i0, i1, i2, i3⟩ := idx t
  blk_ext [i1 e, row] <;> omega
theorem in2 (A : FVec Ideal S4096x2048 .bf16) (e : 4 ≤ t.val) : (win0_2.blk t).view.read (Elt Ideal) A (ix2 k y) = A (ix2 (row t k) y) := by
  obtain ⟨i0, i1, i2, i3⟩ := idx t
  blk_ext [i2 e, row] <;> omega
theorem emb3 (i : Fin 256) : (win0_3.blk t).view.emb (ix2 i y) = ix2 i (col t y) := by
  obtain ⟨i0, i1, i2, i3⟩ := idx t
  blk_ext [i3, col] <;> omega

/-- The block of a part holds the part's rows. -/
theorem seg_at (c : Dev nD) : seg m c t (ix2 k y) = cat (arg m c main_arg3) (arg m c main_arg4) (row t k) (col t y) := by
  have hN := lt_of_lt_of_eq t.isLt N_0
  unfold seg cat
  by_cases e : t.val < 4
  · have hc : (col t y).val < 2048 := by show 2048 * (t.val / 4) + y.val < 2048; omega
    have e1 := in1 t k y (V m c main_v2) e
    rw [if_pos e, dif_pos hc]
    refine (e1.trans (v2_at m c (row t k) y)).trans (congrArg _ (Fin.ext ?_))
    show y.val = 2048 * (t.val / 4) + y.val
    omega
  · have hc : ¬(col t y).val < 2048 := by show ¬2048 * (t.val / 4) + y.val < 2048; omega
    have e2 := in2 t k y (V m c main_v4) (by omega)
    rw [if_neg e, dif_neg hc]
    refine (e2.trans (v4_at m c (row t k) y)).trans (congrArg _ (Fin.ext ?_))
    show y.val = 2048 * (t.val / 4) + y.val - 2048
    omega

end

theorem outW (c : Dev nD) (t : Fin cfg0.N) (h : t.val % 4 = 3) (i : Fin 256) (y : Fin 2048) :
    (outsAt0 m c t.val t.isLt).1 (ix2 i y) = gradW (arg m c main_arg0) (arg m c main_arg3) (arg m c main_arg4) ((win0_3.blk t).view.emb (ix2 i y)) := by
  rw [emb3, last_eq m c t h]
  refine Eq.trans (sum_eq m c t h (ix2 i y)) ?_
  refine Fin.sum_mul_add_congr (S := 4) (n := 1024) fun s k hl => ?_
  have hp := Pipeline.run_point_lt_of_flush t h s
  have hr : row ⟨4 * (t.val / 4) + s.val, hp⟩ k = ⟨s.val * 1024 + k.val, hl⟩ := Fin.ext (by show (4 * (t.val / 4) + s.val) % 4 * 1024 + k.val = s.val * 1024 + k.val; omega)
  have hc : col ⟨4 * (t.val / 4) + s.val, hp⟩ y = col t y := Fin.ext (by show 2048 * ((4 * (t.val / 4) + s.val) / 4) + y.val = 2048 * (t.val / 4) + y.val; omega)
  have e := seg_at m ⟨4 * (t.val / 4) + s.val, hp⟩ k y c
  have e0 := in0 ⟨4 * (t.val / 4) + s.val, hp⟩ k (V m c main_v0) i
  rw [hr, hc] at e
  rw [hr, v0_eq] at e0
  exact congrArg₂ (fun a b : EReal => a * b) e0 e

theorem arr3 (c : Dev nD) : (dats m 0 c).arrAt 3 cfg0.N = gradW (arg m c main_arg0) (arg m c main_arg3) (arg m c main_arg4) := by
  refine (dats m 0 c).arrAt_eq_of_covers 3 _ (by decide +kernel) fun t hf y => ?_
  have e := outW m c t ((flush0_3 t).mp hf) (y 0) (y 1)
  blk_simp
  rw [after0_3]
  rw [← ix2_eta y]
  exact e

end Cert.Kernel13Ideal.Val

namespace Cert.Reference13Ideal.Val

open Cert.Reference13Ideal Cert.Reference13Ideal.Read
open Idealize.ShloMosaic Idealize.ShloMosaic.Tactic
open Idealize.SL.Sem
open Cert.Kernel13Ideal.Val

variable (x0 : FVec Ideal S4096x256 .f32) (x3 x4 : FVec Ideal S4096x16x128 .f32)

theorem v9_at (i : Fin 256) (y : Fin 2048) : val_main_v9 (F := Ideal) x0 x3 (ix2 i y) = (∑ r : Fin 4096, x0 (ix2 r i) * flat x3 r y : EReal) := by
  pointwise [val_main_v9, val_main_v6, val_main_v5, flat]
  exact Finset.sum_congr rfl fun r _ => mul_comm _ _

theorem v10_at (i : Fin 256) (y : Fin 2048) : val_main_v10 (F := Ideal) x0 x4 (ix2 i y) = (∑ r : Fin 4096, x0 (ix2 r i) * flat x4 r y : EReal) := by
  pointwise [val_main_v10, val_main_v3, val_main_v2, flat]
  exact Finset.sum_congr rfl fun r _ => mul_comm _ _

theorem v12_at (i : Fin 256) (y : Fin 4096) : val_main_v12 (F := Ideal) x0 x3 x4 (ix2 i y) = gradW x0 x3 x4 (ix2 i y) := by
  have h := v9_at x0 x3 i
  have h' := v10_at x0 x4 i
  unfold val_main_v12 val_main_v11
  revert h h'
  generalize val_main_v9 (F := Ideal) x0 x3 = A
  generalize val_main_v10 (F := Ideal) x0 x4 = B
  intro h h'
  pointwise
  by_cases h0 : y.val < 2048
  · rw [dif_pos h0, h]
    refine Finset.sum_congr rfl fun r _ => congrArg _ ?_
    exact (cat_lo x3 x4 r y h0).symm
  · rw [dif_neg h0, h']
    refine Finset.sum_congr rfl fun r _ => congrArg _ ?_
    exact (cat_hi x3 x4 r y h0).symm

end Cert.Reference13Ideal.Val

namespace Cert.Proof

open Idealize.ShloMosaic Idealize.SL.Sem
open Cert.Kernel13Ideal.Val Cert.Reference13Ideal.Val Cert.Reference13Ideal.Read

/-- The weights' gradients are the same in the kernel and in the reference. -/
theorem algebraic13 : Cert.algebraic_Kernel13Ideal_Reference13Ideal (hKernel13Ideal := Cert.Kernel13Ideal.Gen.facts)
    (hReference13Ideal := Cert.Reference13Ideal.Gen.facts) := by
  intro m g m' g' _ same
  refine ⟨fun c => gradW (arg m c Cert.Kernel13Ideal.main_arg0) (arg m c Cert.Kernel13Ideal.main_arg3) (arg m c Cert.Kernel13Ideal.main_arg4), ?_, ?_⟩
  · refine (θ_run _ _ _).mono (fun r h c => ?_) (Cert.Kernel13Ideal.Value.run_blocks (F := Ideal) m g)
    obtain ⟨h0, hrest⟩ := h c
    exact ⟨h0.trans (arr3 m c), hrest⟩
  · refine (θ_run _ _ _).mono (fun r h c => ?_) (Cert.Reference13Ideal.Value.run (F := Ideal) m' g')
    obtain ⟨e0, e1, e2, e3, e4⟩ := same c
    obtain ⟨h0, hrest⟩ := h c
    refine ⟨h0.trans ?_, hrest⟩
    rw [e0, e3, e4]
    refine (val_main_v12_eq _ _ _).trans (funext fun y => ?_)
    rw [← ix2_eta y]
    exact v12_at _ _ _ (y 0) (y 1)

/-- The reference runs to its end, and leaves its arguments and every counter as they were. -/
theorem frame_reference13 : Cert.quiescent_Reference13Ideal (hReference13Ideal := Cert.Reference13Ideal.Gen.facts) :=
  fun m g _ => (θ_run (Cert.Reference13Ideal.defs (F := Ideal)) _ _).mono
    (fun r h => ⟨fun c => (h c).2, sem_eq_zero_of_no_sems (by decide) r.2⟩)
    (Cert.Reference13Ideal.Value.run (F := Ideal) m g)

end Cert.Proof

end
-- ==== Proof.QueryWeight.lean ====
/-
  The call for the gradient of the queries' weight: for each of its two parts, four points over blocks of 1024 rows, each adding
  its rows' products to one running sum.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ValueKit.Acc
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Kernel14Ideal.Val

open Cert.Kernel14Ideal Cert.Kernel14Ideal.Gen Cert.Kernel14Ideal.Value
open Idealize.ShloMosaic Idealize.ShloMosaic.TcCoe Idealize.ShloMosaic.Tactic
open Idealize.SL.Sem

variable (m : (ℓ : Loc nD τ sig) → Buf (Elt Ideal) ℓ)

/-- An argument as launched. -/
abbrev arg (c : Dev nD) (b : Ref sig .tc) := m (c, Proc.tc.devRef b)

/-- Column `l` of a gradient whose heads' columns lie side by side. -/
def flat (A : FVec Ideal S4096x16x128 .f32) (r : Fin 4096) (l : Fin 2048) : EReal := A (ix3 r ⟨l.val / 128, by omega⟩ ⟨l.val % 128, by omega⟩)

/-- Column `l` of the rotated part's gradient: a head has 128 columns, of which the first 32 and the third 32 hold its two halves
    and the rest is zero. -/
def spread (B : FVec Ideal S4096x16x64 .f32) (r : Fin 4096) (l : Fin 2048) : EReal :=
  if h : l.val % 64 < 32 then B (ix3 r ⟨l.val / 128, by omega⟩ ⟨l.val % 128 / 64 * 32 + l.val % 64, by omega⟩) else 0

/-- The two parts' gradients side by side. -/
def cat (A : FVec Ideal S4096x16x128 .f32) (B : FVec Ideal S4096x16x64 .f32) (r : Fin 4096) (l : Fin 4096) : EReal :=
  if h : l.val < 2048 then flat A r ⟨l.val, h⟩ else spread B r ⟨l.val - 2048, by omega⟩

theorem cat_lo (A : FVec Ideal S4096x16x128 .f32) (B : FVec Ideal S4096x16x64 .f32) (r : Fin 4096) (l : Fin 4096) (h : l.val < 2048) : cat A B r l = flat A r ⟨l.val, h⟩ := dif_pos h
theorem cat_hi (A : FVec Ideal S4096x16x128 .f32) (B : FVec Ideal S4096x16x64 .f32) (r : Fin 4096) (l : Fin 4096) (h : ¬l.val < 2048) : cat A B r l = spread B r ⟨l.val - 2048, by omega⟩ := dif_neg h

/-- The gradients of both parts of the weight side by side: the compressed rows against the parts' gradients. -/
def gradW (C : FVec Ideal S4096x512 .f32) (A : FVec Ideal S4096x16x128 .f32) (B : FVec Ideal S4096x16x64 .f32) : FVec Ideal S512x4096 .bf16 :=
  fun x => ∑ r : Fin 4096, C (ix2 r (x 0)) * cat A B r (x 1)

theorem idx : ∀ t : Fin grid0.N,
    win0_0.index t = ![t.val % 4, 0] ∧ (t.val < 4 → win0_1.index t = ![t.val % 4, 0]) ∧ (4 ≤ t.val → win0_2.index t = ![t.val % 4, 0])
      ∧ win0_3.index t = ![0, t.val / 4] := by decide +kernel

/-! ## The host's operands -/

theorem v4_eq (c : Dev nD) : V m c main_v4 = truncf (F := Ideal) .bf16 (arg m c main_arg0) bitsLt_bf16_f32 := by
  dsimp only [V]; simp only [hostOps0]; after_reads_simp

theorem v6_at (c : Dev nD) (r : Fin 4096) (l : Fin 2048) : V m c main_v6 (ix2 r l) = flat (arg m c main_arg2) r l := by
  have e : V m c main_v6 = truncf (F := Ideal) .bf16 (shapeCast S4096x2048 (arg m c main_arg2) shapeCasts_S4096x16x128_S4096x2048) bitsLt_bf16_f32 := by
    dsimp only [V]; simp only [hostOps0]; after_reads_simp
    rfl
  rw [e]
  pointwise [flat]

/-- A block of zeros. -/
def zeros : FVec Ideal S4096x16x32 .f32 := broadcastInDim S4096x16x32 ![] bcast_S_S4096x16x32 (constant S_ .f32 0x00000000#32)

/-- The first or the second half of each head's columns. -/
def half0 (B : FVec Ideal S4096x16x64 .f32) : FVec Ideal S4096x16x32 .f32 := extractStridedSlice S4096x16x32 ![0, 0, 0] B slices_S4096x16x64_S4096x16x32_0_0_0
def half1 (B : FVec Ideal S4096x16x64 .f32) : FVec Ideal S4096x16x32 .f32 := extractStridedSlice S4096x16x32 ![0, 0, 32] B slices_S4096x16x64_S4096x16x32_0_0_32

theorem v8_eq (c : Dev nD) : V m c main_v8 = truncf (F := Ideal) .bf16 (shapeCast S4096x2048 (concatenate (α := Ideal .f32) S4096x16x128 2
    [⟨S4096x16x32, half0 (arg m c main_arg3)⟩, ⟨S4096x16x32, zeros⟩, ⟨S4096x16x32, half1 (arg m c main_arg3)⟩, ⟨S4096x16x32, zeros⟩]
    concatenates_S4096x16x32_S4096x16x32_S4096x16x32_S4096x16x32_S4096x16x128_d2) shapeCasts_S4096x16x128_S4096x2048) bitsLt_bf16_f32 := by
  dsimp only [V]; simp only [hostOps0]; after_reads_simp
  rfl

theorem v8_at (c : Dev nD) (r : Fin 4096) (l : Fin 2048) : V m c main_v8 (ix2 r l) = spread (arg m c main_arg3) r l := by
  rw [v8_eq]
  pointwise [zeros, half0, half1]
  unfold spread
  by_cases h1 : l.val % 128 < 32
  · rw [dif_pos h1, dif_pos (by omega)]
    exact congrArg (fun d => arg m c main_arg3 (ix3 r _ d)) (Fin.ext (by show l.val % 128 = l.val % 128 / 64 * 32 + l.val % 64; omega))
  · rw [dif_neg h1]
    by_cases h2 : l.val % 128 - 32 < 32
    · rw [dif_pos h2, dif_neg (by omega)]
    · rw [dif_neg h2]
      by_cases h3 : l.val % 128 - 32 - 32 < 32
      · rw [dif_pos h3, dif_pos (by omega)]
        exact congrArg (fun d => arg m c main_arg3 (ix3 r _ d))
          (Fin.ext (by show 32 + (l.val % 128 - 32 - 32) = l.val % 128 / 64 * 32 + l.val % 64; omega))
      · rw [dif_neg h3, dif_neg (by omega)]

/-! ## One point -/

/-- What a point's rows add at an index. -/
def part (P : FVec Ideal S1024x512 .bf16) (Q : FVec Ideal S1024x2048 .bf16) (j : S512x2048.Idx) : EReal :=
  ∑ k : Fin 1024, P (ix2 k (j 0)) * Q (ix2 k (j 1))

theorem pay1_apply (j : S512x2048.Idx) : k0_pay1 (F := Ideal) j = (0 : EReal) := by
  rw [← ix2_eta j]
  pointwise [k0_pay1]

theorem pay2_at (P : FVec Ideal S1024x512 .bf16) (Q : FVec Ideal S1024x2048 .bf16) (A : FVec Ideal S512x2048 .f32) (i : Fin 512) (y : Fin 2048) :
    k0_pay2 (F := Ideal) P Q A (ix2 i y) = (A (ix2 i y) + part P Q (ix2 i y) : EReal) := by
  pointwise [k0_pay2]
  rfl

theorem pay2_apply (P : FVec Ideal S1024x512 .bf16) (Q : FVec Ideal S1024x2048 .bf16) (A : FVec Ideal S512x2048 .f32) (j : S512x2048.Idx) :
    k0_pay2 (F := Ideal) P Q A j = (A j + part P Q j : EReal) := by
  rw [← ix2_eta j]
  exact pay2_at P Q A (j 0) (j 1)

/-! ## The running sum -/

/-- The block of the part that point `t` is at: the first four points are at the first part, the others at the second. -/
abbrev seg (c : Dev nD) (t : Fin cfg0.N) : FVec Ideal S1024x2048 .bf16 := if t.val < 4 then iblk m c 1 t else iblk m c 2 t

/-- A part's first point starts the sum. -/
theorem first_eq (c : Dev nD) (t : Fin cfg0.N) (h : t.val % 4 = 0) :
    (outsAt0 m c t.val t.isLt).2 = k0_pay2 (F := Ideal) (iblk m c 0 t) (seg m c t) (k0_pay1 (F := Ideal)) := by
  by_cases e : t.val < 4
  · rw [outsAt0_A m c t h e (by omega) (by omega)]
    frame_out
    simp only [seg, if_pos e]
  · rw [outsAt0_D m c t h e (by omega) (by omega)]
    frame_out
    simp only [seg, if_neg e]
    rfl

/-- Every other point adds to it. -/
theorem step_eq (c : Dev nD) (t : Fin cfg0.N) (h : ¬t.val % 4 = 0) :
    (outsAt0 m c t.val t.isLt).2 = k0_pay2 (F := Ideal) (iblk m c 0 t) (seg m c t)
      (outsAt0 m c (t.val - 1) (Nat.lt_of_le_of_lt (Nat.sub_le _ _) t.isLt)).2 := by
  by_cases h3 : t.val % 4 = 3
  · by_cases e : t.val < 4
    · rw [outsAt0_C m c t h e (by omega) h3]
      frame_out
      simp only [seg, if_pos e, (Memref.isWhole_whole _).read_unread]
    · rw [outsAt0_F m c t h e (by omega) h3]
      frame_out
      simp only [seg, if_neg e, (Memref.isWhole_whole _).read_unread]
      rfl
  · by_cases e : t.val < 4
    · rw [outsAt0_B m c t h e (by omega) h3]
      frame_out
      simp only [seg, if_pos e, (Memref.isWhole_whole _).read_unread]
    · rw [outsAt0_E m c t h e (by omega) h3]
      frame_out
      simp only [seg, if_neg e, (Memref.isWhole_whole _).read_unread]
      rfl

/-- A part's last point writes the sum out. -/
theorem last_eq (c : Dev nD) (t : Fin cfg0.N) (h : t.val % 4 = 3) (j : S512x2048.Idx) :
    (outsAt0 m c t.val t.isLt).1 j = (outsAt0 m c t.val t.isLt).2 j := by
  by_cases e : t.val < 4
  · rw [outsAt0_C m c t (by omega) e (by omega) h]
    frame_out
    rfl
  · rw [outsAt0_F m c t (by omega) e (by omega) h]
    frame_out
    rfl

theorem sum_eq (c : Dev nD) (t : Fin cfg0.N) (h : t.val % 4 = 3) (j : S512x2048.Idx) :
    (outsAt0 m c t.val t.isLt).2 j = (∑ s : Fin 4, part (iblk m c 0 ⟨4 * (t.val / 4) + s.val, Pipeline.run_point_lt_of_flush t h s⟩)
      (seg m c ⟨4 * (t.val / 4) + s.val, Pipeline.run_point_lt_of_flush t h s⟩) j : EReal) := by
  have h := Pipeline.eq_sum_fin_of_reset_step_apply_of_flush (fun n h => (outsAt0 m c n h).2) 4 (fun _ => (0 : EReal))
    (fun p j => part (iblk m c 0 p) (seg m c p) j)
    (fun t h j => by
      rw [first_eq m c t h]
      exact (pay2_apply _ _ _ j).trans (congrArg (· + _) (pay1_apply j)))
    (fun t h j => by
      rw [step_eq m c t h]
      exact pay2_apply _ _ _ j)
    t h j
  rw [h, zero_add]

/-! ## The blocks read -/

section
variable (t : Fin cfg0.N) (k : Fin 1024) (y : Fin 2048)

/-- Row `k` of the block that point `t` is at. -/
def row : Fin 4096 := ⟨t.val % 4 * 1024 + k.val, by omega⟩

/-- Column `y` of the part that point `t` is at. -/
def col : Fin 4096 := ⟨2048 * (t.val / 4) + y.val, by have := lt_of_lt_of_eq t.isLt N_0; omega⟩

theorem in0 (X : FVec Ideal S4096x512 .bf16) (i : Fin 512) : (win0_0.blk t).view.read (Elt Ideal) X (ix2 k i) = X (ix2 (row t k) i) := by
  obtain ⟨i0, i1, i2, i3⟩ := idx t
  blk_ext [i0, row] <;> omega
theorem in1 (A : FVec Ideal S4096x2048 .bf16) (e : t.val < 4) : (win0_1.blk t).view.read (Elt Ideal) A (ix2 k y) = A (ix2 (row t k) y) := by
  obtain ⟨i0, i1, i2, i3⟩ := idx t
  blk_ext [i1 e, row] <;> omega
theorem in2 (A : FVec Ideal S4096x2048 .bf16) (e : 4 ≤ t.val) : (win0_2.blk t).view.read (Elt Ideal) A (ix2 k y) = A (ix2 (row t k) y) := by
  obtain ⟨i0, i1, i2, i3⟩ := idx t
  blk_ext [i2 e, row] <;> omega
theorem emb3 (i : Fin 512) : (win0_3.blk t).view.emb (ix2 i y) = ix2 i (col t y) := by
  obtain ⟨i0, i1, i2, i3⟩ := idx t
  blk_ext [i3, col] <;> omega

/-- The block of a part holds the part's rows. -/
theorem seg_at (c : Dev nD) : seg m c t (ix2 k y) = cat (arg m c main_arg2) (arg m c main_arg3) (row t k) (col t y) := by
  have hN := lt_of_lt_of_eq t.isLt N_0
  unfold seg cat
  by_cases e : t.val < 4
  · have hc : (col t y).val < 2048 := by show 2048 * (t.val / 4) + y.val < 2048; omega
    have e1 := in1 t k y (V m c main_v6) e
    rw [if_pos e, dif_pos hc]
    refine (e1.trans (v6_at m c (row t k) y)).trans (congrArg _ (Fin.ext ?_))
    show y.val = 2048 * (t.val / 4) + y.val
    omega
  · have hc : ¬(col t y).val < 2048 := by show ¬2048 * (t.val / 4) + y.val < 2048; omega
    have e2 := in2 t k y (V m c main_v8) (by omega)
    rw [if_neg e, dif_neg hc]
    refine (e2.trans (v8_at m c (row t k) y)).trans (congrArg _ (Fin.ext ?_))
    show y.val = 2048 * (t.val / 4) + y.val - 2048
    omega

end

theorem outW (c : Dev nD) (t : Fin cfg0.N) (h : t.val % 4 = 3) (i : Fin 512) (y : Fin 2048) :
    (outsAt0 m c t.val t.isLt).1 (ix2 i y) = gradW (arg m c main_arg0) (arg m c main_arg2) (arg m c main_arg3) ((win0_3.blk t).view.emb (ix2 i y)) := by
  rw [emb3, last_eq m c t h]
  refine Eq.trans (sum_eq m c t h (ix2 i y)) ?_
  refine Fin.sum_mul_add_congr (S := 4) (n := 1024) fun s k hl => ?_
  have hp := Pipeline.run_point_lt_of_flush t h s
  have hr : row ⟨4 * (t.val / 4) + s.val, hp⟩ k = ⟨s.val * 1024 + k.val, hl⟩ := Fin.ext (by show (4 * (t.val / 4) + s.val) % 4 * 1024 + k.val = s.val * 1024 + k.val; omega)
  have hc : col ⟨4 * (t.val / 4) + s.val, hp⟩ y = col t y := Fin.ext (by show 2048 * ((4 * (t.val / 4) + s.val) / 4) + y.val = 2048 * (t.val / 4) + y.val; omega)
  have e := seg_at m ⟨4 * (t.val / 4) + s.val, hp⟩ k y c
  have e0 := in0 ⟨4 * (t.val / 4) + s.val, hp⟩ k (V m c main_v4) i
  rw [hr, hc] at e
  rw [hr, v4_eq] at e0
  exact congrArg₂ (fun a b : EReal => a * b) e0 e

theorem arr3 (c : Dev nD) : (dats m 0 c).arrAt 3 cfg0.N = gradW (arg m c main_arg0) (arg m c main_arg2) (arg m c main_arg3) := by
  refine (dats m 0 c).arrAt_eq_of_covers 3 _ (by decide +kernel) fun t hf y => ?_
  have e := outW m c t ((flush0_3 t).mp hf) (y 0) (y 1)
  blk_simp
  rw [after0_3]
  rw [← ix2_eta y]
  exact e

end Cert.Kernel14Ideal.Val

namespace Cert.Reference14Ideal.Val

open Cert.Reference14Ideal Cert.Reference14Ideal.Read
open Idealize.ShloMosaic Idealize.ShloMosaic.Tactic
open Idealize.SL.Sem
open Cert.Kernel14Ideal.Val

variable (x0 : FVec Ideal S4096x512 .f32) (x2 : FVec Ideal S4096x16x128 .f32) (x3 : FVec Ideal S4096x16x64 .f32)

theorem v3_nope (r : Fin 4096) (h : Fin 16) (d : Fin 128) : val_main_v3 (F := Ideal) x2 x3 (ix3 r h ⟨d.val, by omega⟩) = x2 (ix3 r h d) := by
  pointwise [val_main_v3]

theorem v3_rope (r : Fin 4096) (h : Fin 16) (d : Fin 64) : val_main_v3 (F := Ideal) x2 x3 (ix3 r h ⟨128 + d.val, by omega⟩) = x3 (ix3 r h d) := by
  pointwise [val_main_v3]

theorem v11_at (i : Fin 512) (y : Fin 2048) : val_main_v11 (F := Ideal) x0 x2 x3 (ix2 i y) = (∑ r : Fin 4096, x0 (ix2 r i) * flat x2 r y : EReal) := by
  have h := fun r => v3_nope x2 x3 r ⟨y.val / 128, by omega⟩ ⟨y.val % 128, by omega⟩
  unfold val_main_v11 val_main_v7 val_main_v5 val_main_v4
  revert h
  generalize val_main_v3 (F := Ideal) x2 x3 = A
  intro h
  pointwise
  refine Finset.sum_congr rfl fun r _ => ?_
  rw [mul_comm]
  exact congrArg (fun a : EReal => x0 (ix2 r i) * a) (h r)

theorem v8_at (i : Fin 512) (h : Fin 16) (d : Fin 64) : val_main_v8 (F := Ideal) x0 x2 x3 (ix3 i h d) = (∑ r : Fin 4096, x0 (ix2 r i) * x3 (ix3 r h d) : EReal) := by
  have h := fun r => v3_rope x2 x3 r h d
  unfold val_main_v8 val_main_v5 val_main_v4
  revert h
  generalize val_main_v3 (F := Ideal) x2 x3 = A
  intro h
  pointwise
  refine Finset.sum_congr rfl fun r _ => ?_
  rw [mul_comm]
  exact congrArg (fun a : EReal => x0 (ix2 r i) * a) (h r)

theorem v12_at (i : Fin 512) (y : Fin 2048) : val_main_v12 (F := Ideal) x0 x2 x3 (ix2 i y) = (∑ r : Fin 4096, x0 (ix2 r i) * spread x3 r y : EReal) := by
  have h := v8_at x0 x2 x3 i
  unfold val_main_v12 val_main_v10 val_main_v9
  revert h
  generalize val_main_v8 (F := Ideal) x0 x2 x3 = A
  intro h
  pointwise [val_main_call0_v0, val_main_c]
  by_cases h0 : y.val % 64 < 32
  · rw [dif_pos ⟨by omega, by omega, h0⟩, h]
    refine Finset.sum_congr rfl fun r _ => congrArg _ ?_
    refine Eq.trans ?_ (dif_pos h0).symm
    exact congrArg (fun d => x3 (ix3 r _ d)) (Fin.ext (by show y.val / 64 % 2 * 32 + y.val % 64 = y.val % 128 / 64 * 32 + y.val % 64; omega))
  · rw [dif_neg fun hh => h0 hh.2.2]
    have hz : (FloatOps.sitofp .f32 (0#32) : Ideal .f32) = (0 : EReal) := by
      show (((0#32 : BitVec 32).toInt : ℝ) : EReal) = 0
      simp
    refine hz.trans (Finset.sum_eq_zero fun r _ => ?_).symm
    have hs : spread x3 r y = 0 := dif_neg h0
    rw [hs, mul_zero]

theorem v14_at (i : Fin 512) (y : Fin 4096) : val_main_v14 (F := Ideal) x0 x2 x3 (ix2 i y) = gradW x0 x2 x3 (ix2 i y) := by
  have h := v11_at x0 x2 x3 i
  have h' := v12_at x0 x2 x3 i
  unfold val_main_v14 val_main_v13
  revert h h'
  generalize val_main_v11 (F := Ideal) x0 x2 x3 = A
  generalize val_main_v12 (F := Ideal) x0 x2 x3 = B
  intro h h'
  pointwise
  by_cases h0 : y.val < 2048
  · rw [dif_pos h0, h]
    refine Finset.sum_congr rfl fun r _ => congrArg _ ?_
    exact (cat_lo x2 x3 r y h0).symm
  · rw [dif_neg h0, h']
    refine Finset.sum_congr rfl fun r _ => congrArg _ ?_
    exact (cat_hi x2 x3 r y h0).symm

end Cert.Reference14Ideal.Val

namespace Cert.Proof

open Idealize.ShloMosaic Idealize.SL.Sem
open Cert.Kernel14Ideal.Val Cert.Reference14Ideal.Val Cert.Reference14Ideal.Read

/-- The weight's gradient is the same in the kernel and in the reference. -/
theorem algebraic14 : Cert.algebraic_Kernel14Ideal_Reference14Ideal (hKernel14Ideal := Cert.Kernel14Ideal.Gen.facts)
    (hReference14Ideal := Cert.Reference14Ideal.Gen.facts) := by
  intro m g m' g' _ same
  refine ⟨fun c => gradW (arg m c Cert.Kernel14Ideal.main_arg0) (arg m c Cert.Kernel14Ideal.main_arg2) (arg m c Cert.Kernel14Ideal.main_arg3), ?_, ?_⟩
  · refine (θ_run _ _ _).mono (fun r h c => ?_) (Cert.Kernel14Ideal.Value.run_blocks (F := Ideal) m g)
    obtain ⟨h0, hrest⟩ := h c
    exact ⟨h0.trans (arr3 m c), hrest⟩
  · refine (θ_run _ _ _).mono (fun r h c => ?_) (Cert.Reference14Ideal.Value.run (F := Ideal) m' g')
    obtain ⟨e0, e1, e2, e3⟩ := same c
    obtain ⟨h0, hrest⟩ := h c
    refine ⟨h0.trans ?_, hrest⟩
    rw [e0, e2, e3]
    refine (val_main_v14_eq _ _ _).trans (funext fun y => ?_)
    rw [← ix2_eta y]
    exact v14_at _ _ _ (y 0) (y 1)

/-- The reference runs to its end, and leaves its arguments and every counter as they were. -/
theorem frame_reference14 : Cert.quiescent_Reference14Ideal (hReference14Ideal := Cert.Reference14Ideal.Gen.facts) :=
  fun m g _ => (θ_run (Cert.Reference14Ideal.defs (F := Ideal)) _ _).mono
    (fun r h => ⟨fun c => (h c).2, sem_eq_zero_of_no_sems (by decide) r.2⟩)
    (Cert.Reference14Ideal.Value.run (F := Ideal) m g)

end Cert.Proof

end
-- ==== Proof.Frames.lean ====
module

public import proofs.«01_k».proof.Defs
public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel6
public import proofs.«01_k».proof.Proof.Gen.Kernel6Ideal.Frame
public import proofs.«01_k».proof.Proof.Gen.Kernel7
public import proofs.«01_k».proof.Proof.Gen.Kernel7Ideal.Frame
public import proofs.«01_k».proof.Proof.Gen.Kernel8
public import proofs.«01_k».proof.Proof.Gen.Kernel8Ideal.Frame
public import proofs.«01_k».proof.Proof.Gen.Kernel9
public import proofs.«01_k».proof.Proof.Gen.Kernel9Ideal.Frame
public import proofs.«01_k».proof.Proof.Gen.Kernel10
public import proofs.«01_k».proof.Proof.Gen.Kernel10Ideal.Frame
public import proofs.«01_k».proof.Proof.Gen.Kernel11
public import proofs.«01_k».proof.Proof.Gen.Kernel11Ideal.Frame
public import proofs.«01_k».proof.Proof.Gen.Kernel12
public import proofs.«01_k».proof.Proof.Gen.Kernel12Ideal.Frame
public import proofs.«01_k».proof.Proof.Gen.Kernel13
public import proofs.«01_k».proof.Proof.Gen.Kernel13Ideal.Frame
public import proofs.«01_k».proof.Proof.Gen.Kernel14
public import proofs.«01_k».proof.Proof.Gen.Kernel14Ideal.Frame

/-! # The frames of the other calls' programs

Each of these programs has the text of its ideal one, so its frame is the ideal program's run at
the float words. The two tables of bodies are equal entry by entry. -/

public section

namespace Cert.Proof

open Idealize.ShloMosaic Idealize.SL.Sem

/-- The body of the gradient through the gate is the same in both programs. -/
theorem bodies2 : Cert.Kernel2.defs₀ (F := Bits) = Cert.Kernel2Ideal.defs₀ (F := Bits) := by
  refine congrArg Defs.onTc ?_
  funext l x
  match l, x with
  | 0, (t, s) => rfl

/-- The frame of the gradient through the gate. -/
theorem frame_kernel2 : Cert.quiescent_Kernel2 (hKernel2 := Cert.Kernel2.Gen.facts) := fun m g _ => by
  rw [show Cert.Kernel2.defs (F := Bits) = Cert.Kernel2Ideal.defs (F := Bits) from
    congrArg (Pipeline.defs (Cert.Kernel2.pcfgs (F := Bits))) bodies2]
  exact Cert.Kernel2Ideal.Gen.frame (F := Bits) m g

/-- The body of the gradient of the output projection's weight is the same in both programs. -/
theorem bodies3 : Cert.Kernel3.defs₀ (F := Bits) = Cert.Kernel3Ideal.defs₀ (F := Bits) := by
  refine congrArg Defs.onTc ?_
  funext l x
  match l, x with
  | 0, (t, s) => rfl

/-- The frame of the gradient of the output projection's weight. -/
theorem frame_kernel3 : Cert.quiescent_Kernel3 (hKernel3 := Cert.Kernel3.Gen.facts) := fun m g _ => by
  rw [show Cert.Kernel3.defs (F := Bits) = Cert.Kernel3Ideal.defs (F := Bits) from
    congrArg (Pipeline.defs (Cert.Kernel3.pcfgs (F := Bits))) bodies3]
  exact Cert.Kernel3Ideal.Gen.frame (F := Bits) m g

/-- The body of the gradient of the input projections' weight and bias is the same in both programs. -/
theorem bodies4 : Cert.Kernel4.defs₀ (F := Bits) = Cert.Kernel4Ideal.defs₀ (F := Bits) := by
  refine congrArg Defs.onTc ?_
  funext l x
  match l, x with
  | 0, (t, s) => rfl

/-- The frame of the gradient of the input projections' weight and bias. -/
theorem frame_kernel4 : Cert.quiescent_Kernel4 (hKernel4 := Cert.Kernel4.Gen.facts) := fun m g _ => by
  rw [show Cert.Kernel4.defs (F := Bits) = Cert.Kernel4Ideal.defs (F := Bits) from
    congrArg (Pipeline.defs (Cert.Kernel4.pcfgs (F := Bits))) bodies4]
  exact Cert.Kernel4Ideal.Gen.frame (F := Bits) m g

/-- The body of the gradient of the projections' input is the same in both programs. -/
theorem bodies5 : Cert.Kernel5.defs₀ (F := Bits) = Cert.Kernel5Ideal.defs₀ (F := Bits) := by
  refine congrArg Defs.onTc ?_
  funext l x
  match l, x with
  | 0, (t, s) => rfl

/-- The frame of the gradient of the projections' input. -/
theorem frame_kernel5 : Cert.quiescent_Kernel5 (hKernel5 := Cert.Kernel5.Gen.facts) := fun m g _ => by
  rw [show Cert.Kernel5.defs (F := Bits) = Cert.Kernel5Ideal.defs (F := Bits) from
    congrArg (Pipeline.defs (Cert.Kernel5.pcfgs (F := Bits))) bodies5]
  exact Cert.Kernel5Ideal.Gen.frame (F := Bits) m g

/-- The body of the gradient of the convolution branch's output is the same in both programs. -/
theorem bodies6 : Cert.Kernel6.defs₀ (F := Bits) = Cert.Kernel6Ideal.defs₀ (F := Bits) := by
  refine congrArg Defs.onTc ?_
  funext l x
  match l, x with
  | 0, (t, s) => rfl

/-- The frame of the gradient of the convolution branch's output. -/
theorem frame_kernel6 : Cert.quiescent_Kernel6 (hKernel6 := Cert.Kernel6.Gen.facts) := fun m g _ => by
  rw [show Cert.Kernel6.defs (F := Bits) = Cert.Kernel6Ideal.defs (F := Bits) from
    congrArg (Pipeline.defs (Cert.Kernel6.pcfgs (F := Bits))) bodies6]
  exact Cert.Kernel6Ideal.Gen.frame (F := Bits) m g

/-- The body of the input projection is the same in both programs. -/
theorem bodies7 : Cert.Kernel7.defs₀ (F := Bits) = Cert.Kernel7Ideal.defs₀ (F := Bits) := by
  refine congrArg Defs.onTc ?_
  funext l x
  match l, x with
  | 0, (t, s) => rfl

/-- The frame of the input projection. -/
theorem frame_kernel7 : Cert.quiescent_Kernel7 (hKernel7 := Cert.Kernel7.Gen.facts) := fun m g _ => by
  rw [show Cert.Kernel7.defs (F := Bits) = Cert.Kernel7Ideal.defs (F := Bits) from
    congrArg (Pipeline.defs (Cert.Kernel7.pcfgs (F := Bits))) bodies7]
  exact Cert.Kernel7Ideal.Gen.frame (F := Bits) m g

/-- The body of the gradient of the branch's output projection's weight and bias is the same in both programs. -/
theorem bodies8 : Cert.Kernel8.defs₀ (F := Bits) = Cert.Kernel8Ideal.defs₀ (F := Bits) := by
  refine congrArg Defs.onTc ?_
  funext l x
  match l, x with
  | 0, (t, s) => rfl

/-- The frame of the gradient of the branch's output projection's weight and bias. -/
theorem frame_kernel8 : Cert.quiescent_Kernel8 (hKernel8 := Cert.Kernel8.Gen.facts) := fun m g _ => by
  rw [show Cert.Kernel8.defs (F := Bits) = Cert.Kernel8Ideal.defs (F := Bits) from
    congrArg (Pipeline.defs (Cert.Kernel8.pcfgs (F := Bits))) bodies8]
  exact Cert.Kernel8Ideal.Gen.frame (F := Bits) m g

/-- The body of the projection to the gate is the same in both programs. -/
theorem bodies9 : Cert.Kernel9.defs₀ (F := Bits) = Cert.Kernel9Ideal.defs₀ (F := Bits) := by
  refine congrArg Defs.onTc ?_
  funext l x
  match l, x with
  | 0, (t, s) => rfl

/-- The frame of the projection to the gate. -/
theorem frame_kernel9 : Cert.quiescent_Kernel9 (hKernel9 := Cert.Kernel9.Gen.facts) := fun m g _ => by
  rw [show Cert.Kernel9.defs (F := Bits) = Cert.Kernel9Ideal.defs (F := Bits) from
    congrArg (Pipeline.defs (Cert.Kernel9.pcfgs (F := Bits))) bodies9]
  exact Cert.Kernel9Ideal.Gen.frame (F := Bits) m g

/-- The body of the gradient of the gate's part of the input weight is the same in both programs. -/
theorem bodies10 : Cert.Kernel10.defs₀ (F := Bits) = Cert.Kernel10Ideal.defs₀ (F := Bits) := by
  refine congrArg Defs.onTc ?_
  funext l x
  match l, x with
  | 0, (t, s) => rfl

/-- The frame of the gradient of the gate's part of the input weight. -/
theorem frame_kernel10 : Cert.quiescent_Kernel10 (hKernel10 := Cert.Kernel10.Gen.facts) := fun m g _ => by
  rw [show Cert.Kernel10.defs (F := Bits) = Cert.Kernel10Ideal.defs (F := Bits) from
    congrArg (Pipeline.defs (Cert.Kernel10.pcfgs (F := Bits))) bodies10]
  exact Cert.Kernel10Ideal.Gen.frame (F := Bits) m g

/-- The body of the output projection and the layer norm after it is the same in both programs. -/
theorem bodies11 : Cert.Kernel11.defs₀ (F := Bits) = Cert.Kernel11Ideal.defs₀ (F := Bits) := by
  refine congrArg Defs.onTc ?_
  funext l x
  match l, x with
  | 0, (t, s) => rfl

/-- The frame of the output projection and the layer norm after it. -/
theorem frame_kernel11 : Cert.quiescent_Kernel11 (hKernel11 := Cert.Kernel11.Gen.facts) := fun m g _ => by
  rw [show Cert.Kernel11.defs (F := Bits) = Cert.Kernel11Ideal.defs (F := Bits) from
    congrArg (Pipeline.defs (Cert.Kernel11.pcfgs (F := Bits))) bodies11]
  exact Cert.Kernel11Ideal.Gen.frame (F := Bits) m g

/-- The body of the projection to the keys and values is the same in both programs. -/
theorem bodies12 : Cert.Kernel12.defs₀ (F := Bits) = Cert.Kernel12Ideal.defs₀ (F := Bits) := by
  refine congrArg Defs.onTc ?_
  funext l x
  match l, x with
  | 0, (t, s) => rfl

/-- The frame of the projection to the keys and values. -/
theorem frame_kernel12 : Cert.quiescent_Kernel12 (hKernel12 := Cert.Kernel12.Gen.facts) := fun m g _ => by
  rw [show Cert.Kernel12.defs (F := Bits) = Cert.Kernel12Ideal.defs (F := Bits) from
    congrArg (Pipeline.defs (Cert.Kernel12.pcfgs (F := Bits))) bodies12]
  exact Cert.Kernel12Ideal.Gen.frame (F := Bits) m g

/-- The body of the gradient of the keys' and values' weights is the same in both programs. -/
theorem bodies13 : Cert.Kernel13.defs₀ (F := Bits) = Cert.Kernel13Ideal.defs₀ (F := Bits) := by
  refine congrArg Defs.onTc ?_
  funext l x
  match l, x with
  | 0, (t, s) => rfl

/-- The frame of the gradient of the keys' and values' weights. -/
theorem frame_kernel13 : Cert.quiescent_Kernel13 (hKernel13 := Cert.Kernel13.Gen.facts) := fun m g _ => by
  rw [show Cert.Kernel13.defs (F := Bits) = Cert.Kernel13Ideal.defs (F := Bits) from
    congrArg (Pipeline.defs (Cert.Kernel13.pcfgs (F := Bits))) bodies13]
  exact Cert.Kernel13Ideal.Gen.frame (F := Bits) m g

/-- The body of the gradient of the queries' weight is the same in both programs. -/
theorem bodies14 : Cert.Kernel14.defs₀ (F := Bits) = Cert.Kernel14Ideal.defs₀ (F := Bits) := by
  refine congrArg Defs.onTc ?_
  funext l x
  match l, x with
  | 0, (t, s) => rfl

/-- The frame of the gradient of the queries' weight. -/
theorem frame_kernel14 : Cert.quiescent_Kernel14 (hKernel14 := Cert.Kernel14.Gen.facts) := fun m g _ => by
  rw [show Cert.Kernel14.defs (F := Bits) = Cert.Kernel14Ideal.defs (F := Bits) from
    congrArg (Pipeline.defs (Cert.Kernel14.pcfgs (F := Bits))) bodies14]
  exact Cert.Kernel14Ideal.Gen.frame (F := Bits) m g

end Cert.Proof

end
-- ==== Proof.lean ====
/-
  The proof of the certificate's claim: for each of the fourteen calls, the two programs' frames, the
  reference's frame, the step between the two programs, and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite2
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.KernelRun
public import proofs.«01_k».proof.Proof.KernelIdealRun
public import proofs.«01_k».proof.Proof.Equal
public import proofs.«01_k».proof.Proof.GateBwd
public import proofs.«01_k».proof.Proof.GateWeight
public import proofs.«01_k».proof.Proof.InputWeight
public import proofs.«01_k».proof.Proof.InputBwd
public import proofs.«01_k».proof.Proof.BranchBwd
public import proofs.«01_k».proof.Proof.BranchEqual
public import proofs.«01_k».proof.Proof.InputProj
public import proofs.«01_k».proof.Proof.OutWeight
public import proofs.«01_k».proof.Proof.GateProj
public import proofs.«01_k».proof.Proof.GateInWeight
public import proofs.«01_k».proof.Proof.NormOut
public import proofs.«01_k».proof.Proof.KeyValue
public import proofs.«01_k».proof.Proof.KeyValueWeight
public import proofs.«01_k».proof.Proof.QueryWeight
public import proofs.«01_k».proof.Proof.Frames
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to its end, and leaves its arguments and every counter as they were. -/
theorem frame_reference : Cert.quiescent_ReferenceIdeal (hReferenceIdeal := Cert.ReferenceIdeal.Gen.facts) :=
  fun m g _ => (θ_run (Cert.ReferenceIdeal.defs (F := Ideal)) _ _).mono
    (fun r h => ⟨fun c => (h c).2.2.2.2.2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.Gen.facts, Cert.Pre_finite2.Gen.facts, Cert.Pre_finite6.Gen.facts,
    fun m g _ => Cert.Kernel.Run.frame m g,
    fun m g _ => Cert.KernelIdeal.Run.frame m g,
    fun m g _ => Cert.KernelIdeal.Run.frame m g,
    frame_reference, fun m g _ => frame_reference m g trivial,
    frame_kernel2,
    fun m g _ => Cert.Kernel2Ideal.Gen.frame m g,
    fun m g _ => Cert.Kernel2Ideal.Gen.frame m g,
    frame_reference2, fun m g _ => frame_reference2 m g trivial,
    frame_kernel3,
    fun m g _ => Cert.Kernel3Ideal.Gen.frame m g,
    frame_reference3,
    frame_kernel4,
    fun m g _ => Cert.Kernel4Ideal.Gen.frame m g,
    frame_reference4,
    frame_kernel5,
    fun m g _ => Cert.Kernel5Ideal.Gen.frame m g,
    frame_reference5,
    frame_kernel6,
    fun m g _ => Cert.Kernel6Ideal.Gen.frame m g,
    fun m g _ => Cert.Kernel6Ideal.Gen.frame m g,
    frame_reference6, fun m g _ => frame_reference6 m g trivial,
    frame_kernel7,
    fun m g _ => Cert.Kernel7Ideal.Gen.frame m g,
    frame_reference7,
    frame_kernel8,
    fun m g _ => Cert.Kernel8Ideal.Gen.frame m g,
    frame_reference8,
    frame_kernel9,
    fun m g _ => Cert.Kernel9Ideal.Gen.frame m g,
    frame_reference9,
    frame_kernel10,
    fun m g _ => Cert.Kernel10Ideal.Gen.frame m g,
    frame_reference10,
    frame_kernel11,
    fun m g _ => Cert.Kernel11Ideal.Gen.frame m g,
    frame_reference11,
    frame_kernel12,
    fun m g _ => Cert.Kernel12Ideal.Gen.frame m g,
    frame_reference12,
    frame_kernel13,
    fun m g _ => Cert.Kernel13Ideal.Gen.frame m g,
    frame_reference13,
    frame_kernel14,
    fun m g _ => Cert.Kernel14Ideal.Gen.frame m g,
    frame_reference14,
    IdealRules.named_const.statement _ _ _ _ _ rfl, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14⟩

end Cert.Proof

end
